-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_LastFfnKernel (m : (ℓ : Loc Cert.LastFfnKernel.nD Cert.LastFfnKernel.τ Cert.LastFfnKernel.sig) → Buf (Elt Bits) ℓ) : Prop :=
  True

def Pre_LastFfnKernelIdeal (m : (ℓ : Loc Cert.LastFfnKernelIdeal.nD Cert.LastFfnKernelIdeal.τ Cert.LastFfnKernelIdeal.sig) → Buf (Elt Ideal) ℓ) : Prop :=
  True

def Pre_LastFfnReferenceIdeal (m : (ℓ : Loc Cert.LastFfnReferenceIdeal.nD Cert.LastFfnReferenceIdeal.τ Cert.LastFfnReferenceIdeal.sig) → Buf (Elt Ideal) ℓ) : Prop :=
  True

def Pre_SampleFfnKernel (m : (ℓ : Loc Cert.SampleFfnKernel.nD Cert.SampleFfnKernel.τ Cert.SampleFfnKernel.sig) → Buf (Elt Bits) ℓ) : Prop :=
  True

def Pre_SampleFfnKernelIdeal (m : (ℓ : Loc Cert.SampleFfnKernelIdeal.nD Cert.SampleFfnKernelIdeal.τ Cert.SampleFfnKernelIdeal.sig) → Buf (Elt Ideal) ℓ) : Prop :=
  True

def Pre_SampleFfnReferenceIdeal (m : (ℓ : Loc Cert.SampleFfnReferenceIdeal.nD Cert.SampleFfnReferenceIdeal.τ Cert.SampleFfnReferenceIdeal.sig) → Buf (Elt Ideal) ℓ) : Prop :=
  True

def Pre_QkvKernel (m : (ℓ : Loc Cert.QkvKernel.nD Cert.QkvKernel.τ Cert.QkvKernel.sig) → Buf (Elt Bits) ℓ) : Prop :=
  True

def Pre_QkvKernelIdeal (m : (ℓ : Loc Cert.QkvKernelIdeal.nD Cert.QkvKernelIdeal.τ Cert.QkvKernelIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_SampleQkvKernel (m : (ℓ : Loc Cert.SampleQkvKernel.nD Cert.SampleQkvKernel.τ Cert.SampleQkvKernel.sig) → Buf (Elt Bits) ℓ) : Prop :=
  True

def Pre_SampleQkvKernelIdeal (m : (ℓ : Loc Cert.SampleQkvKernelIdeal.nD Cert.SampleQkvKernelIdeal.τ Cert.SampleQkvKernelIdeal.sig) → Buf (Elt Ideal) ℓ) : Prop :=
  True

def Pre_SampleQkvReferenceIdeal (m : (ℓ : Loc Cert.SampleQkvReferenceIdeal.nD Cert.SampleQkvReferenceIdeal.τ Cert.SampleQkvReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_SampleRetentionKernel (m : (ℓ : Loc Cert.SampleRetentionKernel.nD Cert.SampleRetentionKernel.τ Cert.SampleRetentionKernel.sig) → Buf (Elt Bits) ℓ) : Prop :=
  True

def Pre_SampleRetentionKernelIdeal (m : (ℓ : Loc Cert.SampleRetentionKernelIdeal.nD Cert.SampleRetentionKernelIdeal.τ Cert.SampleRetentionKernelIdeal.sig) → Buf (Elt Ideal) ℓ) : Prop :=
  True

def Pre_SampleRetentionReferenceIdeal (m : (ℓ : Loc Cert.SampleRetentionReferenceIdeal.nD Cert.SampleRetentionReferenceIdeal.τ Cert.SampleRetentionReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_LastFfnKernel [hLastFfnKernel : Cert.LastFfnKernel.Facts] : Prop :=
  ∀ (m : (ℓ : Loc Cert.LastFfnKernel.nD Cert.LastFfnKernel.τ Cert.LastFfnKernel.sig) → Buf (Elt Bits) ℓ) (g : Dev Cert.LastFfnKernel.nD → PrngReg), Pre_LastFfnKernel m →
    θ_run (Cert.LastFfnKernel.defs (F := Bits)) (onTc (τ := Cert.LastFfnKernel.τ) (Cert.LastFfnKernel.main (F := Bits))) ⟨m, fun _ => 0, g⟩ (fun r => (∀ c : Dev Cert.LastFfnKernel.nD,
      r.2.mem ((c.tc : Thread Cert.LastFfnKernel.nD Cert.LastFfnKernel.τ).loc Cert.LastFfnKernel.main_arg0) = m ((c.tc : Thread Cert.LastFfnKernel.nD Cert.LastFfnKernel.τ).loc Cert.LastFfnKernel.main_arg0)
      ∧ r.2.mem ((c.tc : Thread Cert.LastFfnKernel.nD Cert.LastFfnKernel.τ).loc Cert.LastFfnKernel.main_arg1) = m ((c.tc : Thread Cert.LastFfnKernel.nD Cert.LastFfnKernel.τ).loc Cert.LastFfnKernel.main_arg1)
      ∧ r.2.mem ((c.tc : Thread Cert.LastFfnKernel.nD Cert.LastFfnKernel.τ).loc Cert.LastFfnKernel.main_arg2) = m ((c.tc : Thread Cert.LastFfnKernel.nD Cert.LastFfnKernel.τ).loc Cert.LastFfnKernel.main_arg2)
      ∧ r.2.mem ((c.tc : Thread Cert.LastFfnKernel.nD Cert.LastFfnKernel.τ).loc Cert.LastFfnKernel.main_arg3) = m ((c.tc : Thread Cert.LastFfnKernel.nD Cert.LastFfnKernel.τ).loc Cert.LastFfnKernel.main_arg3)
      ∧ r.2.mem ((c.tc : Thread Cert.LastFfnKernel.nD Cert.LastFfnKernel.τ).loc Cert.LastFfnKernel.main_arg4) = m ((c.tc : Thread Cert.LastFfnKernel.nD Cert.LastFfnKernel.τ).loc Cert.LastFfnKernel.main_arg4))
      ∧ r.2.sem = fun _ => 0)

def quiescent_LastFfnKernelIdeal [hLastFfnKernelIdeal : Cert.LastFfnKernelIdeal.Facts] : Prop :=
  ∀ (m : (ℓ : Loc Cert.LastFfnKernelIdeal.nD Cert.LastFfnKernelIdeal.τ Cert.LastFfnKernelIdeal.sig) → Buf (Elt Ideal) ℓ) (g : Dev Cert.LastFfnKernelIdeal.nD → PrngReg), Pre_LastFfnKernelIdeal m →
    θ_run (Cert.LastFfnKernelIdeal.defs (F := Ideal)) (onTc (τ := Cert.LastFfnKernelIdeal.τ) (Cert.LastFfnKernelIdeal.main (F := Ideal))) ⟨m, fun _ => 0, g⟩ (fun r => (∀ c : Dev Cert.LastFfnKernelIdeal.nD,
      r.2.mem ((c.tc : Thread Cert.LastFfnKernelIdeal.nD Cert.LastFfnKernelIdeal.τ).loc Cert.LastFfnKernelIdeal.main_arg0) = m ((c.tc : Thread Cert.LastFfnKernelIdeal.nD Cert.LastFfnKernelIdeal.τ).loc Cert.LastFfnKernelIdeal.main_arg0)
      ∧ r.2.mem ((c.tc : Thread Cert.LastFfnKernelIdeal.nD Cert.LastFfnKernelIdeal.τ).loc Cert.LastFfnKernelIdeal.main_arg1) = m ((c.tc : Thread Cert.LastFfnKernelIdeal.nD Cert.LastFfnKernelIdeal.τ).loc Cert.LastFfnKernelIdeal.main_arg1)
      ∧ r.2.mem ((c.tc : Thread Cert.LastFfnKernelIdeal.nD Cert.LastFfnKernelIdeal.τ).loc Cert.LastFfnKernelIdeal.main_arg2) = m ((c.tc : Thread Cert.LastFfnKernelIdeal.nD Cert.LastFfnKernelIdeal.τ).loc Cert.LastFfnKernelIdeal.main_arg2)
      ∧ r.2.mem ((c.tc : Thread Cert.LastFfnKernelIdeal.nD Cert.LastFfnKernelIdeal.τ).loc Cert.LastFfnKernelIdeal.main_arg3) = m ((c.tc : Thread Cert.LastFfnKernelIdeal.nD Cert.LastFfnKernelIdeal.τ).loc Cert.LastFfnKernelIdeal.main_arg3)
      ∧ r.2.mem ((c.tc : Thread Cert.LastFfnKernelIdeal.nD Cert.LastFfnKernelIdeal.τ).loc Cert.LastFfnKernelIdeal.main_arg4) = m ((c.tc : Thread Cert.LastFfnKernelIdeal.nD Cert.LastFfnKernelIdeal.τ).loc Cert.LastFfnKernelIdeal.main_arg4))
      ∧ r.2.sem = fun _ => 0)

def quiescent_LastFfnReferenceIdeal [hLastFfnReferenceIdeal : Cert.LastFfnReferenceIdeal.Facts] : Prop :=
  ∀ (m : (ℓ : Loc Cert.LastFfnReferenceIdeal.nD Cert.LastFfnReferenceIdeal.τ Cert.LastFfnReferenceIdeal.sig) → Buf (Elt Ideal) ℓ) (g : Dev Cert.LastFfnReferenceIdeal.nD → PrngReg), Pre_LastFfnReferenceIdeal m →
    θ_run (Cert.LastFfnReferenceIdeal.defs (F := Ideal)) (onTc (τ := Cert.LastFfnReferenceIdeal.τ) (Cert.LastFfnReferenceIdeal.main (F := Ideal))) ⟨m, fun _ => 0, g⟩ (fun r => (∀ c : Dev Cert.LastFfnReferenceIdeal.nD,
      r.2.mem ((c.tc : Thread Cert.LastFfnReferenceIdeal.nD Cert.LastFfnReferenceIdeal.τ).loc Cert.LastFfnReferenceIdeal.main_arg0) = m ((c.tc : Thread Cert.LastFfnReferenceIdeal.nD Cert.LastFfnReferenceIdeal.τ).loc Cert.LastFfnReferenceIdeal.main_arg0)
      ∧ r.2.mem ((c.tc : Thread Cert.LastFfnReferenceIdeal.nD Cert.LastFfnReferenceIdeal.τ).loc Cert.LastFfnReferenceIdeal.main_arg1) = m ((c.tc : Thread Cert.LastFfnReferenceIdeal.nD Cert.LastFfnReferenceIdeal.τ).loc Cert.LastFfnReferenceIdeal.main_arg1)
      ∧ r.2.mem ((c.tc : Thread Cert.LastFfnReferenceIdeal.nD Cert.LastFfnReferenceIdeal.τ).loc Cert.LastFfnReferenceIdeal.main_arg2) = m ((c.tc : Thread Cert.LastFfnReferenceIdeal.nD Cert.LastFfnReferenceIdeal.τ).loc Cert.LastFfnReferenceIdeal.main_arg2)
      ∧ r.2.mem ((c.tc : Thread Cert.LastFfnReferenceIdeal.nD Cert.LastFfnReferenceIdeal.τ).loc Cert.LastFfnReferenceIdeal.main_arg3) = m ((c.tc : Thread Cert.LastFfnReferenceIdeal.nD Cert.LastFfnReferenceIdeal.τ).loc Cert.LastFfnReferenceIdeal.main_arg3)
      ∧ r.2.mem ((c.tc : Thread Cert.LastFfnReferenceIdeal.nD Cert.LastFfnReferenceIdeal.τ).loc Cert.LastFfnReferenceIdeal.main_arg4) = m ((c.tc : Thread Cert.LastFfnReferenceIdeal.nD Cert.LastFfnReferenceIdeal.τ).loc Cert.LastFfnReferenceIdeal.main_arg4))
      ∧ r.2.sem = fun _ => 0)

def quiescent_SampleFfnKernel [hSampleFfnKernel : Cert.SampleFfnKernel.Facts] : Prop :=
  ∀ (m : (ℓ : Loc Cert.SampleFfnKernel.nD Cert.SampleFfnKernel.τ Cert.SampleFfnKernel.sig) → Buf (Elt Bits) ℓ) (g : Dev Cert.SampleFfnKernel.nD → PrngReg), Pre_SampleFfnKernel m →
    θ_run (Cert.SampleFfnKernel.defs (F := Bits)) (onTc (τ := Cert.SampleFfnKernel.τ) (Cert.SampleFfnKernel.main (F := Bits))) ⟨m, fun _ => 0, g⟩ (fun r => (∀ c : Dev Cert.SampleFfnKernel.nD,
      r.2.mem ((c.tc : Thread Cert.SampleFfnKernel.nD Cert.SampleFfnKernel.τ).loc Cert.SampleFfnKernel.main_arg0) = m ((c.tc : Thread Cert.SampleFfnKernel.nD Cert.SampleFfnKernel.τ).loc Cert.SampleFfnKernel.main_arg0)
      ∧ r.2.mem ((c.tc : Thread Cert.SampleFfnKernel.nD Cert.SampleFfnKernel.τ).loc Cert.SampleFfnKernel.main_arg1) = m ((c.tc : Thread Cert.SampleFfnKernel.nD Cert.SampleFfnKernel.τ).loc Cert.SampleFfnKernel.main_arg1)
      ∧ r.2.mem ((c.tc : Thread Cert.SampleFfnKernel.nD Cert.SampleFfnKernel.τ).loc Cert.SampleFfnKernel.main_arg2) = m ((c.tc : Thread Cert.SampleFfnKernel.nD Cert.SampleFfnKernel.τ).loc Cert.SampleFfnKernel.main_arg2)
      ∧ r.2.mem ((c.tc : Thread Cert.SampleFfnKernel.nD Cert.SampleFfnKernel.τ).loc Cert.SampleFfnKernel.main_arg3) = m ((c.tc : Thread Cert.SampleFfnKernel.nD Cert.SampleFfnKernel.τ).loc Cert.SampleFfnKernel.main_arg3)
      ∧ r.2.mem ((c.tc : Thread Cert.SampleFfnKernel.nD Cert.SampleFfnKernel.τ).loc Cert.SampleFfnKernel.main_arg4) = m ((c.tc : Thread Cert.SampleFfnKernel.nD Cert.SampleFfnKernel.τ).loc Cert.SampleFfnKernel.main_arg4))
      ∧ r.2.sem = fun _ => 0)

def quiescent_SampleFfnKernelIdeal [hSampleFfnKernelIdeal : Cert.SampleFfnKernelIdeal.Facts] : Prop :=
  ∀ (m : (ℓ : Loc Cert.SampleFfnKernelIdeal.nD Cert.SampleFfnKernelIdeal.τ Cert.SampleFfnKernelIdeal.sig) → Buf (Elt Ideal) ℓ) (g : Dev Cert.SampleFfnKernelIdeal.nD → PrngReg), Pre_SampleFfnKernelIdeal m →
    θ_run (Cert.SampleFfnKernelIdeal.defs (F := Ideal)) (onTc (τ := Cert.SampleFfnKernelIdeal.τ) (Cert.SampleFfnKernelIdeal.main (F := Ideal))) ⟨m, fun _ => 0, g⟩ (fun r => (∀ c : Dev Cert.SampleFfnKernelIdeal.nD,
      r.2.mem ((c.tc : Thread Cert.SampleFfnKernelIdeal.nD Cert.SampleFfnKernelIdeal.τ).loc Cert.SampleFfnKernelIdeal.main_arg0) = m ((c.tc : Thread Cert.SampleFfnKernelIdeal.nD Cert.SampleFfnKernelIdeal.τ).loc Cert.SampleFfnKernelIdeal.main_arg0)
      ∧ r.2.mem ((c.tc : Thread Cert.SampleFfnKernelIdeal.nD Cert.SampleFfnKernelIdeal.τ).loc Cert.SampleFfnKernelIdeal.main_arg1) = m ((c.tc : Thread Cert.SampleFfnKernelIdeal.nD Cert.SampleFfnKernelIdeal.τ).loc Cert.SampleFfnKernelIdeal.main_arg1)
      ∧ r.2.mem ((c.tc : Thread Cert.SampleFfnKernelIdeal.nD Cert.SampleFfnKernelIdeal.τ).loc Cert.SampleFfnKernelIdeal.main_arg2) = m ((c.tc : Thread Cert.SampleFfnKernelIdeal.nD Cert.SampleFfnKernelIdeal.τ).loc Cert.SampleFfnKernelIdeal.main_arg2)
      ∧ r.2.mem ((c.tc : Thread Cert.SampleFfnKernelIdeal.nD Cert.SampleFfnKernelIdeal.τ).loc Cert.SampleFfnKernelIdeal.main_arg3) = m ((c.tc : Thread Cert.SampleFfnKernelIdeal.nD Cert.SampleFfnKernelIdeal.τ).loc Cert.SampleFfnKernelIdeal.main_arg3)
      ∧ r.2.mem ((c.tc : Thread Cert.SampleFfnKernelIdeal.nD Cert.SampleFfnKernelIdeal.τ).loc Cert.SampleFfnKernelIdeal.main_arg4) = m ((c.tc : Thread Cert.SampleFfnKernelIdeal.nD Cert.SampleFfnKernelIdeal.τ).loc Cert.SampleFfnKernelIdeal.main_arg4))
      ∧ r.2.sem = fun _ => 0)

def quiescent_SampleFfnReferenceIdeal [hSampleFfnReferenceIdeal : Cert.SampleFfnReferenceIdeal.Facts] : Prop :=
  ∀ (m : (ℓ : Loc Cert.SampleFfnReferenceIdeal.nD Cert.SampleFfnReferenceIdeal.τ Cert.SampleFfnReferenceIdeal.sig) → Buf (Elt Ideal) ℓ) (g : Dev Cert.SampleFfnReferenceIdeal.nD → PrngReg), Pre_SampleFfnReferenceIdeal m →
    θ_run (Cert.SampleFfnReferenceIdeal.defs (F := Ideal)) (onTc (τ := Cert.SampleFfnReferenceIdeal.τ) (Cert.SampleFfnReferenceIdeal.main (F := Ideal))) ⟨m, fun _ => 0, g⟩ (fun r => (∀ c : Dev Cert.SampleFfnReferenceIdeal.nD,
      r.2.mem ((c.tc : Thread Cert.SampleFfnReferenceIdeal.nD Cert.SampleFfnReferenceIdeal.τ).loc Cert.SampleFfnReferenceIdeal.main_arg0) = m ((c.tc : Thread Cert.SampleFfnReferenceIdeal.nD Cert.SampleFfnReferenceIdeal.τ).loc Cert.SampleFfnReferenceIdeal.main_arg0)
      ∧ r.2.mem ((c.tc : Thread Cert.SampleFfnReferenceIdeal.nD Cert.SampleFfnReferenceIdeal.τ).loc Cert.SampleFfnReferenceIdeal.main_arg1) = m ((c.tc : Thread Cert.SampleFfnReferenceIdeal.nD Cert.SampleFfnReferenceIdeal.τ).loc Cert.SampleFfnReferenceIdeal.main_arg1)
      ∧ r.2.mem ((c.tc : Thread Cert.SampleFfnReferenceIdeal.nD Cert.SampleFfnReferenceIdeal.τ).loc Cert.SampleFfnReferenceIdeal.main_arg2) = m ((c.tc : Thread Cert.SampleFfnReferenceIdeal.nD Cert.SampleFfnReferenceIdeal.τ).loc Cert.SampleFfnReferenceIdeal.main_arg2)
      ∧ r.2.mem ((c.tc : Thread Cert.SampleFfnReferenceIdeal.nD Cert.SampleFfnReferenceIdeal.τ).loc Cert.SampleFfnReferenceIdeal.main_arg3) = m ((c.tc : Thread Cert.SampleFfnReferenceIdeal.nD Cert.SampleFfnReferenceIdeal.τ).loc Cert.SampleFfnReferenceIdeal.main_arg3)
      ∧ r.2.mem ((c.tc : Thread Cert.SampleFfnReferenceIdeal.nD Cert.SampleFfnReferenceIdeal.τ).loc Cert.SampleFfnReferenceIdeal.main_arg4) = m ((c.tc : Thread Cert.SampleFfnReferenceIdeal.nD Cert.SampleFfnReferenceIdeal.τ).loc Cert.SampleFfnReferenceIdeal.main_arg4))
      ∧ r.2.sem = fun _ => 0)

def quiescent_QkvKernel [hQkvKernel : Cert.QkvKernel.Facts] : Prop :=
  ∀ (m : (ℓ : Loc Cert.QkvKernel.nD Cert.QkvKernel.τ Cert.QkvKernel.sig) → Buf (Elt Bits) ℓ) (g : Dev Cert.QkvKernel.nD → PrngReg), Pre_QkvKernel m →
    θ_run (Cert.QkvKernel.defs (F := Bits)) (onTc (τ := Cert.QkvKernel.τ) (Cert.QkvKernel.main (F := Bits))) ⟨m, fun _ => 0, g⟩ (fun r => (∀ c : Dev Cert.QkvKernel.nD,
      r.2.mem ((c.tc : Thread Cert.QkvKernel.nD Cert.QkvKernel.τ).loc Cert.QkvKernel.main_arg0) = m ((c.tc : Thread Cert.QkvKernel.nD Cert.QkvKernel.τ).loc Cert.QkvKernel.main_arg0)
      ∧ r.2.mem ((c.tc : Thread Cert.QkvKernel.nD Cert.QkvKernel.τ).loc Cert.QkvKernel.main_arg1) = m ((c.tc : Thread Cert.QkvKernel.nD Cert.QkvKernel.τ).loc Cert.QkvKernel.main_arg1)
      ∧ r.2.mem ((c.tc : Thread Cert.QkvKernel.nD Cert.QkvKernel.τ).loc Cert.QkvKernel.main_arg2) = m ((c.tc : Thread Cert.QkvKernel.nD Cert.QkvKernel.τ).loc Cert.QkvKernel.main_arg2))
      ∧ r.2.sem = fun _ => 0)

def quiescent_QkvKernelIdeal [hQkvKernelIdeal : Cert.QkvKernelIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg), Pre_QkvKernelIdeal m →
    θ_run (Cert.QkvKernelIdeal.defs (F := Ideal)) (onTc (τ := Cert.QkvKernelIdeal.τ) (Cert.QkvKernelIdeal.main (F := Ideal))) ⟨m, fun _ => 0, g⟩ (fun r => (∀ c : Dev Cert.QkvKernelIdeal.nD,
      r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
      ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
      ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2))
      ∧ r.2.sem = fun _ => 0)

def quiescent_SampleQkvKernel [hSampleQkvKernel : Cert.SampleQkvKernel.Facts] : Prop :=
  ∀ (m : (ℓ : Loc Cert.SampleQkvKernel.nD Cert.SampleQkvKernel.τ Cert.SampleQkvKernel.sig) → Buf (Elt Bits) ℓ) (g : Dev Cert.SampleQkvKernel.nD → PrngReg), Pre_SampleQkvKernel m →
    θ_run (Cert.SampleQkvKernel.defs (F := Bits)) (onTc (τ := Cert.SampleQkvKernel.τ) (Cert.SampleQkvKernel.main (F := Bits))) ⟨m, fun _ => 0, g⟩ (fun r => (∀ c : Dev Cert.SampleQkvKernel.nD,
      r.2.mem ((c.tc : Thread Cert.SampleQkvKernel.nD Cert.SampleQkvKernel.τ).loc Cert.SampleQkvKernel.main_arg0) = m ((c.tc : Thread Cert.SampleQkvKernel.nD Cert.SampleQkvKernel.τ).loc Cert.SampleQkvKernel.main_arg0)
      ∧ r.2.mem ((c.tc : Thread Cert.SampleQkvKernel.nD Cert.SampleQkvKernel.τ).loc Cert.SampleQkvKernel.main_arg1) = m ((c.tc : Thread Cert.SampleQkvKernel.nD Cert.SampleQkvKernel.τ).loc Cert.SampleQkvKernel.main_arg1)
      ∧ r.2.mem ((c.tc : Thread Cert.SampleQkvKernel.nD Cert.SampleQkvKernel.τ).loc Cert.SampleQkvKernel.main_arg2) = m ((c.tc : Thread Cert.SampleQkvKernel.nD Cert.SampleQkvKernel.τ).loc Cert.SampleQkvKernel.main_arg2))
      ∧ r.2.sem = fun _ => 0)

def quiescent_SampleQkvKernelIdeal [hSampleQkvKernelIdeal : Cert.SampleQkvKernelIdeal.Facts] : Prop :=
  ∀ (m : (ℓ : Loc Cert.SampleQkvKernelIdeal.nD Cert.SampleQkvKernelIdeal.τ Cert.SampleQkvKernelIdeal.sig) → Buf (Elt Ideal) ℓ) (g : Dev Cert.SampleQkvKernelIdeal.nD → PrngReg), Pre_SampleQkvKernelIdeal m →
    θ_run (Cert.SampleQkvKernelIdeal.defs (F := Ideal)) (onTc (τ := Cert.SampleQkvKernelIdeal.τ) (Cert.SampleQkvKernelIdeal.main (F := Ideal))) ⟨m, fun _ => 0, g⟩ (fun r => (∀ c : Dev Cert.SampleQkvKernelIdeal.nD,
      r.2.mem ((c.tc : Thread Cert.SampleQkvKernelIdeal.nD Cert.SampleQkvKernelIdeal.τ).loc Cert.SampleQkvKernelIdeal.main_arg0) = m ((c.tc : Thread Cert.SampleQkvKernelIdeal.nD Cert.SampleQkvKernelIdeal.τ).loc Cert.SampleQkvKernelIdeal.main_arg0)
      ∧ r.2.mem ((c.tc : Thread Cert.SampleQkvKernelIdeal.nD Cert.SampleQkvKernelIdeal.τ).loc Cert.SampleQkvKernelIdeal.main_arg1) = m ((c.tc : Thread Cert.SampleQkvKernelIdeal.nD Cert.SampleQkvKernelIdeal.τ).loc Cert.SampleQkvKernelIdeal.main_arg1)
      ∧ r.2.mem ((c.tc : Thread Cert.SampleQkvKernelIdeal.nD Cert.SampleQkvKernelIdeal.τ).loc Cert.SampleQkvKernelIdeal.main_arg2) = m ((c.tc : Thread Cert.SampleQkvKernelIdeal.nD Cert.SampleQkvKernelIdeal.τ).loc Cert.SampleQkvKernelIdeal.main_arg2))
      ∧ r.2.sem = fun _ => 0)

def quiescent_SampleQkvReferenceIdeal [hSampleQkvReferenceIdeal : Cert.SampleQkvReferenceIdeal.Facts] : Prop :=
  ∀ (m : (ℓ : Loc Cert.SampleQkvReferenceIdeal.nD Cert.SampleQkvReferenceIdeal.τ Cert.SampleQkvReferenceIdeal.sig) → Buf (Elt Ideal) ℓ) (g : Dev Cert.SampleQkvReferenceIdeal.nD → PrngReg), Pre_SampleQkvReferenceIdeal m →
    θ_run (Cert.SampleQkvReferenceIdeal.defs (F := Ideal)) (onTc (τ := Cert.SampleQkvReferenceIdeal.τ) (Cert.SampleQkvReferenceIdeal.main (F := Ideal))) ⟨m, fun _ => 0, g⟩ (fun r => (∀ c : Dev Cert.SampleQkvReferenceIdeal.nD,
      r.2.mem ((c.tc : Thread Cert.SampleQkvReferenceIdeal.nD Cert.SampleQkvReferenceIdeal.τ).loc Cert.SampleQkvReferenceIdeal.main_arg0) = m ((c.tc : Thread Cert.SampleQkvReferenceIdeal.nD Cert.SampleQkvReferenceIdeal.τ).loc Cert.SampleQkvReferenceIdeal.main_arg0)
      ∧ r.2.mem ((c.tc : Thread Cert.SampleQkvReferenceIdeal.nD Cert.SampleQkvReferenceIdeal.τ).loc Cert.SampleQkvReferenceIdeal.main_arg1) = m ((c.tc : Thread Cert.SampleQkvReferenceIdeal.nD Cert.SampleQkvReferenceIdeal.τ).loc Cert.SampleQkvReferenceIdeal.main_arg1)
      ∧ r.2.mem ((c.tc : Thread Cert.SampleQkvReferenceIdeal.nD Cert.SampleQkvReferenceIdeal.τ).loc Cert.SampleQkvReferenceIdeal.main_arg2) = m ((c.tc : Thread Cert.SampleQkvReferenceIdeal.nD Cert.SampleQkvReferenceIdeal.τ).loc Cert.SampleQkvReferenceIdeal.main_arg2))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_SampleRetentionKernel [hSampleRetentionKernel : Cert.SampleRetentionKernel.Facts] : Prop :=
  ∀ (m : (ℓ : Loc Cert.SampleRetentionKernel.nD Cert.SampleRetentionKernel.τ Cert.SampleRetentionKernel.sig) → Buf (Elt Bits) ℓ) (g : Dev Cert.SampleRetentionKernel.nD → PrngReg), Pre_SampleRetentionKernel m →
    θ_run (Cert.SampleRetentionKernel.defs (F := Bits)) (onTc (τ := Cert.SampleRetentionKernel.τ) (Cert.SampleRetentionKernel.main (F := Bits))) ⟨m, fun _ => 0, g⟩ (fun r => (∀ c : Dev Cert.SampleRetentionKernel.nD,
      r.2.mem ((c.tc : Thread Cert.SampleRetentionKernel.nD Cert.SampleRetentionKernel.τ).loc Cert.SampleRetentionKernel.main_arg0) = m ((c.tc : Thread Cert.SampleRetentionKernel.nD Cert.SampleRetentionKernel.τ).loc Cert.SampleRetentionKernel.main_arg0)
      ∧ r.2.mem ((c.tc : Thread Cert.SampleRetentionKernel.nD Cert.SampleRetentionKernel.τ).loc Cert.SampleRetentionKernel.main_arg1) = m ((c.tc : Thread Cert.SampleRetentionKernel.nD Cert.SampleRetentionKernel.τ).loc Cert.SampleRetentionKernel.main_arg1)
      ∧ r.2.mem ((c.tc : Thread Cert.SampleRetentionKernel.nD Cert.SampleRetentionKernel.τ).loc Cert.SampleRetentionKernel.main_arg2) = m ((c.tc : Thread Cert.SampleRetentionKernel.nD Cert.SampleRetentionKernel.τ).loc Cert.SampleRetentionKernel.main_arg2))
      ∧ r.2.sem = fun _ => 0)

def quiescent_SampleRetentionKernelIdeal [hSampleRetentionKernelIdeal : Cert.SampleRetentionKernelIdeal.Facts] : Prop :=
  ∀ (m : (ℓ : Loc Cert.SampleRetentionKernelIdeal.nD Cert.SampleRetentionKernelIdeal.τ Cert.SampleRetentionKernelIdeal.sig) → Buf (Elt Ideal) ℓ) (g : Dev Cert.SampleRetentionKernelIdeal.nD → PrngReg), Pre_SampleRetentionKernelIdeal m →
    θ_run (Cert.SampleRetentionKernelIdeal.defs (F := Ideal)) (onTc (τ := Cert.SampleRetentionKernelIdeal.τ) (Cert.SampleRetentionKernelIdeal.main (F := Ideal))) ⟨m, fun _ => 0, g⟩ (fun r => (∀ c : Dev Cert.SampleRetentionKernelIdeal.nD,
      r.2.mem ((c.tc : Thread Cert.SampleRetentionKernelIdeal.nD Cert.SampleRetentionKernelIdeal.τ).loc Cert.SampleRetentionKernelIdeal.main_arg0) = m ((c.tc : Thread Cert.SampleRetentionKernelIdeal.nD Cert.SampleRetentionKernelIdeal.τ).loc Cert.SampleRetentionKernelIdeal.main_arg0)
      ∧ r.2.mem ((c.tc : Thread Cert.SampleRetentionKernelIdeal.nD Cert.SampleRetentionKernelIdeal.τ).loc Cert.SampleRetentionKernelIdeal.main_arg1) = m ((c.tc : Thread Cert.SampleRetentionKernelIdeal.nD Cert.SampleRetentionKernelIdeal.τ).loc Cert.SampleRetentionKernelIdeal.main_arg1)
      ∧ r.2.mem ((c.tc : Thread Cert.SampleRetentionKernelIdeal.nD Cert.SampleRetentionKernelIdeal.τ).loc Cert.SampleRetentionKernelIdeal.main_arg2) = m ((c.tc : Thread Cert.SampleRetentionKernelIdeal.nD Cert.SampleRetentionKernelIdeal.τ).loc Cert.SampleRetentionKernelIdeal.main_arg2))
      ∧ r.2.sem = fun _ => 0)

def quiescent_SampleRetentionReferenceIdeal [hSampleRetentionReferenceIdeal : Cert.SampleRetentionReferenceIdeal.Facts] : Prop :=
  ∀ (m : (ℓ : Loc Cert.SampleRetentionReferenceIdeal.nD Cert.SampleRetentionReferenceIdeal.τ Cert.SampleRetentionReferenceIdeal.sig) → Buf (Elt Ideal) ℓ) (g : Dev Cert.SampleRetentionReferenceIdeal.nD → PrngReg), Pre_SampleRetentionReferenceIdeal m →
    θ_run (Cert.SampleRetentionReferenceIdeal.defs (F := Ideal)) (onTc (τ := Cert.SampleRetentionReferenceIdeal.τ) (Cert.SampleRetentionReferenceIdeal.main (F := Ideal))) ⟨m, fun _ => 0, g⟩ (fun r => (∀ c : Dev Cert.SampleRetentionReferenceIdeal.nD,
      r.2.mem ((c.tc : Thread Cert.SampleRetentionReferenceIdeal.nD Cert.SampleRetentionReferenceIdeal.τ).loc Cert.SampleRetentionReferenceIdeal.main_arg0) = m ((c.tc : Thread Cert.SampleRetentionReferenceIdeal.nD Cert.SampleRetentionReferenceIdeal.τ).loc Cert.SampleRetentionReferenceIdeal.main_arg0)
      ∧ r.2.mem ((c.tc : Thread Cert.SampleRetentionReferenceIdeal.nD Cert.SampleRetentionReferenceIdeal.τ).loc Cert.SampleRetentionReferenceIdeal.main_arg1) = m ((c.tc : Thread Cert.SampleRetentionReferenceIdeal.nD Cert.SampleRetentionReferenceIdeal.τ).loc Cert.SampleRetentionReferenceIdeal.main_arg1)
      ∧ r.2.mem ((c.tc : Thread Cert.SampleRetentionReferenceIdeal.nD Cert.SampleRetentionReferenceIdeal.τ).loc Cert.SampleRetentionReferenceIdeal.main_arg2) = m ((c.tc : Thread Cert.SampleRetentionReferenceIdeal.nD Cert.SampleRetentionReferenceIdeal.τ).loc Cert.SampleRetentionReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v70_0)) (v1 : (c : Dev Cert.KernelIdeal.nD) → Buf (Elt Ideal) ((c.tc : Thread Cert.KernelIdeal.nD Cert.KernelIdeal.τ).loc Cert.KernelIdeal.main_v70_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70_0) = v0 c
          ∧ r.2.mem ((c.tc : Thread Cert.KernelIdeal.nD Cert.KernelIdeal.τ).loc Cert.KernelIdeal.main_v70_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_v139_8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)) →
    ∃ (v0 : (c : Dev Cert.FfnKernelIdeal.nD) → Buf (Elt Ideal) ((c.tc : Thread Cert.FfnKernelIdeal.nD Cert.FfnKernelIdeal.τ).loc Cert.FfnKernelIdeal.main_v3)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v3) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v25) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_LastFfnKernel_LastFfnKernelIdeal : Prop :=
  True

def algebraic_LastFfnKernelIdeal_LastFfnReferenceIdeal [hLastFfnKernelIdeal : Cert.LastFfnKernelIdeal.Facts] [hLastFfnReferenceIdeal : Cert.LastFfnReferenceIdeal.Facts] : Prop :=
  ∀ (m : (ℓ : Loc Cert.LastFfnKernelIdeal.nD Cert.LastFfnKernelIdeal.τ Cert.LastFfnKernelIdeal.sig) → Buf (Elt Ideal) ℓ) (g : Dev Cert.LastFfnKernelIdeal.nD → PrngReg)
    (m' : (ℓ : Loc Cert.LastFfnReferenceIdeal.nD Cert.LastFfnReferenceIdeal.τ Cert.LastFfnReferenceIdeal.sig) → Buf (Elt Ideal) ℓ) (g' : Dev Cert.LastFfnReferenceIdeal.nD → PrngReg), Pre_LastFfnKernelIdeal m →
    (∀ c : Dev Cert.LastFfnKernelIdeal.nD,
      m' ((c.tc : Thread Cert.LastFfnReferenceIdeal.nD Cert.LastFfnReferenceIdeal.τ).loc Cert.LastFfnReferenceIdeal.main_arg0) = m ((c.tc : Thread Cert.LastFfnKernelIdeal.nD Cert.LastFfnKernelIdeal.τ).loc Cert.LastFfnKernelIdeal.main_arg0)
      ∧ m' ((c.tc : Thread Cert.LastFfnReferenceIdeal.nD Cert.LastFfnReferenceIdeal.τ).loc Cert.LastFfnReferenceIdeal.main_arg1) = m ((c.tc : Thread Cert.LastFfnKernelIdeal.nD Cert.LastFfnKernelIdeal.τ).loc Cert.LastFfnKernelIdeal.main_arg1)
      ∧ m' ((c.tc : Thread Cert.LastFfnReferenceIdeal.nD Cert.LastFfnReferenceIdeal.τ).loc Cert.LastFfnReferenceIdeal.main_arg2) = m ((c.tc : Thread Cert.LastFfnKernelIdeal.nD Cert.LastFfnKernelIdeal.τ).loc Cert.LastFfnKernelIdeal.main_arg2)
      ∧ m' ((c.tc : Thread Cert.LastFfnReferenceIdeal.nD Cert.LastFfnReferenceIdeal.τ).loc Cert.LastFfnReferenceIdeal.main_arg3) = m ((c.tc : Thread Cert.LastFfnKernelIdeal.nD Cert.LastFfnKernelIdeal.τ).loc Cert.LastFfnKernelIdeal.main_arg3)
      ∧ m' ((c.tc : Thread Cert.LastFfnReferenceIdeal.nD Cert.LastFfnReferenceIdeal.τ).loc Cert.LastFfnReferenceIdeal.main_arg4) = m ((c.tc : Thread Cert.LastFfnKernelIdeal.nD Cert.LastFfnKernelIdeal.τ).loc Cert.LastFfnKernelIdeal.main_arg4)) →
    ∃ (v0 : (c : Dev Cert.LastFfnKernelIdeal.nD) → Buf (Elt Ideal) ((c.tc : Thread Cert.LastFfnKernelIdeal.nD Cert.LastFfnKernelIdeal.τ).loc Cert.LastFfnKernelIdeal.main_v4)),
      θ_run (Cert.LastFfnKernelIdeal.defs (F := Ideal)) (onTc (τ := Cert.LastFfnKernelIdeal.τ) (Cert.LastFfnKernelIdeal.main (F := Ideal))) ⟨m, fun _ => 0, g⟩ (fun r => ∀ c : Dev Cert.LastFfnKernelIdeal.nD,
          r.2.mem ((c.tc : Thread Cert.LastFfnKernelIdeal.nD Cert.LastFfnKernelIdeal.τ).loc Cert.LastFfnKernelIdeal.main_v4) = v0 c
          ∧ r.2.mem ((c.tc : Thread Cert.LastFfnKernelIdeal.nD Cert.LastFfnKernelIdeal.τ).loc Cert.LastFfnKernelIdeal.main_arg0) = m ((c.tc : Thread Cert.LastFfnKernelIdeal.nD Cert.LastFfnKernelIdeal.τ).loc Cert.LastFfnKernelIdeal.main_arg0)
          ∧ r.2.mem ((c.tc : Thread Cert.LastFfnKernelIdeal.nD Cert.LastFfnKernelIdeal.τ).loc Cert.LastFfnKernelIdeal.main_arg1) = m ((c.tc : Thread Cert.LastFfnKernelIdeal.nD Cert.LastFfnKernelIdeal.τ).loc Cert.LastFfnKernelIdeal.main_arg1)
          ∧ r.2.mem ((c.tc : Thread Cert.LastFfnKernelIdeal.nD Cert.LastFfnKernelIdeal.τ).loc Cert.LastFfnKernelIdeal.main_arg2) = m ((c.tc : Thread Cert.LastFfnKernelIdeal.nD Cert.LastFfnKernelIdeal.τ).loc Cert.LastFfnKernelIdeal.main_arg2)
          ∧ r.2.mem ((c.tc : Thread Cert.LastFfnKernelIdeal.nD Cert.LastFfnKernelIdeal.τ).loc Cert.LastFfnKernelIdeal.main_arg3) = m ((c.tc : Thread Cert.LastFfnKernelIdeal.nD Cert.LastFfnKernelIdeal.τ).loc Cert.LastFfnKernelIdeal.main_arg3)
          ∧ r.2.mem ((c.tc : Thread Cert.LastFfnKernelIdeal.nD Cert.LastFfnKernelIdeal.τ).loc Cert.LastFfnKernelIdeal.main_arg4) = m ((c.tc : Thread Cert.LastFfnKernelIdeal.nD Cert.LastFfnKernelIdeal.τ).loc Cert.LastFfnKernelIdeal.main_arg4))
      ∧ θ_run (Cert.LastFfnReferenceIdeal.defs (F := Ideal)) (onTc (τ := Cert.LastFfnReferenceIdeal.τ) (Cert.LastFfnReferenceIdeal.main (F := Ideal))) ⟨m', fun _ => 0, g'⟩ (fun r => ∀ c : Dev Cert.LastFfnReferenceIdeal.nD,
          r.2.mem ((c.tc : Thread Cert.LastFfnReferenceIdeal.nD Cert.LastFfnReferenceIdeal.τ).loc Cert.LastFfnReferenceIdeal.main_v38) = v0 c
          ∧ r.2.mem ((c.tc : Thread Cert.LastFfnReferenceIdeal.nD Cert.LastFfnReferenceIdeal.τ).loc Cert.LastFfnReferenceIdeal.main_arg0) = m' ((c.tc : Thread Cert.LastFfnReferenceIdeal.nD Cert.LastFfnReferenceIdeal.τ).loc Cert.LastFfnReferenceIdeal.main_arg0)
          ∧ r.2.mem ((c.tc : Thread Cert.LastFfnReferenceIdeal.nD Cert.LastFfnReferenceIdeal.τ).loc Cert.LastFfnReferenceIdeal.main_arg1) = m' ((c.tc : Thread Cert.LastFfnReferenceIdeal.nD Cert.LastFfnReferenceIdeal.τ).loc Cert.LastFfnReferenceIdeal.main_arg1)
          ∧ r.2.mem ((c.tc : Thread Cert.LastFfnReferenceIdeal.nD Cert.LastFfnReferenceIdeal.τ).loc Cert.LastFfnReferenceIdeal.main_arg2) = m' ((c.tc : Thread Cert.LastFfnReferenceIdeal.nD Cert.LastFfnReferenceIdeal.τ).loc Cert.LastFfnReferenceIdeal.main_arg2)
          ∧ r.2.mem ((c.tc : Thread Cert.LastFfnReferenceIdeal.nD Cert.LastFfnReferenceIdeal.τ).loc Cert.LastFfnReferenceIdeal.main_arg3) = m' ((c.tc : Thread Cert.LastFfnReferenceIdeal.nD Cert.LastFfnReferenceIdeal.τ).loc Cert.LastFfnReferenceIdeal.main_arg3)
          ∧ r.2.mem ((c.tc : Thread Cert.LastFfnReferenceIdeal.nD Cert.LastFfnReferenceIdeal.τ).loc Cert.LastFfnReferenceIdeal.main_arg4) = m' ((c.tc : Thread Cert.LastFfnReferenceIdeal.nD Cert.LastFfnReferenceIdeal.τ).loc Cert.LastFfnReferenceIdeal.main_arg4))

def preserves_SampleFfnKernel_SampleFfnKernelIdeal : Prop :=
  True

def algebraic_SampleFfnKernelIdeal_SampleFfnReferenceIdeal [hSampleFfnKernelIdeal : Cert.SampleFfnKernelIdeal.Facts] [hSampleFfnReferenceIdeal : Cert.SampleFfnReferenceIdeal.Facts] : Prop :=
  ∀ (m : (ℓ : Loc Cert.SampleFfnKernelIdeal.nD Cert.SampleFfnKernelIdeal.τ Cert.SampleFfnKernelIdeal.sig) → Buf (Elt Ideal) ℓ) (g : Dev Cert.SampleFfnKernelIdeal.nD → PrngReg)
    (m' : (ℓ : Loc Cert.SampleFfnReferenceIdeal.nD Cert.SampleFfnReferenceIdeal.τ Cert.SampleFfnReferenceIdeal.sig) → Buf (Elt Ideal) ℓ) (g' : Dev Cert.SampleFfnReferenceIdeal.nD → PrngReg), Pre_SampleFfnKernelIdeal m →
    (∀ c : Dev Cert.SampleFfnKernelIdeal.nD,
      m' ((c.tc : Thread Cert.SampleFfnReferenceIdeal.nD Cert.SampleFfnReferenceIdeal.τ).loc Cert.SampleFfnReferenceIdeal.main_arg0) = m ((c.tc : Thread Cert.SampleFfnKernelIdeal.nD Cert.SampleFfnKernelIdeal.τ).loc Cert.SampleFfnKernelIdeal.main_arg0)
      ∧ m' ((c.tc : Thread Cert.SampleFfnReferenceIdeal.nD Cert.SampleFfnReferenceIdeal.τ).loc Cert.SampleFfnReferenceIdeal.main_arg1) = m ((c.tc : Thread Cert.SampleFfnKernelIdeal.nD Cert.SampleFfnKernelIdeal.τ).loc Cert.SampleFfnKernelIdeal.main_arg1)
      ∧ m' ((c.tc : Thread Cert.SampleFfnReferenceIdeal.nD Cert.SampleFfnReferenceIdeal.τ).loc Cert.SampleFfnReferenceIdeal.main_arg2) = m ((c.tc : Thread Cert.SampleFfnKernelIdeal.nD Cert.SampleFfnKernelIdeal.τ).loc Cert.SampleFfnKernelIdeal.main_arg2)
      ∧ m' ((c.tc : Thread Cert.SampleFfnReferenceIdeal.nD Cert.SampleFfnReferenceIdeal.τ).loc Cert.SampleFfnReferenceIdeal.main_arg3) = m ((c.tc : Thread Cert.SampleFfnKernelIdeal.nD Cert.SampleFfnKernelIdeal.τ).loc Cert.SampleFfnKernelIdeal.main_arg3)
      ∧ m' ((c.tc : Thread Cert.SampleFfnReferenceIdeal.nD Cert.SampleFfnReferenceIdeal.τ).loc Cert.SampleFfnReferenceIdeal.main_arg4) = m ((c.tc : Thread Cert.SampleFfnKernelIdeal.nD Cert.SampleFfnKernelIdeal.τ).loc Cert.SampleFfnKernelIdeal.main_arg4)) →
    ∃ (v0 : (c : Dev Cert.SampleFfnKernelIdeal.nD) → Buf (Elt Ideal) ((c.tc : Thread Cert.SampleFfnKernelIdeal.nD Cert.SampleFfnKernelIdeal.τ).loc Cert.SampleFfnKernelIdeal.main_v4)),
      θ_run (Cert.SampleFfnKernelIdeal.defs (F := Ideal)) (onTc (τ := Cert.SampleFfnKernelIdeal.τ) (Cert.SampleFfnKernelIdeal.main (F := Ideal))) ⟨m, fun _ => 0, g⟩ (fun r => ∀ c : Dev Cert.SampleFfnKernelIdeal.nD,
          r.2.mem ((c.tc : Thread Cert.SampleFfnKernelIdeal.nD Cert.SampleFfnKernelIdeal.τ).loc Cert.SampleFfnKernelIdeal.main_v4) = v0 c
          ∧ r.2.mem ((c.tc : Thread Cert.SampleFfnKernelIdeal.nD Cert.SampleFfnKernelIdeal.τ).loc Cert.SampleFfnKernelIdeal.main_arg0) = m ((c.tc : Thread Cert.SampleFfnKernelIdeal.nD Cert.SampleFfnKernelIdeal.τ).loc Cert.SampleFfnKernelIdeal.main_arg0)
          ∧ r.2.mem ((c.tc : Thread Cert.SampleFfnKernelIdeal.nD Cert.SampleFfnKernelIdeal.τ).loc Cert.SampleFfnKernelIdeal.main_arg1) = m ((c.tc : Thread Cert.SampleFfnKernelIdeal.nD Cert.SampleFfnKernelIdeal.τ).loc Cert.SampleFfnKernelIdeal.main_arg1)
          ∧ r.2.mem ((c.tc : Thread Cert.SampleFfnKernelIdeal.nD Cert.SampleFfnKernelIdeal.τ).loc Cert.SampleFfnKernelIdeal.main_arg2) = m ((c.tc : Thread Cert.SampleFfnKernelIdeal.nD Cert.SampleFfnKernelIdeal.τ).loc Cert.SampleFfnKernelIdeal.main_arg2)
          ∧ r.2.mem ((c.tc : Thread Cert.SampleFfnKernelIdeal.nD Cert.SampleFfnKernelIdeal.τ).loc Cert.SampleFfnKernelIdeal.main_arg3) = m ((c.tc : Thread Cert.SampleFfnKernelIdeal.nD Cert.SampleFfnKernelIdeal.τ).loc Cert.SampleFfnKernelIdeal.main_arg3)
          ∧ r.2.mem ((c.tc : Thread Cert.SampleFfnKernelIdeal.nD Cert.SampleFfnKernelIdeal.τ).loc Cert.SampleFfnKernelIdeal.main_arg4) = m ((c.tc : Thread Cert.SampleFfnKernelIdeal.nD Cert.SampleFfnKernelIdeal.τ).loc Cert.SampleFfnKernelIdeal.main_arg4))
      ∧ θ_run (Cert.SampleFfnReferenceIdeal.defs (F := Ideal)) (onTc (τ := Cert.SampleFfnReferenceIdeal.τ) (Cert.SampleFfnReferenceIdeal.main (F := Ideal))) ⟨m', fun _ => 0, g'⟩ (fun r => ∀ c : Dev Cert.SampleFfnReferenceIdeal.nD,
          r.2.mem ((c.tc : Thread Cert.SampleFfnReferenceIdeal.nD Cert.SampleFfnReferenceIdeal.τ).loc Cert.SampleFfnReferenceIdeal.main_v38) = v0 c
          ∧ r.2.mem ((c.tc : Thread Cert.SampleFfnReferenceIdeal.nD Cert.SampleFfnReferenceIdeal.τ).loc Cert.SampleFfnReferenceIdeal.main_arg0) = m' ((c.tc : Thread Cert.SampleFfnReferenceIdeal.nD Cert.SampleFfnReferenceIdeal.τ).loc Cert.SampleFfnReferenceIdeal.main_arg0)
          ∧ r.2.mem ((c.tc : Thread Cert.SampleFfnReferenceIdeal.nD Cert.SampleFfnReferenceIdeal.τ).loc Cert.SampleFfnReferenceIdeal.main_arg1) = m' ((c.tc : Thread Cert.SampleFfnReferenceIdeal.nD Cert.SampleFfnReferenceIdeal.τ).loc Cert.SampleFfnReferenceIdeal.main_arg1)
          ∧ r.2.mem ((c.tc : Thread Cert.SampleFfnReferenceIdeal.nD Cert.SampleFfnReferenceIdeal.τ).loc Cert.SampleFfnReferenceIdeal.main_arg2) = m' ((c.tc : Thread Cert.SampleFfnReferenceIdeal.nD Cert.SampleFfnReferenceIdeal.τ).loc Cert.SampleFfnReferenceIdeal.main_arg2)
          ∧ r.2.mem ((c.tc : Thread Cert.SampleFfnReferenceIdeal.nD Cert.SampleFfnReferenceIdeal.τ).loc Cert.SampleFfnReferenceIdeal.main_arg3) = m' ((c.tc : Thread Cert.SampleFfnReferenceIdeal.nD Cert.SampleFfnReferenceIdeal.τ).loc Cert.SampleFfnReferenceIdeal.main_arg3)
          ∧ r.2.mem ((c.tc : Thread Cert.SampleFfnReferenceIdeal.nD Cert.SampleFfnReferenceIdeal.τ).loc Cert.SampleFfnReferenceIdeal.main_arg4) = m' ((c.tc : Thread Cert.SampleFfnReferenceIdeal.nD Cert.SampleFfnReferenceIdeal.τ).loc Cert.SampleFfnReferenceIdeal.main_arg4))

def preserves_QkvKernel_QkvKernelIdeal : Prop :=
  True

def algebraic_QkvKernelIdeal_QkvReferenceIdeal [hQkvKernelIdeal : Cert.QkvKernelIdeal.Facts] [hQkvReferenceIdeal : Cert.QkvReferenceIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvKernelIdeal m →
    (∀ c : Dev Cert.QkvKernelIdeal.nD,
      m' ((c.tc : Thread Cert.QkvReferenceIdeal.nD Cert.QkvReferenceIdeal.τ).loc Cert.QkvReferenceIdeal.main_arg0) = m ((c.tc : Thread Cert.QkvKernelIdeal.nD Cert.QkvKernelIdeal.τ).loc Cert.QkvKernelIdeal.main_arg0)
      ∧ m' ((c.tc : Thread Cert.QkvReferenceIdeal.nD Cert.QkvReferenceIdeal.τ).loc Cert.QkvReferenceIdeal.main_arg1) = m ((c.tc : Thread Cert.QkvKernelIdeal.nD Cert.QkvKernelIdeal.τ).loc Cert.QkvKernelIdeal.main_arg1)
      ∧ m' ((c.tc : Thread Cert.QkvReferenceIdeal.nD Cert.QkvReferenceIdeal.τ).loc Cert.QkvReferenceIdeal.main_arg2) = m ((c.tc : Thread Cert.QkvKernelIdeal.nD Cert.QkvKernelIdeal.τ).loc Cert.QkvKernelIdeal.main_arg2)) →
    ∃ (v0 : (c : Dev Cert.QkvKernelIdeal.nD) → Buf (Elt Ideal) ((c.tc : Thread Cert.QkvKernelIdeal.nD Cert.QkvKernelIdeal.τ).loc Cert.QkvKernelIdeal.main_v2_0)) (v1 : (c : Dev Cert.QkvKernelIdeal.nD) → Buf (Elt Ideal) ((c.tc : Thread Cert.QkvKernelIdeal.nD Cert.QkvKernelIdeal.τ).loc Cert.QkvKernelIdeal.main_v2_1)) (v2 : (c : Dev Cert.QkvKernelIdeal.nD) → Buf (Elt Ideal) ((c.tc : Thread Cert.QkvKernelIdeal.nD Cert.QkvKernelIdeal.τ).loc Cert.QkvKernelIdeal.main_v2_2)) (v3 : (c : Dev Cert.QkvKernelIdeal.nD) → Buf (Elt Ideal) ((c.tc : Thread Cert.QkvKernelIdeal.nD Cert.QkvKernelIdeal.τ).loc Cert.QkvKernelIdeal.main_v2_3)) (v4 : (c : Dev Cert.QkvKernelIdeal.nD) → Buf (Elt Ideal) ((c.tc : Thread Cert.QkvKernelIdeal.nD Cert.QkvKernelIdeal.τ).loc Cert.QkvKernelIdeal.main_v2_4)) (v5 : (c : Dev Cert.QkvKernelIdeal.nD) → Buf (Elt Ideal) ((c.tc : Thread Cert.QkvKernelIdeal.nD Cert.QkvKernelIdeal.τ).loc Cert.QkvKernelIdeal.main_v2_5)),
      θ_run (Cert.QkvKernelIdeal.defs (F := Ideal)) (onTc (τ := Cert.QkvKernelIdeal.τ) (Cert.QkvKernelIdeal.main (F := Ideal))) ⟨m, fun _ => 0, g⟩ (fun r => ∀ c : Dev Cert.QkvKernelIdeal.nD,
          r.2.mem ((c.tc : Thread Cert.QkvKernelIdeal.nD Cert.QkvKernelIdeal.τ).loc Cert.QkvKernelIdeal.main_v2_0) = v0 c
          ∧ r.2.mem ((c.tc : Thread Cert.QkvKernelIdeal.nD Cert.QkvKernelIdeal.τ).loc Cert.QkvKernelIdeal.main_v2_1) = v1 c
          ∧ r.2.mem ((c.tc : Thread Cert.QkvKernelIdeal.nD Cert.QkvKernelIdeal.τ).loc Cert.QkvKernelIdeal.main_v2_2) = v2 c
          ∧ r.2.mem ((c.tc : Thread Cert.QkvKernelIdeal.nD Cert.QkvKernelIdeal.τ).loc Cert.QkvKernelIdeal.main_v2_3) = v3 c
          ∧ r.2.mem ((c.tc : Thread Cert.QkvKernelIdeal.nD Cert.QkvKernelIdeal.τ).loc Cert.QkvKernelIdeal.main_v2_4) = v4 c
          ∧ r.2.mem ((c.tc : Thread Cert.QkvKernelIdeal.nD Cert.QkvKernelIdeal.τ).loc Cert.QkvKernelIdeal.main_v2_5) = v5 c
          ∧ r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
          ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
          ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v24) = v0 c
          ∧ r.2.mem ((c.tc : Thread Cert.QkvReferenceIdeal.nD Cert.QkvReferenceIdeal.τ).loc Cert.QkvReferenceIdeal.main_v25) = v1 c
          ∧ r.2.mem ((c.tc : Thread Cert.QkvReferenceIdeal.nD Cert.QkvReferenceIdeal.τ).loc Cert.QkvReferenceIdeal.main_v26) = v2 c
          ∧ r.2.mem ((c.tc : Thread Cert.QkvReferenceIdeal.nD Cert.QkvReferenceIdeal.τ).loc Cert.QkvReferenceIdeal.main_v27) = v3 c
          ∧ r.2.mem ((c.tc : Thread Cert.QkvReferenceIdeal.nD Cert.QkvReferenceIdeal.τ).loc Cert.QkvReferenceIdeal.main_v30) = v4 c
          ∧ r.2.mem ((c.tc : Thread Cert.QkvReferenceIdeal.nD Cert.QkvReferenceIdeal.τ).loc Cert.QkvReferenceIdeal.main_v21) = v5 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2))

def preserves_SampleQkvKernel_SampleQkvKernelIdeal : Prop :=
  True

def algebraic_SampleQkvKernelIdeal_SampleQkvReferenceIdeal [hSampleQkvKernelIdeal : Cert.SampleQkvKernelIdeal.Facts] [hSampleQkvReferenceIdeal : Cert.SampleQkvReferenceIdeal.Facts] : Prop :=
  ∀ (m : (ℓ : Loc Cert.SampleQkvKernelIdeal.nD Cert.SampleQkvKernelIdeal.τ Cert.SampleQkvKernelIdeal.sig) → Buf (Elt Ideal) ℓ) (g : Dev Cert.SampleQkvKernelIdeal.nD → PrngReg)
    (m' : (ℓ : Loc Cert.SampleQkvReferenceIdeal.nD Cert.SampleQkvReferenceIdeal.τ Cert.SampleQkvReferenceIdeal.sig) → Buf (Elt Ideal) ℓ) (g' : Dev Cert.SampleQkvReferenceIdeal.nD → PrngReg), Pre_SampleQkvKernelIdeal m →
    (∀ c : Dev Cert.SampleQkvKernelIdeal.nD,
      m' ((c.tc : Thread Cert.SampleQkvReferenceIdeal.nD Cert.SampleQkvReferenceIdeal.τ).loc Cert.SampleQkvReferenceIdeal.main_arg0) = m ((c.tc : Thread Cert.SampleQkvKernelIdeal.nD Cert.SampleQkvKernelIdeal.τ).loc Cert.SampleQkvKernelIdeal.main_arg0)
      ∧ m' ((c.tc : Thread Cert.SampleQkvReferenceIdeal.nD Cert.SampleQkvReferenceIdeal.τ).loc Cert.SampleQkvReferenceIdeal.main_arg1) = m ((c.tc : Thread Cert.SampleQkvKernelIdeal.nD Cert.SampleQkvKernelIdeal.τ).loc Cert.SampleQkvKernelIdeal.main_arg1)
      ∧ m' ((c.tc : Thread Cert.SampleQkvReferenceIdeal.nD Cert.SampleQkvReferenceIdeal.τ).loc Cert.SampleQkvReferenceIdeal.main_arg2) = m ((c.tc : Thread Cert.SampleQkvKernelIdeal.nD Cert.SampleQkvKernelIdeal.τ).loc Cert.SampleQkvKernelIdeal.main_arg2)) →
    ∃ (v0 : (c : Dev Cert.SampleQkvKernelIdeal.nD) → Buf (Elt Ideal) ((c.tc : Thread Cert.SampleQkvKernelIdeal.nD Cert.SampleQkvKernelIdeal.τ).loc Cert.SampleQkvKernelIdeal.main_v2_0)) (v1 : (c : Dev Cert.SampleQkvKernelIdeal.nD) → Buf (Elt Ideal) ((c.tc : Thread Cert.SampleQkvKernelIdeal.nD Cert.SampleQkvKernelIdeal.τ).loc Cert.SampleQkvKernelIdeal.main_v2_1)) (v2 : (c : Dev Cert.SampleQkvKernelIdeal.nD) → Buf (Elt Ideal) ((c.tc : Thread Cert.SampleQkvKernelIdeal.nD Cert.SampleQkvKernelIdeal.τ).loc Cert.SampleQkvKernelIdeal.main_v2_2)),
      θ_run (Cert.SampleQkvKernelIdeal.defs (F := Ideal)) (onTc (τ := Cert.SampleQkvKernelIdeal.τ) (Cert.SampleQkvKernelIdeal.main (F := Ideal))) ⟨m, fun _ => 0, g⟩ (fun r => ∀ c : Dev Cert.SampleQkvKernelIdeal.nD,
          r.2.mem ((c.tc : Thread Cert.SampleQkvKernelIdeal.nD Cert.SampleQkvKernelIdeal.τ).loc Cert.SampleQkvKernelIdeal.main_v2_0) = v0 c
          ∧ r.2.mem ((c.tc : Thread Cert.SampleQkvKernelIdeal.nD Cert.SampleQkvKernelIdeal.τ).loc Cert.SampleQkvKernelIdeal.main_v2_1) = v1 c
          ∧ r.2.mem ((c.tc : Thread Cert.SampleQkvKernelIdeal.nD Cert.SampleQkvKernelIdeal.τ).loc Cert.SampleQkvKernelIdeal.main_v2_2) = v2 c
          ∧ r.2.mem ((c.tc : Thread Cert.SampleQkvKernelIdeal.nD Cert.SampleQkvKernelIdeal.τ).loc Cert.SampleQkvKernelIdeal.main_arg0) = m ((c.tc : Thread Cert.SampleQkvKernelIdeal.nD Cert.SampleQkvKernelIdeal.τ).loc Cert.SampleQkvKernelIdeal.main_arg0)
          ∧ r.2.mem ((c.tc : Thread Cert.SampleQkvKernelIdeal.nD Cert.SampleQkvKernelIdeal.τ).loc Cert.SampleQkvKernelIdeal.main_arg1) = m ((c.tc : Thread Cert.SampleQkvKernelIdeal.nD Cert.SampleQkvKernelIdeal.τ).loc Cert.SampleQkvKernelIdeal.main_arg1)
          ∧ r.2.mem ((c.tc : Thread Cert.SampleQkvKernelIdeal.nD Cert.SampleQkvKernelIdeal.τ).loc Cert.SampleQkvKernelIdeal.main_arg2) = m ((c.tc : Thread Cert.SampleQkvKernelIdeal.nD Cert.SampleQkvKernelIdeal.τ).loc Cert.SampleQkvKernelIdeal.main_arg2))
      ∧ θ_run (Cert.SampleQkvReferenceIdeal.defs (F := Ideal)) (onTc (τ := Cert.SampleQkvReferenceIdeal.τ) (Cert.SampleQkvReferenceIdeal.main (F := Ideal))) ⟨m', fun _ => 0, g'⟩ (fun r => ∀ c : Dev Cert.SampleQkvReferenceIdeal.nD,
          r.2.mem ((c.tc : Thread Cert.SampleQkvReferenceIdeal.nD Cert.SampleQkvReferenceIdeal.τ).loc Cert.SampleQkvReferenceIdeal.main_v18) = v0 c
          ∧ r.2.mem ((c.tc : Thread Cert.SampleQkvReferenceIdeal.nD Cert.SampleQkvReferenceIdeal.τ).loc Cert.SampleQkvReferenceIdeal.main_v15) = v1 c
          ∧ r.2.mem ((c.tc : Thread Cert.SampleQkvReferenceIdeal.nD Cert.SampleQkvReferenceIdeal.τ).loc Cert.SampleQkvReferenceIdeal.main_v16) = v2 c
          ∧ r.2.mem ((c.tc : Thread Cert.SampleQkvReferenceIdeal.nD Cert.SampleQkvReferenceIdeal.τ).loc Cert.SampleQkvReferenceIdeal.main_arg0) = m' ((c.tc : Thread Cert.SampleQkvReferenceIdeal.nD Cert.SampleQkvReferenceIdeal.τ).loc Cert.SampleQkvReferenceIdeal.main_arg0)
          ∧ r.2.mem ((c.tc : Thread Cert.SampleQkvReferenceIdeal.nD Cert.SampleQkvReferenceIdeal.τ).loc Cert.SampleQkvReferenceIdeal.main_arg1) = m' ((c.tc : Thread Cert.SampleQkvReferenceIdeal.nD Cert.SampleQkvReferenceIdeal.τ).loc Cert.SampleQkvReferenceIdeal.main_arg1)
          ∧ r.2.mem ((c.tc : Thread Cert.SampleQkvReferenceIdeal.nD Cert.SampleQkvReferenceIdeal.τ).loc Cert.SampleQkvReferenceIdeal.main_arg2) = m' ((c.tc : Thread Cert.SampleQkvReferenceIdeal.nD Cert.SampleQkvReferenceIdeal.τ).loc Cert.SampleQkvReferenceIdeal.main_arg2))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)) →
    ∃ (v0 : (c : Dev Cert.ProjKernelIdeal.nD) → Buf (Elt Ideal) ((c.tc : Thread Cert.ProjKernelIdeal.nD Cert.ProjKernelIdeal.τ).loc Cert.ProjKernelIdeal.main_v1)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v1) = v0 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v2) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_SampleRetentionKernel_SampleRetentionKernelIdeal : Prop :=
  True

def algebraic_SampleRetentionKernelIdeal_SampleRetentionReferenceIdeal [hSampleRetentionKernelIdeal : Cert.SampleRetentionKernelIdeal.Facts] [hSampleRetentionReferenceIdeal : Cert.SampleRetentionReferenceIdeal.Facts] : Prop :=
  ∀ (m : (ℓ : Loc Cert.SampleRetentionKernelIdeal.nD Cert.SampleRetentionKernelIdeal.τ Cert.SampleRetentionKernelIdeal.sig) → Buf (Elt Ideal) ℓ) (g : Dev Cert.SampleRetentionKernelIdeal.nD → PrngReg)
    (m' : (ℓ : Loc Cert.SampleRetentionReferenceIdeal.nD Cert.SampleRetentionReferenceIdeal.τ Cert.SampleRetentionReferenceIdeal.sig) → Buf (Elt Ideal) ℓ) (g' : Dev Cert.SampleRetentionReferenceIdeal.nD → PrngReg), Pre_SampleRetentionKernelIdeal m →
    (∀ c : Dev Cert.SampleRetentionKernelIdeal.nD,
      m' ((c.tc : Thread Cert.SampleRetentionReferenceIdeal.nD Cert.SampleRetentionReferenceIdeal.τ).loc Cert.SampleRetentionReferenceIdeal.main_arg0) = m ((c.tc : Thread Cert.SampleRetentionKernelIdeal.nD Cert.SampleRetentionKernelIdeal.τ).loc Cert.SampleRetentionKernelIdeal.main_arg0)
      ∧ m' ((c.tc : Thread Cert.SampleRetentionReferenceIdeal.nD Cert.SampleRetentionReferenceIdeal.τ).loc Cert.SampleRetentionReferenceIdeal.main_arg1) = m ((c.tc : Thread Cert.SampleRetentionKernelIdeal.nD Cert.SampleRetentionKernelIdeal.τ).loc Cert.SampleRetentionKernelIdeal.main_arg1)
      ∧ m' ((c.tc : Thread Cert.SampleRetentionReferenceIdeal.nD Cert.SampleRetentionReferenceIdeal.τ).loc Cert.SampleRetentionReferenceIdeal.main_arg2) = m ((c.tc : Thread Cert.SampleRetentionKernelIdeal.nD Cert.SampleRetentionKernelIdeal.τ).loc Cert.SampleRetentionKernelIdeal.main_arg2)) →
    ∃ (v0 : (c : Dev Cert.SampleRetentionKernelIdeal.nD) → Buf (Elt Ideal) ((c.tc : Thread Cert.SampleRetentionKernelIdeal.nD Cert.SampleRetentionKernelIdeal.τ).loc Cert.SampleRetentionKernelIdeal.main_v52_0)) (v1 : (c : Dev Cert.SampleRetentionKernelIdeal.nD) → Buf (Elt Ideal) ((c.tc : Thread Cert.SampleRetentionKernelIdeal.nD Cert.SampleRetentionKernelIdeal.τ).loc Cert.SampleRetentionKernelIdeal.main_v52_1)),
      θ_run (Cert.SampleRetentionKernelIdeal.defs (F := Ideal)) (onTc (τ := Cert.SampleRetentionKernelIdeal.τ) (Cert.SampleRetentionKernelIdeal.main (F := Ideal))) ⟨m, fun _ => 0, g⟩ (fun r => ∀ c : Dev Cert.SampleRetentionKernelIdeal.nD,
          r.2.mem ((c.tc : Thread Cert.SampleRetentionKernelIdeal.nD Cert.SampleRetentionKernelIdeal.τ).loc Cert.SampleRetentionKernelIdeal.main_v52_0) = v0 c
          ∧ r.2.mem ((c.tc : Thread Cert.SampleRetentionKernelIdeal.nD Cert.SampleRetentionKernelIdeal.τ).loc Cert.SampleRetentionKernelIdeal.main_v52_1) = v1 c
          ∧ r.2.mem ((c.tc : Thread Cert.SampleRetentionKernelIdeal.nD Cert.SampleRetentionKernelIdeal.τ).loc Cert.SampleRetentionKernelIdeal.main_arg0) = m ((c.tc : Thread Cert.SampleRetentionKernelIdeal.nD Cert.SampleRetentionKernelIdeal.τ).loc Cert.SampleRetentionKernelIdeal.main_arg0)
          ∧ r.2.mem ((c.tc : Thread Cert.SampleRetentionKernelIdeal.nD Cert.SampleRetentionKernelIdeal.τ).loc Cert.SampleRetentionKernelIdeal.main_arg1) = m ((c.tc : Thread Cert.SampleRetentionKernelIdeal.nD Cert.SampleRetentionKernelIdeal.τ).loc Cert.SampleRetentionKernelIdeal.main_arg1)
          ∧ r.2.mem ((c.tc : Thread Cert.SampleRetentionKernelIdeal.nD Cert.SampleRetentionKernelIdeal.τ).loc Cert.SampleRetentionKernelIdeal.main_arg2) = m ((c.tc : Thread Cert.SampleRetentionKernelIdeal.nD Cert.SampleRetentionKernelIdeal.τ).loc Cert.SampleRetentionKernelIdeal.main_arg2))
      ∧ θ_run (Cert.SampleRetentionReferenceIdeal.defs (F := Ideal)) (onTc (τ := Cert.SampleRetentionReferenceIdeal.τ) (Cert.SampleRetentionReferenceIdeal.main (F := Ideal))) ⟨m', fun _ => 0, g'⟩ (fun r => ∀ c : Dev Cert.SampleRetentionReferenceIdeal.nD,
          r.2.mem ((c.tc : Thread Cert.SampleRetentionReferenceIdeal.nD Cert.SampleRetentionReferenceIdeal.τ).loc Cert.SampleRetentionReferenceIdeal.main_v95) = v0 c
          ∧ r.2.mem ((c.tc : Thread Cert.SampleRetentionReferenceIdeal.nD Cert.SampleRetentionReferenceIdeal.τ).loc Cert.SampleRetentionReferenceIdeal.main_v71) = v1 c
          ∧ r.2.mem ((c.tc : Thread Cert.SampleRetentionReferenceIdeal.nD Cert.SampleRetentionReferenceIdeal.τ).loc Cert.SampleRetentionReferenceIdeal.main_arg0) = m' ((c.tc : Thread Cert.SampleRetentionReferenceIdeal.nD Cert.SampleRetentionReferenceIdeal.τ).loc Cert.SampleRetentionReferenceIdeal.main_arg0)
          ∧ r.2.mem ((c.tc : Thread Cert.SampleRetentionReferenceIdeal.nD Cert.SampleRetentionReferenceIdeal.τ).loc Cert.SampleRetentionReferenceIdeal.main_arg1) = m' ((c.tc : Thread Cert.SampleRetentionReferenceIdeal.nD Cert.SampleRetentionReferenceIdeal.τ).loc Cert.SampleRetentionReferenceIdeal.main_arg1)
          ∧ r.2.mem ((c.tc : Thread Cert.SampleRetentionReferenceIdeal.nD Cert.SampleRetentionReferenceIdeal.τ).loc Cert.SampleRetentionReferenceIdeal.main_arg2) = m' ((c.tc : Thread Cert.SampleRetentionReferenceIdeal.nD Cert.SampleRetentionReferenceIdeal.τ).loc Cert.SampleRetentionReferenceIdeal.main_arg2))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hLastFfnKernel : Cert.LastFfnKernel.Facts) (hLastFfnKernelIdeal : Cert.LastFfnKernelIdeal.Facts) (hLastFfnReferenceIdeal : Cert.LastFfnReferenceIdeal.Facts) (hSampleFfnKernel : Cert.SampleFfnKernel.Facts) (hSampleFfnKernelIdeal : Cert.SampleFfnKernelIdeal.Facts) (hSampleFfnReferenceIdeal : Cert.SampleFfnReferenceIdeal.Facts) (hQkvKernel : Cert.QkvKernel.Facts) (hQkvKernelIdeal : Cert.QkvKernelIdeal.Facts) (hQkvReferenceIdeal : Cert.QkvReferenceIdeal.Facts) (hSampleQkvKernel : Cert.SampleQkvKernel.Facts) (hSampleQkvKernelIdeal : Cert.SampleQkvKernelIdeal.Facts) (hSampleQkvReferenceIdeal : Cert.SampleQkvReferenceIdeal.Facts) (hProjKernel : Cert.ProjKernel.Facts) (hProjKernelIdeal : Cert.ProjKernelIdeal.Facts) (hProjReferenceIdeal : Cert.ProjReferenceIdeal.Facts) (hSampleRetentionKernel : Cert.SampleRetentionKernel.Facts) (hSampleRetentionKernelIdeal : Cert.SampleRetentionKernelIdeal.Facts) (hSampleRetentionReferenceIdeal : Cert.SampleRetentionReferenceIdeal.Facts),
    quiescent_Kernel (hKernel := hKernel)
    ∧ quiescent_KernelIdeal (hKernelIdeal := hKernelIdeal)
    ∧ quiescent_ReferenceIdeal (hReferenceIdeal := hReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_LastFfnKernel (hLastFfnKernel := hLastFfnKernel)
    ∧ quiescent_LastFfnKernelIdeal (hLastFfnKernelIdeal := hLastFfnKernelIdeal)
    ∧ quiescent_LastFfnReferenceIdeal (hLastFfnReferenceIdeal := hLastFfnReferenceIdeal)
    ∧ quiescent_SampleFfnKernel (hSampleFfnKernel := hSampleFfnKernel)
    ∧ quiescent_SampleFfnKernelIdeal (hSampleFfnKernelIdeal := hSampleFfnKernelIdeal)
    ∧ quiescent_SampleFfnReferenceIdeal (hSampleFfnReferenceIdeal := hSampleFfnReferenceIdeal)
    ∧ quiescent_QkvKernel (hQkvKernel := hQkvKernel)
    ∧ quiescent_QkvKernelIdeal (hQkvKernelIdeal := hQkvKernelIdeal)
    ∧ quiescent_QkvReferenceIdeal (hQkvReferenceIdeal := hQkvReferenceIdeal)
    ∧ quiescent_SampleQkvKernel (hSampleQkvKernel := hSampleQkvKernel)
    ∧ quiescent_SampleQkvKernelIdeal (hSampleQkvKernelIdeal := hSampleQkvKernelIdeal)
    ∧ quiescent_SampleQkvReferenceIdeal (hSampleQkvReferenceIdeal := hSampleQkvReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_SampleRetentionKernel (hSampleRetentionKernel := hSampleRetentionKernel)
    ∧ quiescent_SampleRetentionKernelIdeal (hSampleRetentionKernelIdeal := hSampleRetentionKernelIdeal)
    ∧ quiescent_SampleRetentionReferenceIdeal (hSampleRetentionReferenceIdeal := hSampleRetentionReferenceIdeal)
    ∧ preserves_Kernel_KernelIdeal
    ∧ algebraic_KernelIdeal_ReferenceIdeal (hKernelIdeal := hKernelIdeal) (hReferenceIdeal := hReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_LastFfnKernel_LastFfnKernelIdeal
    ∧ algebraic_LastFfnKernelIdeal_LastFfnReferenceIdeal (hLastFfnKernelIdeal := hLastFfnKernelIdeal) (hLastFfnReferenceIdeal := hLastFfnReferenceIdeal)
    ∧ preserves_SampleFfnKernel_SampleFfnKernelIdeal
    ∧ algebraic_SampleFfnKernelIdeal_SampleFfnReferenceIdeal (hSampleFfnKernelIdeal := hSampleFfnKernelIdeal) (hSampleFfnReferenceIdeal := hSampleFfnReferenceIdeal)
    ∧ preserves_QkvKernel_QkvKernelIdeal
    ∧ algebraic_QkvKernelIdeal_QkvReferenceIdeal (hQkvKernelIdeal := hQkvKernelIdeal) (hQkvReferenceIdeal := hQkvReferenceIdeal)
    ∧ preserves_SampleQkvKernel_SampleQkvKernelIdeal
    ∧ algebraic_SampleQkvKernelIdeal_SampleQkvReferenceIdeal (hSampleQkvKernelIdeal := hSampleQkvKernelIdeal) (hSampleQkvReferenceIdeal := hSampleQkvReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_SampleRetentionKernel_SampleRetentionKernelIdeal
    ∧ algebraic_SampleRetentionKernelIdeal_SampleRetentionReferenceIdeal (hSampleRetentionKernelIdeal := hSampleRetentionKernelIdeal) (hSampleRetentionReferenceIdeal := hSampleRetentionReferenceIdeal)
-- ==== Kernel.lean ====
abbrev S32768x1024 : Shape := ⟨2, ![32768, 1024]⟩
abbrev S1024 : Shape := ⟨1, ![1024]⟩
abbrev S1024x6144 : Shape := ⟨2, ![1024, 6144]⟩
abbrev S2048 : Shape := ⟨1, ![2048]⟩
abbrev S2048x1024 : Shape := ⟨2, ![2048, 1024]⟩
abbrev S128 : Shape := ⟨1, ![128]⟩
abbrev S_ : Shape := ⟨0, ![]⟩
abbrev S2048x1 : Shape := ⟨2, ![2048, 1]⟩
abbrev S1x128 : Shape := ⟨2, ![1, 128]⟩
abbrev S2048x128 : Shape := ⟨2, ![2048, 128]⟩
abbrev S4 : Shape := ⟨1, ![4]⟩
abbrev S128x1 : Shape := ⟨2, ![128, 1]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S1x1024 : Shape := ⟨2, ![1, 1024]⟩
abbrev S1x2048 : Shape := ⟨2, ![1, 2048]⟩
abbrev S16x4x256x512 : Shape := ⟨4, ![16, 4, 256, 512]⟩
abbrev S512x1024 : Shape := ⟨2, ![512, 1024]⟩
abbrev S512x128 : Shape := ⟨2, ![512, 128]⟩
abbrev S1x4x256x512 : Shape := ⟨4, ![1, 4, 256, 512]⟩
abbrev S512x2048 : Shape := ⟨2, ![512, 2048]⟩
abbrev S512 : Shape := ⟨1, ![512]⟩
abbrev S512x1 : Shape := ⟨2, ![512, 1]⟩
abbrev S512x6144 : Shape := ⟨2, ![512, 6144]⟩
abbrev S512x256 : Shape := ⟨2, ![512, 256]⟩
abbrev S512x512 : Shape := ⟨2, ![512, 512]⟩
abbrev S128x256 : Shape := ⟨2, ![128, 256]⟩
abbrev S1x1x256x512 : Shape := ⟨4, ![1, 1, 256, 512]⟩
abbrev S256x512 : Shape := ⟨2, ![256, 512]⟩
abbrev S128x512 : Shape := ⟨2, ![128, 512]⟩
abbrev S1x128x1 : Shape := ⟨3, ![1, 128, 1]⟩
abbrev S256x128 : Shape := ⟨2, ![256, 128]⟩
abbrev S1x1x1 : Shape := ⟨3, ![1, 1, 1]⟩
abbrev S1x1 : Shape := ⟨2, ![1, 1]⟩
abbrev S1x512 : Shape := ⟨2, ![1, 512]⟩

abbrev nBuf : Space → Nat
  | .hbm => 96
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x6144, .f32⟩
  | .hbm, ⟨3, _⟩ => ⟨S2048, .f32⟩
  | .hbm, ⟨4, _⟩ => ⟨S2048x1024, .f32⟩
  | .hbm, ⟨5, _⟩ => ⟨S2048, .i32⟩
  | .hbm, ⟨6, _⟩ => ⟨S1024x6144, .bf16⟩
  | .hbm, ⟨7, _⟩ => ⟨S2048x1024, .bf16⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S2048, .f32⟩
  | .hbm, ⟨17, _⟩ => ⟨S2048x1, .f32⟩
  | .hbm, ⟨18, _⟩ => ⟨S1x128, .f32⟩
  | .hbm, ⟨19, _⟩ => ⟨S2048x128, .f32⟩
  | .hbm, ⟨20, _⟩ => ⟨S2048x128, .f32⟩
  | .hbm, ⟨21, _⟩ => ⟨S2048x128, .f32⟩
  | .hbm, ⟨22, _⟩ => ⟨S2048x128, .f32⟩
  | .hbm, ⟨23, _⟩ => ⟨S2048x128, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S4, .f32⟩
  | .hbm, ⟨34, _⟩ => ⟨S128, .f32⟩
  | .hbm, ⟨35, _⟩ => ⟨S128x1, .f32⟩
  | .hbm, ⟨36, _⟩ => ⟨S1x128, .f32⟩
  | .hbm, ⟨37, _⟩ => ⟨S128x128, .f32⟩
  | .hbm, ⟨38, _⟩ => ⟨S128x128, .f32⟩
  | .hbm, ⟨39, _⟩ => ⟨S128x128, .f32⟩
  | .hbm, ⟨40, _⟩ => ⟨S1x128x128, .f32⟩
  | .hbm, ⟨41, _⟩ => ⟨S_, .f32⟩
  | .hbm, ⟨42, _⟩ => ⟨S1x128x128, .f32⟩
  | .hbm, ⟨43, _⟩ => ⟨S1x128x128, .i1⟩
  | .hbm, ⟨44, _⟩ => ⟨S4x1x1, .f32⟩
  | .hbm, ⟨45, _⟩ => ⟨S_, .f32⟩
  | .hbm, ⟨46, _⟩ => ⟨S128x128, .f32⟩
  | .hbm, ⟨47, _⟩ => ⟨S128x128, .f32⟩
  | .hbm, ⟨48, _⟩ => ⟨S1x128x128, .f32⟩
  | .hbm, ⟨49, _⟩ => ⟨S4x128x128, .f32⟩
  | .hbm, ⟨50, _⟩ => ⟨S4x128x128, .f32⟩
  | .hbm, ⟨51, _⟩ => ⟨S4x128x128, .f32⟩
  | .hbm, ⟨52, _⟩ => ⟨S4x128x128, .f32⟩
  | .hbm, ⟨53, _⟩ => ⟨S_, .f32⟩
  | .hbm, ⟨54, _⟩ => ⟨S_, .f32⟩
  | .hbm, ⟨55, _⟩ => ⟨S4x128x128, .i1⟩
  | .hbm, ⟨56, _⟩ => ⟨S4x128x128, .f32⟩
  | .hbm, ⟨57, _⟩ => ⟨S4x128x128, .f32⟩
  | .hbm, ⟨58, _⟩ => ⟨S4x1, .f32⟩
  | .hbm, ⟨59, _⟩ => ⟨S1x128, .f32⟩
  | .hbm, ⟨60, _⟩ => ⟨S_, .f32⟩
  | .hbm, ⟨61, _⟩ => ⟨S1x128, .f32⟩
  | .hbm, ⟨62, _⟩ => ⟨S1x128, .f32⟩
  | .hbm, ⟨63, _⟩ => ⟨S4x128, .f32⟩
  | .hbm, ⟨64, _⟩ => ⟨S4x128, .f32⟩
  | .hbm, ⟨65, _⟩ => ⟨S4x128, .f32⟩
  | .hbm, ⟨66, _⟩ => ⟨S4x128, .f32⟩
  | .hbm, ⟨67, _⟩ => ⟨S4x1, .f32⟩
  | .hbm, ⟨68, _⟩ => ⟨S1x128, .f32⟩
  | .hbm, ⟨69, _⟩ => ⟨S_, .f32⟩
  | .hbm, ⟨70, _⟩ => ⟨S1x128, .f32⟩
  | .hbm, ⟨71, _⟩ => ⟨S1x128, .f32⟩
  | .hbm, ⟨72, _⟩ => ⟨S4x128, .f32⟩
  | .hbm, ⟨73, _⟩ => ⟨S4x128, .f32⟩
  | .hbm, ⟨74, _⟩ => ⟨S4x128, .f32⟩
  | .hbm, ⟨75, _⟩ => ⟨S4x128, .f32⟩
  | .hbm, ⟨76, _⟩ => ⟨S_, .f32⟩
  | .hbm, ⟨77, _⟩ => ⟨S4, .f32⟩
  | .hbm, ⟨78, _⟩ => ⟨S4, .f32⟩
  | .hbm, ⟨79, _⟩ => ⟨S4, .f32⟩
  | .hbm, ⟨80, _⟩ => ⟨S_, .i32⟩
  | .hbm, ⟨81, _⟩ => ⟨S_, .f32⟩
  | .hbm, ⟨82, _⟩ => ⟨S4x128x128, .f32⟩
  | .hbm, ⟨83, _⟩ => ⟨S_, .i32⟩
  | .hbm, ⟨84, _⟩ => ⟨S_, .f32⟩
  | .hbm, ⟨85, _⟩ => ⟨S4x128, .f32⟩
  | .hbm, ⟨86, _⟩ => ⟨S4x128x1, .f32⟩
  | .hbm, ⟨87, _⟩ => ⟨S_, .i32⟩
  | .hbm, ⟨88, _⟩ => ⟨S_, .f32⟩
  | .hbm, ⟨89, _⟩ => ⟨S4x128, .f32⟩
  | .hbm, ⟨90, _⟩ => ⟨S4x128x1, .f32⟩
  | .hbm, ⟨91, _⟩ => ⟨S4x1x1, .f32⟩
  | .hbm, ⟨92, _⟩ => ⟨S1x1024, .f32⟩
  | .hbm, ⟨93, _⟩ => ⟨S1x2048, .f32⟩
  | .hbm, ⟨94, _⟩ => ⟨S32768x1024, .f32⟩
  | .hbm, ⟨95, _⟩ => ⟨S16x4x256x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6144, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S4x128x128, .f32⟩
  | .local _ .vmem, ⟨9, _⟩ => ⟨S4x128x1, .f32⟩
  | .local _ .vmem, ⟨10, _⟩ => ⟨S4x128x1, .f32⟩
  | .local _ .vmem, ⟨11, _⟩ => ⟨S4x1x1, .f32⟩
  | .local _ .vmem, ⟨12, _⟩ => ⟨S1x2048, .f32⟩
  | .local _ .vmem, ⟨13, _⟩ => ⟨S2048x1024, .bf16⟩
  | .local _ .vmem, ⟨14, _⟩ => ⟨S512x1024, .f32⟩
  | .local _ .vmem, ⟨15, _⟩ => ⟨S512x1024, .f32⟩
  | .local _ .vmem, ⟨16, _⟩ => ⟨S1x4x256x512, .f32⟩
  | .local _ .vmem, ⟨17, _⟩ => ⟨S1x4x256x512, .f32⟩
  | .local _ .vmem, ⟨18, _⟩ => ⟨S512x2048, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_c : Ref sig .tc := ⟨.hbm, 80, rfl⟩
abbrev main_call1_v0 : Ref sig .tc := ⟨.hbm, 81, rfl⟩
abbrev main_v62 : Ref sig .tc := ⟨.hbm, 82, rfl⟩
abbrev main_c_9 : Ref sig .tc := ⟨.hbm, 83, rfl⟩
abbrev main_call2_v0 : Ref sig .tc := ⟨.hbm, 84, rfl⟩
abbrev main_v63 : Ref sig .tc := ⟨.hbm, 85, rfl⟩
abbrev main_v64 : Ref sig .tc := ⟨.hbm, 86, rfl⟩
abbrev main_c_10 : Ref sig .tc := ⟨.hbm, 87, rfl⟩
abbrev main_call3_v0 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70_0 : Ref sig .tc := ⟨.hbm, 94, rfl⟩
abbrev main_v70_1 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2048x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S32768x1024 : Shape := ⟨2, ![32768, 1024]⟩
abbrev S1024 : Shape := ⟨1, ![1024]⟩
abbrev S1024x6144 : Shape := ⟨2, ![1024, 6144]⟩
abbrev S2048 : Shape := ⟨1, ![2048]⟩
abbrev S2048x1024 : Shape := ⟨2, ![2048, 1024]⟩
abbrev S_ : Shape := ⟨0, ![]⟩
abbrev S16x4x256x512 : Shape := ⟨4, ![16, 4, 256, 512]⟩
abbrev S16x2048x1024 : Shape := ⟨3, ![16, 2048, 1024]⟩
abbrev S16x2048 : Shape := ⟨2, ![16, 2048]⟩
abbrev S16x2048x1 : Shape := ⟨3, ![16, 2048, 1]⟩
abbrev S1x1x1024 : Shape := ⟨3, ![1, 1, 1024]⟩
abbrev S16x2048x6144 : Shape := ⟨3, ![16, 2048, 6144]⟩
abbrev S16x2048x2048 : Shape := ⟨3, ![16, 2048, 2048]⟩
abbrev S16x2048x4x256 : Shape := ⟨4, ![16, 2048, 4, 256]⟩
abbrev S128 : Shape := ⟨1, ![128]⟩
abbrev S2048x1 : Shape := ⟨2, ![2048, 1]⟩
abbrev S1x128 : Shape := ⟨2, ![1, 128]⟩
abbrev S2048x128 : Shape := ⟨2, ![2048, 128]⟩
abbrev S1x2048x1x128 : Shape := ⟨4, ![1, 2048, 1, 128]⟩
abbrev S16x2048x4x128 : Shape := ⟨4, ![16, 2048, 4, 128]⟩
abbrev S16x2048x4x512 : Shape := ⟨4, ![16, 2048, 4, 512]⟩
abbrev S4 : Shape := ⟨1, ![4]⟩
abbrev S128x1 : Shape := ⟨2, ![128, 1]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x4 : Shape := ⟨2, ![1, 4]⟩
abbrev S128x4 : Shape := ⟨2, ![128, 4]⟩
abbrev S1x128x4x1 : Shape := ⟨4, ![1, 128, 4, 1]⟩
abbrev S1x4x1x1 : Shape := ⟨4, ![1, 4, 1, 1]⟩
abbrev S16x16x128x4x256 : Shape := ⟨5, ![16, 16, 128, 4, 256]⟩
abbrev S16x16x128x4x512 : Shape := ⟨5, ![16, 16, 128, 4, 512]⟩
abbrev S1x16x128x4x256 : Shape := ⟨5, ![1, 16, 128, 4, 256]⟩
abbrev S16x128x4x256 : Shape := ⟨4, ![16, 128, 4, 256]⟩
abbrev S1x16x128x4x512 : Shape := ⟨5, ![1, 16, 128, 4, 512]⟩
abbrev S16x128x4x512 : Shape := ⟨4, ![16, 128, 4, 512]⟩
abbrev S16x4x128x128 : Shape := ⟨4, ![16, 4, 128, 128]⟩
abbrev S1x4x128x128 : Shape := ⟨4, ![1, 4, 128, 128]⟩
abbrev S16x4x512x128 : Shape := ⟨4, ![16, 4, 512, 128]⟩
abbrev S16x2048x4 : Shape := ⟨3, ![16, 2048, 4]⟩
abbrev S16x2048x4x1 : Shape := ⟨4, ![16, 2048, 4, 1]⟩
abbrev S1x1x2048 : Shape := ⟨3, ![1, 1, 2048]⟩

abbrev nBuf : Space → Nat
  | .hbm => 286
  | .vmem => 0
  | .smem => 0
  | _ => 0

abbrev hbmTy0_0 (i : Nat) : BufTy := match i % 128 with
  | 0 => ⟨S32768x1024, .f32⟩
  | 1 => ⟨S1024, .f32⟩
  | 2 => ⟨S1024x6144, .f32⟩
  | 3 => ⟨S2048, .f32⟩
  | 4 => ⟨S2048x1024, .f32⟩
  | 5 => ⟨S2048, .i32⟩
  | 6 => ⟨S_, .f32⟩
  | 7 => ⟨S16x4x256x512, .f32⟩
  | 8 => ⟨S16x2048x1024, .f32⟩
  | 9 => ⟨S16x2048x1024, .f32⟩
  | 10 => ⟨S_, .f32⟩
  | 11 => ⟨S16x2048, .f32⟩
  | 12 => ⟨S16x2048x1, .f32⟩
  | 13 => ⟨S_, .f32⟩
  | 14 => ⟨S16x2048x1, .f32⟩
  | 15 => ⟨S16x2048x1, .f32⟩
  | 16 => ⟨S_, .f32⟩
  | 17 => ⟨S16x2048x1, .f32⟩
  | 18 => ⟨S16x2048x1, .f32⟩
  | 19 => ⟨S16x2048x1, .f32⟩
  | 20 => ⟨S16x2048x1024, .f32⟩
  | 21 => ⟨S16x2048x1024, .f32⟩
  | 22 => ⟨S1x1x1024, .f32⟩
  | 23 => ⟨S16x2048x1024, .f32⟩
  | 24 => ⟨S16x2048x1024, .f32⟩
  | 25 => ⟨S16x2048x6144, .f32⟩
  | 26 => ⟨S16x2048x1024, .f32⟩
  | 27 => ⟨S16x2048x1024, .f32⟩
  | 28 => ⟨S16x2048x2048, .f32⟩
  | 29 => ⟨S16x2048x2048, .f32⟩
  | 30 => ⟨S16x2048x4x256, .f32⟩
  | 31 => ⟨S128, .f32⟩
  | 32 => ⟨S128, .f32⟩
  | 33 => ⟨S_, .f32⟩
  | 34 => ⟨S128, .f32⟩
  | 35 => ⟨S128, .f32⟩
  | 36 => ⟨S_, .f32⟩
  | 37 => ⟨S128, .f32⟩
  | 38 => ⟨S128, .f32⟩
  | 39 => ⟨S2048, .f32⟩
  | 40 => ⟨S2048x1, .f32⟩
  | 41 => ⟨S1x128, .f32⟩
  | 42 => ⟨S2048x128, .f32⟩
  | 43 => ⟨S2048x128, .f32⟩
  | 44 => ⟨S2048x128, .f32⟩
  | 45 => ⟨S2048x128, .f32⟩
  | 46 => ⟨S1x2048x1x128, .f32⟩
  | 47 => ⟨S2048x128, .f32⟩
  | 48 => ⟨S1x2048x1x128, .f32⟩
  | 49 => ⟨S16x2048x4x128, .f32⟩
  | 50 => ⟨S16x2048x4x128, .f32⟩
  | 51 => ⟨S16x2048x4x128, .f32⟩
  | 52 => ⟨S16x2048x4x128, .f32⟩
  | 53 => ⟨S16x2048x4x128, .f32⟩
  | 54 => ⟨S16x2048x4x128, .f32⟩
  | 55 => ⟨S16x2048x4x128, .f32⟩
  | 56 => ⟨S16x2048x4x128, .f32⟩
  | 57 => ⟨S16x2048x4x128, .f32⟩
  | 58 => ⟨S16x2048x4x128, .f32⟩
  | 59 => ⟨S16x2048x4x128, .f32⟩
  | 60 => ⟨S16x2048x4x128, .f32⟩
  | 61 => ⟨S16x2048x4x256, .f32⟩
  | 62 => ⟨S16x2048x4x256, .f32⟩
  | 63 => ⟨S128, .f32⟩
  | 64 => ⟨S128, .f32⟩
  | 65 => ⟨S_, .f32⟩
  | 66 => ⟨S128, .f32⟩
  | 67 => ⟨S128, .f32⟩
  | 68 => ⟨S_, .f32⟩
  | 69 => ⟨S128, .f32⟩
  | 70 => ⟨S128, .f32⟩
  | 71 => ⟨S2048, .f32⟩
  | 72 => ⟨S2048x1, .f32⟩
  | 73 => ⟨S1x128, .f32⟩
  | 74 => ⟨S2048x128, .f32⟩
  | 75 => ⟨S2048x128, .f32⟩
  | 76 => ⟨S2048x128, .f32⟩
  | 77 => ⟨S2048x128, .f32⟩
  | 78 => ⟨S1x2048x1x128, .f32⟩
  | 79 => ⟨S2048x128, .f32⟩
  | 80 => ⟨S1x2048x1x128, .f32⟩
  | 81 => ⟨S16x2048x4x128, .f32⟩
  | 82 => ⟨S16x2048x4x128, .f32⟩
  | 83 => ⟨S16x2048x4x128, .f32⟩
  | 84 => ⟨S16x2048x4x128, .f32⟩
  | 85 => ⟨S16x2048x4x128, .f32⟩
  | 86 => ⟨S16x2048x4x128, .f32⟩
  | 87 => ⟨S16x2048x4x128, .f32⟩
  | 88 => ⟨S16x2048x4x128, .f32⟩
  | 89 => ⟨S16x2048x4x128, .f32⟩
  | 90 => ⟨S16x2048x4x128, .f32⟩
  | 91 => ⟨S16x2048x4x128, .f32⟩
  | 92 => ⟨S16x2048x4x128, .f32⟩
  | 93 => ⟨S16x2048x4x256, .f32⟩
  | 94 => ⟨S_, .f32⟩
  | 95 => ⟨S16x2048x4x256, .f32⟩
  | 96 => ⟨S16x2048x4x256, .f32⟩
  | 97 => ⟨S16x2048x4x512, .f32⟩
  | 98 => ⟨S4, .f32⟩
  | 99 => ⟨S_, .f32⟩
  | 100 => ⟨S4, .f32⟩
  | 101 => ⟨S4, .f32⟩
  | 102 => ⟨S_, .f32⟩
  | 103 => ⟨S4, .f32⟩
  | 104 => ⟨S4, .f32⟩
  | 105 => ⟨S4, .f32⟩
  | 106 => ⟨S4, .f32⟩
  | 107 => ⟨S4, .f32⟩
  | 108 => ⟨S128, .f32⟩
  | 109 => ⟨S128x1, .f32⟩
  | 110 => ⟨S1x128, .f32⟩
  | 111 => ⟨S128x128, .f32⟩
  | 112 => ⟨S128x128, .f32⟩
  | 113 => ⟨S128x128, .f32⟩
  | 114 => ⟨S1x128x128, .f32⟩
  | 115 => ⟨S_, .f32⟩
  | 116 => ⟨S1x128x128, .f32⟩
  | 117 => ⟨S1x128x128, .i1⟩
  | 118 => ⟨S4x1x1, .f32⟩
  | 119 => ⟨S_, .f32⟩
  | 120 => ⟨S128x128, .f32⟩
  | 121 => ⟨S128x128, .f32⟩
  | 122 => ⟨S1x128x128, .f32⟩
  | 123 => ⟨S4x128x128, .f32⟩
  | 124 => ⟨S4x128x128, .f32⟩
  | 125 => ⟨S4x128x128, .f32⟩
  | 126 => ⟨S4x128x128, .f32⟩
  | 127 => ⟨S_, .f32⟩
  | _ => ⟨S32768x1024, .f32⟩

abbrev hbmTy0_1 (i : Nat) : BufTy := match i % 128 with
  | 0 => ⟨S_, .f32⟩
  | 1 => ⟨S4x128x128, .i1⟩
  | 2 => ⟨S4x128x128, .f32⟩
  | 3 => ⟨S4x128x128, .f32⟩
  | 4 => ⟨S1x4, .f32⟩
  | 5 => ⟨S128x1, .f32⟩
  | 6 => ⟨S_, .f32⟩
  | 7 => ⟨S128x1, .f32⟩
  | 8 => ⟨S128x1, .f32⟩
  | 9 => ⟨S128x4, .f32⟩
  | 10 => ⟨S128x4, .f32⟩
  | 11 => ⟨S128x4, .f32⟩
  | 12 => ⟨S128x4, .f32⟩
  | 13 => ⟨S1x128x4x1, .f32⟩
  | 14 => ⟨S1x4, .f32⟩
  | 15 => ⟨S128x1, .f32⟩
  | 16 => ⟨S_, .f32⟩
  | 17 => ⟨S128x1, .f32⟩
  | 18 => ⟨S128x1, .f32⟩
  | 19 => ⟨S128x4, .f32⟩
  | 20 => ⟨S128x4, .f32⟩
  | 21 => ⟨S128x4, .f32⟩
  | 22 => ⟨S128x4, .f32⟩
  | 23 => ⟨S1x128x4x1, .f32⟩
  | 24 => ⟨S_, .f32⟩
  | 25 => ⟨S4, .f32⟩
  | 26 => ⟨S4, .f32⟩
  | 27 => ⟨S4, .f32⟩
  | 28 => ⟨S1x4x1x1, .f32⟩
  | 29 => ⟨S16x16x128x4x256, .f32⟩
  | 30 => ⟨S16x16x128x4x256, .f32⟩
  | 31 => ⟨S16x16x128x4x256, .f32⟩
  | 32 => ⟨S16x16x128x4x256, .f32⟩
  | 33 => ⟨S16x16x128x4x512, .f32⟩
  | 34 => ⟨S16x16x128x4x512, .f32⟩
  | 35 => ⟨S_, .f32⟩
  | 36 => ⟨S16x16x128x4x512, .f32⟩
  | 37 => ⟨S_, .i32⟩
  | 38 => ⟨S16x16x128x4x256, .f32⟩
  | 39 => ⟨S16x16x128x4x256, .f32⟩
  | 40 => ⟨S16x16x128x4x512, .f32⟩
  | 41 => ⟨S4x128x128, .f32⟩
  | 42 => ⟨S1x128x4x1, .f32⟩
  | 43 => ⟨S1x4x1x1, .f32⟩
  | 44 => ⟨S1x128x4x1, .f32⟩
  | 45 => ⟨S_, .i32⟩
  | 46 => ⟨S16x4x256x512, .f32⟩
  | 47 => ⟨S16x16x128x4x512, .f32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S1x16x128x4x256, .f32⟩
  | 55 => ⟨S16x128x4x256, .f32⟩
  | 56 => ⟨S_, .i32⟩
  | 57 => ⟨S_, .i32⟩
  | 58 => ⟨S_, .i32⟩
  | 59 => ⟨S_, .i32⟩
  | 60 => ⟨S1x16x128x4x256, .f32⟩
  | 61 => ⟨S16x128x4x256, .f32⟩
  | 62 => ⟨S_, .i32⟩
  | 63 => ⟨S_, .i32⟩
  | 64 => ⟨S_, .i32⟩
  | 65 => ⟨S_, .i32⟩
  | 66 => ⟨S1x16x128x4x512, .f32⟩
  | 67 => ⟨S16x128x4x512, .f32⟩
  | 68 => ⟨S16x4x128x128, .f32⟩
  | 69 => ⟨S1x4x128x128, .f32⟩
  | 70 => ⟨S16x4x128x128, .f32⟩
  | 71 => ⟨S16x4x128x128, .f32⟩
  | 72 => ⟨S16x4x512x128, .f32⟩
  | 73 => ⟨S16x128x4x512, .f32⟩
  | 74 => ⟨S16x4x512x128, .f32⟩
  | 75 => ⟨S16x128x4x512, .f32⟩
  | 76 => ⟨S16x128x4x512, .f32⟩
  | 77 => ⟨S16x128x4x512, .f32⟩
  | 78 => ⟨S16x4x256x512, .f32⟩
  | 79 => ⟨S16x4x256x512, .f32⟩
  | 80 => ⟨S16x128x4x256, .f32⟩
  | 81 => ⟨S16x128x4x256, .f32⟩
  | 82 => ⟨S16x4x256x512, .f32⟩
  | 83 => ⟨S16x4x256x512, .f32⟩
  | 84 => ⟨S16x128x4x512, .f32⟩
  | 85 => ⟨S1x16x128x4x512, .f32⟩
  | 86 => ⟨S_, .i32⟩
  | 87 => ⟨S_, .i32⟩
  | 88 => ⟨S_, .i32⟩
  | 89 => ⟨S_, .i32⟩
  | 90 => ⟨S16x16x128x4x512, .f32⟩
  | 91 => ⟨S_, .i32⟩
  | 92 => ⟨S_, .i32⟩
  | 93 => ⟨S16x16x128x4x512, .f32⟩
  | 94 => ⟨S16x2048x4x512, .f32⟩
  | 95 => ⟨S_, .f32⟩
  | 96 => ⟨S16x2048x4, .f32⟩
  | 97 => ⟨S16x2048x4x1, .f32⟩
  | 98 => ⟨S_, .f32⟩
  | 99 => ⟨S16x2048x4x1, .f32⟩
  | 100 => ⟨S16x2048x4x1, .f32⟩
  | 101 => ⟨S16x2048x4x512, .f32⟩
  | 102 => ⟨S16x2048x4x512, .f32⟩
  | 103 => ⟨S16x2048x4x512, .f32⟩
  | 104 => ⟨S_, .f32⟩
  | 105 => ⟨S16x2048x4, .f32⟩
  | 106 => ⟨S16x2048x4x1, .f32⟩
  | 107 => ⟨S_, .f32⟩
  | 108 => ⟨S16x2048x4x1, .f32⟩
  | 109 => ⟨S16x2048x4x1, .f32⟩
  | 110 => ⟨S16x2048x4x512, .f32⟩
  | 111 => ⟨S16x2048x4x512, .f32⟩
  | 112 => ⟨S_, .f32⟩
  | 113 => ⟨S16x2048x4x1, .f32⟩
  | 114 => ⟨S16x2048x4x1, .f32⟩
  | 115 => ⟨S16x2048x4x1, .f32⟩
  | 116 => ⟨S16x2048x4x512, .f32⟩
  | 117 => ⟨S16x2048x4x512, .f32⟩
  | 118 => ⟨S16x2048x2048, .f32⟩
  | 119 => ⟨S1x1x2048, .f32⟩
  | 120 => ⟨S16x2048x2048, .f32⟩
  | 121 => ⟨S16x2048x2048, .f32⟩
  | 122 => ⟨S16x2048x1024, .f32⟩
  | 123 => ⟨S16x2048x1024, .f32⟩
  | 124 => ⟨S_, .f32⟩
  | 125 => ⟨S16x2048, .f32⟩
  | 126 => ⟨S16x2048x1, .f32⟩
  | 127 => ⟨S_, .f32⟩
  | _ => ⟨S32768x1024, .f32⟩

abbrev hbmTy0_2 (i : Nat) : BufTy := match i % 128 with
  | 0 => ⟨S16x2048x1, .f32⟩
  | 1 => ⟨S16x2048x1, .f32⟩
  | 2 => ⟨S_, .f32⟩
  | 3 => ⟨S16x2048x1, .f32⟩
  | 4 => ⟨S16x2048x1, .f32⟩
  | 5 => ⟨S16x2048x1, .f32⟩
  | 6 => ⟨S16x2048x1024, .f32⟩
  | 7 => ⟨S16x2048x1024, .f32⟩
  | 8 => ⟨S1x1x1024, .f32⟩
  | 9 => ⟨S16x2048x1024, .f32⟩
  | 10 => ⟨S16x2048x1024, .f32⟩
  | 11 => ⟨S16x2048x6144, .f32⟩
  | 12 => ⟨S16x2048x1024, .f32⟩
  | 13 => ⟨S16x2048x1024, .f32⟩
  | 14 => ⟨S16x2048x2048, .f32⟩
  | 15 => ⟨S16x2048x2048, .f32⟩
  | 16 => ⟨S16x2048x2048, .f32⟩
  | 17 => ⟨S16x2048x2048, .f32⟩
  | 18 => ⟨S_, .f32⟩
  | 19 => ⟨S16x2048x2048, .f32⟩
  | 20 => ⟨S16x2048x2048, .f32⟩
  | 21 => ⟨S_, .f32⟩
  | 22 => ⟨S16x2048x2048, .f32⟩
  | 23 => ⟨S16x2048x2048, .f32⟩
  | 24 => ⟨S16x2048x2048, .f32⟩
  | 25 => ⟨S16x2048x2048, .f32⟩
  | 26 => ⟨S16x2048x1024, .f32⟩
  | 27 => ⟨S16x2048x1024, .f32⟩
  | 28 => ⟨S16x2048x1024, .f32⟩
  | 29 => ⟨S32768x1024, .f32⟩
  | _ => ⟨S32768x1024, .f32⟩

abbrev hbmTy (i : Nat) : BufTy := match i / 128 with
  | 0 => hbmTy0_0 i
  | 1 => hbmTy0_1 i
  | 2 => hbmTy0_2 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_5 : Ref sig .tc := ⟨.hbm, 65, rfl⟩
abbrev main_v54 : Ref sig .tc := ⟨.hbm, 66, rfl⟩
abbrev main_v55 : Ref sig .tc := ⟨.hbm, 67, rfl⟩
abbrev main_cst_6 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_cst_7 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_cst_8 : Ref sig .tc := ⟨.hbm, 99, rfl⟩
abbrev main_v85 : Ref sig .tc := ⟨.hbm, 100, rfl⟩
abbrev main_v86 : Ref sig .tc := ⟨.hbm, 101, rfl⟩
abbrev main_cst_9 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_cst_10 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_cst_11 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_cst_12 : Ref sig .tc := ⟨.hbm, 127, rfl⟩
abbrev main_call0_v0 : Ref sig .tc := ⟨.hbm, 128, rfl⟩
abbrev main_call0_v1 : Ref sig .tc := ⟨.hbm, 129, rfl⟩
abbrev main_call0_v2 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_cst_13 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_cst_14 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_cst_15 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_cst_16 : Ref sig .tc := ⟨.hbm, 163, rfl⟩
abbrev main_v138 : Ref sig .tc := ⟨.hbm, 164, rfl⟩
abbrev main_c : Ref sig .tc := ⟨.hbm, 165, rfl⟩
abbrev main_v139_0 : Ref sig .tc := ⟨.hbm, 166, rfl⟩
abbrev main_v139_1 : Ref sig .tc := ⟨.hbm, 167, rfl⟩
abbrev main_v139_2 : Ref sig .tc := ⟨.hbm, 168, rfl⟩
abbrev main_v139_3 : Ref sig .tc := ⟨.hbm, 169, rfl⟩
abbrev main_v139_4 : Ref sig .tc := ⟨.hbm, 170, rfl⟩
abbrev main_v139_5 : Ref sig .tc := ⟨.hbm, 171, rfl⟩
abbrev main_v139_6 : Ref sig .tc := ⟨.hbm, 172, rfl⟩
abbrev main_v139_7 : Ref sig .tc := ⟨.hbm, 173, rfl⟩
abbrev main_v139_8 : Ref sig .tc := ⟨.hbm, 174, rfl⟩
abbrev main_v139_9 : Ref sig .tc := ⟨.hbm, 175, rfl⟩
abbrev main_while0c_c_34 : Ref sig .tc := ⟨.hbm, 176, rfl⟩
abbrev main_while0c_v189 : Ref sig .tc := ⟨.hbm, 177, rfl⟩
abbrev main_while0b_call1_c : Ref sig .tc := ⟨.hbm, 178, rfl⟩
abbrev main_while0b_call1_c_0 : Ref sig .tc := ⟨.hbm, 179, rfl⟩
abbrev main_while0b_call1_c_1 : Ref sig .tc := ⟨.hbm, 180, rfl⟩
abbrev main_while0b_call1_c_2 : Ref sig .tc := ⟨.hbm, 181, rfl⟩
abbrev main_while0b_call1_v0 : Ref sig .tc := ⟨.hbm, 182, rfl⟩
abbrev main_while0b_v189 : Ref sig .tc := ⟨.hbm, 183, rfl⟩
abbrev main_while0b_call2_c : Ref sig .tc := ⟨.hbm, 184, rfl⟩
abbrev main_while0b_call2_c_0 : Ref sig .tc := ⟨.hbm, 185, rfl⟩
abbrev main_while0b_call2_c_1 : Ref sig .tc := ⟨.hbm, 186, rfl⟩
abbrev main_while0b_call2_c_2 : Ref sig .tc := ⟨.hbm, 187, rfl⟩
abbrev main_while0b_call2_v0 : Ref sig .tc := ⟨.hbm, 188, rfl⟩
abbrev main_while0b_v190 : Ref sig .tc := ⟨.hbm, 189, rfl⟩
abbrev main_while0b_call3_c : Ref sig .tc := ⟨.hbm, 190, rfl⟩
abbrev main_while0b_call3_c_0 : Ref sig .tc := ⟨.hbm, 191, rfl⟩
abbrev main_while0b_call3_c_1 : Ref sig .tc := ⟨.hbm, 192, rfl⟩
abbrev main_while0b_call3_c_2 : Ref sig .tc := ⟨.hbm, 193, rfl⟩
abbrev main_while0b_call3_v0 : Ref sig .tc := ⟨.hbm, 194, rfl⟩
abbrev main_while0b_v191 : Ref sig .tc := ⟨.hbm, 195, rfl⟩
abbrev main_while0b_v192 : Ref sig .tc := ⟨.hbm, 196, rfl⟩
abbrev main_while0b_v193 : Ref sig .tc := ⟨.hbm, 197, rfl⟩
abbrev main_while0b_v194 : Ref sig .tc := ⟨.hbm, 198, rfl⟩
abbrev main_while0b_v195 : Ref sig .tc := ⟨.hbm, 199, rfl⟩
abbrev main_while0b_v196 : Ref sig .tc := ⟨.hbm, 200, rfl⟩
abbrev main_while0b_v197 : Ref sig .tc := ⟨.hbm, 201, rfl⟩
abbrev main_while0b_v198 : Ref sig .tc := ⟨.hbm, 202, rfl⟩
abbrev main_while0b_v199 : Ref sig .tc := ⟨.hbm, 203, rfl⟩
abbrev main_while0b_v200 : Ref sig .tc := ⟨.hbm, 204, rfl⟩
abbrev main_while0b_v201 : Ref sig .tc := ⟨.hbm, 205, rfl⟩
abbrev main_while0b_v202 : Ref sig .tc := ⟨.hbm, 206, rfl⟩
abbrev main_while0b_v203 : Ref sig .tc := ⟨.hbm, 207, rfl⟩
abbrev main_while0b_v204 : Ref sig .tc := ⟨.hbm, 208, rfl⟩
abbrev main_while0b_v205 : Ref sig .tc := ⟨.hbm, 209, rfl⟩
abbrev main_while0b_v206 : Ref sig .tc := ⟨.hbm, 210, rfl⟩
abbrev main_while0b_v207 : Ref sig .tc := ⟨.hbm, 211, rfl⟩
abbrev main_while0b_v208 : Ref sig .tc := ⟨.hbm, 212, rfl⟩
abbrev main_while0b_call4_v0 : Ref sig .tc := ⟨.hbm, 213, rfl⟩
abbrev main_while0b_call4_c : Ref sig .tc := ⟨.hbm, 214, rfl⟩
abbrev main_while0b_call4_c_0 : Ref sig .tc := ⟨.hbm, 215, rfl⟩
abbrev main_while0b_call4_c_1 : Ref sig .tc := ⟨.hbm, 216, rfl⟩
abbrev main_while0b_call4_c_2 : Ref sig .tc := ⟨.hbm, 217, rfl⟩
abbrev main_while0b_v209 : Ref sig .tc := ⟨.hbm, 218, rfl⟩
abbrev main_while0b_c_34 : Ref sig .tc := ⟨.hbm, 219, rfl⟩
abbrev main_while0b_v210 : Ref sig .tc := ⟨.hbm, 220, rfl⟩
abbrev main_v140 : Ref sig .tc := ⟨.hbm, 221, rfl⟩
abbrev main_v141 : Ref sig .tc := ⟨.hbm, 222, rfl⟩
abbrev main_cst_17 : Ref sig .tc := ⟨.hbm, 223, rfl⟩
abbrev main_v142 : Ref sig .tc := ⟨.hbm, 224, rfl⟩
abbrev main_v143 : Ref sig .tc := ⟨.hbm, 225, rfl⟩
abbrev main_cst_18 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_cst_19 : Ref sig .tc := ⟨.hbm, 232, rfl⟩
abbrev main_v149 : Ref sig .tc := ⟨.hbm, 233, rfl⟩
abbrev main_v150 : Ref sig .tc := ⟨.hbm, 234, rfl⟩
abbrev main_cst_20 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_cst_21 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_cst_22 : Ref sig .tc := ⟨.hbm, 252, rfl⟩
abbrev main_v166 : Ref sig .tc := ⟨.hbm, 253, rfl⟩
abbrev main_v167 : Ref sig .tc := ⟨.hbm, 254, rfl⟩
abbrev main_cst_23 : Ref sig .tc := ⟨.hbm, 255, rfl⟩
abbrev main_v168 : Ref sig .tc := ⟨.hbm, 256, rfl⟩
abbrev main_v169 : Ref sig .tc := ⟨.hbm, 257, rfl⟩
abbrev main_cst_24 : Ref sig .tc := ⟨.hbm, 258, rfl⟩
abbrev main_v170 : Ref sig .tc := ⟨.hbm, 259, rfl⟩
abbrev main_v171 : Ref sig .tc := ⟨.hbm, 260, rfl⟩
abbrev main_v172 : Ref sig .tc := ⟨.hbm, 261, rfl⟩
abbrev main_v173 : Ref sig .tc := ⟨.hbm, 262, rfl⟩
abbrev main_v174 : Ref sig .tc := ⟨.hbm, 263, rfl⟩
abbrev main_v175 : Ref sig .tc := ⟨.hbm, 264, rfl⟩
abbrev main_v176 : Ref sig .tc := ⟨.hbm, 265, rfl⟩
abbrev main_v177 : Ref sig .tc := ⟨.hbm, 266, rfl⟩
abbrev main_v178 : Ref sig .tc := ⟨.hbm, 267, rfl⟩
abbrev main_v179 : Ref sig .tc := ⟨.hbm, 268, rfl⟩
abbrev main_v180 : Ref sig .tc := ⟨.hbm, 269, rfl⟩
abbrev main_v181 : Ref sig .tc := ⟨.hbm, 270, rfl⟩
abbrev main_v182 : Ref sig .tc := ⟨.hbm, 271, rfl⟩
abbrev main_call5_v0 : Ref sig .tc := ⟨.hbm, 272, rfl⟩
abbrev main_call5_v1 : Ref sig .tc := ⟨.hbm, 273, rfl⟩
abbrev main_call5_cst : Ref sig .tc := ⟨.hbm, 274, rfl⟩
abbrev main_call5_v2 : Ref sig .tc := ⟨.hbm, 275, rfl⟩
abbrev main_call5_v3 : Ref sig .tc := ⟨.hbm, 276, rfl⟩
abbrev main_call5_cst_0 : Ref sig .tc := ⟨.hbm, 277, rfl⟩
abbrev main_call5_v4 : Ref sig .tc := ⟨.hbm, 278, rfl⟩
abbrev main_call5_v5 : Ref sig .tc := ⟨.hbm, 279, rfl⟩
abbrev main_v183 : Ref sig .tc := ⟨.hbm, 280, rfl⟩
abbrev main_v184 : Ref sig .tc := ⟨.hbm, 281, rfl⟩
abbrev main_v185 : Ref sig .tc := ⟨.hbm, 282, rfl⟩
abbrev main_v186 : Ref sig .tc := ⟨.hbm, 283, rfl⟩
abbrev main_v187 : Ref sig .tc := ⟨.hbm, 284, rfl⟩
abbrev main_v188 : Ref sig .tc := ⟨.hbm, 285, rfl⟩

abbrev nD : Nat := 1
abbrev τ : Topo := Topo.v7x

variable {F : FTy → Type} [FloatOps F]

abbrev main_while0_count : Scf.Loop 32 := ⟨0#32, 16#32, 1#32⟩
-- ==== FfnKernel.lean ====
abbrev S32768x1024 : Shape := ⟨2, ![32768, 1024]⟩
abbrev S1024 : Shape := ⟨1, ![1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S512x1024 : Shape := ⟨2, ![512, 1024]⟩
abbrev S1x1024x5632 : Shape := ⟨3, ![1, 1024, 5632]⟩
abbrev S1x2816x1024 : Shape := ⟨3, ![1, 2816, 1024]⟩
abbrev S512 : Shape := ⟨1, ![512]⟩
abbrev S512x1 : Shape := ⟨2, ![512, 1]⟩
abbrev S1x1024x2816 : Shape := ⟨3, ![1, 1024, 2816]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 8
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S2x1024x5632, .f32⟩
  | .hbm, ⟨3, _⟩ => ⟨S2x2816x1024, .f32⟩
  | .hbm, ⟨4, _⟩ => ⟨S2x1024x5632, .bf16⟩
  | .hbm, ⟨5, _⟩ => ⟨S2x2816x1024, .bf16⟩
  | .hbm, ⟨6, _⟩ => ⟨S1x1024, .f32⟩
  | .hbm, ⟨7, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S512x1024, .f32⟩
  | .local _ .vmem, ⟨6, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnReferenceIdeal.lean ====
abbrev S32768x1024 : Shape := ⟨2, ![32768, 1024]⟩
abbrev S1024 : Shape := ⟨1, ![1024]⟩
abbrev S2x1024x5632 : Shape := ⟨3, ![2, 1024, 5632]⟩
abbrev S2x2816x1024 : Shape := ⟨3, ![2, 2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S32768x5632 : Shape := ⟨2, ![32768, 5632]⟩
abbrev S32768x2816 : Shape := ⟨2, ![32768, 2816]⟩

abbrev nBuf : Space → Nat
  | .hbm => 42
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S2x1024x5632, .f32⟩
  | .hbm, ⟨3, _⟩ => ⟨S2x2816x1024, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S1x1024x5632, .f32⟩
  | .hbm, ⟨21, _⟩ => ⟨S1024x5632, .f32⟩
  | .hbm, ⟨22, _⟩ => ⟨S1x2816x1024, .f32⟩
  | .hbm, ⟨23, _⟩ => ⟨S2816x1024, .f32⟩
  | .hbm, ⟨24, _⟩ => ⟨S32768x5632, .f32⟩
  | .hbm, ⟨25, _⟩ => ⟨S32768x2816, .f32⟩
  | .hbm, ⟨26, _⟩ => ⟨S32768x2816, .f32⟩
  | .hbm, ⟨27, _⟩ => ⟨S32768x2816, .f32⟩
  | .hbm, ⟨28, _⟩ => ⟨S32768x2816, .f32⟩
  | .hbm, ⟨29, _⟩ => ⟨S_, .f32⟩
  | .hbm, ⟨30, _⟩ => ⟨S32768x2816, .f32⟩
  | .hbm, ⟨31, _⟩ => ⟨S32768x2816, .f32⟩
  | .hbm, ⟨32, _⟩ => ⟨S_, .f32⟩
  | .hbm, ⟨33, _⟩ => ⟨S32768x2816, .f32⟩
  | .hbm, ⟨34, _⟩ => ⟨S32768x2816, .f32⟩
  | .hbm, ⟨35, _⟩ => ⟨S32768x2816, .f32⟩
  | .hbm, ⟨36, _⟩ => ⟨S32768x2816, .f32⟩
  | .hbm, ⟨37, _⟩ => ⟨S32768x1024, .f32⟩
  | .hbm, ⟨38, _⟩ => ⟨S_, .f32⟩
  | .hbm, ⟨39, _⟩ => ⟨S32768x1024, .f32⟩
  | .hbm, ⟨40, _⟩ => ⟨S32768x1024, .f32⟩
  | .hbm, ⟨41, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== LastFfnKernel.lean ====
abbrev S32768x1024 : Shape := ⟨2, ![32768, 1024]⟩
abbrev S1024 : Shape := ⟨1, ![1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S512x1024 : Shape := ⟨2, ![512, 1024]⟩
abbrev S1x1024x5632 : Shape := ⟨3, ![1, 1024, 5632]⟩
abbrev S1x2816x1024 : Shape := ⟨3, ![1, 2816, 1024]⟩
abbrev S512 : Shape := ⟨1, ![512]⟩
abbrev S512x1 : Shape := ⟨2, ![512, 1]⟩
abbrev S1x1024x2816 : Shape := ⟨3, ![1, 1024, 2816]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 10
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S2x1024x5632, .f32⟩
  | .hbm, ⟨3, _⟩ => ⟨S2x2816x1024, .f32⟩
  | .hbm, ⟨4, _⟩ => ⟨S1024, .f32⟩
  | .hbm, ⟨5, _⟩ => ⟨S2x1024x5632, .bf16⟩
  | .hbm, ⟨6, _⟩ => ⟨S2x2816x1024, .bf16⟩
  | .hbm, ⟨7, _⟩ => ⟨S1x1024, .f32⟩
  | .hbm, ⟨8, _⟩ => ⟨S1x1024, .f32⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LastFfnKernelIdeal.lean ====
abbrev S32768x1024 : Shape := ⟨2, ![32768, 1024]⟩
abbrev S1024 : Shape := ⟨1, ![1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S512x1024 : Shape := ⟨2, ![512, 1024]⟩
abbrev S1x1024x5632 : Shape := ⟨3, ![1, 1024, 5632]⟩
abbrev S1x2816x1024 : Shape := ⟨3, ![1, 2816, 1024]⟩
abbrev S512 : Shape := ⟨1, ![512]⟩
abbrev S512x1 : Shape := ⟨2, ![512, 1]⟩
abbrev S1x1024x2816 : Shape := ⟨3, ![1, 1024, 2816]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 10
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S2x1024x5632, .f32⟩
  | .hbm, ⟨3, _⟩ => ⟨S2x2816x1024, .f32⟩
  | .hbm, ⟨4, _⟩ => ⟨S1024, .f32⟩
  | .hbm, ⟨5, _⟩ => ⟨S2x1024x5632, .bf16⟩
  | .hbm, ⟨6, _⟩ => ⟨S2x2816x1024, .bf16⟩
  | .hbm, ⟨7, _⟩ => ⟨S1x1024, .f32⟩
  | .hbm, ⟨8, _⟩ => ⟨S1x1024, .f32⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LastFfnReferenceIdeal.lean ====
abbrev S32768x1024 : Shape := ⟨2, ![32768, 1024]⟩
abbrev S1024 : Shape := ⟨1, ![1024]⟩
abbrev S2x1024x5632 : Shape := ⟨3, ![2, 1024, 5632]⟩
abbrev S2x2816x1024 : Shape := ⟨3, ![2, 2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S32768x5632 : Shape := ⟨2, ![32768, 5632]⟩
abbrev S32768x2816 : Shape := ⟨2, ![32768, 2816]⟩

abbrev nBuf : Space → Nat
  | .hbm => 59
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S2x1024x5632, .f32⟩
  | .hbm, ⟨3, _⟩ => ⟨S2x2816x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S1x1024x5632, .f32⟩
  | .hbm, ⟨22, _⟩ => ⟨S1024x5632, .f32⟩
  | .hbm, ⟨23, _⟩ => ⟨S1x2816x1024, .f32⟩
  | .hbm, ⟨24, _⟩ => ⟨S2816x1024, .f32⟩
  | .hbm, ⟨25, _⟩ => ⟨S32768x5632, .f32⟩
  | .hbm, ⟨26, _⟩ => ⟨S32768x2816, .f32⟩
  | .hbm, ⟨27, _⟩ => ⟨S32768x2816, .f32⟩
  | .hbm, ⟨28, _⟩ => ⟨S32768x2816, .f32⟩
  | .hbm, ⟨29, _⟩ => ⟨S32768x2816, .f32⟩
  | .hbm, ⟨30, _⟩ => ⟨S_, .f32⟩
  | .hbm, ⟨31, _⟩ => ⟨S32768x2816, .f32⟩
  | .hbm, ⟨32, _⟩ => ⟨S32768x2816, .f32⟩
  | .hbm, ⟨33, _⟩ => ⟨S_, .f32⟩
  | .hbm, ⟨34, _⟩ => ⟨S32768x2816, .f32⟩
  | .hbm, ⟨35, _⟩ => ⟨S32768x2816, .f32⟩
  | .hbm, ⟨36, _⟩ => ⟨S32768x2816, .f32⟩
  | .hbm, ⟨37, _⟩ => ⟨S32768x2816, .f32⟩
  | .hbm, ⟨38, _⟩ => ⟨S32768x1024, .f32⟩
  | .hbm, ⟨39, _⟩ => ⟨S_, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S_, .f32⟩
  | .hbm, ⟨45, _⟩ => ⟨S32768, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S_, .f32⟩
  | .hbm, ⟨51, _⟩ => ⟨S32768x1, .f32⟩
  | .hbm, ⟨52, _⟩ => ⟨S32768x1, .f32⟩
  | .hbm, ⟨53, _⟩ => ⟨S32768x1, .f32⟩
  | .hbm, ⟨54, _⟩ => ⟨S32768x1024, .f32⟩
  | .hbm, ⟨55, _⟩ => ⟨S32768x1024, .f32⟩
  | .hbm, ⟨56, _⟩ => ⟨S1x1024, .f32⟩
  | .hbm, ⟨57, _⟩ => ⟨S32768x1024, .f32⟩
  | .hbm, ⟨58, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== SampleFfnKernel.lean ====
abbrev S256x1024 : Shape := ⟨2, ![256, 1024]⟩
abbrev S1024 : Shape := ⟨1, ![1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S256 : Shape := ⟨1, ![256]⟩
abbrev S256x1 : Shape := ⟨2, ![256, 1]⟩
abbrev S1x1024x2816 : Shape := ⟨3, ![1, 1024, 2816]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 10
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S2x1024x5632, .f32⟩
  | .hbm, ⟨3, _⟩ => ⟨S2x2816x1024, .f32⟩
  | .hbm, ⟨4, _⟩ => ⟨S1024, .f32⟩
  | .hbm, ⟨5, _⟩ => ⟨S2x1024x5632, .bf16⟩
  | .hbm, ⟨6, _⟩ => ⟨S2x2816x1024, .bf16⟩
  | .hbm, ⟨7, _⟩ => ⟨S1x1024, .f32⟩
  | .hbm, ⟨8, _⟩ => ⟨S1x1024, .f32⟩
  | .hbm, ⟨9, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1x1024x5632, .bf16⟩
  | .local _ .vmem, ⟨3, _⟩ => ⟨S1x2816x1024, .bf16⟩
  | .local _ .vmem, ⟨4, _⟩ => ⟨S1x1024, .f32⟩
  | .local _ .vmem, ⟨5, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== SampleFfnReferenceIdeal.lean ====
abbrev S256x1024 : Shape := ⟨2, ![256, 1024]⟩
abbrev S1024 : Shape := ⟨1, ![1024]⟩
abbrev S2x1024x5632 : Shape := ⟨3, ![2, 1024, 5632]⟩
abbrev S2x2816x1024 : Shape := ⟨3, ![2, 2816, 1024]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S256x5632 : Shape := ⟨2, ![256, 5632]⟩
abbrev S256x2816 : Shape := ⟨2, ![256, 2816]⟩

abbrev nBuf : Space → Nat
  | .hbm => 59
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S2x1024x5632, .f32⟩
  | .hbm, ⟨3, _⟩ => ⟨S2x2816x1024, .f32⟩
  | .hbm, ⟨4, _⟩ => ⟨S1024, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1024, .f32⟩
  | .hbm, ⟨17, _⟩ => ⟨S256x1024, .f32⟩
  | .hbm, ⟨18, _⟩ => ⟨S1x1024, .f32⟩
  | .hbm, ⟨19, _⟩ => ⟨S256x1024, .f32⟩
  | .hbm, ⟨20, _⟩ => ⟨S256x1024, .f32⟩
  | .hbm, ⟨21, _⟩ => ⟨S1x1024x5632, .f32⟩
  | .hbm, ⟨22, _⟩ => ⟨S1024x5632, .f32⟩
  | .hbm, ⟨23, _⟩ => ⟨S1x2816x1024, .f32⟩
  | .hbm, ⟨24, _⟩ => ⟨S2816x1024, .f32⟩
  | .hbm, ⟨25, _⟩ => ⟨S256x5632, .f32⟩
  | .hbm, ⟨26, _⟩ => ⟨S256x2816, .f32⟩
  | .hbm, ⟨27, _⟩ => ⟨S256x2816, .f32⟩
  | .hbm, ⟨28, _⟩ => ⟨S256x2816, .f32⟩
  | .hbm, ⟨29, _⟩ => ⟨S256x2816, .f32⟩
  | .hbm, ⟨30, _⟩ => ⟨S_, .f32⟩
  | .hbm, ⟨31, _⟩ => ⟨S256x2816, .f32⟩
  | .hbm, ⟨32, _⟩ => ⟨S256x2816, .f32⟩
  | .hbm, ⟨33, _⟩ => ⟨S_, .f32⟩
  | .hbm, ⟨34, _⟩ => ⟨S256x2816, .f32⟩
  | .hbm, ⟨35, _⟩ => ⟨S256x2816, .f32⟩
  | .hbm, ⟨36, _⟩ => ⟨S256x2816, .f32⟩
  | .hbm, ⟨37, _⟩ => ⟨S256x2816, .f32⟩
  | .hbm, ⟨38, _⟩ => ⟨S256x1024, .f32⟩
  | .hbm, ⟨39, _⟩ => ⟨S_, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S_, .f32⟩
  | .hbm, ⟨45, _⟩ => ⟨S256, .f32⟩
  | .hbm, ⟨46, _⟩ => ⟨S256x1, .f32⟩
  | .hbm, ⟨47, _⟩ => ⟨S_, .f32⟩
  | .hbm, ⟨48, _⟩ => ⟨S256x1, .f32⟩
  | .hbm, ⟨49, _⟩ => ⟨S256x1, .f32⟩
  | .hbm, ⟨50, _⟩ => ⟨S_, .f32⟩
  | .hbm, ⟨51, _⟩ => ⟨S256x1, .f32⟩
  | .hbm, ⟨52, _⟩ => ⟨S256x1, .f32⟩
  | .hbm, ⟨53, _⟩ => ⟨S256x1, .f32⟩
  | .hbm, ⟨54, _⟩ => ⟨S256x1024, .f32⟩
  | .hbm, ⟨55, _⟩ => ⟨S256x1024, .f32⟩
  | .hbm, ⟨56, _⟩ => ⟨S1x1024, .f32⟩
  | .hbm, ⟨57, _⟩ => ⟨S256x1024, .f32⟩
  | .hbm, ⟨58, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== QkvKernel.lean ====
abbrev S32768x1024 : Shape := ⟨2, ![32768, 1024]⟩
abbrev S1024 : Shape := ⟨1, ![1024]⟩
abbrev S1024x3072 : Shape := ⟨2, ![1024, 3072]⟩
abbrev S1x1024 : Shape := ⟨2, ![1, 1024]⟩
abbrev S32768x16x64 : Shape := ⟨3, ![32768, 16, 64]⟩
abbrev S16x1024x2048 : Shape := ⟨3, ![16, 1024, 2048]⟩
abbrev S128x1x1024 : Shape := ⟨3, ![128, 1, 1024]⟩
abbrev S256x1024 : Shape := ⟨2, ![256, 1024]⟩
abbrev S256x16x64 : Shape := ⟨3, ![256, 16, 64]⟩
abbrev S1x1024x256 : Shape := ⟨3, ![1, 1024, 256]⟩
abbrev S1x1x1024 : Shape := ⟨3, ![1, 1, 1024]⟩
abbrev S256 : Shape := ⟨1, ![256]⟩
abbrev S256x1 : Shape := ⟨2, ![256, 1]⟩
abbrev S256x3072 : Shape := ⟨2, ![256, 3072]⟩
abbrev S1024x256 : Shape := ⟨2, ![1024, 256]⟩

abbrev nBuf : Space → Nat
  | .hbm => 11
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3072, .f32⟩
  | .hbm, ⟨3, _⟩ => ⟨S1024x3072, .bf16⟩
  | .hbm, ⟨4, _⟩ => ⟨S1x1024, .f32⟩
  | .hbm, ⟨5, _⟩ => ⟨S32768x1024, .bf16⟩
  | .hbm, ⟨6, _⟩ => ⟨S32768x16x64, .f32⟩
  | .hbm, ⟨7, _⟩ => ⟨S32768x16x64, .f32⟩
  | .hbm, ⟨8, _⟩ => ⟨S32768x1024, .bf16⟩
  | .hbm, ⟨9, _⟩ => ⟨S16x1024x2048, .bf16⟩
  | .hbm, ⟨10, _⟩ => ⟨S128x1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3072, .bf16⟩
  | .local _ .vmem, ⟨4, _⟩ => ⟨S256x1024, .bf16⟩
  | .local _ .vmem, ⟨5, _⟩ => ⟨S256x1024, .bf16⟩
  | .local _ .vmem, ⟨6, _⟩ => ⟨S256x16x64, .f32⟩
  | .local _ .vmem, ⟨7, _⟩ => ⟨S256x16x64, .f32⟩
  | .local _ .vmem, ⟨8, _⟩ => ⟨S256x16x64, .f32⟩
  | .local _ .vmem, ⟨9, _⟩ => ⟨S256x16x64, .f32⟩
  | .local _ .vmem, ⟨10, _⟩ => ⟨S256x1024, .bf16⟩
  | .local _ .vmem, ⟨11, _⟩ => ⟨S256x1024, .bf16⟩
  | .local _ .vmem, ⟨12, _⟩ => ⟨S1x1024x256, .bf16⟩
  | .local _ .vmem, ⟨13, _⟩ => ⟨S1x1024x256, .bf16⟩
  | .local _ .vmem, ⟨14, _⟩ => ⟨S1x1x1024, .f32⟩
  | .local _ .vmem, ⟨15, _⟩ => ⟨S1x1x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x16x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x16x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== QkvReferenceIdeal.lean ====
abbrev S32768x1024 : Shape := ⟨2, ![32768, 1024]⟩
abbrev S1024 : Shape := ⟨1, ![1024]⟩
abbrev S1024x3072 : Shape := ⟨2, ![1024, 3072]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3072 : Shape := ⟨2, ![32768, 3072]⟩
abbrev S128x256x1024 : Shape := ⟨3, ![128, 256, 1024]⟩
abbrev S128x1024 : Shape := ⟨2, ![128, 1024]⟩
abbrev S128x1x1024 : Shape := ⟨3, ![128, 1, 1024]⟩
abbrev S32768x16x64 : Shape := ⟨3, ![32768, 16, 64]⟩
abbrev S16x2048x1024 : Shape := ⟨3, ![16, 2048, 1024]⟩
abbrev S16x1024x2048 : Shape := ⟨3, ![16, 1024, 2048]⟩

abbrev nBuf : Space → Nat
  | .hbm => 40
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3072, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x3072, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S128x256x1024, .f32⟩
  | .hbm, ⟨24, _⟩ => ⟨S_, .f32⟩
  | .hbm, ⟨25, _⟩ => ⟨S128x1024, .f32⟩
  | .hbm, ⟨26, _⟩ => ⟨S128x1x1024, .f32⟩
  | .hbm, ⟨27, _⟩ => ⟨S_, .f32⟩
  | .hbm, ⟨28, _⟩ => ⟨S128x1x1024, .f32⟩
  | .hbm, ⟨29, _⟩ => ⟨S128x1x1024, .f32⟩
  | .hbm, ⟨30, _⟩ => ⟨S_, .f32⟩
  | .hbm, ⟨31, _⟩ => ⟨S32768x1024, .f32⟩
  | .hbm, ⟨32, _⟩ => ⟨S32768x1024, .f32⟩
  | .hbm, ⟨33, _⟩ => ⟨S32768x1024, .bf16⟩
  | .hbm, ⟨34, _⟩ => ⟨S32768x16x64, .f32⟩
  | .hbm, ⟨35, _⟩ => ⟨S32768x16x64, .f32⟩
  | .hbm, ⟨36, _⟩ => ⟨S32768x1024, .bf16⟩
  | .hbm, ⟨37, _⟩ => ⟨S16x2048x1024, .f32⟩
  | .hbm, ⟨38, _⟩ => ⟨S16x1024x2048, .f32⟩
  | .hbm, ⟨39, _⟩ => ⟨S16x1024x2048, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== SampleQkvKernel.lean ====
abbrev S256x1024 : Shape := ⟨2, ![256, 1024]⟩
abbrev S1024 : Shape := ⟨1, ![1024]⟩
abbrev S1024x3072 : Shape := ⟨2, ![1024, 3072]⟩
abbrev S1x1024 : Shape := ⟨2, ![1, 1024]⟩
abbrev S256 : Shape := ⟨1, ![256]⟩
abbrev S256x1 : Shape := ⟨2, ![256, 1]⟩
abbrev S256x3072 : Shape := ⟨2, ![256, 3072]⟩

abbrev nBuf : Space → Nat
  | .hbm => 8
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x3072, .f32⟩
  | .hbm, ⟨3, _⟩ => ⟨S1024x3072, .bf16⟩
  | .hbm, ⟨4, _⟩ => ⟨S1x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1024x3072, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== SampleQkvReferenceIdeal.lean ====
abbrev S256x1024 : Shape := ⟨2, ![256, 1024]⟩
abbrev S1024 : Shape := ⟨1, ![1024]⟩
abbrev S1024x3072 : Shape := ⟨2, ![1024, 3072]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x3072 : Shape := ⟨2, ![256, 3072]⟩

abbrev nBuf : Space → Nat
  | .hbm => 26
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x3072, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x3072, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== ProjKernel.lean ====
abbrev S32768x1024 : Shape := ⟨2, ![32768, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S1024x1024, .bf16⟩
  | .hbm, ⟨4, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjReferenceIdeal.lean ====
abbrev S32768x1024 : Shape := ⟨2, ![32768, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S32768x1024, .f32⟩
  | .hbm, ⟨4, _⟩ => ⟨S32768x1024, .f32⟩
  | .hbm, ⟨5, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SampleRetentionKernel.lean ====
abbrev S32x8x6144 : Shape := ⟨3, ![32, 8, 6144]⟩
abbrev S2048 : Shape := ⟨1, ![2048]⟩
abbrev S32x4x256x512 : Shape := ⟨4, ![32, 4, 256, 512]⟩
abbrev S4 : Shape := ⟨1, ![4]⟩
abbrev S_ : Shape := ⟨0, ![]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S1x8x8 : Shape := ⟨3, ![1, 8, 8]⟩
abbrev S4x1x1 : Shape := ⟨3, ![4, 1, 1]⟩
abbrev S4x8x8 : Shape := ⟨3, ![4, 8, 8]⟩
abbrev S4x1 : Shape := ⟨2, ![4, 1]⟩
abbrev S4x8 : Shape := ⟨2, ![4, 8]⟩
abbrev S4x128x128 : Shape := ⟨3, ![4, 128, 128]⟩
abbrev S4x128 : Shape := ⟨2, ![4, 128]⟩
abbrev S4x128x1 : Shape := ⟨3, ![4, 128, 1]⟩
abbrev S1x2048 : Shape := ⟨2, ![1, 2048]⟩
abbrev S32x8x2048 : Shape := ⟨3, ![32, 8, 2048]⟩
abbrev S1x8x1024 : Shape := ⟨3, ![1, 8, 1024]⟩
abbrev S1x8x2048 : Shape := ⟨3, ![1, 8, 2048]⟩
abbrev S1x4x256x512 : Shape := ⟨4, ![1, 4, 256, 512]⟩
abbrev S1x8x256 : Shape := ⟨3, ![1, 8, 256]⟩
abbrev S8x256 : Shape := ⟨2, ![8, 256]⟩
abbrev S120x256 : Shape := ⟨2, ![120, 256]⟩
abbrev S128x256 : Shape := ⟨2, ![128, 256]⟩
abbrev S1x8x512 : Shape := ⟨3, ![1, 8, 512]⟩
abbrev S8x512 : Shape := ⟨2, ![8, 512]⟩
abbrev S120x512 : Shape := ⟨2, ![120, 512]⟩
abbrev S128x512 : Shape := ⟨2, ![128, 512]⟩
abbrev S128x128 : Shape := ⟨2, ![128, 128]⟩
abbrev S1x1x256x512 : Shape := ⟨4, ![1, 1, 256, 512]⟩
abbrev S256x512 : Shape := ⟨2, ![256, 512]⟩
abbrev S1x128x128 : Shape := ⟨3, ![1, 128, 128]⟩
abbrev S1x128x1 : Shape := ⟨3, ![1, 128, 1]⟩
abbrev S128x1 : Shape := ⟨2, ![128, 1]⟩
abbrev S256x128 : Shape := ⟨2, ![256, 128]⟩
abbrev S1x1x1 : Shape := ⟨3, ![1, 1, 1]⟩
abbrev S1x1 : Shape := ⟨2, ![1, 1]⟩
abbrev S1x512 : Shape := ⟨2, ![1, 512]⟩

abbrev nBuf : Space → Nat
  | .hbm => 74
  | .vmem => 19
  | .smem => 0
  | _ => 0

abbrev bufTy : (tb : Table) → Fin (tcTables nBuf tb) → BufTy
  | .hbm, ⟨0, _⟩ => ⟨S32x8x6144, .f32⟩
  | .hbm, ⟨1, _⟩ => ⟨S2048, .f32⟩
  | .hbm, ⟨2, _⟩ => ⟨S32x4x256x512, .f32⟩
  | .hbm, ⟨3, _⟩ => ⟨S4, .f32⟩
  | .hbm, ⟨4, _⟩ => ⟨S_, .f32⟩
  | .hbm, ⟨5, _⟩ => ⟨S4, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S8, .f32⟩
  | .hbm, ⟨14, _⟩ => ⟨S8x1, .f32⟩
  | .hbm, ⟨15, _⟩ => ⟨S1x8, .f32⟩
  | .hbm, ⟨16, _⟩ => ⟨S8x8, .f32⟩
  | .hbm, ⟨17, _⟩ => ⟨S8x8, .f32⟩
  | .hbm, ⟨18, _⟩ => ⟨S8x8, .f32⟩
  | .hbm, ⟨19, _⟩ => ⟨S1x8x8, .f32⟩
  | .hbm, ⟨20, _⟩ => ⟨S_, .f32⟩
  | .hbm, ⟨21, _⟩ => ⟨S1x8x8, .f32⟩
  | .hbm, ⟨22, _⟩ => ⟨S1x8x8, .i1⟩
  | .hbm, ⟨23, _⟩ => ⟨S4x1x1, .f32⟩
  | .hbm, ⟨24, _⟩ => ⟨S_, .f32⟩
  | .hbm, ⟨25, _⟩ => ⟨S8x8, .f32⟩
  | .hbm, ⟨26, _⟩ => ⟨S8x8, .f32⟩
  | .hbm, ⟨27, _⟩ => ⟨S1x8x8, .f32⟩
  | .hbm, ⟨28, _⟩ => ⟨S4x8x8, .f32⟩
  | .hbm, ⟨29, _⟩ => ⟨S4x8x8, .f32⟩
  | .hbm, ⟨30, _⟩ => ⟨S4x8x8, .f32⟩
  | .hbm, ⟨31, _⟩ => ⟨S4x8x8, .f32⟩
  | .hbm, ⟨32, _⟩ => ⟨S_, .f32⟩
  | .hbm, ⟨33, _⟩ => ⟨S_, .f32⟩
  | .hbm, ⟨34, _⟩ => ⟨S4x8x8, .i1⟩
  | .hbm, ⟨35, _⟩ => ⟨S4x8x8, .f32⟩
  | .hbm, ⟨36, _⟩ => ⟨S4x8x8, .f32⟩
  | .hbm, ⟨37, _⟩ => ⟨S4x1, .f32⟩
  | .hbm, ⟨38, _⟩ => ⟨S1x8, .f32⟩
  | .hbm, ⟨39, _⟩ => ⟨S_, .f32⟩
  | .hbm, ⟨40, _⟩ => ⟨S1x8, .f32⟩
  | .hbm, ⟨41, _⟩ => ⟨S1x8, .f32⟩
  | .hbm, ⟨42, _⟩ => ⟨S4x8, .f32⟩
  | .hbm, ⟨43, _⟩ => ⟨S4x8, .f32⟩
  | .hbm, ⟨44, _⟩ => ⟨S4x8, .f32⟩
  | .hbm, ⟨45, _⟩ => ⟨S4x8, .f32⟩
  | .hbm, ⟨46, _⟩ => ⟨S4x1, .f32⟩
  | .hbm, ⟨47, _⟩ => ⟨S1x8, .f32⟩
  | .hbm, ⟨48, _⟩ => ⟨S_, .f32⟩
  | .hbm, ⟨49, _⟩ => ⟨S1x8, .f32⟩
  | .hbm, ⟨50, _⟩ => ⟨S1x8, .f32⟩
  | .hbm, ⟨51, _⟩ => ⟨S4x8, .f32⟩
  | .hbm, ⟨52, _⟩ => ⟨S4x8, .f32⟩
  | .hbm, ⟨53, _⟩ => ⟨S4x8, .f32⟩
  | .hbm, ⟨54, _⟩ => ⟨S4x8, .f32⟩
  | .hbm, ⟨55, _⟩ => ⟨S_, .f32⟩
  | .hbm, ⟨56, _⟩ => ⟨S4, .f32⟩
  | .hbm, ⟨57, _⟩ => ⟨S4, .f32⟩
  | .hbm, ⟨58, _⟩ => ⟨S4, .f32⟩
  | .hbm, ⟨59, _⟩ => ⟨S_, .i32⟩
  | .hbm, ⟨60, _⟩ => ⟨S_, .f32⟩
  | .hbm, ⟨61, _⟩ => ⟨S4x128x128, .f32⟩
  | .hbm, ⟨62, _⟩ => ⟨S_, .i32⟩
  | .hbm, ⟨63, _⟩ => ⟨S_, .f32⟩
  | .hbm, ⟨64, _⟩ => ⟨S4x128, .f32⟩
  | .hbm, ⟨65, _⟩ => ⟨S4x128x1, .f32⟩
  | .hbm, ⟨66, _⟩ => ⟨S_, .i32⟩
  | .hbm, ⟨67, _⟩ => ⟨S_, .f32⟩
  | .hbm, ⟨68, _⟩ => ⟨S4x128, .f32⟩
  | .hbm, ⟨69, _⟩ => ⟨S4x128x1, .f32⟩
  | .hbm, ⟨70, _⟩ => ⟨S4x1x1, .f32⟩
  | .hbm, ⟨71, _⟩ => ⟨S1x2048, .f32⟩
  | .hbm, ⟨72, _⟩ => ⟨S32x8x2048, .bf16⟩
  | .hbm, ⟨73, _⟩ => ⟨S32x4x256x512, .f32⟩
  | .local _ .vmem, ⟨0, _⟩ => ⟨S1x8x1024, .f32⟩
  | .local _ .vmem, ⟨1, _⟩ => ⟨S1x8x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x2048, .f32⟩
  | .local _ .vmem, ⟨5, _⟩ => ⟨S1x8x2048, .f32⟩
  | .local _ .vmem, ⟨6, _⟩ => ⟨S1x8x2048, .f32⟩
  | .local _ .vmem, ⟨7, _⟩ => ⟨S1x8x2048, .f32⟩
  | .local _ .vmem, ⟨8, _⟩ => ⟨S4x128x128, .f32⟩
  | .local _ .vmem, ⟨9, _⟩ => ⟨S4x128x1, .f32⟩
  | .local _ .vmem, ⟨10, _⟩ => ⟨S4x128x1, .f32⟩
  | .local _ .vmem, ⟨11, _⟩ => ⟨S4x1x1, .f32⟩
  | .local _ .vmem, ⟨12, _⟩ => ⟨S1x2048, .f32⟩
  | .local _ .vmem, ⟨13, _⟩ => ⟨S1x4x256x512, .f32⟩
  | .local _ .vmem, ⟨14, _⟩ => ⟨S1x4x256x512, .f32⟩
  | .local _ .vmem, ⟨15, _⟩ => ⟨S1x8x2048, .bf16⟩
  | .local _ .vmem, ⟨16, _⟩ => ⟨S1x8x2048, .bf16⟩
  | .local _ .vmem, ⟨17, _⟩ => ⟨S1x4x256x512, .f32⟩
  | .local _ .vmem, ⟨18, _⟩ => ⟨S1x4x256x512, .f32⟩
  | _, _ => ⟨S32x8x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c : Ref sig .tc := ⟨.hbm, 59, rfl⟩
abbrev main_call1_v0 : Ref sig .tc := ⟨.hbm, 60, rfl⟩
abbrev main_v45 : Ref sig .tc := ⟨.hbm, 61, rfl⟩
abbrev main_c_7 : Ref sig .tc := ⟨.hbm, 62, rfl⟩
abbrev main_call2_v0 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_call3_v0 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52_0 : Ref sig .tc := ⟨.hbm, 72, rfl⟩
abbrev main_v52_1 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x4x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x8x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== SampleRetentionReferenceIdeal.lean ====
abbrev S32x8x6144 : Shape := ⟨3, ![32, 8, 6144]⟩
abbrev S2048 : Shape := ⟨1, ![2048]⟩
abbrev S32x4x256x512 : Shape := ⟨4, ![32, 4, 256, 512]⟩
abbrev S32x8x1024 : Shape := ⟨3, ![32, 8, 1024]⟩
abbrev S32x8x2048 : Shape := ⟨3, ![32, 8, 2048]⟩
abbrev S32x8x4x256 : Shape := ⟨4, ![32, 8, 4, 256]⟩
abbrev S32x8x4x512 : Shape := ⟨4, ![32, 8, 4, 512]⟩
abbrev S4 : Shape := ⟨1, ![4]⟩
abbrev S_ : Shape := ⟨0, ![]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S1x8x8 : Shape := ⟨3, ![1, 8, 8]⟩
abbrev S4x1x1 : Shape := ⟨3, ![4, 1, 1]⟩
abbrev S4x8x8 : Shape := ⟨3, ![4, 8, 8]⟩
abbrev S1x4 : Shape := ⟨2, ![1, 4]⟩
abbrev S8x4 : Shape := ⟨2, ![8, 4]⟩
abbrev S1x8x4x1 : Shape := ⟨4, ![1, 8, 4, 1]⟩
abbrev S1x4x1x1 : Shape := ⟨4, ![1, 4, 1, 1]⟩
abbrev S32x4x8x8 : Shape := ⟨4, ![32, 4, 8, 8]⟩
abbrev S1x4x8x8 : Shape := ⟨4, ![1, 4, 8, 8]⟩
abbrev S32x4x512x8 : Shape := ⟨4, ![32, 4, 512, 8]⟩
abbrev S32x8x4 : Shape := ⟨3, ![32, 8, 4]⟩
abbrev S32x8x4x1 : Shape := ⟨4, ![32, 8, 4, 1]⟩
abbrev S1x1x2048 : Shape := ⟨3, ![1, 1, 2048]⟩

abbrev nBuf : Space → Nat
  | .hbm => 115
  | .vmem => 0
  | .smem => 0
  | _ => 0

abbrev bufTy : (tb : Table) → Fin (tcTables nBuf tb) → BufTy
  | .hbm, ⟨0, _⟩ => ⟨S32x8x6144, .f32⟩
  | .hbm, ⟨1, _⟩ => ⟨S2048, .f32⟩
  | .hbm, ⟨2, _⟩ => ⟨S32x4x256x512, .f32⟩
  | .hbm, ⟨3, _⟩ => ⟨S32x8x1024, .f32⟩
  | .hbm, ⟨4, _⟩ => ⟨S32x8x1024, .f32⟩
  | .hbm, ⟨5, _⟩ => ⟨S32x8x2048, .f32⟩
  | .hbm, ⟨6, _⟩ => ⟨S32x8x2048, .f32⟩
  | .hbm, ⟨7, _⟩ => ⟨S32x8x4x256, .f32⟩
  | .hbm, ⟨8, _⟩ => ⟨S32x8x4x256, .f32⟩
  | .hbm, ⟨9, _⟩ => ⟨S32x8x4x512, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S_, .f32⟩
  | .hbm, ⟨15, _⟩ => ⟨S4, .f32⟩
  | .hbm, ⟨16, _⟩ => ⟨S4, .f32⟩
  | .hbm, ⟨17, _⟩ => ⟨S4, .f32⟩
  | .hbm, ⟨18, _⟩ => ⟨S4, .f32⟩
  | .hbm, ⟨19, _⟩ => ⟨S4, .f32⟩
  | .hbm, ⟨20, _⟩ => ⟨S8, .f32⟩
  | .hbm, ⟨21, _⟩ => ⟨S8x1, .f32⟩
  | .hbm, ⟨22, _⟩ => ⟨S1x8, .f32⟩
  | .hbm, ⟨23, _⟩ => ⟨S8x8, .f32⟩
  | .hbm, ⟨24, _⟩ => ⟨S8x8, .f32⟩
  | .hbm, ⟨25, _⟩ => ⟨S8x8, .f32⟩
  | .hbm, ⟨26, _⟩ => ⟨S1x8x8, .f32⟩
  | .hbm, ⟨27, _⟩ => ⟨S_, .f32⟩
  | .hbm, ⟨28, _⟩ => ⟨S1x8x8, .f32⟩
  | .hbm, ⟨29, _⟩ => ⟨S1x8x8, .i1⟩
  | .hbm, ⟨30, _⟩ => ⟨S4x1x1, .f32⟩
  | .hbm, ⟨31, _⟩ => ⟨S_, .f32⟩
  | .hbm, ⟨32, _⟩ => ⟨S8x8, .f32⟩
  | .hbm, ⟨33, _⟩ => ⟨S8x8, .f32⟩
  | .hbm, ⟨34, _⟩ => ⟨S1x8x8, .f32⟩
  | .hbm, ⟨35, _⟩ => ⟨S4x8x8, .f32⟩
  | .hbm, ⟨36, _⟩ => ⟨S4x8x8, .f32⟩
  | .hbm, ⟨37, _⟩ => ⟨S4x8x8, .f32⟩
  | .hbm, ⟨38, _⟩ => ⟨S4x8x8, .f32⟩
  | .hbm, ⟨39, _⟩ => ⟨S_, .f32⟩
  | .hbm, ⟨40, _⟩ => ⟨S_, .f32⟩
  | .hbm, ⟨41, _⟩ => ⟨S4x8x8, .i1⟩
  | .hbm, ⟨42, _⟩ => ⟨S4x8x8, .f32⟩
  | .hbm, ⟨43, _⟩ => ⟨S4x8x8, .f32⟩
  | .hbm, ⟨44, _⟩ => ⟨S1x4, .f32⟩
  | .hbm, ⟨45, _⟩ => ⟨S8x1, .f32⟩
  | .hbm, ⟨46, _⟩ => ⟨S_, .f32⟩
  | .hbm, ⟨47, _⟩ => ⟨S8x1, .f32⟩
  | .hbm, ⟨48, _⟩ => ⟨S8x1, .f32⟩
  | .hbm, ⟨49, _⟩ => ⟨S8x4, .f32⟩
  | .hbm, ⟨50, _⟩ => ⟨S8x4, .f32⟩
  | .hbm, ⟨51, _⟩ => ⟨S8x4, .f32⟩
  | .hbm, ⟨52, _⟩ => ⟨S8x4, .f32⟩
  | .hbm, ⟨53, _⟩ => ⟨S1x8x4x1, .f32⟩
  | .hbm, ⟨54, _⟩ => ⟨S1x4, .f32⟩
  | .hbm, ⟨55, _⟩ => ⟨S8x1, .f32⟩
  | .hbm, ⟨56, _⟩ => ⟨S_, .f32⟩
  | .hbm, ⟨57, _⟩ => ⟨S8x1, .f32⟩
  | .hbm, ⟨58, _⟩ => ⟨S8x1, .f32⟩
  | .hbm, ⟨59, _⟩ => ⟨S8x4, .f32⟩
  | .hbm, ⟨60, _⟩ => ⟨S8x4, .f32⟩
  | .hbm, ⟨61, _⟩ => ⟨S8x4, .f32⟩
  | .hbm, ⟨62, _⟩ => ⟨S8x4, .f32⟩
  | .hbm, ⟨63, _⟩ => ⟨S1x8x4x1, .f32⟩
  | .hbm, ⟨64, _⟩ => ⟨S_, .f32⟩
  | .hbm, ⟨65, _⟩ => ⟨S4, .f32⟩
  | .hbm, ⟨66, _⟩ => ⟨S4, .f32⟩
  | .hbm, ⟨67, _⟩ => ⟨S4, .f32⟩
  | .hbm, ⟨68, _⟩ => ⟨S1x4x1x1, .f32⟩
  | .hbm, ⟨69, _⟩ => ⟨S32x4x8x8, .f32⟩
  | .hbm, ⟨70, _⟩ => ⟨S1x4x8x8, .f32⟩
  | .hbm, ⟨71, _⟩ => ⟨S32x4x8x8, .f32⟩
  | .hbm, ⟨72, _⟩ => ⟨S32x4x8x8, .f32⟩
  | .hbm, ⟨73, _⟩ => ⟨S32x4x512x8, .f32⟩
  | .hbm, ⟨74, _⟩ => ⟨S32x8x4x512, .f32⟩
  | .hbm, ⟨75, _⟩ => ⟨S32x4x512x8, .f32⟩
  | .hbm, ⟨76, _⟩ => ⟨S32x8x4x512, .f32⟩
  | .hbm, ⟨77, _⟩ => ⟨S32x8x4x512, .f32⟩
  | .hbm, ⟨78, _⟩ => ⟨S32x8x4x512, .f32⟩
  | .hbm, ⟨79, _⟩ => ⟨S32x8x4x512, .f32⟩
  | .hbm, ⟨80, _⟩ => ⟨S32x4x256x512, .f32⟩
  | .hbm, ⟨81, _⟩ => ⟨S32x4x256x512, .f32⟩
  | .hbm, ⟨82, _⟩ => ⟨S32x8x4x256, .f32⟩
  | .hbm, ⟨83, _⟩ => ⟨S32x8x4x256, .f32⟩
  | .hbm, ⟨84, _⟩ => ⟨S32x4x256x512, .f32⟩
  | .hbm, ⟨85, _⟩ => ⟨S32x4x256x512, .f32⟩
  | .hbm, ⟨86, _⟩ => ⟨S_, .f32⟩
  | .hbm, ⟨87, _⟩ => ⟨S32x8x4, .f32⟩
  | .hbm, ⟨88, _⟩ => ⟨S32x8x4x1, .f32⟩
  | .hbm, ⟨89, _⟩ => ⟨S_, .f32⟩
  | .hbm, ⟨90, _⟩ => ⟨S32x8x4x1, .f32⟩
  | .hbm, ⟨91, _⟩ => ⟨S32x8x4x1, .f32⟩
  | .hbm, ⟨92, _⟩ => ⟨S32x8x4x512, .f32⟩
  | .hbm, ⟨93, _⟩ => ⟨S32x8x4x512, .f32⟩
  | .hbm, ⟨94, _⟩ => ⟨S32x8x4x512, .f32⟩
  | .hbm, ⟨95, _⟩ => ⟨S_, .f32⟩
  | .hbm, ⟨96, _⟩ => ⟨S32x8x4, .f32⟩
  | .hbm, ⟨97, _⟩ => ⟨S32x8x4x1, .f32⟩
  | .hbm, ⟨98, _⟩ => ⟨S_, .f32⟩
  | .hbm, ⟨99, _⟩ => ⟨S32x8x4x1, .f32⟩
  | .hbm, ⟨100, _⟩ => ⟨S32x8x4x1, .f32⟩
  | .hbm, ⟨101, _⟩ => ⟨S32x8x4x512, .f32⟩
  | .hbm, ⟨102, _⟩ => ⟨S32x8x4x512, .f32⟩
  | .hbm, ⟨103, _⟩ => ⟨S_, .f32⟩
  | .hbm, ⟨104, _⟩ => ⟨S32x8x4x1, .f32⟩
  | .hbm, ⟨105, _⟩ => ⟨S32x8x4x1, .f32⟩
  | .hbm, ⟨106, _⟩ => ⟨S32x8x4x1, .f32⟩
  | .hbm, ⟨107, _⟩ => ⟨S32x8x4x512, .f32⟩
  | .hbm, ⟨108, _⟩ => ⟨S32x8x4x512, .f32⟩
  | .hbm, ⟨109, _⟩ => ⟨S32x8x2048, .f32⟩
  | .hbm, ⟨110, _⟩ => ⟨S1x1x2048, .f32⟩
  | .hbm, ⟨111, _⟩ => ⟨S32x8x2048, .f32⟩
  | .hbm, ⟨112, _⟩ => ⟨S32x8x2048, .f32⟩
  | .hbm, ⟨113, _⟩ => ⟨S32x8x2048, .f32⟩
  | .hbm, ⟨114, _⟩ => ⟨S32x8x2048, .bf16⟩
  | _, _ => ⟨S32x8x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_6 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_7 : Ref sig .tc := ⟨.hbm, 86, rfl⟩
abbrev main_v72 : Ref sig .tc := ⟨.hbm, 87, rfl⟩
abbrev main_v73 : Ref sig .tc := ⟨.hbm, 88, rfl⟩
abbrev main_cst_8 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_cst_9 : Ref sig .tc := ⟨.hbm, 95, rfl⟩
abbrev main_v79 : Ref sig .tc := ⟨.hbm, 96, rfl⟩
abbrev main_v80 : Ref sig .tc := ⟨.hbm, 97, rfl⟩
abbrev main_cst_10 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_cst_11 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩

abbrev nD : Nat := 1
abbrev τ : Topo := Topo.v7x

variable {F : FTy → Type} [FloatOps F]
-- ==== Proof.Ret.Tile.lean ====
/-
  What one grid point of the retention kernel computes, written once for any chunk and any head.

  A grid point handles 512 rows of a sequence: four chunks of 128 rows, four heads each. The functions below are
  the pieces of that work (rotated queries and keys of a head, scores of a chunk, the chunk's reading of the running
  state, the state's update, the gated group norm), with the chunk `n` and the head `h` as arguments.
-/
module

public import proofs.«01_k».proof.Proof.Gen.KernelIdeal.Frame
public import Idealize.ShloMosaic.Lib.Pipeline.Value
public import Idealize.ShloMosaic.Lib.Pipeline.ReadBack

@[expose] public section

namespace Cert.KernelIdeal.Ret

open Cert.KernelIdeal Cert.KernelIdeal.Gen Idealize.ShloMosaic Idealize.ShloMosaic.TcCoe

variable {F : FTy → Type} [FloatOps F]

/-! ## Where the slices lie -/

theorem colSlice (b : ℕ) (h : Fin 4) (hb : b + 896 ≤ 6144) : S512x6144.Slices ![0, b + 256 * h.val] S512x128 :=
  ⟨rfl, fun a => by revert a; simp only [Fin.forall_fin_two]; exact ⟨by simp [S512x6144, S512x128], by simp [S512x6144, S512x128]; omega⟩⟩

theorem valSlice (h : Fin 4) : S512x6144.Slices ![0, 2048 + 512 * h.val] S512x512 :=
  ⟨rfl, fun a => by revert a; simp only [Fin.forall_fin_two]; exact ⟨by simp [S512x6144, S512x512], by simp [S512x6144, S512x512]; omega⟩⟩

theorem gateSlice (n h : Fin 4) : S512x6144.Slices ![128 * n.val, 4096 + 512 * h.val] S128x512 :=
  ⟨rfl, fun a => by revert a; simp only [Fin.forall_fin_two]; exact ⟨by simp [S512x6144, S128x512]; omega, by simp [S512x6144, S128x512]; omega⟩⟩

theorem rowSliceQ (n : Fin 4) : S512x256.Slices ![128 * n.val, 0] S128x256 :=
  ⟨rfl, fun a => by revert a; simp only [Fin.forall_fin_two]; exact ⟨by simp [S512x256, S128x256]; omega, by simp [S512x256, S128x256]⟩⟩

theorem rowSliceV (n : Fin 4) : S512x512.Slices ![128 * n.val, 0] S128x512 :=
  ⟨rfl, fun a => by revert a; simp only [Fin.forall_fin_two]; exact ⟨by simp [S512x512, S128x512]; omega, by simp [S512x512, S128x512]⟩⟩

/-- The part of the running state that belongs to head `h`. -/
def headRect (h : Fin 4) : Rect S1x4x256x512 :=
  Rect.unit ![0, h.val, 0, 0] S1x1x256x512.size
    (fun a => by revert a; simp only [Fin.forall_fin_succ]; simp [S1x4x256x512, S1x1x256x512]; omega)

/-- The part of the gated rows that belongs to chunk `n` and head `h`. -/
def gateRect (n h : Fin 4) : Rect S512x2048 :=
  Rect.unit ![128 * n.val, 512 * h.val] S128x512.size
    (fun a => by revert a; simp only [Fin.forall_fin_succ]; simp [S512x2048, S128x512]; omega)

/-! ## The pieces of the work -/

/-- The queries of head `h`, rotated by the position's angles. -/
noncomputable def queries (Y : FVec F S512x6144 .f32) (cs sn : FVec F S512x128 .f32) (h : Fin 4) : FVec F S512x256 .bf16 :=
  have a := extractStridedSlice S512x128 ![0, 0 + 256 * h.val] Y (colSlice 0 h (by omega))
  have b := extractStridedSlice S512x128 ![0, 128 + 256 * h.val] Y (colSlice 128 h (by omega))
  truncf .bf16 (concatenate S512x256 1 [⟨S512x128, subf (mulf a cs) (mulf b sn)⟩, ⟨S512x128, addf (mulf a sn) (mulf b cs)⟩] concatenates_S512x128_S512x128_S512x256_d1) bitsLt_bf16_f32

/-- The keys of head `h`, rotated and scaled. -/
noncomputable def keys (Y : FVec F S512x6144 .f32) (cs sn : FVec F S512x128 .f32) (h : Fin 4) : FVec F S512x256 .f32 :=
  have a := extractStridedSlice S512x128 ![0, 1024 + 256 * h.val] Y (colSlice 1024 h (by omega))
  have b := extractStridedSlice S512x128 ![0, 1152 + 256 * h.val] Y (colSlice 1152 h (by omega))
  have s : FVec F S512x128 .f32 := broadcast S512x128 (Scalar.ofBits .f32 0x3D800000#32 : F .f32)
  concatenate S512x256 1 [⟨S512x128, mulf (subf (mulf a cs) (mulf b sn)) s⟩, ⟨S512x128, mulf (addf (mulf a sn) (mulf b cs)) s⟩] concatenates_S512x128_S512x128_S512x256_d1

/-- The values of head `h`. -/
noncomputable def vals (Y : FVec F S512x6144 .f32) (h : Fin 4) : FVec F S512x512 .bf16 :=
  truncf .bf16 (extractStridedSlice S512x512 ![0, 2048 + 512 * h.val] Y (valSlice h)) bitsLt_bf16_f32

/-- What chunk `n` adds to its own output from inside the chunk. -/
noncomputable def inside (q : FVec F S512x256 .bf16) (k : FVec F S512x256 .f32) (v : FVec F S512x512 .bf16) (d : Vec F S1x128x128 .f32) (n : Fin 4) : FVec F S128x512 .f32 :=
  have s : FVec F S128x128 .f32 := matmul dot_S128x256_S128x256_S128x128_1_1_0_0_n_n none (extractStridedSlice S128x256 ![128 * n.val, 0] q (rowSliceQ n))
    (truncf .bf16 (extractStridedSlice S128x256 ![128 * n.val, 0] k (rowSliceQ n)) bitsLt_bf16_f32) (constant S128x128 .f32 0x00000000#32)
  matmul dot_S128x128_S128x512_S128x512_1_0_0_1_n_n none (truncf .bf16 (mulf s (shapeCast S128x128 d shapeCasts_S1x128x128_S128x128)) bitsLt_bf16_f32)
    (extractStridedSlice S128x512 ![128 * n.val, 0] v (rowSliceV n)) (constant S128x512 .f32 0x00000000#32)

/-- What chunk `n` reads of the state `s` that the chunks before it left. -/
noncomputable def across (q : FVec F S512x256 .bf16) (s : Vec F S1x1x256x512 .f32) (n : Fin 4) : FVec F S128x512 .f32 :=
  matmul dot_S128x256_S256x512_S128x512_1_0_0_1_n_n none (extractStridedSlice S128x256 ![128 * n.val, 0] q (rowSliceQ n))
    (truncf .bf16 (shapeCast S256x512 s shapeCasts_S1x1x256x512_S256x512) bitsLt_bf16_f32) (constant S128x512 .f32 0x00000000#32)

/-- What chunk `n` adds to the state. -/
noncomputable def gain (k : FVec F S512x256 .f32) (v : FVec F S512x512 .bf16) (w : Vec F S1x128x1 .f32) (n : Fin 4) : FVec F S256x512 .f32 :=
  have kw : FVec F S128x256 .f32 := mulf (extractStridedSlice S128x256 ![128 * n.val, 0] k (rowSliceQ n)) (broadcastTo S128x256 (shapeCast S128x1 w shapeCasts_S1x128x1_S128x1) broadcasts_S128x1_S128x256)
  matmul dot_S256x128_S128x512_S256x512_1_0_0_1_n_n none (truncf .bf16 (transpose S256x128 [1, 0] kw transposes_S128x256_p1_0_S256x128) bitsLt_bf16_f32)
    (extractStridedSlice S128x512 ![128 * n.val, 0] v (rowSliceV n)) (constant S256x512 .f32 0x00000000#32)

/-- The state after a chunk: the state before it, decayed, and what the chunk adds. -/
noncomputable def nextState (u : FVec F S256x512 .f32) (s : Vec F S1x1x256x512 .f32) (c : Vec F S1x1x1 .f32) : FVec F S1x1x256x512 .f32 :=
  shapeCast S1x1x256x512 (addf (mulf (shapeCast S256x512 s shapeCasts_S1x1x256x512_S256x512) (broadcastTo S256x512 (shapeCast S1x1 c shapeCasts_S1x1x1_S1x1) broadcasts_S1x1_S256x512)) u) shapeCasts_S256x512_S1x1x256x512

/-- The mean of each row, along the row. -/
noncomputable def rowMean (z : FVec F S128x512 .f32) : FVec F S128x1 .f32 :=
  divf (shapeCast S128x1 (multiReduction .add [1] S128 z 0x00000000#32 reduces_S128x512_S128 (.inl rfl) rfl) shapeCasts_S128_S128x1)
    (broadcast S128x1 (Scalar.ofBits .f32 0x44000000#32 : F .f32))

/-- A chunk's output for one head: the two parts together, each row brought to mean zero and variance one, times the norm's
    gain, times the gate. -/
noncomputable def gated (Y : FVec F S512x6144 .f32) (i x : FVec F S128x512 .f32) (w : Vec F S1x128x1 .f32) (g : Vec F S1x512 .f32) (n h : Fin 4) : FVec F S128x512 .bf16 :=
  have z : FVec F S128x512 .f32 := addf i (mulf x (broadcastTo S128x512 (shapeCast S128x1 w shapeCasts_S1x128x1_S128x1) broadcasts_S128x1_S128x512))
  have d : FVec F S128x512 .f32 := subf z (broadcastTo S128x512 (rowMean z) broadcasts_S128x1_S128x512)
  have r : FVec F S128x1 .f32 := rsqrt (addf (rowMean (mulf d d)) (broadcast S128x1 (Scalar.ofBits .f32 0x358637BD#32 : F .f32)))
  have o : FVec F S128x512 .f32 := mulf (mulf d (broadcastTo S128x512 r broadcasts_S128x1_S128x512)) (broadcastTo S128x512 (shapeCast S1x512 g shapeCasts_S1x512_S1x512) broadcasts_S1x512_S128x512)
  have p : FVec F S128x512 .f32 := extractStridedSlice S128x512 ![128 * n.val, 4096 + 512 * h.val] Y (gateSlice n h)
  shapeCast S128x512 (truncf .bf16 (mulf (mulf p (logistic p)) o) bitsLt_bf16_f32) shapeCasts_S128x512_S128x512

/-! ## A grid point's inputs, and its stores -/

/-- What a grid point reads, head by head. -/
structure Reads (F : FTy → Type) where
  /-- the projected rows -/
  proj : FVec F S512x6144 .f32
  /-- cosines and sines of the rows' angles -/
  cs : FVec F S512x128 .f32
  sn : FVec F S512x128 .f32
  /-- the decays inside a chunk, on reading the state, on adding to the state, and over a whole chunk -/
  dIn : Fin 4 → Vec F S1x128x128 .f32
  dQ : Fin 4 → Vec F S1x128x1 .f32
  dK : Fin 4 → Vec F S1x128x1 .f32
  dC : Fin 4 → Vec F S1x1x1 .f32
  /-- the group norm's gain -/
  gn : Fin 4 → Vec F S1x512 .f32

namespace Reads

variable (R : Reads F)

noncomputable def q (h : Fin 4) : FVec F S512x256 .bf16 := queries R.proj R.cs R.sn h
noncomputable def k (h : Fin 4) : FVec F S512x256 .f32 := keys R.proj R.cs R.sn h
noncomputable def v (h : Fin 4) : FVec F S512x512 .bf16 := vals R.proj h

/-- The state of head `h` after chunk `n`, from the state before it. -/
noncomputable def step (n h : Fin 4) (s : Vec F S1x1x256x512 .f32) : Vec F S1x1x256x512 .f32 :=
  nextState (gain (R.k h) (R.v h) (R.dK h) n) s (R.dC h)

/-- The gated output of chunk `n`, head `h`, from the state before the chunk. -/
noncomputable def out (n h : Fin 4) (s : Vec F S1x1x256x512 .f32) : FVec F S128x512 .bf16 :=
  gated R.proj (inside (R.q h) (R.k h) (R.v h) (R.dIn h) n) (across (R.q h) s n) (R.dQ h) (R.gn h) n h

variable {κ : Kind} {sp : Space} (w : View sig κ sp S1x4x256x512 .f32)

/-- The store of head `h`'s state after chunk `n`, over the stores `L` before it. -/
noncomputable def put (n h : Fin 4) (L : List (View.Piece (Elt F) S1x4x256x512 .f32)) : List (View.Piece (Elt F) S1x4x256x512 .f32) :=
  ⟨headRect h, R.step n h (w.readCov L (headRect h).toLoadRect)⟩ :: L

/-- The four stores of chunk `n`. -/
noncomputable def sweep (n : Fin 4) (L : List (View.Piece (Elt F) S1x4x256x512 .f32)) : List (View.Piece (Elt F) S1x4x256x512 .f32) :=
  R.put w n 3 (R.put w n 2 (R.put w n 1 (R.put w n 0 L)))

/-- The first chunk's four stores where the state is found in the buffer. -/
noncomputable def start (s : Fin 4 → Vec F S1x1x256x512 .f32) : List (View.Piece (Elt F) S1x4x256x512 .f32) :=
  [⟨headRect 3, R.step 0 3 (s 3)⟩, ⟨headRect 2, R.step 0 2 (s 2)⟩, ⟨headRect 1, R.step 0 1 (s 1)⟩, ⟨headRect 0, R.step 0 0 (s 0)⟩]

/-- The gated rows' stores: chunk `n`, all heads, from each head's state before the chunk. -/
noncomputable def gates (n : Fin 4) (s : Fin 4 → Vec F S1x1x256x512 .f32) (L : List (View.Piece (Elt F) S512x2048 .bf16)) : List (View.Piece (Elt F) S512x2048 .bf16) :=
  ⟨gateRect n 3, R.out n 3 (s 3)⟩ :: ⟨gateRect n 2, R.out n 2 (s 2)⟩ :: ⟨gateRect n 1, R.out n 1 (s 1)⟩ :: ⟨gateRect n 0, R.out n 0 (s 0)⟩ :: L

/-- The state of head `h` before chunk `n` (`n ≤ 4`), from the state the grid point finds. -/
noncomputable def chain (s : Fin 4 → Vec F S1x1x256x512 .f32) : ℕ → Fin 4 → Vec F S1x1x256x512 .f32
  | 0, h => s h
  | n + 1, h => R.step (Fin.ofNat 4 n) h (chain s n h)

end Reads

end Cert.KernelIdeal.Ret
-- ==== Proof.Ret.Payloads.lean ====
/-
  The generated names of a grid point's values, in the words of `Tile.lean`: which payloads are which piece of the work.
-/
module

public import proofs.«01_k».proof.Proof.Ret.Tile

@[expose] public section

namespace Cert.KernelIdeal.Ret

open Cert.KernelIdeal Cert.KernelIdeal.Gen Idealize.ShloMosaic Idealize.ShloMosaic.TcCoe

variable {F : FTy → Type} [FloatOps F]

/-- Which payloads are the heads' queries. -/
theorem queries_eq (x0 : Vec F S512x1024 .f32) (x1 : Vec F S1x1024 .f32) (x2 : Vec F S1024x6144 .bf16) (x3 x4 : Vec F S512x128 .f32) :
    k0_pay5 x0 x1 x2 x3 x4 = queries (k0_pay2 x0 x1 x2) (k0_pay3 x3) (k0_pay4 x4) 0
    ∧ k0_pay9 (k0_pay3 x3) (k0_pay4 x4) (k0_pay6 x0 x1 x2) (k0_pay7 x0 x1 x2) (k0_pay8 x0 x1 x2 x3 x4) = queries (k0_pay2 x0 x1 x2) (k0_pay3 x3) (k0_pay4 x4) 1 := by
  refine ⟨?_, ?_⟩ <;> rfl

/-- The same for the last two heads. -/
theorem queries_eq' (Y : FVec F S512x6144 .f32) (cs sn : FVec F S512x128 .f32) :
    k0_pay10 Y cs sn = queries Y cs sn 2
    ∧ k0_pay11 Y cs sn = queries Y cs sn 3 := by
  refine ⟨?_, ?_⟩ <;> rfl

/-- Which payloads are the heads' keys. -/
theorem keys_eq (Y : FVec F S512x6144 .f32) (cs sn : FVec F S512x128 .f32) :
    k0_pay12 Y cs sn = keys Y cs sn 0
    ∧ k0_pay13 Y cs sn = keys Y cs sn 1
    ∧ k0_pay17 cs sn (k0_pay14 Y) (k0_pay15 Y) (k0_pay16 Y cs sn) = keys Y cs sn 2
    ∧ k0_pay18 Y cs sn = keys Y cs sn 3 := by
  refine ⟨?_, ?_, ?_, ?_⟩ <;> rfl

/-- Which payloads are the heads' values. -/
theorem vals_eq (Y : FVec F S512x6144 .f32) :
    k0_pay19 Y = vals Y 0
    ∧ k0_pay20 Y = vals Y 1
    ∧ k0_pay21 Y = vals Y 2
    ∧ k0_pay22 Y = vals Y 3 := by
  refine ⟨?_, ?_, ?_, ?_⟩ <;> rfl

/-- Which payloads are chunk 0's part from inside the chunk, head by head. -/
theorem inside_eq0 (Y : FVec F S512x6144 .f32) (cs sn : FVec F S512x128 .f32) (q : FVec F S512x256 .bf16) (k : FVec F S512x256 .f32) (v : FVec F S512x512 .bf16) (d : Vec F S1x128x128 .f32) :
    k0_pay33 v (k0_pay23 q k) d = inside q k v d 0
    ∧ k0_pay34 v (k0_pay24 q k) d = inside q k v d 0
    ∧ k0_pay36 v (k0_pay35 (k0_pay25 cs sn q (k0_pay14 Y) (k0_pay15 Y) (k0_pay16 Y cs sn)) d) = inside q (keys Y cs sn 2) v d 0
    ∧ k0_pay37 v (k0_pay26 Y cs sn q) d = inside q (keys Y cs sn 3) v d 0 := by
  refine ⟨?_, ?_, ?_, ?_⟩ <;> rfl

/-- Which payloads are chunk 1's part from inside the chunk, head by head. -/
theorem inside_eq1 (q : FVec F S512x256 .bf16) (k : FVec F S512x256 .f32) (v : FVec F S512x512 .bf16) (d : Vec F S1x128x128 .f32) :
    k0_pay66 v (k0_pay57 q k) d = inside q k v d 1
    ∧ k0_pay67 v (k0_pay58 q k) d = inside q k v d 1
    ∧ k0_pay68 v (k0_pay59 q k) d = inside q k v d 1
    ∧ k0_pay69 v (k0_pay60 q k) d = inside q k v d 1 := by
  refine ⟨?_, ?_, ?_, ?_⟩ <;> rfl

/-- Which payloads are chunk 2's part from inside the chunk, head by head. -/
theorem inside_eq2 (q : FVec F S512x256 .bf16) (k : FVec F S512x256 .f32) (v : FVec F S512x512 .bf16) (d : Vec F S1x128x128 .f32) :
    k0_pay100 v (k0_pay90 q k) d = inside q k v d 2
    ∧ k0_pay103 (k0_pay101 (k0_pay91 q k) d) (k0_pay102 v) (constant S128x512 .f32 0x00000000#32) = inside q k v d 2
    ∧ k0_pay104 v (k0_pay92 q k) d = inside q k v d 2
    ∧ k0_pay105 v (k0_pay95 (k0_pay93 q) (k0_pay94 k) (constant S128x128 .f32 0x00000000#32)) d = inside q k v d 2 := by
  refine ⟨?_, ?_, ?_, ?_⟩ <;> rfl

/-- Which payloads are chunk 3's part from inside the chunk, head by head. -/
theorem inside_eq3 (q : FVec F S512x256 .bf16) (k : FVec F S512x256 .f32) (v : FVec F S512x512 .bf16) (d : Vec F S1x128x128 .f32) :
    k0_pay130 v (k0_pay122 q k) d = inside q k v d 3
    ∧ k0_pay132 v (k0_pay123 q k) (k0_pay131 d) = inside q k v d 3
    ∧ k0_pay133 v (k0_pay124 q k) d = inside q k v d 3
    ∧ k0_pay134 v (k0_pay125 q k) d = inside q k v d 3 := by
  refine ⟨?_, ?_, ?_, ?_⟩ <;> rfl

/-- Which payloads are chunk 0's reading of the state, head by head. -/
theorem across_eq0 (q : FVec F S512x256 .bf16) (s : Vec F S1x1x256x512 .f32) :
    k0_pay29 (k0_pay27 q) (k0_pay28 s) = across q s 0
    ∧ k0_pay30 q s = across q s 0
    ∧ k0_pay31 q s = across q s 0
    ∧ k0_pay32 q s = across q s 0 := by
  refine ⟨?_, ?_, ?_, ?_⟩ <;> rfl

/-- Which payloads are chunk 1's reading of the state, head by head. -/
theorem across_eq1 (q : FVec F S512x256 .bf16) (s : Vec F S1x1x256x512 .f32) :
    k0_pay62 (k0_pay61 q) s = across q s 1
    ∧ k0_pay63 q s = across q s 1
    ∧ k0_pay64 q s = across q s 1
    ∧ k0_pay65 q s = across q s 1 := by
  refine ⟨?_, ?_, ?_, ?_⟩ <;> rfl

/-- Which payloads are chunk 2's reading of the state, head by head. -/
theorem across_eq2 (q : FVec F S512x256 .bf16) (s : Vec F S1x1x256x512 .f32) :
    k0_pay96 q s = across q s 2
    ∧ k0_pay97 q s = across q s 2
    ∧ k0_pay98 q s = across q s 2
    ∧ k0_pay99 q s = across q s 2 := by
  refine ⟨?_, ?_, ?_, ?_⟩ <;> rfl

/-- Which payloads are chunk 3's reading of the state, head by head. -/
theorem across_eq3 (q : FVec F S512x256 .bf16) (s : Vec F S1x1x256x512 .f32) :
    k0_pay126 q s = across q s 3
    ∧ k0_pay127 q s = across q s 3
    ∧ k0_pay128 q s = across q s 3
    ∧ k0_pay129 q s = across q s 3 := by
  refine ⟨?_, ?_, ?_, ?_⟩ <;> rfl

/-- Which payloads are chunk 0's addition to the state, head by head. -/
theorem gain_eq0 (k : FVec F S512x256 .f32) (v : FVec F S512x512 .bf16) (w : Vec F S1x128x1 .f32) :
    k0_pay38 k v w = gain k v w 0
    ∧ k0_pay39 k v w = gain k v w 0
    ∧ k0_pay40 k v w = gain k v w 0
    ∧ k0_pay42 v (k0_pay41 k w) = gain k v w 0 := by
  refine ⟨?_, ?_, ?_, ?_⟩ <;> rfl

/-- Which payloads are chunk 1's addition to the state, head by head. -/
theorem gain_eq1 (k : FVec F S512x256 .f32) (v : FVec F S512x512 .bf16) (w : Vec F S1x128x1 .f32) :
    k0_pay70 k v w = gain k v w 1
    ∧ k0_pay71 k v w = gain k v w 1
    ∧ k0_pay72 k v w = gain k v w 1
    ∧ k0_pay74 v (k0_pay73 k) w = gain k v w 1 := by
  refine ⟨?_, ?_, ?_, ?_⟩ <;> rfl

/-- Which payloads are chunk 2's addition to the state, head by head. -/
theorem gain_eq2 (k : FVec F S512x256 .f32) (v : FVec F S512x512 .bf16) (w : Vec F S1x128x1 .f32) :
    k0_pay106 k v w = gain k v w 2
    ∧ k0_pay107 k v w = gain k v w 2
    ∧ k0_pay108 k v w = gain k v w 2
    ∧ k0_pay109 k v w = gain k v w 2 := by
  refine ⟨?_, ?_, ?_, ?_⟩ <;> rfl

/-- Which payloads are chunk 3's addition to the state, head by head. -/
theorem gain_eq3 (k : FVec F S512x256 .f32) (v : FVec F S512x512 .bf16) (w : Vec F S1x128x1 .f32) :
    k0_pay135 k v w = gain k v w 3
    ∧ k0_pay136 k v w = gain k v w 3
    ∧ k0_pay138 v (k0_pay137 k w) = gain k v w 3
    ∧ k0_pay139 k v w = gain k v w 3 := by
  refine ⟨?_, ?_, ?_, ?_⟩ <;> rfl

/-- Which payloads are the state after a chunk: chunk by chunk, head by head. -/
theorem nextState_eq (u : FVec F S256x512 .f32) (s : Vec F S1x1x256x512 .f32) (c : Vec F S1x1x1 .f32) :
    k0_pay43 u s c = nextState u s c
    ∧ k0_pay44 u s c = nextState u s c
    ∧ k0_pay47 u (k0_pay45 s) (k0_pay46 c) = nextState u s c
    ∧ k0_pay48 u s c = nextState u s c
    ∧ k0_pay75 u s c = nextState u s c
    ∧ k0_pay76 u s c = nextState u s c
    ∧ k0_pay78 u (k0_pay77 s) c = nextState u s c
    ∧ k0_pay79 u s c = nextState u s c
    ∧ k0_pay110 u s c = nextState u s c
    ∧ k0_pay111 u s c = nextState u s c
    ∧ k0_pay112 u s c = nextState u s c
    ∧ k0_pay113 u s c = nextState u s c
    ∧ k0_pay140 u s c = nextState u s c
    ∧ k0_pay141 u s c = nextState u s c
    ∧ k0_pay142 u s c = nextState u s c
    ∧ k0_pay143 u s c = nextState u s c := by
  refine ⟨?_, ?_, ?_, ?_, ?_, ?_, ?_, ?_, ?_, ?_, ?_, ?_, ?_, ?_, ?_, ?_⟩ <;> rfl

/-- Which payloads are chunk 0's gated rows, head by head. -/
theorem gated_eq0 (Y : FVec F S512x6144 .f32) (i x : FVec F S128x512 .f32) (w : Vec F S1x128x1 .f32) (g : Vec F S1x512 .f32) :
    k0_pay51 Y (k0_pay49 x i w) (k0_pay50 x i w) g = gated Y i x w g 0 0
    ∧ k0_pay53 (k0_pay52 Y x i w g) = gated Y i x w g 0 1
    ∧ k0_pay54 Y x i w g = gated Y i x w g 0 2
    ∧ k0_pay56 Y (k0_pay55 x i w) g = gated Y i x w g 0 3 := by
  refine ⟨?_, ?_, ?_, ?_⟩ <;> rfl

/-- Which payloads are chunk 1's gated rows, head by head. -/
theorem gated_eq1 (Y : FVec F S512x6144 .f32) (i x : FVec F S128x512 .f32) (w : Vec F S1x128x1 .f32) (g : Vec F S1x512 .f32) :
    k0_pay82 Y (k0_pay80 x i w) (k0_pay81 x i w) g = gated Y i x w g 1 0
    ∧ k0_pay86 (k0_pay83 x i w g) (k0_pay84 Y) (k0_pay85 Y) = gated Y i x w g 1 1
    ∧ k0_pay87 Y x i w g = gated Y i x w g 1 2
    ∧ k0_pay89 Y x i (k0_pay88 w) g = gated Y i x w g 1 3 := by
  refine ⟨?_, ?_, ?_, ?_⟩ <;> rfl

/-- Which payloads are chunk 2's gated rows, head by head. -/
theorem gated_eq2 (Y : FVec F S512x6144 .f32) (i x : FVec F S128x512 .f32) (w : Vec F S1x128x1 .f32) (g : Vec F S1x512 .f32) :
    k0_pay116 Y (k0_pay114 x i w) (k0_pay115 x i w) g = gated Y i x w g 2 0
    ∧ k0_pay119 Y (k0_pay117 x i w) (k0_pay118 g) = gated Y i x w g 2 1
    ∧ k0_pay120 Y x i w g = gated Y i x w g 2 2
    ∧ k0_pay121 Y x i w g = gated Y i x w g 2 3 := by
  refine ⟨?_, ?_, ?_, ?_⟩ <;> rfl

/-- Which payloads are chunk 3's gated rows, head by head. -/
theorem gated_eq3 (Y : FVec F S512x6144 .f32) (i x : FVec F S128x512 .f32) (w : Vec F S1x128x1 .f32) (g : Vec F S1x512 .f32) :
    k0_pay146 Y (k0_pay144 x i w) (k0_pay145 x i w) g = gated Y i x w g 3 0
    ∧ k0_pay148 Y (k0_pay147 x i w) g = gated Y i x w g 3 1
    ∧ k0_pay150 (k0_pay149 Y x i w g) = gated Y i x w g 3 2
    ∧ k0_pay151 Y x i w g = gated Y i x w g 3 3 := by
  refine ⟨?_, ?_, ?_, ?_⟩ <;> rfl

end Cert.KernelIdeal.Ret
-- ==== Proof.Ret.Stores.lean ====
/-
  The stores of a grid point, as the generated run found them, are the stores written chunk by chunk in `Tile.lean`.
-/
module

public import proofs.«01_k».proof.Proof.Ret.Payloads

@[expose] public section

namespace Cert.KernelIdeal.Ret

open Cert.KernelIdeal Cert.KernelIdeal.Gen Idealize.ShloMosaic Idealize.ShloMosaic.TcCoe Idealize.SL.Sem

variable {F : FTy → Type} [FloatOps F]

/-- What a grid point reads of the staged blocks. -/
noncomputable def readsOf (x0 : Vec F S512x1024 .f32) (x1 : Vec F S1x1024 .f32) (x2 : Vec F S1024x6144 .bf16) (x3 : Vec F S512x128 .f32) (x4 : Vec F S512x128 .f32) (x5 : Vec F S4x128x128 .f32) (x6 : Vec F S4x128x1 .f32) (x7 : Vec F S4x128x1 .f32) (x8 : Vec F S4x1x1 .f32) (x9 : Vec F S1x2048 .f32) : Reads F where
  proj := k0_pay2 x0 x1 x2
  cs := k0_pay3 x3
  sn := k0_pay4 x4
  dIn h := View.ld x5 (Rect.unit ![h.val, 0, 0] S1x128x128.size (fun a => by revert a; simp only [Fin.forall_fin_succ]; simp [S4x128x128, S1x128x128]; omega))
  dQ h := View.ld x6 (Rect.unit ![h.val, 0, 0] S1x128x1.size (fun a => by revert a; simp only [Fin.forall_fin_succ]; simp [S4x128x1, S1x128x1]; omega))
  dK h := View.ld x7 (Rect.unit ![h.val, 0, 0] S1x128x1.size (fun a => by revert a; simp only [Fin.forall_fin_succ]; simp [S4x128x1, S1x128x1]; omega))
  dC h := View.ld x8 (Rect.unit ![h.val, 0, 0] S1x1x1.size (fun a => by revert a; simp only [Fin.forall_fin_succ]; simp [S4x1x1, S1x1x1]; omega))
  gn h := View.ld x9 (Rect.unit ![0, 512 * h.val] S1x512.size (fun a => by revert a; simp only [Fin.forall_fin_succ]; simp [S1x2048, S1x512]; omega))

/-- Reading a whole two-dimensional block is the block. -/
theorem ld_whole0 {a b : ℕ} {e : EltTy} (X : (⟨2, ![a, b]⟩ : Shape).Idx → Elt F e) (inb : ∀ i, (![0, 0] : Fin 2 → ℕ) i + (![a, b] : Fin 2 → ℕ) i ≤ (![a, b] : Fin 2 → ℕ) i) :
    View.ld X (Rect.unit (s := ⟨2, ![a, b]⟩) ![0, 0] ![a, b] inb) = X :=
  View.ld_unit_zero (by funext i; revert i; simp [Fin.forall_fin_two]) inb X

/-! ## The stores of the first grid point of a sequence, which begins with a zero state -/

/-- Chunk 0's stores of the state. -/
theorem stateA_0 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x6144 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x128x128 .f32) (harg7 : arg7.IsWhole) (arg8 : Memref sig .tc .vmem S4x128x1 .f32) (harg8 : arg8.IsWhole) (arg9 : Memref sig .tc .vmem S4x128x1 .f32) (harg9 : arg9.IsWhole) (arg10 : Memref sig .tc .vmem S4x1x1 .f32) (harg10 : arg10.IsWhole) (arg11 : Memref sig .tc .vmem S1x2048 .f32) (harg11 : arg11.IsWhole) (arg12 : Memref sig .tc .vmem S2048x1024 .bf16) (harg12 : arg12.IsWhole) (arg13 : Memref sig .tc .vmem S512x1024 .f32) (harg13 : arg13.IsWhole) (arg14 : Memref sig .tc .vmem S1x4x256x512 .f32) (harg14 : arg14.IsWhole) (arg15 : Memref sig .tc .vmem S512x2048 .bf16) (harg15 : arg15.IsWhole) (hc0 : cond0_0 i)
    (x0 : Vec F S512x1024 .f32) (x1 : Vec F S1x1024 .f32) (x2 : Vec F S1024x6144 .bf16) (x3 : Vec F S512x128 .f32) (x4 : Vec F S512x128 .f32) (x5 : Vec F S4x128x128 .f32) (x6 : Vec F S4x128x1 .f32) (x7 : Vec F S4x128x1 .f32) (x8 : Vec F S4x1x1 .f32) (x9 : Vec F S1x2048 .f32) (x10 : Vec F S2048x1024 .bf16) :
    (kernelRun0_A.sl.H12_5 c arg2 harg2 arg3 harg3 arg4 harg4 arg5 harg5 arg6 harg6 arg9 harg9 arg10 harg10 arg14 x0 x1 x2 x3 x4 x7 x8) = (readsOf x0 x1 x2 x3 x4 x5 x6 x7 x8 x9).sweep arg14.view 0 (kernelRun0_A.sl.H12_1 ) := by
  simp only [kernelRun0_A.sl.H12_2, kernelRun0_A.sl.H12_3, kernelRun0_A.sl.H12_4, kernelRun0_A.sl.H12_5, kernelRun0_A.sl.r_47, kernelRun0_A.sl.r_84, kernelRun0_A.sl.r_27, kernelRun0_A.sl.r_88, kernelRun0_A.sl.v679, kernelRun0_A.sl.r_49, kernelRun0_A.sl.r_11, kernelRun0_A.sl.r_4, kernelRun0_A.sl.r_86, kernelRun0_A.sl.v952, kernelRun0_A.sl.r_87, kernelRun0_A.sl.v684, kernelRun0_A.sl.r_112, kernelRun0_A.sl.r_114, kernelRun0_A.sl.r_119, kernelRun0_A.sl.r_106, kernelRun0_A.sl.r_68, kernelRun0_A.sl.v1056, kernelRun0_A.sl.r_45, kernelRun0_A.sl.r_17, kernelRun0_A.sl.r_78, kernelRun0_A.sl.r_39, kernelRun0_A.sl.r_118, kernelRun0_A.sl.v510, kernelRun0_A.sl.r_36, kernelRun0_A.sl.r_115, kernelRun0_A.sl.v1162, kernelRun0_A.sl.r_61, kernelRun0_A.sl.v1036, kernelRun0_A.sl.r_19, kernelRun0_A.sl.v153, kernelRun0_A.sl.r_95, kernelRun0_A.sl.r_2, kernelRun0_A.sl.r_16, kernelRun0_A.sl.r_50, kernelRun0_A.sl.r_111, kernelRun0_A.sl.v421, kernelRun0_A.sl.r_38, kernelRun0_A.sl.r_69, kernelRun0_A.sl.v148, kernelRun0_A.sl.r_64, kernelRun0_A.sl.r_21, kernelRun0_A.sl.v500, kernelRun0_A.sl.r_37, kernelRun0_A.sl.r_110, kernelRun0_A.sl.r_9, kernelRun0_A.sl.v2, kernelRun0_A.sl.r_72, kernelRun0_A.sl.r_70, kernelRun0_A.sl.r_89, kernelRun0_A.sl.r_53, kernelRun0_A.sl.r_100, kernelRun0_A.sl.v962, kernelRun0_A.sl.v788, kernelRun0_A.sl.r_71, kernelRun0_A.sl.r_109, kernelRun0_A.sl.v520, kernelRun0_A.sl.v416, kernelRun0_A.sl.r_67, kernelRun0_A.sl.r_32, kernelRun0_A.sl.r_35, kernelRun0_A.sl.r_1, kernelRun0_A.sl.r_96, kernelRun0_A.sl.r_91, kernelRun0_A.sl.v689, kernelRun0_A.sl.r_83, kernelRun0_A.sl.r_73, kernelRun0_A.sl.r_23, kernelRun0_A.sl.r_42, kernelRun0_A.sl.r_56, kernelRun0_A.sl.r_31, kernelRun0_A.sl.r_76, kernelRun0_A.sl.r_57, kernelRun0_A.sl.r_24, kernelRun0_A.sl.r_40, kernelRun0_A.sl.r_120, kernelRun0_A.sl.r_51, kernelRun0_A.sl.r_55, kernelRun0_A.sl.r_20, kernelRun0_A.sl.r_29, kernelRun0_A.sl.r_8, kernelRun0_A.sl.r_75, kernelRun0_A.sl.r_85, kernelRun0_A.sl.v411, kernelRun0_A.sl.r_92, kernelRun0_A.sl.r_90, kernelRun0_A.sl.r_5, kernelRun0_A.sl.r_98, kernelRun0_A.sl.r_10, kernelRun0_A.sl.r_58, kernelRun0_A.sl.r_102, kernelRun0_A.sl.r_7, kernelRun0_A.sl.v1, kernelRun0_A.sl.r_12, kernelRun0_A.sl.r_13, kernelRun0_A.sl.r_63, kernelRun0_A.sl.r, kernelRun0_A.sl.r_79, kernelRun0_A.sl.v778, kernelRun0_A.sl.r_30, kernelRun0_A.sl.r_43, kernelRun0_A.sl.cst_341, kernelRun0_A.sl.v426, kernelRun0_A.sl.v158, kernelRun0_A.sl.r_93, kernelRun0_A.sl.r_14, kernelRun0_A.sl.r_44, kernelRun0_A.sl.v947, kernelRun0_A.sl.r_108, kernelRun0_A.sl.r_46, kernelRun0_A.sl.v0, kernelRun0_A.sl.r_60, kernelRun0_A.sl.r_103, kernelRun0_A.sl.v768, kernelRun0_A.sl.r_54, kernelRun0_A.sl.r_62, kernelRun0_A.sl.r_97, kernelRun0_A.sl.v957, kernelRun0_A.sl.v1046, kernelRun0_A.sl.r_22, kernelRun0_A.sl.r_77, kernelRun0_A.sl.r_116, kernelRun0_A.sl.r_48, kernelRun0_A.sl.r_80, kernelRun0_A.sl.r_66, kernelRun0_A.sl.cst_313, kernelRun0_A.sl.r_59, kernelRun0_A.sl.r_82, kernelRun0_A.sl.v252, kernelRun0_A.sl.r_41, kernelRun0_A.sl.r_25, kernelRun0_A.sl.r_28, kernelRun0_A.sl.v143, kernelRun0_A.sl.r_34, kernelRun0_A.sl.r_101, kernelRun0_A.sl.r_104, kernelRun0_A.sl.r_117, kernelRun0_A.sl.r_99, kernelRun0_A.sl.r_6, kernelRun0_A.sl.r_74, kernelRun0_A.sl.r_113, kernelRun0_A.sl.v242, kernelRun0_A.sl.r_18, kernelRun0_A.sl.r_3, kernelRun0_A.sl.r_107, kernelRun0_A.sl.r_94, kernelRun0_A.sl.v1198, kernelRun0_A.sl.v232, kernelRun0_A.sl.r_65, kernelRun0_A.sl.r_81, kernelRun0_A.sl.r_33, kernelRun0_A.sl.r_15, kernelRun0_A.sl.r_52, kernelRun0_A.sl.v694, kernelRun0_A.sl.r_26, kernelRun0_A.sl.r_105]
  simp only [queries_eq, queries_eq', keys_eq, vals_eq, inside_eq0, inside_eq1, inside_eq2, inside_eq3, across_eq0, across_eq1, across_eq2, across_eq3, gain_eq0, gain_eq1, gain_eq2, gain_eq3, nextState_eq, gated_eq0, gated_eq1, gated_eq2, gated_eq3, View.readAt_eq_ld, Memref.IsWhole.read_unread, ld_whole0]
  simp only [Reads.sweep, Reads.put, Reads.step, Reads.q, Reads.k, Reads.v, readsOf]
  rfl

/-- Chunk 1's stores of the state. -/
theorem stateA_1 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x6144 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x128x128 .f32) (harg7 : arg7.IsWhole) (arg8 : Memref sig .tc .vmem S4x128x1 .f32) (harg8 : arg8.IsWhole) (arg9 : Memref sig .tc .vmem S4x128x1 .f32) (harg9 : arg9.IsWhole) (arg10 : Memref sig .tc .vmem S4x1x1 .f32) (harg10 : arg10.IsWhole) (arg11 : Memref sig .tc .vmem S1x2048 .f32) (harg11 : arg11.IsWhole) (arg12 : Memref sig .tc .vmem S2048x1024 .bf16) (harg12 : arg12.IsWhole) (arg13 : Memref sig .tc .vmem S512x1024 .f32) (harg13 : arg13.IsWhole) (arg14 : Memref sig .tc .vmem S1x4x256x512 .f32) (harg14 : arg14.IsWhole) (arg15 : Memref sig .tc .vmem S512x2048 .bf16) (harg15 : arg15.IsWhole) (hc0 : cond0_0 i)
    (x0 : Vec F S512x1024 .f32) (x1 : Vec F S1x1024 .f32) (x2 : Vec F S1024x6144 .bf16) (x3 : Vec F S512x128 .f32) (x4 : Vec F S512x128 .f32) (x5 : Vec F S4x128x128 .f32) (x6 : Vec F S4x128x1 .f32) (x7 : Vec F S4x128x1 .f32) (x8 : Vec F S4x1x1 .f32) (x9 : Vec F S1x2048 .f32) (x10 : Vec F S2048x1024 .bf16) :
    (kernelRun0_A.sl.H12_9 c arg2 harg2 arg3 harg3 arg4 harg4 arg5 harg5 arg6 harg6 arg9 harg9 arg10 harg10 arg14 x0 x1 x2 x3 x4 x7 x8) = (readsOf x0 x1 x2 x3 x4 x5 x6 x7 x8 x9).sweep arg14.view 1 (kernelRun0_A.sl.H12_5 c arg2 harg2 arg3 harg3 arg4 harg4 arg5 harg5 arg6 harg6 arg9 harg9 arg10 harg10 arg14 x0 x1 x2 x3 x4 x7 x8) := by
  simp only [kernelRun0_A.sl.H12_6, kernelRun0_A.sl.H12_7, kernelRun0_A.sl.H12_8, kernelRun0_A.sl.H12_9, kernelRun0_A.sl.r_47, kernelRun0_A.sl.r_84, kernelRun0_A.sl.r_27, kernelRun0_A.sl.r_88, kernelRun0_A.sl.v679, kernelRun0_A.sl.r_49, kernelRun0_A.sl.r_11, kernelRun0_A.sl.r_4, kernelRun0_A.sl.r_86, kernelRun0_A.sl.v952, kernelRun0_A.sl.r_87, kernelRun0_A.sl.v684, kernelRun0_A.sl.r_112, kernelRun0_A.sl.r_114, kernelRun0_A.sl.r_119, kernelRun0_A.sl.r_106, kernelRun0_A.sl.r_68, kernelRun0_A.sl.v1056, kernelRun0_A.sl.r_45, kernelRun0_A.sl.r_17, kernelRun0_A.sl.r_78, kernelRun0_A.sl.r_39, kernelRun0_A.sl.r_118, kernelRun0_A.sl.v510, kernelRun0_A.sl.r_36, kernelRun0_A.sl.r_115, kernelRun0_A.sl.v1162, kernelRun0_A.sl.r_61, kernelRun0_A.sl.v1036, kernelRun0_A.sl.r_19, kernelRun0_A.sl.v153, kernelRun0_A.sl.r_95, kernelRun0_A.sl.r_2, kernelRun0_A.sl.r_16, kernelRun0_A.sl.r_50, kernelRun0_A.sl.r_111, kernelRun0_A.sl.v421, kernelRun0_A.sl.r_38, kernelRun0_A.sl.r_69, kernelRun0_A.sl.v148, kernelRun0_A.sl.r_64, kernelRun0_A.sl.r_21, kernelRun0_A.sl.v500, kernelRun0_A.sl.r_37, kernelRun0_A.sl.r_110, kernelRun0_A.sl.r_9, kernelRun0_A.sl.v2, kernelRun0_A.sl.r_72, kernelRun0_A.sl.r_70, kernelRun0_A.sl.r_89, kernelRun0_A.sl.r_53, kernelRun0_A.sl.r_100, kernelRun0_A.sl.v962, kernelRun0_A.sl.v788, kernelRun0_A.sl.r_71, kernelRun0_A.sl.r_109, kernelRun0_A.sl.v520, kernelRun0_A.sl.v416, kernelRun0_A.sl.r_67, kernelRun0_A.sl.r_32, kernelRun0_A.sl.r_35, kernelRun0_A.sl.r_1, kernelRun0_A.sl.r_96, kernelRun0_A.sl.r_91, kernelRun0_A.sl.v689, kernelRun0_A.sl.r_83, kernelRun0_A.sl.r_73, kernelRun0_A.sl.r_23, kernelRun0_A.sl.r_42, kernelRun0_A.sl.r_56, kernelRun0_A.sl.r_31, kernelRun0_A.sl.r_76, kernelRun0_A.sl.r_57, kernelRun0_A.sl.r_24, kernelRun0_A.sl.r_40, kernelRun0_A.sl.r_120, kernelRun0_A.sl.r_51, kernelRun0_A.sl.r_55, kernelRun0_A.sl.r_20, kernelRun0_A.sl.r_29, kernelRun0_A.sl.r_8, kernelRun0_A.sl.r_75, kernelRun0_A.sl.r_85, kernelRun0_A.sl.v411, kernelRun0_A.sl.r_92, kernelRun0_A.sl.r_90, kernelRun0_A.sl.r_5, kernelRun0_A.sl.r_98, kernelRun0_A.sl.r_10, kernelRun0_A.sl.r_58, kernelRun0_A.sl.r_102, kernelRun0_A.sl.r_7, kernelRun0_A.sl.v1, kernelRun0_A.sl.r_12, kernelRun0_A.sl.r_13, kernelRun0_A.sl.r_63, kernelRun0_A.sl.r, kernelRun0_A.sl.r_79, kernelRun0_A.sl.v778, kernelRun0_A.sl.r_30, kernelRun0_A.sl.r_43, kernelRun0_A.sl.cst_341, kernelRun0_A.sl.v426, kernelRun0_A.sl.v158, kernelRun0_A.sl.r_93, kernelRun0_A.sl.r_14, kernelRun0_A.sl.r_44, kernelRun0_A.sl.v947, kernelRun0_A.sl.r_108, kernelRun0_A.sl.r_46, kernelRun0_A.sl.v0, kernelRun0_A.sl.r_60, kernelRun0_A.sl.r_103, kernelRun0_A.sl.v768, kernelRun0_A.sl.r_54, kernelRun0_A.sl.r_62, kernelRun0_A.sl.r_97, kernelRun0_A.sl.v957, kernelRun0_A.sl.v1046, kernelRun0_A.sl.r_22, kernelRun0_A.sl.r_77, kernelRun0_A.sl.r_116, kernelRun0_A.sl.r_48, kernelRun0_A.sl.r_80, kernelRun0_A.sl.r_66, kernelRun0_A.sl.cst_313, kernelRun0_A.sl.r_59, kernelRun0_A.sl.r_82, kernelRun0_A.sl.v252, kernelRun0_A.sl.r_41, kernelRun0_A.sl.r_25, kernelRun0_A.sl.r_28, kernelRun0_A.sl.v143, kernelRun0_A.sl.r_34, kernelRun0_A.sl.r_101, kernelRun0_A.sl.r_104, kernelRun0_A.sl.r_117, kernelRun0_A.sl.r_99, kernelRun0_A.sl.r_6, kernelRun0_A.sl.r_74, kernelRun0_A.sl.r_113, kernelRun0_A.sl.v242, kernelRun0_A.sl.r_18, kernelRun0_A.sl.r_3, kernelRun0_A.sl.r_107, kernelRun0_A.sl.r_94, kernelRun0_A.sl.v1198, kernelRun0_A.sl.v232, kernelRun0_A.sl.r_65, kernelRun0_A.sl.r_81, kernelRun0_A.sl.r_33, kernelRun0_A.sl.r_15, kernelRun0_A.sl.r_52, kernelRun0_A.sl.v694, kernelRun0_A.sl.r_26, kernelRun0_A.sl.r_105]
  simp only [queries_eq, queries_eq', keys_eq, vals_eq, inside_eq0, inside_eq1, inside_eq2, inside_eq3, across_eq0, across_eq1, across_eq2, across_eq3, gain_eq0, gain_eq1, gain_eq2, gain_eq3, nextState_eq, gated_eq0, gated_eq1, gated_eq2, gated_eq3, View.readAt_eq_ld, Memref.IsWhole.read_unread, ld_whole0]
  simp only [Reads.sweep, Reads.put, Reads.step, Reads.q, Reads.k, Reads.v, readsOf]
  rfl

/-- Chunk 2's stores of the state. -/
theorem stateA_2 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x6144 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x128x128 .f32) (harg7 : arg7.IsWhole) (arg8 : Memref sig .tc .vmem S4x128x1 .f32) (harg8 : arg8.IsWhole) (arg9 : Memref sig .tc .vmem S4x128x1 .f32) (harg9 : arg9.IsWhole) (arg10 : Memref sig .tc .vmem S4x1x1 .f32) (harg10 : arg10.IsWhole) (arg11 : Memref sig .tc .vmem S1x2048 .f32) (harg11 : arg11.IsWhole) (arg12 : Memref sig .tc .vmem S2048x1024 .bf16) (harg12 : arg12.IsWhole) (arg13 : Memref sig .tc .vmem S512x1024 .f32) (harg13 : arg13.IsWhole) (arg14 : Memref sig .tc .vmem S1x4x256x512 .f32) (harg14 : arg14.IsWhole) (arg15 : Memref sig .tc .vmem S512x2048 .bf16) (harg15 : arg15.IsWhole) (hc0 : cond0_0 i)
    (x0 : Vec F S512x1024 .f32) (x1 : Vec F S1x1024 .f32) (x2 : Vec F S1024x6144 .bf16) (x3 : Vec F S512x128 .f32) (x4 : Vec F S512x128 .f32) (x5 : Vec F S4x128x128 .f32) (x6 : Vec F S4x128x1 .f32) (x7 : Vec F S4x128x1 .f32) (x8 : Vec F S4x1x1 .f32) (x9 : Vec F S1x2048 .f32) (x10 : Vec F S2048x1024 .bf16) :
    (kernelRun0_A.sl.H12_13 c arg2 harg2 arg3 harg3 arg4 harg4 arg5 harg5 arg6 harg6 arg9 harg9 arg10 harg10 arg14 x0 x1 x2 x3 x4 x7 x8) = (readsOf x0 x1 x2 x3 x4 x5 x6 x7 x8 x9).sweep arg14.view 2 (kernelRun0_A.sl.H12_9 c arg2 harg2 arg3 harg3 arg4 harg4 arg5 harg5 arg6 harg6 arg9 harg9 arg10 harg10 arg14 x0 x1 x2 x3 x4 x7 x8) := by
  simp only [kernelRun0_A.sl.H12_10, kernelRun0_A.sl.H12_11, kernelRun0_A.sl.H12_12, kernelRun0_A.sl.H12_13, kernelRun0_A.sl.r_47, kernelRun0_A.sl.r_84, kernelRun0_A.sl.r_27, kernelRun0_A.sl.r_88, kernelRun0_A.sl.v679, kernelRun0_A.sl.r_49, kernelRun0_A.sl.r_11, kernelRun0_A.sl.r_4, kernelRun0_A.sl.r_86, kernelRun0_A.sl.v952, kernelRun0_A.sl.r_87, kernelRun0_A.sl.v684, kernelRun0_A.sl.r_112, kernelRun0_A.sl.r_114, kernelRun0_A.sl.r_119, kernelRun0_A.sl.r_106, kernelRun0_A.sl.r_68, kernelRun0_A.sl.v1056, kernelRun0_A.sl.r_45, kernelRun0_A.sl.r_17, kernelRun0_A.sl.r_78, kernelRun0_A.sl.r_39, kernelRun0_A.sl.r_118, kernelRun0_A.sl.v510, kernelRun0_A.sl.r_36, kernelRun0_A.sl.r_115, kernelRun0_A.sl.v1162, kernelRun0_A.sl.r_61, kernelRun0_A.sl.v1036, kernelRun0_A.sl.r_19, kernelRun0_A.sl.v153, kernelRun0_A.sl.r_95, kernelRun0_A.sl.r_2, kernelRun0_A.sl.r_16, kernelRun0_A.sl.r_50, kernelRun0_A.sl.r_111, kernelRun0_A.sl.v421, kernelRun0_A.sl.r_38, kernelRun0_A.sl.r_69, kernelRun0_A.sl.v148, kernelRun0_A.sl.r_64, kernelRun0_A.sl.r_21, kernelRun0_A.sl.v500, kernelRun0_A.sl.r_37, kernelRun0_A.sl.r_110, kernelRun0_A.sl.r_9, kernelRun0_A.sl.v2, kernelRun0_A.sl.r_72, kernelRun0_A.sl.r_70, kernelRun0_A.sl.r_89, kernelRun0_A.sl.r_53, kernelRun0_A.sl.r_100, kernelRun0_A.sl.v962, kernelRun0_A.sl.v788, kernelRun0_A.sl.r_71, kernelRun0_A.sl.r_109, kernelRun0_A.sl.v520, kernelRun0_A.sl.v416, kernelRun0_A.sl.r_67, kernelRun0_A.sl.r_32, kernelRun0_A.sl.r_35, kernelRun0_A.sl.r_1, kernelRun0_A.sl.r_96, kernelRun0_A.sl.r_91, kernelRun0_A.sl.v689, kernelRun0_A.sl.r_83, kernelRun0_A.sl.r_73, kernelRun0_A.sl.r_23, kernelRun0_A.sl.r_42, kernelRun0_A.sl.r_56, kernelRun0_A.sl.r_31, kernelRun0_A.sl.r_76, kernelRun0_A.sl.r_57, kernelRun0_A.sl.r_24, kernelRun0_A.sl.r_40, kernelRun0_A.sl.r_120, kernelRun0_A.sl.r_51, kernelRun0_A.sl.r_55, kernelRun0_A.sl.r_20, kernelRun0_A.sl.r_29, kernelRun0_A.sl.r_8, kernelRun0_A.sl.r_75, kernelRun0_A.sl.r_85, kernelRun0_A.sl.v411, kernelRun0_A.sl.r_92, kernelRun0_A.sl.r_90, kernelRun0_A.sl.r_5, kernelRun0_A.sl.r_98, kernelRun0_A.sl.r_10, kernelRun0_A.sl.r_58, kernelRun0_A.sl.r_102, kernelRun0_A.sl.r_7, kernelRun0_A.sl.v1, kernelRun0_A.sl.r_12, kernelRun0_A.sl.r_13, kernelRun0_A.sl.r_63, kernelRun0_A.sl.r, kernelRun0_A.sl.r_79, kernelRun0_A.sl.v778, kernelRun0_A.sl.r_30, kernelRun0_A.sl.r_43, kernelRun0_A.sl.cst_341, kernelRun0_A.sl.v426, kernelRun0_A.sl.v158, kernelRun0_A.sl.r_93, kernelRun0_A.sl.r_14, kernelRun0_A.sl.r_44, kernelRun0_A.sl.v947, kernelRun0_A.sl.r_108, kernelRun0_A.sl.r_46, kernelRun0_A.sl.v0, kernelRun0_A.sl.r_60, kernelRun0_A.sl.r_103, kernelRun0_A.sl.v768, kernelRun0_A.sl.r_54, kernelRun0_A.sl.r_62, kernelRun0_A.sl.r_97, kernelRun0_A.sl.v957, kernelRun0_A.sl.v1046, kernelRun0_A.sl.r_22, kernelRun0_A.sl.r_77, kernelRun0_A.sl.r_116, kernelRun0_A.sl.r_48, kernelRun0_A.sl.r_80, kernelRun0_A.sl.r_66, kernelRun0_A.sl.cst_313, kernelRun0_A.sl.r_59, kernelRun0_A.sl.r_82, kernelRun0_A.sl.v252, kernelRun0_A.sl.r_41, kernelRun0_A.sl.r_25, kernelRun0_A.sl.r_28, kernelRun0_A.sl.v143, kernelRun0_A.sl.r_34, kernelRun0_A.sl.r_101, kernelRun0_A.sl.r_104, kernelRun0_A.sl.r_117, kernelRun0_A.sl.r_99, kernelRun0_A.sl.r_6, kernelRun0_A.sl.r_74, kernelRun0_A.sl.r_113, kernelRun0_A.sl.v242, kernelRun0_A.sl.r_18, kernelRun0_A.sl.r_3, kernelRun0_A.sl.r_107, kernelRun0_A.sl.r_94, kernelRun0_A.sl.v1198, kernelRun0_A.sl.v232, kernelRun0_A.sl.r_65, kernelRun0_A.sl.r_81, kernelRun0_A.sl.r_33, kernelRun0_A.sl.r_15, kernelRun0_A.sl.r_52, kernelRun0_A.sl.v694, kernelRun0_A.sl.r_26, kernelRun0_A.sl.r_105]
  simp only [queries_eq, queries_eq', keys_eq, vals_eq, inside_eq0, inside_eq1, inside_eq2, inside_eq3, across_eq0, across_eq1, across_eq2, across_eq3, gain_eq0, gain_eq1, gain_eq2, gain_eq3, nextState_eq, gated_eq0, gated_eq1, gated_eq2, gated_eq3, View.readAt_eq_ld, Memref.IsWhole.read_unread, ld_whole0]
  simp only [Reads.sweep, Reads.put, Reads.step, Reads.q, Reads.k, Reads.v, readsOf]
  rfl

/-- Chunk 3's stores of the state. -/
theorem stateA_3 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x6144 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x128x128 .f32) (harg7 : arg7.IsWhole) (arg8 : Memref sig .tc .vmem S4x128x1 .f32) (harg8 : arg8.IsWhole) (arg9 : Memref sig .tc .vmem S4x128x1 .f32) (harg9 : arg9.IsWhole) (arg10 : Memref sig .tc .vmem S4x1x1 .f32) (harg10 : arg10.IsWhole) (arg11 : Memref sig .tc .vmem S1x2048 .f32) (harg11 : arg11.IsWhole) (arg12 : Memref sig .tc .vmem S2048x1024 .bf16) (harg12 : arg12.IsWhole) (arg13 : Memref sig .tc .vmem S512x1024 .f32) (harg13 : arg13.IsWhole) (arg14 : Memref sig .tc .vmem S1x4x256x512 .f32) (harg14 : arg14.IsWhole) (arg15 : Memref sig .tc .vmem S512x2048 .bf16) (harg15 : arg15.IsWhole) (hc0 : cond0_0 i)
    (x0 : Vec F S512x1024 .f32) (x1 : Vec F S1x1024 .f32) (x2 : Vec F S1024x6144 .bf16) (x3 : Vec F S512x128 .f32) (x4 : Vec F S512x128 .f32) (x5 : Vec F S4x128x128 .f32) (x6 : Vec F S4x128x1 .f32) (x7 : Vec F S4x128x1 .f32) (x8 : Vec F S4x1x1 .f32) (x9 : Vec F S1x2048 .f32) (x10 : Vec F S2048x1024 .bf16) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).2.1 = (readsOf x0 x1 x2 x3 x4 x5 x6 x7 x8 x9).sweep arg14.view 3 (kernelRun0_A.sl.H12_13 c arg2 harg2 arg3 harg3 arg4 harg4 arg5 harg5 arg6 harg6 arg9 harg9 arg10 harg10 arg14 x0 x1 x2 x3 x4 x7 x8) := by
  unfold kernelRun0_A
  dsimp only
  simp only [kernelRun0_A.sl.H12_14, kernelRun0_A.sl.H12_15, kernelRun0_A.sl.H12_16, kernelRun0_A.sl.r_47, kernelRun0_A.sl.r_84, kernelRun0_A.sl.r_27, kernelRun0_A.sl.r_88, kernelRun0_A.sl.v679, kernelRun0_A.sl.r_49, kernelRun0_A.sl.r_11, kernelRun0_A.sl.r_4, kernelRun0_A.sl.r_86, kernelRun0_A.sl.v952, kernelRun0_A.sl.r_87, kernelRun0_A.sl.v684, kernelRun0_A.sl.r_112, kernelRun0_A.sl.r_114, kernelRun0_A.sl.r_119, kernelRun0_A.sl.r_106, kernelRun0_A.sl.r_68, kernelRun0_A.sl.v1056, kernelRun0_A.sl.r_45, kernelRun0_A.sl.r_17, kernelRun0_A.sl.r_78, kernelRun0_A.sl.r_39, kernelRun0_A.sl.r_118, kernelRun0_A.sl.v510, kernelRun0_A.sl.r_36, kernelRun0_A.sl.r_115, kernelRun0_A.sl.v1162, kernelRun0_A.sl.r_61, kernelRun0_A.sl.v1036, kernelRun0_A.sl.r_19, kernelRun0_A.sl.v153, kernelRun0_A.sl.r_95, kernelRun0_A.sl.r_2, kernelRun0_A.sl.r_16, kernelRun0_A.sl.r_50, kernelRun0_A.sl.r_111, kernelRun0_A.sl.v421, kernelRun0_A.sl.r_38, kernelRun0_A.sl.r_69, kernelRun0_A.sl.v148, kernelRun0_A.sl.r_64, kernelRun0_A.sl.r_21, kernelRun0_A.sl.v500, kernelRun0_A.sl.r_37, kernelRun0_A.sl.r_110, kernelRun0_A.sl.r_9, kernelRun0_A.sl.v2, kernelRun0_A.sl.r_72, kernelRun0_A.sl.r_70, kernelRun0_A.sl.r_89, kernelRun0_A.sl.r_53, kernelRun0_A.sl.r_100, kernelRun0_A.sl.v962, kernelRun0_A.sl.v788, kernelRun0_A.sl.r_71, kernelRun0_A.sl.r_109, kernelRun0_A.sl.v520, kernelRun0_A.sl.v416, kernelRun0_A.sl.r_67, kernelRun0_A.sl.r_32, kernelRun0_A.sl.r_35, kernelRun0_A.sl.r_1, kernelRun0_A.sl.r_96, kernelRun0_A.sl.r_91, kernelRun0_A.sl.v689, kernelRun0_A.sl.r_83, kernelRun0_A.sl.r_73, kernelRun0_A.sl.r_23, kernelRun0_A.sl.r_42, kernelRun0_A.sl.r_56, kernelRun0_A.sl.r_31, kernelRun0_A.sl.r_76, kernelRun0_A.sl.r_57, kernelRun0_A.sl.r_24, kernelRun0_A.sl.r_40, kernelRun0_A.sl.r_120, kernelRun0_A.sl.r_51, kernelRun0_A.sl.r_55, kernelRun0_A.sl.r_20, kernelRun0_A.sl.r_29, kernelRun0_A.sl.r_8, kernelRun0_A.sl.r_75, kernelRun0_A.sl.r_85, kernelRun0_A.sl.v411, kernelRun0_A.sl.r_92, kernelRun0_A.sl.r_90, kernelRun0_A.sl.r_5, kernelRun0_A.sl.r_98, kernelRun0_A.sl.r_10, kernelRun0_A.sl.r_58, kernelRun0_A.sl.r_102, kernelRun0_A.sl.r_7, kernelRun0_A.sl.v1, kernelRun0_A.sl.r_12, kernelRun0_A.sl.r_13, kernelRun0_A.sl.r_63, kernelRun0_A.sl.r, kernelRun0_A.sl.r_79, kernelRun0_A.sl.v778, kernelRun0_A.sl.r_30, kernelRun0_A.sl.r_43, kernelRun0_A.sl.cst_341, kernelRun0_A.sl.v426, kernelRun0_A.sl.v158, kernelRun0_A.sl.r_93, kernelRun0_A.sl.r_14, kernelRun0_A.sl.r_44, kernelRun0_A.sl.v947, kernelRun0_A.sl.r_108, kernelRun0_A.sl.r_46, kernelRun0_A.sl.v0, kernelRun0_A.sl.r_60, kernelRun0_A.sl.r_103, kernelRun0_A.sl.v768, kernelRun0_A.sl.r_54, kernelRun0_A.sl.r_62, kernelRun0_A.sl.r_97, kernelRun0_A.sl.v957, kernelRun0_A.sl.v1046, kernelRun0_A.sl.r_22, kernelRun0_A.sl.r_77, kernelRun0_A.sl.r_116, kernelRun0_A.sl.r_48, kernelRun0_A.sl.r_80, kernelRun0_A.sl.r_66, kernelRun0_A.sl.cst_313, kernelRun0_A.sl.r_59, kernelRun0_A.sl.r_82, kernelRun0_A.sl.v252, kernelRun0_A.sl.r_41, kernelRun0_A.sl.r_25, kernelRun0_A.sl.r_28, kernelRun0_A.sl.v143, kernelRun0_A.sl.r_34, kernelRun0_A.sl.r_101, kernelRun0_A.sl.r_104, kernelRun0_A.sl.r_117, kernelRun0_A.sl.r_99, kernelRun0_A.sl.r_6, kernelRun0_A.sl.r_74, kernelRun0_A.sl.r_113, kernelRun0_A.sl.v242, kernelRun0_A.sl.r_18, kernelRun0_A.sl.r_3, kernelRun0_A.sl.r_107, kernelRun0_A.sl.r_94, kernelRun0_A.sl.v1198, kernelRun0_A.sl.v232, kernelRun0_A.sl.r_65, kernelRun0_A.sl.r_81, kernelRun0_A.sl.r_33, kernelRun0_A.sl.r_15, kernelRun0_A.sl.r_52, kernelRun0_A.sl.v694, kernelRun0_A.sl.r_26, kernelRun0_A.sl.r_105]
  simp only [queries_eq, queries_eq', keys_eq, vals_eq, inside_eq0, inside_eq1, inside_eq2, inside_eq3, across_eq0, across_eq1, across_eq2, across_eq3, gain_eq0, gain_eq1, gain_eq2, gain_eq3, nextState_eq, gated_eq0, gated_eq1, gated_eq2, gated_eq3, View.readAt_eq_ld, Memref.IsWhole.read_unread, ld_whole0]
  simp only [Reads.sweep, Reads.put, Reads.step, Reads.q, Reads.k, Reads.v, readsOf]
  rfl

/-- The stores of the gated rows, chunk by chunk. -/
theorem gatesA (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x6144 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x128x128 .f32) (harg7 : arg7.IsWhole) (arg8 : Memref sig .tc .vmem S4x128x1 .f32) (harg8 : arg8.IsWhole) (arg9 : Memref sig .tc .vmem S4x128x1 .f32) (harg9 : arg9.IsWhole) (arg10 : Memref sig .tc .vmem S4x1x1 .f32) (harg10 : arg10.IsWhole) (arg11 : Memref sig .tc .vmem S1x2048 .f32) (harg11 : arg11.IsWhole) (arg12 : Memref sig .tc .vmem S2048x1024 .bf16) (harg12 : arg12.IsWhole) (arg13 : Memref sig .tc .vmem S512x1024 .f32) (harg13 : arg13.IsWhole) (arg14 : Memref sig .tc .vmem S1x4x256x512 .f32) (harg14 : arg14.IsWhole) (arg15 : Memref sig .tc .vmem S512x2048 .bf16) (harg15 : arg15.IsWhole) (hc0 : cond0_0 i)
    (x0 : Vec F S512x1024 .f32) (x1 : Vec F S1x1024 .f32) (x2 : Vec F S1024x6144 .bf16) (x3 : Vec F S512x128 .f32) (x4 : Vec F S512x128 .f32) (x5 : Vec F S4x128x128 .f32) (x6 : Vec F S4x128x1 .f32) (x7 : Vec F S4x128x1 .f32) (x8 : Vec F S4x1x1 .f32) (x9 : Vec F S1x2048 .f32) (x10 : Vec F S2048x1024 .bf16) :
    (kernelRun0_A.sl.HS0_16 c arg2 harg2 arg3 harg3 arg4 harg4 arg5 harg5 arg6 harg6 arg7 harg7 arg8 harg8 arg9 harg9 arg10 harg10 arg11 harg11 arg14 x0 x1 x2 x3 x4 x5 x6 x7 x8 x9)
      = ((readsOf x0 x1 x2 x3 x4 x5 x6 x7 x8 x9).gates 3 (fun h => arg14.view.readCov (kernelRun0_A.sl.H12_13 c arg2 harg2 arg3 harg3 arg4 harg4 arg5 harg5 arg6 harg6 arg9 harg9 arg10 harg10 arg14 x0 x1 x2 x3 x4 x7 x8) (headRect h).toLoadRect)
        ((readsOf x0 x1 x2 x3 x4 x5 x6 x7 x8 x9).gates 2 (fun h => arg14.view.readCov (kernelRun0_A.sl.H12_9 c arg2 harg2 arg3 harg3 arg4 harg4 arg5 harg5 arg6 harg6 arg9 harg9 arg10 harg10 arg14 x0 x1 x2 x3 x4 x7 x8) (headRect h).toLoadRect)
        ((readsOf x0 x1 x2 x3 x4 x5 x6 x7 x8 x9).gates 1 (fun h => arg14.view.readCov (kernelRun0_A.sl.H12_5 c arg2 harg2 arg3 harg3 arg4 harg4 arg5 harg5 arg6 harg6 arg9 harg9 arg10 harg10 arg14 x0 x1 x2 x3 x4 x7 x8) (headRect h).toLoadRect)
        ((readsOf x0 x1 x2 x3 x4 x5 x6 x7 x8 x9).gates 0 (fun h => arg14.view.readCov (kernelRun0_A.sl.H12_1 ) (headRect h).toLoadRect)
        [])))) := by
  simp only [kernelRun0_A.sl.HS0_16, kernelRun0_A.sl.r_47, kernelRun0_A.sl.r_84, kernelRun0_A.sl.r_27, kernelRun0_A.sl.r_88, kernelRun0_A.sl.v679, kernelRun0_A.sl.r_49, kernelRun0_A.sl.r_11, kernelRun0_A.sl.r_4, kernelRun0_A.sl.r_86, kernelRun0_A.sl.v952, kernelRun0_A.sl.r_87, kernelRun0_A.sl.v684, kernelRun0_A.sl.r_112, kernelRun0_A.sl.r_114, kernelRun0_A.sl.r_119, kernelRun0_A.sl.r_106, kernelRun0_A.sl.r_68, kernelRun0_A.sl.v1056, kernelRun0_A.sl.r_45, kernelRun0_A.sl.r_17, kernelRun0_A.sl.r_78, kernelRun0_A.sl.r_39, kernelRun0_A.sl.r_118, kernelRun0_A.sl.v510, kernelRun0_A.sl.r_36, kernelRun0_A.sl.r_115, kernelRun0_A.sl.v1162, kernelRun0_A.sl.r_61, kernelRun0_A.sl.v1036, kernelRun0_A.sl.r_19, kernelRun0_A.sl.v153, kernelRun0_A.sl.r_95, kernelRun0_A.sl.r_2, kernelRun0_A.sl.r_16, kernelRun0_A.sl.r_50, kernelRun0_A.sl.r_111, kernelRun0_A.sl.v421, kernelRun0_A.sl.r_38, kernelRun0_A.sl.r_69, kernelRun0_A.sl.v148, kernelRun0_A.sl.r_64, kernelRun0_A.sl.r_21, kernelRun0_A.sl.v500, kernelRun0_A.sl.r_37, kernelRun0_A.sl.r_110, kernelRun0_A.sl.r_9, kernelRun0_A.sl.v2, kernelRun0_A.sl.r_72, kernelRun0_A.sl.r_70, kernelRun0_A.sl.r_89, kernelRun0_A.sl.r_53, kernelRun0_A.sl.r_100, kernelRun0_A.sl.v962, kernelRun0_A.sl.v788, kernelRun0_A.sl.r_71, kernelRun0_A.sl.r_109, kernelRun0_A.sl.v520, kernelRun0_A.sl.v416, kernelRun0_A.sl.r_67, kernelRun0_A.sl.r_32, kernelRun0_A.sl.r_35, kernelRun0_A.sl.r_1, kernelRun0_A.sl.r_96, kernelRun0_A.sl.r_91, kernelRun0_A.sl.v689, kernelRun0_A.sl.r_83, kernelRun0_A.sl.r_73, kernelRun0_A.sl.r_23, kernelRun0_A.sl.r_42, kernelRun0_A.sl.r_56, kernelRun0_A.sl.r_31, kernelRun0_A.sl.r_76, kernelRun0_A.sl.r_57, kernelRun0_A.sl.r_24, kernelRun0_A.sl.r_40, kernelRun0_A.sl.r_120, kernelRun0_A.sl.r_51, kernelRun0_A.sl.r_55, kernelRun0_A.sl.r_20, kernelRun0_A.sl.r_29, kernelRun0_A.sl.r_8, kernelRun0_A.sl.r_75, kernelRun0_A.sl.r_85, kernelRun0_A.sl.v411, kernelRun0_A.sl.r_92, kernelRun0_A.sl.r_90, kernelRun0_A.sl.r_5, kernelRun0_A.sl.r_98, kernelRun0_A.sl.r_10, kernelRun0_A.sl.r_58, kernelRun0_A.sl.r_102, kernelRun0_A.sl.r_7, kernelRun0_A.sl.v1, kernelRun0_A.sl.r_12, kernelRun0_A.sl.r_13, kernelRun0_A.sl.r_63, kernelRun0_A.sl.r, kernelRun0_A.sl.r_79, kernelRun0_A.sl.v778, kernelRun0_A.sl.r_30, kernelRun0_A.sl.r_43, kernelRun0_A.sl.cst_341, kernelRun0_A.sl.v426, kernelRun0_A.sl.v158, kernelRun0_A.sl.r_93, kernelRun0_A.sl.r_14, kernelRun0_A.sl.r_44, kernelRun0_A.sl.v947, kernelRun0_A.sl.r_108, kernelRun0_A.sl.r_46, kernelRun0_A.sl.v0, kernelRun0_A.sl.r_60, kernelRun0_A.sl.r_103, kernelRun0_A.sl.v768, kernelRun0_A.sl.r_54, kernelRun0_A.sl.r_62, kernelRun0_A.sl.r_97, kernelRun0_A.sl.v957, kernelRun0_A.sl.v1046, kernelRun0_A.sl.r_22, kernelRun0_A.sl.r_77, kernelRun0_A.sl.r_116, kernelRun0_A.sl.r_48, kernelRun0_A.sl.r_80, kernelRun0_A.sl.r_66, kernelRun0_A.sl.cst_313, kernelRun0_A.sl.r_59, kernelRun0_A.sl.r_82, kernelRun0_A.sl.v252, kernelRun0_A.sl.r_41, kernelRun0_A.sl.r_25, kernelRun0_A.sl.r_28, kernelRun0_A.sl.v143, kernelRun0_A.sl.r_34, kernelRun0_A.sl.r_101, kernelRun0_A.sl.r_104, kernelRun0_A.sl.r_117, kernelRun0_A.sl.r_99, kernelRun0_A.sl.r_6, kernelRun0_A.sl.r_74, kernelRun0_A.sl.r_113, kernelRun0_A.sl.v242, kernelRun0_A.sl.r_18, kernelRun0_A.sl.r_3, kernelRun0_A.sl.r_107, kernelRun0_A.sl.r_94, kernelRun0_A.sl.v1198, kernelRun0_A.sl.v232, kernelRun0_A.sl.r_65, kernelRun0_A.sl.r_81, kernelRun0_A.sl.r_33, kernelRun0_A.sl.r_15, kernelRun0_A.sl.r_52, kernelRun0_A.sl.v694, kernelRun0_A.sl.r_26, kernelRun0_A.sl.r_105]
  simp only [queries_eq, queries_eq', keys_eq, vals_eq, inside_eq0, inside_eq1, inside_eq2, inside_eq3, across_eq0, across_eq1, across_eq2, across_eq3, gain_eq0, gain_eq1, gain_eq2, gain_eq3, nextState_eq, gated_eq0, gated_eq1, gated_eq2, gated_eq3, View.readAt_eq_ld, Memref.IsWhole.read_unread, ld_whole0]
  simp only [Reads.gates, Reads.out, Reads.q, Reads.k, Reads.v, readsOf]
  rfl

/-! ## The stores of a grid point that finds the state of the one before it -/

/-- Chunk 1's stores of the state. -/
theorem stateB_1 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x6144 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x128x128 .f32) (harg7 : arg7.IsWhole) (arg8 : Memref sig .tc .vmem S4x128x1 .f32) (harg8 : arg8.IsWhole) (arg9 : Memref sig .tc .vmem S4x128x1 .f32) (harg9 : arg9.IsWhole) (arg10 : Memref sig .tc .vmem S4x1x1 .f32) (harg10 : arg10.IsWhole) (arg11 : Memref sig .tc .vmem S1x2048 .f32) (harg11 : arg11.IsWhole) (arg12 : Memref sig .tc .vmem S2048x1024 .bf16) (harg12 : arg12.IsWhole) (arg13 : Memref sig .tc .vmem S512x1024 .f32) (harg13 : arg13.IsWhole) (arg14 : Memref sig .tc .vmem S1x4x256x512 .f32) (harg14 : arg14.IsWhole) (arg15 : Memref sig .tc .vmem S512x2048 .bf16) (harg15 : arg15.IsWhole) (hc0 : ¬cond0_0 i)
    (x0 : Vec F S512x1024 .f32) (x1 : Vec F S1x1024 .f32) (x2 : Vec F S1024x6144 .bf16) (x3 : Vec F S512x128 .f32) (x4 : Vec F S512x128 .f32) (x5 : Vec F S4x128x128 .f32) (x6 : Vec F S4x128x1 .f32) (x7 : Vec F S4x128x1 .f32) (x8 : Vec F S4x1x1 .f32) (x9 : Vec F S1x2048 .f32) (x10 : Vec F S2048x1024 .bf16) (xo12 : Vec F S1x4x256x512 .f32) :
    (kernelRun0_B.sl.H12_8 c arg2 harg2 arg3 harg3 arg4 harg4 arg5 harg5 arg6 harg6 arg9 harg9 arg10 harg10 arg14 harg14 x0 x1 x2 x3 x4 x7 x8 xo12) = (readsOf x0 x1 x2 x3 x4 x5 x6 x7 x8 x9).sweep arg14.view 1 (kernelRun0_B.sl.H12_4 c arg2 harg2 arg3 harg3 arg4 harg4 arg5 harg5 arg6 harg6 arg9 harg9 arg10 harg10 arg14 harg14 x0 x1 x2 x3 x4 x7 x8 xo12) := by
  simp only [kernelRun0_B.sl.H12_5, kernelRun0_B.sl.H12_6, kernelRun0_B.sl.H12_7, kernelRun0_B.sl.H12_8, kernelRun0_B.sl.r_11, kernelRun0_B.sl.r_101, kernelRun0_B.sl.r_110, kernelRun0_B.sl.r_25, kernelRun0_B.sl.r_112, kernelRun0_B.sl.r_41, kernelRun0_B.sl.r_4, kernelRun0_B.sl.v679, kernelRun0_B.sl.r_48, kernelRun0_B.sl.r_8, kernelRun0_B.sl.r_49, kernelRun0_B.sl.v421, kernelRun0_B.sl.v778, kernelRun0_B.sl.r_75, kernelRun0_B.sl.r_97, kernelRun0_B.sl.r_24, kernelRun0_B.sl.r_6, kernelRun0_B.sl.r_20, kernelRun0_B.sl.r_72, kernelRun0_B.sl.r_23, kernelRun0_B.sl.r_5, kernelRun0_B.sl.r_90, kernelRun0_B.sl.r, kernelRun0_B.sl.r_100, kernelRun0_B.sl.r_103, kernelRun0_B.sl.r_29, kernelRun0_B.sl.r_108, kernelRun0_B.sl.r_120, kernelRun0_B.sl.r_22, kernelRun0_B.sl.r_37, kernelRun0_B.sl.r_88, kernelRun0_B.sl.r_67, kernelRun0_B.sl.v962, kernelRun0_B.sl.r_54, kernelRun0_B.sl.r_58, kernelRun0_B.sl.r_45, kernelRun0_B.sl.r_78, kernelRun0_B.sl.r_39, kernelRun0_B.sl.r_53, kernelRun0_B.sl.r_51, kernelRun0_B.sl.r_102, kernelRun0_B.sl.r_70, kernelRun0_B.sl.v1036, kernelRun0_B.sl.r_79, kernelRun0_B.sl.r_82, kernelRun0_B.sl.r_96, kernelRun0_B.sl.r_9, kernelRun0_B.sl.r_15, kernelRun0_B.sl.r_26, kernelRun0_B.sl.v957, kernelRun0_B.sl.r_89, kernelRun0_B.sl.r_65, kernelRun0_B.sl.r_117, kernelRun0_B.sl.r_1, kernelRun0_B.sl.v252, kernelRun0_B.sl.v947, kernelRun0_B.sl.r_99, kernelRun0_B.sl.r_80, kernelRun0_B.sl.r_85, kernelRun0_B.sl.r_18, kernelRun0_B.sl.v694, kernelRun0_B.sl.v684, kernelRun0_B.sl.r_10, kernelRun0_B.sl.r_115, kernelRun0_B.sl.v1198, kernelRun0_B.sl.v1046, kernelRun0_B.sl.r_119, kernelRun0_B.sl.v788, kernelRun0_B.sl.cst_313, kernelRun0_B.sl.r_76, kernelRun0_B.sl.r_2, kernelRun0_B.sl.v1, kernelRun0_B.sl.r_55, kernelRun0_B.sl.r_74, kernelRun0_B.sl.r_43, kernelRun0_B.sl.r_56, kernelRun0_B.sl.r_81, kernelRun0_B.sl.r_66, kernelRun0_B.sl.r_118, kernelRun0_B.sl.v1162, kernelRun0_B.sl.r_68, kernelRun0_B.sl.v768, kernelRun0_B.sl.r_91, kernelRun0_B.sl.v416, kernelRun0_B.sl.v411, kernelRun0_B.sl.r_34, kernelRun0_B.sl.v2, kernelRun0_B.sl.r_19, kernelRun0_B.sl.r_28, kernelRun0_B.sl.r_69, kernelRun0_B.sl.r_84, kernelRun0_B.sl.r_52, kernelRun0_B.sl.r_57, kernelRun0_B.sl.r_42, kernelRun0_B.sl.r_111, kernelRun0_B.sl.r_47, kernelRun0_B.sl.r_21, kernelRun0_B.sl.r_83, kernelRun0_B.sl.v426, kernelRun0_B.sl.v510, kernelRun0_B.sl.cst_341, kernelRun0_B.sl.r_86, kernelRun0_B.sl.r_104, kernelRun0_B.sl.r_77, kernelRun0_B.sl.v1056, kernelRun0_B.sl.r_7, kernelRun0_B.sl.r_94, kernelRun0_B.sl.r_93, kernelRun0_B.sl.r_60, kernelRun0_B.sl.r_35, kernelRun0_B.sl.r_27, kernelRun0_B.sl.r_95, kernelRun0_B.sl.r_71, kernelRun0_B.sl.r_31, kernelRun0_B.sl.r_36, kernelRun0_B.sl.r_14, kernelRun0_B.sl.v500, kernelRun0_B.sl.r_64, kernelRun0_B.sl.r_12, kernelRun0_B.sl.v0, kernelRun0_B.sl.r_116, kernelRun0_B.sl.v232, kernelRun0_B.sl.r_44, kernelRun0_B.sl.r_73, kernelRun0_B.sl.r_17, kernelRun0_B.sl.r_107, kernelRun0_B.sl.r_105, kernelRun0_B.sl.r_33, kernelRun0_B.sl.r_62, kernelRun0_B.sl.r_114, kernelRun0_B.sl.r_16, kernelRun0_B.sl.r_38, kernelRun0_B.sl.r_46, kernelRun0_B.sl.r_63, kernelRun0_B.sl.r_13, kernelRun0_B.sl.r_30, kernelRun0_B.sl.r_106, kernelRun0_B.sl.v952, kernelRun0_B.sl.v689, kernelRun0_B.sl.r_98, kernelRun0_B.sl.r_92, kernelRun0_B.sl.r_61, kernelRun0_B.sl.v520, kernelRun0_B.sl.r_3, kernelRun0_B.sl.r_59, kernelRun0_B.sl.r_113, kernelRun0_B.sl.r_50, kernelRun0_B.sl.v242, kernelRun0_B.sl.r_109, kernelRun0_B.sl.r_32, kernelRun0_B.sl.r_40, kernelRun0_B.sl.r_87]
  simp only [queries_eq, queries_eq', keys_eq, vals_eq, inside_eq0, inside_eq1, inside_eq2, inside_eq3, across_eq0, across_eq1, across_eq2, across_eq3, gain_eq0, gain_eq1, gain_eq2, gain_eq3, nextState_eq, gated_eq0, gated_eq1, gated_eq2, gated_eq3, View.readAt_eq_ld, Memref.IsWhole.read_unread, ld_whole0]
  simp only [Reads.sweep, Reads.put, Reads.step, Reads.q, Reads.k, Reads.v, readsOf]
  rfl

/-- Chunk 2's stores of the state. -/
theorem stateB_2 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x6144 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x128x128 .f32) (harg7 : arg7.IsWhole) (arg8 : Memref sig .tc .vmem S4x128x1 .f32) (harg8 : arg8.IsWhole) (arg9 : Memref sig .tc .vmem S4x128x1 .f32) (harg9 : arg9.IsWhole) (arg10 : Memref sig .tc .vmem S4x1x1 .f32) (harg10 : arg10.IsWhole) (arg11 : Memref sig .tc .vmem S1x2048 .f32) (harg11 : arg11.IsWhole) (arg12 : Memref sig .tc .vmem S2048x1024 .bf16) (harg12 : arg12.IsWhole) (arg13 : Memref sig .tc .vmem S512x1024 .f32) (harg13 : arg13.IsWhole) (arg14 : Memref sig .tc .vmem S1x4x256x512 .f32) (harg14 : arg14.IsWhole) (arg15 : Memref sig .tc .vmem S512x2048 .bf16) (harg15 : arg15.IsWhole) (hc0 : ¬cond0_0 i)
    (x0 : Vec F S512x1024 .f32) (x1 : Vec F S1x1024 .f32) (x2 : Vec F S1024x6144 .bf16) (x3 : Vec F S512x128 .f32) (x4 : Vec F S512x128 .f32) (x5 : Vec F S4x128x128 .f32) (x6 : Vec F S4x128x1 .f32) (x7 : Vec F S4x128x1 .f32) (x8 : Vec F S4x1x1 .f32) (x9 : Vec F S1x2048 .f32) (x10 : Vec F S2048x1024 .bf16) (xo12 : Vec F S1x4x256x512 .f32) :
    (kernelRun0_B.sl.H12_12 c arg2 harg2 arg3 harg3 arg4 harg4 arg5 harg5 arg6 harg6 arg9 harg9 arg10 harg10 arg14 harg14 x0 x1 x2 x3 x4 x7 x8 xo12) = (readsOf x0 x1 x2 x3 x4 x5 x6 x7 x8 x9).sweep arg14.view 2 (kernelRun0_B.sl.H12_8 c arg2 harg2 arg3 harg3 arg4 harg4 arg5 harg5 arg6 harg6 arg9 harg9 arg10 harg10 arg14 harg14 x0 x1 x2 x3 x4 x7 x8 xo12) := by
  simp only [kernelRun0_B.sl.H12_9, kernelRun0_B.sl.H12_10, kernelRun0_B.sl.H12_11, kernelRun0_B.sl.H12_12, kernelRun0_B.sl.r_11, kernelRun0_B.sl.r_101, kernelRun0_B.sl.r_110, kernelRun0_B.sl.r_25, kernelRun0_B.sl.r_112, kernelRun0_B.sl.r_41, kernelRun0_B.sl.r_4, kernelRun0_B.sl.v679, kernelRun0_B.sl.r_48, kernelRun0_B.sl.r_8, kernelRun0_B.sl.r_49, kernelRun0_B.sl.v421, kernelRun0_B.sl.v778, kernelRun0_B.sl.r_75, kernelRun0_B.sl.r_97, kernelRun0_B.sl.r_24, kernelRun0_B.sl.r_6, kernelRun0_B.sl.r_20, kernelRun0_B.sl.r_72, kernelRun0_B.sl.r_23, kernelRun0_B.sl.r_5, kernelRun0_B.sl.r_90, kernelRun0_B.sl.r, kernelRun0_B.sl.r_100, kernelRun0_B.sl.r_103, kernelRun0_B.sl.r_29, kernelRun0_B.sl.r_108, kernelRun0_B.sl.r_120, kernelRun0_B.sl.r_22, kernelRun0_B.sl.r_37, kernelRun0_B.sl.r_88, kernelRun0_B.sl.r_67, kernelRun0_B.sl.v962, kernelRun0_B.sl.r_54, kernelRun0_B.sl.r_58, kernelRun0_B.sl.r_45, kernelRun0_B.sl.r_78, kernelRun0_B.sl.r_39, kernelRun0_B.sl.r_53, kernelRun0_B.sl.r_51, kernelRun0_B.sl.r_102, kernelRun0_B.sl.r_70, kernelRun0_B.sl.v1036, kernelRun0_B.sl.r_79, kernelRun0_B.sl.r_82, kernelRun0_B.sl.r_96, kernelRun0_B.sl.r_9, kernelRun0_B.sl.r_15, kernelRun0_B.sl.r_26, kernelRun0_B.sl.v957, kernelRun0_B.sl.r_89, kernelRun0_B.sl.r_65, kernelRun0_B.sl.r_117, kernelRun0_B.sl.r_1, kernelRun0_B.sl.v252, kernelRun0_B.sl.v947, kernelRun0_B.sl.r_99, kernelRun0_B.sl.r_80, kernelRun0_B.sl.r_85, kernelRun0_B.sl.r_18, kernelRun0_B.sl.v694, kernelRun0_B.sl.v684, kernelRun0_B.sl.r_10, kernelRun0_B.sl.r_115, kernelRun0_B.sl.v1198, kernelRun0_B.sl.v1046, kernelRun0_B.sl.r_119, kernelRun0_B.sl.v788, kernelRun0_B.sl.cst_313, kernelRun0_B.sl.r_76, kernelRun0_B.sl.r_2, kernelRun0_B.sl.v1, kernelRun0_B.sl.r_55, kernelRun0_B.sl.r_74, kernelRun0_B.sl.r_43, kernelRun0_B.sl.r_56, kernelRun0_B.sl.r_81, kernelRun0_B.sl.r_66, kernelRun0_B.sl.r_118, kernelRun0_B.sl.v1162, kernelRun0_B.sl.r_68, kernelRun0_B.sl.v768, kernelRun0_B.sl.r_91, kernelRun0_B.sl.v416, kernelRun0_B.sl.v411, kernelRun0_B.sl.r_34, kernelRun0_B.sl.v2, kernelRun0_B.sl.r_19, kernelRun0_B.sl.r_28, kernelRun0_B.sl.r_69, kernelRun0_B.sl.r_84, kernelRun0_B.sl.r_52, kernelRun0_B.sl.r_57, kernelRun0_B.sl.r_42, kernelRun0_B.sl.r_111, kernelRun0_B.sl.r_47, kernelRun0_B.sl.r_21, kernelRun0_B.sl.r_83, kernelRun0_B.sl.v426, kernelRun0_B.sl.v510, kernelRun0_B.sl.cst_341, kernelRun0_B.sl.r_86, kernelRun0_B.sl.r_104, kernelRun0_B.sl.r_77, kernelRun0_B.sl.v1056, kernelRun0_B.sl.r_7, kernelRun0_B.sl.r_94, kernelRun0_B.sl.r_93, kernelRun0_B.sl.r_60, kernelRun0_B.sl.r_35, kernelRun0_B.sl.r_27, kernelRun0_B.sl.r_95, kernelRun0_B.sl.r_71, kernelRun0_B.sl.r_31, kernelRun0_B.sl.r_36, kernelRun0_B.sl.r_14, kernelRun0_B.sl.v500, kernelRun0_B.sl.r_64, kernelRun0_B.sl.r_12, kernelRun0_B.sl.v0, kernelRun0_B.sl.r_116, kernelRun0_B.sl.v232, kernelRun0_B.sl.r_44, kernelRun0_B.sl.r_73, kernelRun0_B.sl.r_17, kernelRun0_B.sl.r_107, kernelRun0_B.sl.r_105, kernelRun0_B.sl.r_33, kernelRun0_B.sl.r_62, kernelRun0_B.sl.r_114, kernelRun0_B.sl.r_16, kernelRun0_B.sl.r_38, kernelRun0_B.sl.r_46, kernelRun0_B.sl.r_63, kernelRun0_B.sl.r_13, kernelRun0_B.sl.r_30, kernelRun0_B.sl.r_106, kernelRun0_B.sl.v952, kernelRun0_B.sl.v689, kernelRun0_B.sl.r_98, kernelRun0_B.sl.r_92, kernelRun0_B.sl.r_61, kernelRun0_B.sl.v520, kernelRun0_B.sl.r_3, kernelRun0_B.sl.r_59, kernelRun0_B.sl.r_113, kernelRun0_B.sl.r_50, kernelRun0_B.sl.v242, kernelRun0_B.sl.r_109, kernelRun0_B.sl.r_32, kernelRun0_B.sl.r_40, kernelRun0_B.sl.r_87]
  simp only [queries_eq, queries_eq', keys_eq, vals_eq, inside_eq0, inside_eq1, inside_eq2, inside_eq3, across_eq0, across_eq1, across_eq2, across_eq3, gain_eq0, gain_eq1, gain_eq2, gain_eq3, nextState_eq, gated_eq0, gated_eq1, gated_eq2, gated_eq3, View.readAt_eq_ld, Memref.IsWhole.read_unread, ld_whole0]
  simp only [Reads.sweep, Reads.put, Reads.step, Reads.q, Reads.k, Reads.v, readsOf]
  rfl

/-- Chunk 3's stores of the state. -/
theorem stateB_3 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x6144 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x128x128 .f32) (harg7 : arg7.IsWhole) (arg8 : Memref sig .tc .vmem S4x128x1 .f32) (harg8 : arg8.IsWhole) (arg9 : Memref sig .tc .vmem S4x128x1 .f32) (harg9 : arg9.IsWhole) (arg10 : Memref sig .tc .vmem S4x1x1 .f32) (harg10 : arg10.IsWhole) (arg11 : Memref sig .tc .vmem S1x2048 .f32) (harg11 : arg11.IsWhole) (arg12 : Memref sig .tc .vmem S2048x1024 .bf16) (harg12 : arg12.IsWhole) (arg13 : Memref sig .tc .vmem S512x1024 .f32) (harg13 : arg13.IsWhole) (arg14 : Memref sig .tc .vmem S1x4x256x512 .f32) (harg14 : arg14.IsWhole) (arg15 : Memref sig .tc .vmem S512x2048 .bf16) (harg15 : arg15.IsWhole) (hc0 : ¬cond0_0 i)
    (x0 : Vec F S512x1024 .f32) (x1 : Vec F S1x1024 .f32) (x2 : Vec F S1024x6144 .bf16) (x3 : Vec F S512x128 .f32) (x4 : Vec F S512x128 .f32) (x5 : Vec F S4x128x128 .f32) (x6 : Vec F S4x128x1 .f32) (x7 : Vec F S4x128x1 .f32) (x8 : Vec F S4x1x1 .f32) (x9 : Vec F S1x2048 .f32) (x10 : Vec F S2048x1024 .bf16) (xo12 : Vec F S1x4x256x512 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xo12).2.1 = (readsOf x0 x1 x2 x3 x4 x5 x6 x7 x8 x9).sweep arg14.view 3 (kernelRun0_B.sl.H12_12 c arg2 harg2 arg3 harg3 arg4 harg4 arg5 harg5 arg6 harg6 arg9 harg9 arg10 harg10 arg14 harg14 x0 x1 x2 x3 x4 x7 x8 xo12) := by
  unfold kernelRun0_B
  dsimp only
  simp only [kernelRun0_B.sl.H12_13, kernelRun0_B.sl.H12_14, kernelRun0_B.sl.H12_15, kernelRun0_B.sl.r_11, kernelRun0_B.sl.r_101, kernelRun0_B.sl.r_110, kernelRun0_B.sl.r_25, kernelRun0_B.sl.r_112, kernelRun0_B.sl.r_41, kernelRun0_B.sl.r_4, kernelRun0_B.sl.v679, kernelRun0_B.sl.r_48, kernelRun0_B.sl.r_8, kernelRun0_B.sl.r_49, kernelRun0_B.sl.v421, kernelRun0_B.sl.v778, kernelRun0_B.sl.r_75, kernelRun0_B.sl.r_97, kernelRun0_B.sl.r_24, kernelRun0_B.sl.r_6, kernelRun0_B.sl.r_20, kernelRun0_B.sl.r_72, kernelRun0_B.sl.r_23, kernelRun0_B.sl.r_5, kernelRun0_B.sl.r_90, kernelRun0_B.sl.r, kernelRun0_B.sl.r_100, kernelRun0_B.sl.r_103, kernelRun0_B.sl.r_29, kernelRun0_B.sl.r_108, kernelRun0_B.sl.r_120, kernelRun0_B.sl.r_22, kernelRun0_B.sl.r_37, kernelRun0_B.sl.r_88, kernelRun0_B.sl.r_67, kernelRun0_B.sl.v962, kernelRun0_B.sl.r_54, kernelRun0_B.sl.r_58, kernelRun0_B.sl.r_45, kernelRun0_B.sl.r_78, kernelRun0_B.sl.r_39, kernelRun0_B.sl.r_53, kernelRun0_B.sl.r_51, kernelRun0_B.sl.r_102, kernelRun0_B.sl.r_70, kernelRun0_B.sl.v1036, kernelRun0_B.sl.r_79, kernelRun0_B.sl.r_82, kernelRun0_B.sl.r_96, kernelRun0_B.sl.r_9, kernelRun0_B.sl.r_15, kernelRun0_B.sl.r_26, kernelRun0_B.sl.v957, kernelRun0_B.sl.r_89, kernelRun0_B.sl.r_65, kernelRun0_B.sl.r_117, kernelRun0_B.sl.r_1, kernelRun0_B.sl.v252, kernelRun0_B.sl.v947, kernelRun0_B.sl.r_99, kernelRun0_B.sl.r_80, kernelRun0_B.sl.r_85, kernelRun0_B.sl.r_18, kernelRun0_B.sl.v694, kernelRun0_B.sl.v684, kernelRun0_B.sl.r_10, kernelRun0_B.sl.r_115, kernelRun0_B.sl.v1198, kernelRun0_B.sl.v1046, kernelRun0_B.sl.r_119, kernelRun0_B.sl.v788, kernelRun0_B.sl.cst_313, kernelRun0_B.sl.r_76, kernelRun0_B.sl.r_2, kernelRun0_B.sl.v1, kernelRun0_B.sl.r_55, kernelRun0_B.sl.r_74, kernelRun0_B.sl.r_43, kernelRun0_B.sl.r_56, kernelRun0_B.sl.r_81, kernelRun0_B.sl.r_66, kernelRun0_B.sl.r_118, kernelRun0_B.sl.v1162, kernelRun0_B.sl.r_68, kernelRun0_B.sl.v768, kernelRun0_B.sl.r_91, kernelRun0_B.sl.v416, kernelRun0_B.sl.v411, kernelRun0_B.sl.r_34, kernelRun0_B.sl.v2, kernelRun0_B.sl.r_19, kernelRun0_B.sl.r_28, kernelRun0_B.sl.r_69, kernelRun0_B.sl.r_84, kernelRun0_B.sl.r_52, kernelRun0_B.sl.r_57, kernelRun0_B.sl.r_42, kernelRun0_B.sl.r_111, kernelRun0_B.sl.r_47, kernelRun0_B.sl.r_21, kernelRun0_B.sl.r_83, kernelRun0_B.sl.v426, kernelRun0_B.sl.v510, kernelRun0_B.sl.cst_341, kernelRun0_B.sl.r_86, kernelRun0_B.sl.r_104, kernelRun0_B.sl.r_77, kernelRun0_B.sl.v1056, kernelRun0_B.sl.r_7, kernelRun0_B.sl.r_94, kernelRun0_B.sl.r_93, kernelRun0_B.sl.r_60, kernelRun0_B.sl.r_35, kernelRun0_B.sl.r_27, kernelRun0_B.sl.r_95, kernelRun0_B.sl.r_71, kernelRun0_B.sl.r_31, kernelRun0_B.sl.r_36, kernelRun0_B.sl.r_14, kernelRun0_B.sl.v500, kernelRun0_B.sl.r_64, kernelRun0_B.sl.r_12, kernelRun0_B.sl.v0, kernelRun0_B.sl.r_116, kernelRun0_B.sl.v232, kernelRun0_B.sl.r_44, kernelRun0_B.sl.r_73, kernelRun0_B.sl.r_17, kernelRun0_B.sl.r_107, kernelRun0_B.sl.r_105, kernelRun0_B.sl.r_33, kernelRun0_B.sl.r_62, kernelRun0_B.sl.r_114, kernelRun0_B.sl.r_16, kernelRun0_B.sl.r_38, kernelRun0_B.sl.r_46, kernelRun0_B.sl.r_63, kernelRun0_B.sl.r_13, kernelRun0_B.sl.r_30, kernelRun0_B.sl.r_106, kernelRun0_B.sl.v952, kernelRun0_B.sl.v689, kernelRun0_B.sl.r_98, kernelRun0_B.sl.r_92, kernelRun0_B.sl.r_61, kernelRun0_B.sl.v520, kernelRun0_B.sl.r_3, kernelRun0_B.sl.r_59, kernelRun0_B.sl.r_113, kernelRun0_B.sl.r_50, kernelRun0_B.sl.v242, kernelRun0_B.sl.r_109, kernelRun0_B.sl.r_32, kernelRun0_B.sl.r_40, kernelRun0_B.sl.r_87]
  simp only [queries_eq, queries_eq', keys_eq, vals_eq, inside_eq0, inside_eq1, inside_eq2, inside_eq3, across_eq0, across_eq1, across_eq2, across_eq3, gain_eq0, gain_eq1, gain_eq2, gain_eq3, nextState_eq, gated_eq0, gated_eq1, gated_eq2, gated_eq3, View.readAt_eq_ld, Memref.IsWhole.read_unread, ld_whole0]
  simp only [Reads.sweep, Reads.put, Reads.step, Reads.q, Reads.k, Reads.v, readsOf]
  rfl

/-- Chunk 0's stores of the state. -/
theorem stateB_0 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x6144 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x128x128 .f32) (harg7 : arg7.IsWhole) (arg8 : Memref sig .tc .vmem S4x128x1 .f32) (harg8 : arg8.IsWhole) (arg9 : Memref sig .tc .vmem S4x128x1 .f32) (harg9 : arg9.IsWhole) (arg10 : Memref sig .tc .vmem S4x1x1 .f32) (harg10 : arg10.IsWhole) (arg11 : Memref sig .tc .vmem S1x2048 .f32) (harg11 : arg11.IsWhole) (arg12 : Memref sig .tc .vmem S2048x1024 .bf16) (harg12 : arg12.IsWhole) (arg13 : Memref sig .tc .vmem S512x1024 .f32) (harg13 : arg13.IsWhole) (arg14 : Memref sig .tc .vmem S1x4x256x512 .f32) (harg14 : arg14.IsWhole) (arg15 : Memref sig .tc .vmem S512x2048 .bf16) (harg15 : arg15.IsWhole) (hc0 : ¬cond0_0 i)
    (x0 : Vec F S512x1024 .f32) (x1 : Vec F S1x1024 .f32) (x2 : Vec F S1024x6144 .bf16) (x3 : Vec F S512x128 .f32) (x4 : Vec F S512x128 .f32) (x5 : Vec F S4x128x128 .f32) (x6 : Vec F S4x128x1 .f32) (x7 : Vec F S4x128x1 .f32) (x8 : Vec F S4x1x1 .f32) (x9 : Vec F S1x2048 .f32) (x10 : Vec F S2048x1024 .bf16) (xo12 : Vec F S1x4x256x512 .f32) :
    (kernelRun0_B.sl.H12_4 c arg2 harg2 arg3 harg3 arg4 harg4 arg5 harg5 arg6 harg6 arg9 harg9 arg10 harg10 arg14 harg14 x0 x1 x2 x3 x4 x7 x8 xo12) = (readsOf x0 x1 x2 x3 x4 x5 x6 x7 x8 x9).start fun h => View.ld xo12 (headRect h) := by
  simp only [kernelRun0_B.sl.H12_4, kernelRun0_B.sl.r_11, kernelRun0_B.sl.r_101, kernelRun0_B.sl.r_110, kernelRun0_B.sl.r_25, kernelRun0_B.sl.r_112, kernelRun0_B.sl.r_41, kernelRun0_B.sl.r_4, kernelRun0_B.sl.v679, kernelRun0_B.sl.r_48, kernelRun0_B.sl.r_8, kernelRun0_B.sl.r_49, kernelRun0_B.sl.v421, kernelRun0_B.sl.v778, kernelRun0_B.sl.r_75, kernelRun0_B.sl.r_97, kernelRun0_B.sl.r_24, kernelRun0_B.sl.r_6, kernelRun0_B.sl.r_20, kernelRun0_B.sl.r_72, kernelRun0_B.sl.r_23, kernelRun0_B.sl.r_5, kernelRun0_B.sl.r_90, kernelRun0_B.sl.r, kernelRun0_B.sl.r_100, kernelRun0_B.sl.r_103, kernelRun0_B.sl.r_29, kernelRun0_B.sl.r_108, kernelRun0_B.sl.r_120, kernelRun0_B.sl.r_22, kernelRun0_B.sl.r_37, kernelRun0_B.sl.r_88, kernelRun0_B.sl.r_67, kernelRun0_B.sl.v962, kernelRun0_B.sl.r_54, kernelRun0_B.sl.r_58, kernelRun0_B.sl.r_45, kernelRun0_B.sl.r_78, kernelRun0_B.sl.r_39, kernelRun0_B.sl.r_53, kernelRun0_B.sl.r_51, kernelRun0_B.sl.r_102, kernelRun0_B.sl.r_70, kernelRun0_B.sl.v1036, kernelRun0_B.sl.r_79, kernelRun0_B.sl.r_82, kernelRun0_B.sl.r_96, kernelRun0_B.sl.r_9, kernelRun0_B.sl.r_15, kernelRun0_B.sl.r_26, kernelRun0_B.sl.v957, kernelRun0_B.sl.r_89, kernelRun0_B.sl.r_65, kernelRun0_B.sl.r_117, kernelRun0_B.sl.r_1, kernelRun0_B.sl.v252, kernelRun0_B.sl.v947, kernelRun0_B.sl.r_99, kernelRun0_B.sl.r_80, kernelRun0_B.sl.r_85, kernelRun0_B.sl.r_18, kernelRun0_B.sl.v694, kernelRun0_B.sl.v684, kernelRun0_B.sl.r_10, kernelRun0_B.sl.r_115, kernelRun0_B.sl.v1198, kernelRun0_B.sl.v1046, kernelRun0_B.sl.r_119, kernelRun0_B.sl.v788, kernelRun0_B.sl.cst_313, kernelRun0_B.sl.r_76, kernelRun0_B.sl.r_2, kernelRun0_B.sl.v1, kernelRun0_B.sl.r_55, kernelRun0_B.sl.r_74, kernelRun0_B.sl.r_43, kernelRun0_B.sl.r_56, kernelRun0_B.sl.r_81, kernelRun0_B.sl.r_66, kernelRun0_B.sl.r_118, kernelRun0_B.sl.v1162, kernelRun0_B.sl.r_68, kernelRun0_B.sl.v768, kernelRun0_B.sl.r_91, kernelRun0_B.sl.v416, kernelRun0_B.sl.v411, kernelRun0_B.sl.r_34, kernelRun0_B.sl.v2, kernelRun0_B.sl.r_19, kernelRun0_B.sl.r_28, kernelRun0_B.sl.r_69, kernelRun0_B.sl.r_84, kernelRun0_B.sl.r_52, kernelRun0_B.sl.r_57, kernelRun0_B.sl.r_42, kernelRun0_B.sl.r_111, kernelRun0_B.sl.r_47, kernelRun0_B.sl.r_21, kernelRun0_B.sl.r_83, kernelRun0_B.sl.v426, kernelRun0_B.sl.v510, kernelRun0_B.sl.cst_341, kernelRun0_B.sl.r_86, kernelRun0_B.sl.r_104, kernelRun0_B.sl.r_77, kernelRun0_B.sl.v1056, kernelRun0_B.sl.r_7, kernelRun0_B.sl.r_94, kernelRun0_B.sl.r_93, kernelRun0_B.sl.r_60, kernelRun0_B.sl.r_35, kernelRun0_B.sl.r_27, kernelRun0_B.sl.r_95, kernelRun0_B.sl.r_71, kernelRun0_B.sl.r_31, kernelRun0_B.sl.r_36, kernelRun0_B.sl.r_14, kernelRun0_B.sl.v500, kernelRun0_B.sl.r_64, kernelRun0_B.sl.r_12, kernelRun0_B.sl.v0, kernelRun0_B.sl.r_116, kernelRun0_B.sl.v232, kernelRun0_B.sl.r_44, kernelRun0_B.sl.r_73, kernelRun0_B.sl.r_17, kernelRun0_B.sl.r_107, kernelRun0_B.sl.r_105, kernelRun0_B.sl.r_33, kernelRun0_B.sl.r_62, kernelRun0_B.sl.r_114, kernelRun0_B.sl.r_16, kernelRun0_B.sl.r_38, kernelRun0_B.sl.r_46, kernelRun0_B.sl.r_63, kernelRun0_B.sl.r_13, kernelRun0_B.sl.r_30, kernelRun0_B.sl.r_106, kernelRun0_B.sl.v952, kernelRun0_B.sl.v689, kernelRun0_B.sl.r_98, kernelRun0_B.sl.r_92, kernelRun0_B.sl.r_61, kernelRun0_B.sl.v520, kernelRun0_B.sl.r_3, kernelRun0_B.sl.r_59, kernelRun0_B.sl.r_113, kernelRun0_B.sl.r_50, kernelRun0_B.sl.v242, kernelRun0_B.sl.r_109, kernelRun0_B.sl.r_32, kernelRun0_B.sl.r_40, kernelRun0_B.sl.r_87]
  simp only [queries_eq, queries_eq', keys_eq, vals_eq, inside_eq0, inside_eq1, inside_eq2, inside_eq3, across_eq0, across_eq1, across_eq2, across_eq3, gain_eq0, gain_eq1, gain_eq2, gain_eq3, nextState_eq, gated_eq0, gated_eq1, gated_eq2, gated_eq3, View.readAt_eq_ld, Memref.IsWhole.read_unread, ld_whole0]
  simp only [Reads.start, Reads.step, Reads.q, Reads.k, Reads.v, readsOf]
  rfl

/-- The stores of the gated rows, chunk by chunk. -/
theorem gatesB (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x6144 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x128x128 .f32) (harg7 : arg7.IsWhole) (arg8 : Memref sig .tc .vmem S4x128x1 .f32) (harg8 : arg8.IsWhole) (arg9 : Memref sig .tc .vmem S4x128x1 .f32) (harg9 : arg9.IsWhole) (arg10 : Memref sig .tc .vmem S4x1x1 .f32) (harg10 : arg10.IsWhole) (arg11 : Memref sig .tc .vmem S1x2048 .f32) (harg11 : arg11.IsWhole) (arg12 : Memref sig .tc .vmem S2048x1024 .bf16) (harg12 : arg12.IsWhole) (arg13 : Memref sig .tc .vmem S512x1024 .f32) (harg13 : arg13.IsWhole) (arg14 : Memref sig .tc .vmem S1x4x256x512 .f32) (harg14 : arg14.IsWhole) (arg15 : Memref sig .tc .vmem S512x2048 .bf16) (harg15 : arg15.IsWhole) (hc0 : ¬cond0_0 i)
    (x0 : Vec F S512x1024 .f32) (x1 : Vec F S1x1024 .f32) (x2 : Vec F S1024x6144 .bf16) (x3 : Vec F S512x128 .f32) (x4 : Vec F S512x128 .f32) (x5 : Vec F S4x128x128 .f32) (x6 : Vec F S4x128x1 .f32) (x7 : Vec F S4x128x1 .f32) (x8 : Vec F S4x1x1 .f32) (x9 : Vec F S1x2048 .f32) (x10 : Vec F S2048x1024 .bf16) (xo12 : Vec F S1x4x256x512 .f32) :
    (kernelRun0_B.sl.HS0_16 c arg2 harg2 arg3 harg3 arg4 harg4 arg5 harg5 arg6 harg6 arg7 harg7 arg8 harg8 arg9 harg9 arg10 harg10 arg11 harg11 arg14 harg14 x0 x1 x2 x3 x4 x5 x6 x7 x8 x9 xo12)
      = ((readsOf x0 x1 x2 x3 x4 x5 x6 x7 x8 x9).gates 3 (fun h => arg14.view.readCov (kernelRun0_B.sl.H12_12 c arg2 harg2 arg3 harg3 arg4 harg4 arg5 harg5 arg6 harg6 arg9 harg9 arg10 harg10 arg14 harg14 x0 x1 x2 x3 x4 x7 x8 xo12) (headRect h).toLoadRect)
        ((readsOf x0 x1 x2 x3 x4 x5 x6 x7 x8 x9).gates 2 (fun h => arg14.view.readCov (kernelRun0_B.sl.H12_8 c arg2 harg2 arg3 harg3 arg4 harg4 arg5 harg5 arg6 harg6 arg9 harg9 arg10 harg10 arg14 harg14 x0 x1 x2 x3 x4 x7 x8 xo12) (headRect h).toLoadRect)
        ((readsOf x0 x1 x2 x3 x4 x5 x6 x7 x8 x9).gates 1 (fun h => arg14.view.readCov (kernelRun0_B.sl.H12_4 c arg2 harg2 arg3 harg3 arg4 harg4 arg5 harg5 arg6 harg6 arg9 harg9 arg10 harg10 arg14 harg14 x0 x1 x2 x3 x4 x7 x8 xo12) (headRect h).toLoadRect)
        ((readsOf x0 x1 x2 x3 x4 x5 x6 x7 x8 x9).gates 0 (fun h => View.ld xo12 (headRect h))
        [])))) := by
  simp only [kernelRun0_B.sl.HS0_16, kernelRun0_B.sl.r_11, kernelRun0_B.sl.r_101, kernelRun0_B.sl.r_110, kernelRun0_B.sl.r_25, kernelRun0_B.sl.r_112, kernelRun0_B.sl.r_41, kernelRun0_B.sl.r_4, kernelRun0_B.sl.v679, kernelRun0_B.sl.r_48, kernelRun0_B.sl.r_8, kernelRun0_B.sl.r_49, kernelRun0_B.sl.v421, kernelRun0_B.sl.v778, kernelRun0_B.sl.r_75, kernelRun0_B.sl.r_97, kernelRun0_B.sl.r_24, kernelRun0_B.sl.r_6, kernelRun0_B.sl.r_20, kernelRun0_B.sl.r_72, kernelRun0_B.sl.r_23, kernelRun0_B.sl.r_5, kernelRun0_B.sl.r_90, kernelRun0_B.sl.r, kernelRun0_B.sl.r_100, kernelRun0_B.sl.r_103, kernelRun0_B.sl.r_29, kernelRun0_B.sl.r_108, kernelRun0_B.sl.r_120, kernelRun0_B.sl.r_22, kernelRun0_B.sl.r_37, kernelRun0_B.sl.r_88, kernelRun0_B.sl.r_67, kernelRun0_B.sl.v962, kernelRun0_B.sl.r_54, kernelRun0_B.sl.r_58, kernelRun0_B.sl.r_45, kernelRun0_B.sl.r_78, kernelRun0_B.sl.r_39, kernelRun0_B.sl.r_53, kernelRun0_B.sl.r_51, kernelRun0_B.sl.r_102, kernelRun0_B.sl.r_70, kernelRun0_B.sl.v1036, kernelRun0_B.sl.r_79, kernelRun0_B.sl.r_82, kernelRun0_B.sl.r_96, kernelRun0_B.sl.r_9, kernelRun0_B.sl.r_15, kernelRun0_B.sl.r_26, kernelRun0_B.sl.v957, kernelRun0_B.sl.r_89, kernelRun0_B.sl.r_65, kernelRun0_B.sl.r_117, kernelRun0_B.sl.r_1, kernelRun0_B.sl.v252, kernelRun0_B.sl.v947, kernelRun0_B.sl.r_99, kernelRun0_B.sl.r_80, kernelRun0_B.sl.r_85, kernelRun0_B.sl.r_18, kernelRun0_B.sl.v694, kernelRun0_B.sl.v684, kernelRun0_B.sl.r_10, kernelRun0_B.sl.r_115, kernelRun0_B.sl.v1198, kernelRun0_B.sl.v1046, kernelRun0_B.sl.r_119, kernelRun0_B.sl.v788, kernelRun0_B.sl.cst_313, kernelRun0_B.sl.r_76, kernelRun0_B.sl.r_2, kernelRun0_B.sl.v1, kernelRun0_B.sl.r_55, kernelRun0_B.sl.r_74, kernelRun0_B.sl.r_43, kernelRun0_B.sl.r_56, kernelRun0_B.sl.r_81, kernelRun0_B.sl.r_66, kernelRun0_B.sl.r_118, kernelRun0_B.sl.v1162, kernelRun0_B.sl.r_68, kernelRun0_B.sl.v768, kernelRun0_B.sl.r_91, kernelRun0_B.sl.v416, kernelRun0_B.sl.v411, kernelRun0_B.sl.r_34, kernelRun0_B.sl.v2, kernelRun0_B.sl.r_19, kernelRun0_B.sl.r_28, kernelRun0_B.sl.r_69, kernelRun0_B.sl.r_84, kernelRun0_B.sl.r_52, kernelRun0_B.sl.r_57, kernelRun0_B.sl.r_42, kernelRun0_B.sl.r_111, kernelRun0_B.sl.r_47, kernelRun0_B.sl.r_21, kernelRun0_B.sl.r_83, kernelRun0_B.sl.v426, kernelRun0_B.sl.v510, kernelRun0_B.sl.cst_341, kernelRun0_B.sl.r_86, kernelRun0_B.sl.r_104, kernelRun0_B.sl.r_77, kernelRun0_B.sl.v1056, kernelRun0_B.sl.r_7, kernelRun0_B.sl.r_94, kernelRun0_B.sl.r_93, kernelRun0_B.sl.r_60, kernelRun0_B.sl.r_35, kernelRun0_B.sl.r_27, kernelRun0_B.sl.r_95, kernelRun0_B.sl.r_71, kernelRun0_B.sl.r_31, kernelRun0_B.sl.r_36, kernelRun0_B.sl.r_14, kernelRun0_B.sl.v500, kernelRun0_B.sl.r_64, kernelRun0_B.sl.r_12, kernelRun0_B.sl.v0, kernelRun0_B.sl.r_116, kernelRun0_B.sl.v232, kernelRun0_B.sl.r_44, kernelRun0_B.sl.r_73, kernelRun0_B.sl.r_17, kernelRun0_B.sl.r_107, kernelRun0_B.sl.r_105, kernelRun0_B.sl.r_33, kernelRun0_B.sl.r_62, kernelRun0_B.sl.r_114, kernelRun0_B.sl.r_16, kernelRun0_B.sl.r_38, kernelRun0_B.sl.r_46, kernelRun0_B.sl.r_63, kernelRun0_B.sl.r_13, kernelRun0_B.sl.r_30, kernelRun0_B.sl.r_106, kernelRun0_B.sl.v952, kernelRun0_B.sl.v689, kernelRun0_B.sl.r_98, kernelRun0_B.sl.r_92, kernelRun0_B.sl.r_61, kernelRun0_B.sl.v520, kernelRun0_B.sl.r_3, kernelRun0_B.sl.r_59, kernelRun0_B.sl.r_113, kernelRun0_B.sl.r_50, kernelRun0_B.sl.v242, kernelRun0_B.sl.r_109, kernelRun0_B.sl.r_32, kernelRun0_B.sl.r_40, kernelRun0_B.sl.r_87]
  simp only [queries_eq, queries_eq', keys_eq, vals_eq, inside_eq0, inside_eq1, inside_eq2, inside_eq3, across_eq0, across_eq1, across_eq2, across_eq3, gain_eq0, gain_eq1, gain_eq2, gain_eq3, nextState_eq, gated_eq0, gated_eq1, gated_eq2, gated_eq3, View.readAt_eq_ld, Memref.IsWhole.read_unread, ld_whole0]
  simp only [Reads.gates, Reads.out, Reads.q, Reads.k, Reads.v, readsOf]
  rfl

end Cert.KernelIdeal.Ret
-- ==== Proof.Ret.ReadBack.lean ====
/-
  Reading a grid point's stores back: the state after the four chunks of a head, and the gated rows.
-/
module

public import proofs.«01_k».proof.Proof.Ret.Tile
public import Idealize.ShloMosaic.Lib.Pointwise

@[expose] public section

namespace Cert.KernelIdeal.Ret

open Cert.KernelIdeal Cert.KernelIdeal.Gen Idealize.ShloMosaic Idealize.ShloMosaic.TcCoe Idealize.SL.Sem

variable {F : FTy → Type} [FloatOps F]

/-- Two heads' parts of the state have no element in common. -/
theorem headRect_disj (a b : Fin 4) (h : a ≠ b) : LoadRect.disj (headRect a) (headRect b).toLoadRect = true := by
  revert a b; decide

namespace Reads

variable (R : Reads F) {κ : Kind} {sp : Space} (w : View sig κ sp S1x4x256x512 .f32)

/-- Head `h`'s part of the state, after the stores `L`. -/
noncomputable def held {κ : Kind} {sp : Space} (w : View sig κ sp S1x4x256x512 .f32) (L : List (View.Piece (Elt F) S1x4x256x512 .f32)) (h : Fin 4) :
    Vec F S1x1x256x512 .f32 := w.readCov L (headRect h).toLoadRect

/-- What head `h`'s part holds after a store of head `a`'s state. -/
theorem readCov_store (a h : Fin 4) (s : Vec F S1x1x256x512 .f32) (L : List (View.Piece (Elt F) S1x4x256x512 .f32)) :
    held w ((⟨headRect a, s⟩ : View.Piece (Elt F) S1x4x256x512 .f32) :: L) h
      = if a = h then s else held w L h := by
  by_cases e : a = h
  · subst e; exact (View.readCov_cons_toLoadRect _ _ _ _).trans (if_pos rfl).symm
  · exact (View.readCov_skip _ _ _ _ _ (headRect_disj a h e)).trans (if_neg e).symm

/-- Each head's part after a chunk: the state before it, one step on. -/
theorem readCov_sweep (n h : Fin 4) (L : List (View.Piece (Elt F) S1x4x256x512 .f32)) :
    held w (R.sweep w n L) h = R.step n h (held w L h) := by
  have p : ∀ (a h : Fin 4) L, held w (R.put w n a L) h
      = if a = h then R.step n a (held w L a) else held w L h :=
    fun a h L => readCov_store w a h _ L
  unfold sweep
  match h with
  | 0 => rw [p 3 0, if_neg (by decide), p 2 0, if_neg (by decide), p 1 0, if_neg (by decide), p 0 0, if_pos rfl]
  | 1 => rw [p 3 1, if_neg (by decide), p 2 1, if_neg (by decide), p 1 1, if_pos rfl, p 0 1, if_neg (by decide)]
  | 2 => rw [p 3 2, if_neg (by decide), p 2 2, if_pos rfl, p 1 2, if_neg (by decide), p 0 2, if_neg (by decide)]
  | 3 => rw [p 3 3, if_pos rfl, p 2 3, if_neg (by decide), p 1 3, if_neg (by decide), p 0 3, if_neg (by decide)]

/-- The same after the first chunk of a point that finds the states `s`. -/
theorem readCov_start (h : Fin 4) (s : Fin 4 → Vec F S1x1x256x512 .f32) :
    held w (R.start s) h = R.step 0 h (s h) := by
  have p := readCov_store (F := F) w
  unfold start
  match h with
  | 0 => exact (p 3 0 _ _).trans ((p 2 0 _ _).trans ((p 1 0 _ _).trans (p 0 0 _ _)))
  | 1 => exact (p 3 1 _ _).trans ((p 2 1 _ _).trans (p 1 1 _ _))
  | 2 => exact (p 3 2 _ _).trans (p 2 2 _ _)
  | 3 => exact p 3 3 _ _

/-! ## The gated rows -/

/-- The gated rows as one array: row `128 n + i`, column `512 h + e` is element `(i, e)` of chunk `n`, head `h`. -/
noncomputable def gatedRows (S : ℕ → Fin 4 → Vec F S1x1x256x512 .f32) : Vec F S512x2048 .bf16 := fun y =>
  R.out ⟨(y 0).val / 128, by have : (y 0).val < 512 := (y 0).isLt; omega⟩ ⟨(y 1).val / 512, by have : (y 1).val < 2048 := (y 1).isLt; omega⟩
    (S ((y 0).val / 128) ⟨(y 1).val / 512, by have : (y 1).val < 2048 := (y 1).isLt; omega⟩)
    (ix2 (⟨(y 0).val % 128, Nat.mod_lt _ (by omega)⟩ : Fin 128) (⟨(y 1).val % 512, Nat.mod_lt _ (by omega)⟩ : Fin 512))

/-- A chunk's tile is its part of the gated rows. -/
theorem out_eq_gatedRows (S : ℕ → Fin 4 → Vec F S1x1x256x512 .f32) (n h : Fin 4) (x : (gateRect n h).shape.Idx) :
    R.out n h (S n.val h) x = R.gatedRows S ((gateRect n h).emb x) := by
  obtain ⟨i, e, rfl⟩ : ∃ (i : Fin 128) (e : Fin 512), x = ix2 i e := ⟨x 0, x 1, by funext a; revert a; rw [Fin.forall_fin_two]; exact ⟨rfl, rfl⟩⟩
  have h0 : ((gateRect n h).emb (ix2 i e) 0).val = 128 * n.val + i.val := by
    show 128 * n.val + 1 * i.val = _; omega
  have h1 : ((gateRect n h).emb (ix2 i e) 1).val = 512 * h.val + e.val := by
    show 512 * h.val + 1 * e.val = _; omega
  unfold gatedRows
  have a0 : (128 * n.val + i.val) / 128 = n.val := by omega
  have a1 : (512 * h.val + e.val) / 512 = h.val := by omega
  have b0 : (128 * n.val + i.val) % 128 = i.val := by omega
  have b1 : (512 * h.val + e.val) % 512 = e.val := by omega
  simp only [h0, h1, a0, a1, b0, b1]

/-- The four chunks' stores, read back. -/
theorem canon_gates (S : ℕ → Fin 4 → Vec F S1x1x256x512 .f32) :
    View.canon (R.gates 3 (S 3) (R.gates 2 (S 2) (R.gates 1 (S 1) (R.gates 0 (S 0) [])))) = R.gatedRows S := by
  funext y
  refine View.canon_apply_of_pieces (R.gatedRows S) _ (View.PiecesOf.mem ?_) y ?_
  · simp only [gates, View.PiecesOf]
    exact ⟨R.out_eq_gatedRows S 3 3, R.out_eq_gatedRows S 3 2, R.out_eq_gatedRows S 3 1, R.out_eq_gatedRows S 3 0,
      R.out_eq_gatedRows S 2 3, R.out_eq_gatedRows S 2 2, R.out_eq_gatedRows S 2 1, R.out_eq_gatedRows S 2 0,
      R.out_eq_gatedRows S 1 3, R.out_eq_gatedRows S 1 2, R.out_eq_gatedRows S 1 1, R.out_eq_gatedRows S 1 0,
      R.out_eq_gatedRows S 0 3, R.out_eq_gatedRows S 0 2, R.out_eq_gatedRows S 0 1, R.out_eq_gatedRows S 0 0, trivial⟩
  · have hy0 : (y 0).val < 512 := (y 0).isLt
    have hy1 : (y 1).val < 2048 := (y 1).isLt
    have hm : ∀ n h : Fin 4, (⟨gateRect n h, R.out n h (S n.val h)⟩ : View.Piece (Elt F) S512x2048 .bf16)
        ∈ R.gates 3 (S 3) (R.gates 2 (S 2) (R.gates 1 (S 1) (R.gates 0 (S 0) []))) := by
      intro n h
      fin_cases n <;> fin_cases h <;> simp [gates]
    refine ⟨_, hm ⟨(y 0).val / 128, by omega⟩ ⟨(y 1).val / 512, by omega⟩, ?_⟩
    show y ∈ (gateRect ⟨(y 0).val / 128, by omega⟩ ⟨(y 1).val / 512, by omega⟩).set
    have e : (gateRect ⟨(y 0).val / 128, by omega⟩ ⟨(y 1).val / 512, by omega⟩).emb (ix2 (⟨(y 0).val % 128, Nat.mod_lt _ (by omega)⟩ : Fin 128) (⟨(y 1).val % 512, Nat.mod_lt _ (by omega)⟩ : Fin 512)) = y := by
     funext a
     revert a
     rw [Fin.forall_fin_two]
     refine ⟨Fin.ext ?_, Fin.ext ?_⟩
     · show 128 * ((y 0).val / 128) + 1 * ((y 0).val % 128) = _; omega
     · show 512 * ((y 1).val / 512) + 1 * ((y 1).val % 512) = _; omega
    exact Eq.mp (congrArg (· ∈ (gateRect ⟨(y 0).val / 128, by omega⟩ ⟨(y 1).val / 512, by omega⟩).set) e) (LoadRect.idx_mem (gateRect _ _).toLoadRect _)

end Reads

end Cert.KernelIdeal.Ret
-- ==== Proof.Ret.Point.lean ====
/-
  What a grid point leaves in its two outputs: the state after its four chunks, and the rows after the layer.
-/
module

public import proofs.«01_k».proof.Proof.Ret.Stores
public import proofs.«01_k».proof.Proof.Ret.ReadBack

@[expose] public section

namespace Cert.KernelIdeal.Ret

open Cert.KernelIdeal Cert.KernelIdeal.Gen Reads Idealize.ShloMosaic Idealize.ShloMosaic.TcCoe Idealize.SL.Sem

variable {F : FTy → Type} [FloatOps F]

/-- The zero state a sequence begins with, head by head. -/
noncomputable def zeroHeads (h : Fin 4) : Vec F S1x1x256x512 .f32 := View.ld (k0_pay1 : Vec F S1x4x256x512 .f32) (headRect h)

/-- A state's heads. -/
noncomputable def headsOf (X : Vec F S1x4x256x512 .f32) (h : Fin 4) : Vec F S1x1x256x512 .f32 := View.ld X (headRect h)

theorem held_eq_headsOf {κ : Kind} {sp : Space} (w : View sig κ sp S1x4x256x512 .f32) (L : List (View.Piece (Elt F) S1x4x256x512 .f32)) :
    held w L = headsOf (View.canon L) := by
  funext h; exact View.readCov_eq_canon' w L _

/-- The states between the chunks, and after them. -/
theorem statesA (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x6144 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x128x128 .f32) (harg7 : arg7.IsWhole) (arg8 : Memref sig .tc .vmem S4x128x1 .f32) (harg8 : arg8.IsWhole) (arg9 : Memref sig .tc .vmem S4x128x1 .f32) (harg9 : arg9.IsWhole) (arg10 : Memref sig .tc .vmem S4x1x1 .f32) (harg10 : arg10.IsWhole) (arg11 : Memref sig .tc .vmem S1x2048 .f32) (harg11 : arg11.IsWhole) (arg12 : Memref sig .tc .vmem S2048x1024 .bf16) (harg12 : arg12.IsWhole) (arg13 : Memref sig .tc .vmem S512x1024 .f32) (harg13 : arg13.IsWhole) (arg14 : Memref sig .tc .vmem S1x4x256x512 .f32) (harg14 : arg14.IsWhole) (arg15 : Memref sig .tc .vmem S512x2048 .bf16) (harg15 : arg15.IsWhole) (hc0 : cond0_0 i)
    (x0 : Vec F S512x1024 .f32) (x1 : Vec F S1x1024 .f32) (x2 : Vec F S1024x6144 .bf16) (x3 : Vec F S512x128 .f32) (x4 : Vec F S512x128 .f32) (x5 : Vec F S4x128x128 .f32) (x6 : Vec F S4x128x1 .f32) (x7 : Vec F S4x128x1 .f32) (x8 : Vec F S4x1x1 .f32) (x9 : Vec F S1x2048 .f32) (x10 : Vec F S2048x1024 .bf16) :
    held (F := F) arg14.view (kernelRun0_A.sl.H12_1 ) = zeroHeads ∧ held arg14.view (kernelRun0_A.sl.H12_5 c arg2 harg2 arg3 harg3 arg4 harg4 arg5 harg5 arg6 harg6 arg9 harg9 arg10 harg10 arg14 x0 x1 x2 x3 x4 x7 x8) = (readsOf x0 x1 x2 x3 x4 x5 x6 x7 x8 x9).chain zeroHeads 1
    ∧ held arg14.view (kernelRun0_A.sl.H12_9 c arg2 harg2 arg3 harg3 arg4 harg4 arg5 harg5 arg6 harg6 arg9 harg9 arg10 harg10 arg14 x0 x1 x2 x3 x4 x7 x8) = (readsOf x0 x1 x2 x3 x4 x5 x6 x7 x8 x9).chain zeroHeads 2 ∧ held arg14.view (kernelRun0_A.sl.H12_13 c arg2 harg2 arg3 harg3 arg4 harg4 arg5 harg5 arg6 harg6 arg9 harg9 arg10 harg10 arg14 x0 x1 x2 x3 x4 x7 x8) = (readsOf x0 x1 x2 x3 x4 x5 x6 x7 x8 x9).chain zeroHeads 3
    ∧ held arg14.view (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).2.1 = (readsOf x0 x1 x2 x3 x4 x5 x6 x7 x8 x9).chain zeroHeads 4 := by
  have a0 : held (F := F) arg14.view (kernelRun0_A.sl.H12_1 ) = zeroHeads := by
    funext h
    simp only [kernelRun0_A.sl.H12_1]
    exact View.readCov_fill _ _ _ _ _ (by decide)
  have a1 : held arg14.view (kernelRun0_A.sl.H12_5 c arg2 harg2 arg3 harg3 arg4 harg4 arg5 harg5 arg6 harg6 arg9 harg9 arg10 harg10 arg14 x0 x1 x2 x3 x4 x7 x8) = (readsOf x0 x1 x2 x3 x4 x5 x6 x7 x8 x9).chain zeroHeads 1 := by
    funext h
    rw [stateA_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10, readCov_sweep, a0]
    rfl
  have a2 : held arg14.view (kernelRun0_A.sl.H12_9 c arg2 harg2 arg3 harg3 arg4 harg4 arg5 harg5 arg6 harg6 arg9 harg9 arg10 harg10 arg14 x0 x1 x2 x3 x4 x7 x8) = (readsOf x0 x1 x2 x3 x4 x5 x6 x7 x8 x9).chain zeroHeads 2 := by
    funext h
    rw [stateA_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10, readCov_sweep, a1]
    rfl
  have a3 : held arg14.view (kernelRun0_A.sl.H12_13 c arg2 harg2 arg3 harg3 arg4 harg4 arg5 harg5 arg6 harg6 arg9 harg9 arg10 harg10 arg14 x0 x1 x2 x3 x4 x7 x8) = (readsOf x0 x1 x2 x3 x4 x5 x6 x7 x8 x9).chain zeroHeads 3 := by
    funext h
    rw [stateA_2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10, readCov_sweep, a2]
    rfl
  refine ⟨a0, a1, a2, a3, ?_⟩
  funext h
  rw [stateA_3 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10, readCov_sweep, a3]
  rfl

/-- The state a point leaves. -/
theorem outA_state (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x6144 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x128x128 .f32) (harg7 : arg7.IsWhole) (arg8 : Memref sig .tc .vmem S4x128x1 .f32) (harg8 : arg8.IsWhole) (arg9 : Memref sig .tc .vmem S4x128x1 .f32) (harg9 : arg9.IsWhole) (arg10 : Memref sig .tc .vmem S4x1x1 .f32) (harg10 : arg10.IsWhole) (arg11 : Memref sig .tc .vmem S1x2048 .f32) (harg11 : arg11.IsWhole) (arg12 : Memref sig .tc .vmem S2048x1024 .bf16) (harg12 : arg12.IsWhole) (arg13 : Memref sig .tc .vmem S512x1024 .f32) (harg13 : arg13.IsWhole) (arg14 : Memref sig .tc .vmem S1x4x256x512 .f32) (harg14 : arg14.IsWhole) (arg15 : Memref sig .tc .vmem S512x2048 .bf16) (harg15 : arg15.IsWhole) (hc0 : cond0_0 i)
    (x0 : Vec F S512x1024 .f32) (x1 : Vec F S1x1024 .f32) (x2 : Vec F S1024x6144 .bf16) (x3 : Vec F S512x128 .f32) (x4 : Vec F S512x128 .f32) (x5 : Vec F S4x128x128 .f32) (x6 : Vec F S4x128x1 .f32) (x7 : Vec F S4x128x1 .f32) (x8 : Vec F S4x1x1 .f32) (x9 : Vec F S1x2048 .f32) (x10 : Vec F S2048x1024 .bf16) :
    headsOf (out0_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10) = (readsOf x0 x1 x2 x3 x4 x5 x6 x7 x8 x9).chain zeroHeads 4 := by
  unfold out0_A_12
  rw [View.read_writes_junk_eq_canon, ← held_eq_headsOf arg14.view]
  exact (statesA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).2.2.2.2

/-- The rows a point leaves. -/
theorem outA_rows (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x6144 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x128x128 .f32) (harg7 : arg7.IsWhole) (arg8 : Memref sig .tc .vmem S4x128x1 .f32) (harg8 : arg8.IsWhole) (arg9 : Memref sig .tc .vmem S4x128x1 .f32) (harg9 : arg9.IsWhole) (arg10 : Memref sig .tc .vmem S4x1x1 .f32) (harg10 : arg10.IsWhole) (arg11 : Memref sig .tc .vmem S1x2048 .f32) (harg11 : arg11.IsWhole) (arg12 : Memref sig .tc .vmem S2048x1024 .bf16) (harg12 : arg12.IsWhole) (arg13 : Memref sig .tc .vmem S512x1024 .f32) (harg13 : arg13.IsWhole) (arg14 : Memref sig .tc .vmem S1x4x256x512 .f32) (harg14 : arg14.IsWhole) (arg15 : Memref sig .tc .vmem S512x2048 .bf16) (harg15 : arg15.IsWhole) (hc0 : cond0_0 i)
    (x0 : Vec F S512x1024 .f32) (x1 : Vec F S1x1024 .f32) (x2 : Vec F S1024x6144 .bf16) (x3 : Vec F S512x128 .f32) (x4 : Vec F S512x128 .f32) (x5 : Vec F S4x128x128 .f32) (x6 : Vec F S4x128x1 .f32) (x7 : Vec F S4x128x1 .f32) (x8 : Vec F S4x1x1 .f32) (x9 : Vec F S1x2048 .f32) (x10 : Vec F S2048x1024 .bf16) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = k0_pay152 x0 ((readsOf x0 x1 x2 x3 x4 x5 x6 x7 x8 x9).gatedRows ((readsOf x0 x1 x2 x3 x4 x5 x6 x7 x8 x9).chain zeroHeads)) x10 := by
  obtain ⟨a0, a1, a2, a3, -⟩ := statesA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10
  have g := gatesA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10
  rw [show (fun h => arg14.view.readCov (kernelRun0_A.sl.H12_13 c arg2 harg2 arg3 harg3 arg4 harg4 arg5 harg5 arg6 harg6 arg9 harg9 arg10 harg10 arg14 x0 x1 x2 x3 x4 x7 x8) (headRect h).toLoadRect) = (readsOf x0 x1 x2 x3 x4 x5 x6 x7 x8 x9).chain zeroHeads 3 from a3,
    show (fun h => arg14.view.readCov (kernelRun0_A.sl.H12_9 c arg2 harg2 arg3 harg3 arg4 harg4 arg5 harg5 arg6 harg6 arg9 harg9 arg10 harg10 arg14 x0 x1 x2 x3 x4 x7 x8) (headRect h).toLoadRect) = (readsOf x0 x1 x2 x3 x4 x5 x6 x7 x8 x9).chain zeroHeads 2 from a2,
    show (fun h => arg14.view.readCov (kernelRun0_A.sl.H12_5 c arg2 harg2 arg3 harg3 arg4 harg4 arg5 harg5 arg6 harg6 arg9 harg9 arg10 harg10 arg14 x0 x1 x2 x3 x4 x7 x8) (headRect h).toLoadRect) = (readsOf x0 x1 x2 x3 x4 x5 x6 x7 x8 x9).chain zeroHeads 1 from a1,
    show (fun h => arg14.view.readCov (Val := Elt F) (kernelRun0_A.sl.H12_1 ) (headRect h).toLoadRect) = (readsOf x0 x1 x2 x3 x4 x5 x6 x7 x8 x9).chain zeroHeads 0 from a0] at g
  have e := (readsOf x0 x1 x2 x3 x4 x5 x6 x7 x8 x9).canon_gates ((readsOf x0 x1 x2 x3 x4 x5 x6 x7 x8 x9).chain zeroHeads)
  rw [← g] at e
  unfold out0_A_11
  rw [View.read_writes_junk_eq_canon]
  unfold kernelRun0_A
  dsimp only
  rw [View.canon_cons_unit_lit _ _ _ (by decide)]
  simp only [kernelRun0_A.sl.r_120, kernelRun0_A.sl.r, kernelRun0_A.sl.v1198, View.readAt_eq_ld, Memref.IsWhole.read_unread, ld_whole0]
  rw [View.readCov_eq_canon', e]
  exact congrArg (fun z => k0_pay152 x0 z x10) (ld_whole0 _ _)

/-- The states between the chunks, and after them. -/
theorem statesB (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x6144 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x128x128 .f32) (harg7 : arg7.IsWhole) (arg8 : Memref sig .tc .vmem S4x128x1 .f32) (harg8 : arg8.IsWhole) (arg9 : Memref sig .tc .vmem S4x128x1 .f32) (harg9 : arg9.IsWhole) (arg10 : Memref sig .tc .vmem S4x1x1 .f32) (harg10 : arg10.IsWhole) (arg11 : Memref sig .tc .vmem S1x2048 .f32) (harg11 : arg11.IsWhole) (arg12 : Memref sig .tc .vmem S2048x1024 .bf16) (harg12 : arg12.IsWhole) (arg13 : Memref sig .tc .vmem S512x1024 .f32) (harg13 : arg13.IsWhole) (arg14 : Memref sig .tc .vmem S1x4x256x512 .f32) (harg14 : arg14.IsWhole) (arg15 : Memref sig .tc .vmem S512x2048 .bf16) (harg15 : arg15.IsWhole) (hc0 : ¬cond0_0 i)
    (x0 : Vec F S512x1024 .f32) (x1 : Vec F S1x1024 .f32) (x2 : Vec F S1024x6144 .bf16) (x3 : Vec F S512x128 .f32) (x4 : Vec F S512x128 .f32) (x5 : Vec F S4x128x128 .f32) (x6 : Vec F S4x128x1 .f32) (x7 : Vec F S4x128x1 .f32) (x8 : Vec F S4x1x1 .f32) (x9 : Vec F S1x2048 .f32) (x10 : Vec F S2048x1024 .bf16) (xo12 : Vec F S1x4x256x512 .f32) :
    held arg14.view (kernelRun0_B.sl.H12_4 c arg2 harg2 arg3 harg3 arg4 harg4 arg5 harg5 arg6 harg6 arg9 harg9 arg10 harg10 arg14 harg14 x0 x1 x2 x3 x4 x7 x8 xo12) = (readsOf x0 x1 x2 x3 x4 x5 x6 x7 x8 x9).chain (headsOf xo12) 1
    ∧ held arg14.view (kernelRun0_B.sl.H12_8 c arg2 harg2 arg3 harg3 arg4 harg4 arg5 harg5 arg6 harg6 arg9 harg9 arg10 harg10 arg14 harg14 x0 x1 x2 x3 x4 x7 x8 xo12) = (readsOf x0 x1 x2 x3 x4 x5 x6 x7 x8 x9).chain (headsOf xo12) 2 ∧ held arg14.view (kernelRun0_B.sl.H12_12 c arg2 harg2 arg3 harg3 arg4 harg4 arg5 harg5 arg6 harg6 arg9 harg9 arg10 harg10 arg14 harg14 x0 x1 x2 x3 x4 x7 x8 xo12) = (readsOf x0 x1 x2 x3 x4 x5 x6 x7 x8 x9).chain (headsOf xo12) 3
    ∧ held arg14.view (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xo12).2.1 = (readsOf x0 x1 x2 x3 x4 x5 x6 x7 x8 x9).chain (headsOf xo12) 4 := by
  have a1 : held arg14.view (kernelRun0_B.sl.H12_4 c arg2 harg2 arg3 harg3 arg4 harg4 arg5 harg5 arg6 harg6 arg9 harg9 arg10 harg10 arg14 harg14 x0 x1 x2 x3 x4 x7 x8 xo12) = (readsOf x0 x1 x2 x3 x4 x5 x6 x7 x8 x9).chain (headsOf xo12) 1 := by
    funext h
    rw [stateB_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xo12]
    exact readCov_start (readsOf x0 x1 x2 x3 x4 x5 x6 x7 x8 x9) _ h _
  have a2 : held arg14.view (kernelRun0_B.sl.H12_8 c arg2 harg2 arg3 harg3 arg4 harg4 arg5 harg5 arg6 harg6 arg9 harg9 arg10 harg10 arg14 harg14 x0 x1 x2 x3 x4 x7 x8 xo12) = (readsOf x0 x1 x2 x3 x4 x5 x6 x7 x8 x9).chain (headsOf xo12) 2 := by
    funext h
    rw [stateB_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xo12, readCov_sweep, a1]
    rfl
  have a3 : held arg14.view (kernelRun0_B.sl.H12_12 c arg2 harg2 arg3 harg3 arg4 harg4 arg5 harg5 arg6 harg6 arg9 harg9 arg10 harg10 arg14 harg14 x0 x1 x2 x3 x4 x7 x8 xo12) = (readsOf x0 x1 x2 x3 x4 x5 x6 x7 x8 x9).chain (headsOf xo12) 3 := by
    funext h
    rw [stateB_2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xo12, readCov_sweep, a2]
    rfl
  refine ⟨a1, a2, a3, ?_⟩
  funext h
  rw [stateB_3 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xo12, readCov_sweep, a3]
  rfl

/-- The state a point leaves. -/
theorem outB_state (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x6144 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x128x128 .f32) (harg7 : arg7.IsWhole) (arg8 : Memref sig .tc .vmem S4x128x1 .f32) (harg8 : arg8.IsWhole) (arg9 : Memref sig .tc .vmem S4x128x1 .f32) (harg9 : arg9.IsWhole) (arg10 : Memref sig .tc .vmem S4x1x1 .f32) (harg10 : arg10.IsWhole) (arg11 : Memref sig .tc .vmem S1x2048 .f32) (harg11 : arg11.IsWhole) (arg12 : Memref sig .tc .vmem S2048x1024 .bf16) (harg12 : arg12.IsWhole) (arg13 : Memref sig .tc .vmem S512x1024 .f32) (harg13 : arg13.IsWhole) (arg14 : Memref sig .tc .vmem S1x4x256x512 .f32) (harg14 : arg14.IsWhole) (arg15 : Memref sig .tc .vmem S512x2048 .bf16) (harg15 : arg15.IsWhole) (hc0 : ¬cond0_0 i)
    (x0 : Vec F S512x1024 .f32) (x1 : Vec F S1x1024 .f32) (x2 : Vec F S1024x6144 .bf16) (x3 : Vec F S512x128 .f32) (x4 : Vec F S512x128 .f32) (x5 : Vec F S4x128x128 .f32) (x6 : Vec F S4x128x1 .f32) (x7 : Vec F S4x128x1 .f32) (x8 : Vec F S4x1x1 .f32) (x9 : Vec F S1x2048 .f32) (x10 : Vec F S2048x1024 .bf16) (xo12 : Vec F S1x4x256x512 .f32) :
    headsOf (out0_B_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xo12) = (readsOf x0 x1 x2 x3 x4 x5 x6 x7 x8 x9).chain (headsOf xo12) 4 := by
  unfold out0_B_12
  rw [View.read_writes_junk_eq_canon, ← held_eq_headsOf arg14.view]
  exact (statesB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xo12).2.2.2

/-- The rows a point leaves. -/
theorem outB_rows (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x6144 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x128x128 .f32) (harg7 : arg7.IsWhole) (arg8 : Memref sig .tc .vmem S4x128x1 .f32) (harg8 : arg8.IsWhole) (arg9 : Memref sig .tc .vmem S4x128x1 .f32) (harg9 : arg9.IsWhole) (arg10 : Memref sig .tc .vmem S4x1x1 .f32) (harg10 : arg10.IsWhole) (arg11 : Memref sig .tc .vmem S1x2048 .f32) (harg11 : arg11.IsWhole) (arg12 : Memref sig .tc .vmem S2048x1024 .bf16) (harg12 : arg12.IsWhole) (arg13 : Memref sig .tc .vmem S512x1024 .f32) (harg13 : arg13.IsWhole) (arg14 : Memref sig .tc .vmem S1x4x256x512 .f32) (harg14 : arg14.IsWhole) (arg15 : Memref sig .tc .vmem S512x2048 .bf16) (harg15 : arg15.IsWhole) (hc0 : ¬cond0_0 i)
    (x0 : Vec F S512x1024 .f32) (x1 : Vec F S1x1024 .f32) (x2 : Vec F S1024x6144 .bf16) (x3 : Vec F S512x128 .f32) (x4 : Vec F S512x128 .f32) (x5 : Vec F S4x128x128 .f32) (x6 : Vec F S4x128x1 .f32) (x7 : Vec F S4x128x1 .f32) (x8 : Vec F S4x1x1 .f32) (x9 : Vec F S1x2048 .f32) (x10 : Vec F S2048x1024 .bf16) (xo12 : Vec F S1x4x256x512 .f32) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xo12 = k0_pay152 x0 ((readsOf x0 x1 x2 x3 x4 x5 x6 x7 x8 x9).gatedRows ((readsOf x0 x1 x2 x3 x4 x5 x6 x7 x8 x9).chain (headsOf xo12))) x10 := by
  obtain ⟨a1, a2, a3, -⟩ := statesB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xo12
  have g := gatesB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xo12
  rw [show (fun h => arg14.view.readCov (kernelRun0_B.sl.H12_12 c arg2 harg2 arg3 harg3 arg4 harg4 arg5 harg5 arg6 harg6 arg9 harg9 arg10 harg10 arg14 harg14 x0 x1 x2 x3 x4 x7 x8 xo12) (headRect h).toLoadRect) = (readsOf x0 x1 x2 x3 x4 x5 x6 x7 x8 x9).chain (headsOf xo12) 3 from a3,
    show (fun h => arg14.view.readCov (kernelRun0_B.sl.H12_8 c arg2 harg2 arg3 harg3 arg4 harg4 arg5 harg5 arg6 harg6 arg9 harg9 arg10 harg10 arg14 harg14 x0 x1 x2 x3 x4 x7 x8 xo12) (headRect h).toLoadRect) = (readsOf x0 x1 x2 x3 x4 x5 x6 x7 x8 x9).chain (headsOf xo12) 2 from a2,
    show (fun h => arg14.view.readCov (kernelRun0_B.sl.H12_4 c arg2 harg2 arg3 harg3 arg4 harg4 arg5 harg5 arg6 harg6 arg9 harg9 arg10 harg10 arg14 harg14 x0 x1 x2 x3 x4 x7 x8 xo12) (headRect h).toLoadRect) = (readsOf x0 x1 x2 x3 x4 x5 x6 x7 x8 x9).chain (headsOf xo12) 1 from a1,
    show (fun h => View.ld xo12 (headRect h)) = (readsOf x0 x1 x2 x3 x4 x5 x6 x7 x8 x9).chain (headsOf xo12) 0 from rfl] at g
  have e := (readsOf x0 x1 x2 x3 x4 x5 x6 x7 x8 x9).canon_gates ((readsOf x0 x1 x2 x3 x4 x5 x6 x7 x8 x9).chain (headsOf xo12))
  rw [← g] at e
  unfold out0_B_11
  rw [View.read_writes_junk_eq_canon]
  unfold kernelRun0_B
  dsimp only
  rw [View.canon_cons_unit_lit _ _ _ (by decide)]
  simp only [kernelRun0_B.sl.r_120, kernelRun0_B.sl.r, kernelRun0_B.sl.v1198, View.readAt_eq_ld, Memref.IsWhole.read_unread, ld_whole0]
  rw [View.readCov_eq_canon', e]
  exact congrArg (fun z => k0_pay152 x0 z x10) (ld_whole0 _ _)

end Cert.KernelIdeal.Ret
-- ==== Proof.Ret.Model.lean ====
/-
  The retention layer as plain sums over extended reals: the projection of the normalised rows, the rotated queries and
  keys, the recurrence over chunks of 128 positions, the group norm, the gate, and the projection back.
  Both programs are read as this.
-/
module

public import Idealize.ShloMosaic.Lib.Pointwise

@[expose] public section

namespace Cert.Retention

open Idealize.ShloMosaic

/-- The layer's inputs, and the tables both programs compute on the host. -/
structure Layer where
  /-- the residual stream: sequence, position, column -/
  x : Fin 16 → Fin 2048 → Fin 1024 → EReal
  g : Fin 1024 → EReal
  win : Fin 1024 → Fin 6144 → EReal
  gn : Fin 2048 → EReal
  wout : Fin 2048 → Fin 1024 → EReal
  /-- cosines and sines: position, angle -/
  cs : Fin 2048 → Fin 128 → EReal
  sn : Fin 2048 → Fin 128 → EReal
  /-- the decays: inside a chunk, on reading the state, on adding to it, over a chunk -/
  dIn : Fin 4 → Fin 128 → Fin 128 → EReal
  dQ : Fin 4 → Fin 128 → EReal
  dK : Fin 4 → Fin 128 → EReal
  dC : Fin 4 → EReal

/-- Position `i` of chunk `n`. -/
def pos (n : ℕ) (i : Fin 128) : Fin 2048 := ⟨(128 * n + i.val) % 2048, Nat.mod_lt _ (by omega)⟩

namespace Layer

variable (L : Layer)

/-- The normalised row. -/
noncomputable def normed (b : Fin 16) (s : Fin 2048) (c : Fin 1024) : EReal :=
  L.x b s c * Ideal.rsqrt (Ideal.div (∑ c', L.x b s c' * L.x b s c') (Ideal.ofBits FTy.f32 0x44800000#32) + Ideal.ofBits FTy.f32 0x358637BD#32) * L.g c

/-- The projected row: queries, keys, values, gate. -/
noncomputable def proj (b : Fin 16) (s : Fin 2048) (e : Fin 6144) : EReal := ∑ c, L.normed b s c * L.win c e

/-- The columns `o …` of a head's queries or keys, rotated by the position's angles. -/
noncomputable def rotated (b : Fin 16) (s : Fin 2048) (o : ℕ) (ho : o + 256 ≤ 6144) (d : Fin 256) : EReal :=
  if h : d.val < 128 then
    L.proj b s ⟨o + d.val, by omega⟩ * L.cs s ⟨d.val, h⟩ - L.proj b s ⟨o + 128 + d.val, by omega⟩ * L.sn s ⟨d.val, h⟩
  else
    L.proj b s ⟨o + (d.val - 128), by omega⟩ * L.sn s ⟨d.val - 128, by omega⟩
      + L.proj b s ⟨o + 128 + (d.val - 128), by omega⟩ * L.cs s ⟨d.val - 128, by omega⟩

noncomputable def q (b : Fin 16) (s : Fin 2048) (h : Fin 4) (d : Fin 256) : EReal := L.rotated b s (256 * h.val) (by omega) d

noncomputable def k (b : Fin 16) (s : Fin 2048) (h : Fin 4) (d : Fin 256) : EReal :=
  L.rotated b s (1024 + 256 * h.val) (by omega) d * Ideal.ofBits FTy.f32 0x3D800000#32

noncomputable def v (b : Fin 16) (s : Fin 2048) (h : Fin 4) (e : Fin 512) : EReal := L.proj b s ⟨2048 + 512 * h.val + e.val, by omega⟩

/-- What a chunk adds to the state. -/
noncomputable def gain (b : Fin 16) (n : ℕ) (h : Fin 4) (d : Fin 256) (e : Fin 512) : EReal :=
  ∑ j, L.k b (pos n j) h d * L.dK h j * L.v b (pos n j) h e

/-- The state before chunk `n`. -/
noncomputable def state (b : Fin 16) : ℕ → Fin 4 → Fin 256 → Fin 512 → EReal
  | 0, _, _, _ => 0
  | n + 1, h, d, e => state b n h d e * L.dC h + L.gain b n h d e

/-- A chunk's output: its own positions' part, and the state's part. -/
noncomputable def inside (b : Fin 16) (n : ℕ) (h : Fin 4) (i : Fin 128) (e : Fin 512) : EReal :=
  ∑ j, (∑ d, L.q b (pos n i) h d * L.k b (pos n j) h d) * L.dIn h i j * L.v b (pos n j) h e

noncomputable def across (b : Fin 16) (n : ℕ) (h : Fin 4) (i : Fin 128) (e : Fin 512) : EReal :=
  ∑ d, L.q b (pos n i) h d * L.state b n h d e

noncomputable def ret (b : Fin 16) (n : ℕ) (h : Fin 4) (i : Fin 128) (e : Fin 512) : EReal :=
  L.inside b n h i e + L.across b n h i e * L.dQ h i

end Layer

/-- A row less its mean. -/
noncomputable def centred (z : Fin 512 → EReal) (e : Fin 512) : EReal := z e - Ideal.div (∑ e', z e') (Ideal.ofBits FTy.f32 0x44000000#32)

/-- A row brought to mean zero and variance one. -/
noncomputable def standard (z : Fin 512 → EReal) (e : Fin 512) : EReal :=
  centred z e * Ideal.rsqrt (Ideal.div (∑ e', centred z e' * centred z e') (Ideal.ofBits FTy.f32 0x44000000#32) + Ideal.ofBits FTy.f32 0x358637BD#32)

namespace Layer

variable (L : Layer)

/-- The normed output of a head, gated. -/
noncomputable def gated (b : Fin 16) (n : ℕ) (h : Fin 4) (i : Fin 128) (e : Fin 512) : EReal :=
  L.proj b (pos n i) ⟨4096 + 512 * h.val + e.val, by omega⟩ * Ideal.logistic (L.proj b (pos n i) ⟨4096 + 512 * h.val + e.val, by omega⟩)
    * (standard (L.ret b n h i) e * L.gn ⟨512 * h.val + e.val, by omega⟩)

/-- The residual stream after the layer. -/
noncomputable def out (b : Fin 16) (s : Fin 2048) (c : Fin 1024) : EReal :=
  L.x b s c + ∑ f : Fin 2048, L.gated b (s.val / 128) ⟨f.val / 512, by omega⟩ ⟨s.val % 128, Nat.mod_lt _ (by omega)⟩ ⟨f.val % 512, Nat.mod_lt _ (by omega)⟩ * L.wout f c

end Layer

end Cert.Retention
-- ==== Proof.Ret.Local.lean ====
/-
  A grid point's work, element by element, is the layer's at the point's sequence and positions.
-/
module

public import proofs.«01_k».proof.Proof.Ret.Point
public import proofs.«01_k».proof.Proof.Ret.Model

@[expose] public section

set_option maxRecDepth 16384

namespace Cert.KernelIdeal.Ret

open Cert.KernelIdeal Cert.KernelIdeal.Gen Cert.Retention Idealize.ShloMosaic Idealize.ShloMosaic.TcCoe Idealize.SL.Sem

/-- Row `r` of block `p` of a sequence, as a position. -/
def posIn (p : Fin 4) (r : Fin 512) : Fin 2048 := ⟨512 * p.val + r.val, by omega⟩

theorem posIn_chunk (p n : Fin 4) (i : Fin 128) (h : 128 * n.val + i.val < 512) : posIn p ⟨128 * n.val + i.val, h⟩ = pos (4 * p.val + n.val) i := by
  apply Fin.ext; simp only [posIn, pos]; omega

/-- A point's inputs are those of sequence `b`, block `p`. -/
structure Matches (R : Reads Ideal) (L : Layer) (b : Fin 16) (p : Fin 4) : Prop where
  proj : ∀ r e, R.proj (ix2 r e) = L.proj b (posIn p r) e
  cs : ∀ r d, R.cs (ix2 r d) = L.cs (posIn p r) d
  sn : ∀ r d, R.sn (ix2 r d) = L.sn (posIn p r) d
  dIn : ∀ h i j, R.dIn h (ix3 0 i j) = L.dIn h i j
  dQ : ∀ h i, R.dQ h (ix3 0 i 0) = L.dQ h i
  dK : ∀ h i, R.dK h (ix3 0 i 0) = L.dK h i
  dC : ∀ h, R.dC h (ix3 0 0 0) = L.dC h
  gn : ∀ (h : Fin 4) (e : Fin 512), R.gn h (ix2 0 e) = L.gn ⟨512 * h.val + e.val, by omega⟩

namespace Matches

variable {R : Reads Ideal} {L : Layer} {b : Fin 16} {p : Fin 4} (M : Matches R L b p)
include M

theorem q_eq (h : Fin 4) (r : Fin 512) (d : Fin 256) : R.q h (ix2 r d) = L.q b (posIn p r) h d := by
  pointwise [Reads.q, queries]
  simp only [M.proj, M.cs, M.sn, Layer.q, Layer.rotated, Nat.add_comm (256 * h.val) 128]

theorem k_eq (h : Fin 4) (r : Fin 512) (d : Fin 256) : R.k h (ix2 r d) = L.k b (posIn p r) h d := by
  pointwise [Reads.k, keys]
  simp only [M.proj, M.cs, M.sn, Layer.k, Layer.rotated, Nat.add_right_comm 1024 (256 * h.val) 128, Nat.reduceAdd]
  split <;> rfl

theorem v_eq (h : Fin 4) (r e : Fin 512) : R.v h (ix2 r e) = L.v b (posIn p r) h e := by
  pointwise [Reads.v, vals]
  simp only [M.proj, Layer.v]

theorem step_eq (n h : Fin 4) (s : Vec Ideal S1x1x256x512 .f32) (d : Fin 256) (e : Fin 512) :
    R.step n h s (ix4 0 0 d e) = s (ix4 0 0 d e) * L.dC h + L.gain b (4 * p.val + n.val) h d e := by
  pointwise [Reads.step, nextState, gain]
  simp only [M.k_eq, M.v_eq, M.dK, M.dC, posIn_chunk, Layer.gain]

/-- The states between the chunks. -/
theorem chain_eq (s : Fin 4 → Vec Ideal S1x1x256x512 .f32) (hs : ∀ h d e, s h (ix4 0 0 d e) = L.state b (4 * p.val) h d e) :
    ∀ (n : ℕ) (_ : n ≤ 4) h d e, R.chain s n h (ix4 0 0 d e) = L.state b (4 * p.val + n) h d e
  | 0, _, h, d, e => hs h d e
  | n + 1, hn, h, d, e => by
    show R.step (Fin.ofNat 4 n) h (R.chain s n h) (ix4 0 0 d e) = _
    rw [M.step_eq, chain_eq s hs n (by omega) h d e]
    have : (Fin.ofNat 4 n).val = n := Nat.mod_eq_of_lt (by omega)
    rw [this]
    rfl

theorem out_eq (n h : Fin 4) (s : Vec Ideal S1x1x256x512 .f32) (hs : ∀ d e, s (ix4 0 0 d e) = L.state b (4 * p.val + n.val) h d e) (i : Fin 128) (e : Fin 512) :
    R.out n h s (ix2 i e) = L.gated b (4 * p.val + n.val) h i e := by
  have z : ∀ e, inside (R.q h) (R.k h) (R.v h) (R.dIn h) n (ix2 i e) + across (R.q h) s n (ix2 i e) * R.dQ h (ix3 0 i 0)
      = L.ret b (4 * p.val + n.val) h i e := by
    intro e
    pointwise [inside, across]
    simp only [M.q_eq, M.k_eq, M.v_eq, M.dIn, M.dQ, hs, posIn_chunk, Layer.ret, Layer.inside, Layer.across]
  unfold Reads.out
  pointwise [gated, rowMean]
  simp only [z, M.proj, M.gn, posIn_chunk, Layer.gated, standard, centred]

/-- The gated rows of a point. -/
theorem gatedRows_eq (S : ℕ → Fin 4 → Vec Ideal S1x1x256x512 .f32) (hS : ∀ n, n ≤ 4 → ∀ h d e, S n h (ix4 0 0 d e) = L.state b (4 * p.val + n) h d e)
    (r : Fin 512) (f : Fin 2048) :
    R.gatedRows S (ix2 r f) = L.gated b ((posIn p r).val / 128) ⟨f.val / 512, by omega⟩ ⟨(posIn p r).val % 128, Nat.mod_lt _ (by omega)⟩ ⟨f.val % 512, Nat.mod_lt _ (by omega)⟩ := by
  unfold Reads.gatedRows
  have a : (posIn p r).val / 128 = 4 * p.val + r.val / 128 := by simp only [posIn]; omega
  have a' : (posIn p r).val % 128 = r.val % 128 := by simp only [posIn]; omega
  simp only [a, a']
  exact M.out_eq ⟨r.val / 128, by omega⟩ ⟨f.val / 512, by omega⟩ _ (fun d e => hS _ (by omega) _ d e) _ _

/-- The rows a point leaves. -/
theorem rows_eq (x0 : Vec Ideal S512x1024 .f32) (x10 : Vec Ideal S2048x1024 .bf16) (hx : ∀ r c, x0 (ix2 r c) = L.x b (posIn p r) c)
    (hw : ∀ f c, x10 (ix2 f c) = L.wout f c)
    (S : ℕ → Fin 4 → Vec Ideal S1x1x256x512 .f32) (hS : ∀ n, n ≤ 4 → ∀ h d e, S n h (ix4 0 0 d e) = L.state b (4 * p.val + n) h d e)
    (r : Fin 512) (c : Fin 1024) : k0_pay152 x0 (R.gatedRows S) x10 (ix2 r c) = L.out b (posIn p r) c := by
  pointwise [k0_pay152]
  simp only [hx, hw, M.gatedRows_eq S hS, Layer.out]

end Matches

/-- A point's inputs, from its blocks. -/
theorem matches_of (L : Layer) (b : Fin 16) (p : Fin 4)
    (x0 : Vec Ideal S512x1024 .f32) (x1 : Vec Ideal S1x1024 .f32) (x2 : Vec Ideal S1024x6144 .bf16) (x3 : Vec Ideal S512x128 .f32) (x4 : Vec Ideal S512x128 .f32) (x5 : Vec Ideal S4x128x128 .f32) (x6 : Vec Ideal S4x128x1 .f32) (x7 : Vec Ideal S4x128x1 .f32) (x8 : Vec Ideal S4x1x1 .f32) (x9 : Vec Ideal S1x2048 .f32)
    (h0 : ∀ r c, x0 (ix2 r c) = L.x b (posIn p r) c) (h1 : ∀ c, x1 (ix2 0 c) = L.g c) (h2 : ∀ c e, x2 (ix2 c e) = L.win c e)
    (h3 : ∀ r d, x3 (ix2 r d) = L.cs (posIn p r) d) (h4 : ∀ r d, x4 (ix2 r d) = L.sn (posIn p r) d)
    (h5 : ∀ h i j, x5 (ix3 h i j) = L.dIn h i j) (h6 : ∀ h i, x6 (ix3 h i 0) = L.dQ h i) (h7 : ∀ h i, x7 (ix3 h i 0) = L.dK h i)
    (h8 : ∀ h, x8 (ix3 h 0 0) = L.dC h) (h9 : ∀ f, x9 (ix2 0 f) = L.gn f) :
    Matches (readsOf x0 x1 x2 x3 x4 x5 x6 x7 x8 x9) L b p where
  proj r e := by
    show k0_pay2 x0 x1 x2 (ix2 r e) = _
    pointwise [k0_pay2]
    simp only [h0, h1, h2, Layer.proj, Layer.normed]
  cs r d := by
    show k0_pay3 x3 (ix2 r d) = _
    pointwise [k0_pay3]
    exact h3 r d
  sn r d := by
    show k0_pay4 x4 (ix2 r d) = _
    pointwise [k0_pay4]
    exact h4 r d
  dIn h i j := by
    rw [← h5]
    refine congrArg x5 ?_
    funext a; fin_cases a <;> apply Fin.ext <;> simp [LoadRect.idx, Rect.unit, ix3]
  dQ h i := by
    rw [← h6]
    refine congrArg x6 ?_
    funext a; fin_cases a <;> apply Fin.ext <;> simp [LoadRect.idx, Rect.unit, ix3]
  dK h i := by
    rw [← h7]
    refine congrArg x7 ?_
    funext a; fin_cases a <;> apply Fin.ext <;> simp [LoadRect.idx, Rect.unit, ix3]
  dC h := by
    rw [← h8]
    refine congrArg x8 ?_
    funext a; fin_cases a <;> apply Fin.ext <;> simp [LoadRect.idx, Rect.unit, ix3]
  gn h e := by
    rw [← h9]
    refine congrArg x9 ?_
    funext a; fin_cases a <;> apply Fin.ext <;> simp [LoadRect.idx, Rect.unit, ix2]

end Cert.KernelIdeal.Ret
-- ==== Proof.Ret.Tables.lean ====
/-
  The layer of five given arrays: the rotation's angles and the decays, as both programs' hosts compute them.
-/
module

public import proofs.«01_k».proof.Proof.Ret.Model

@[expose] public section

namespace Cert.Retention

open Idealize.ShloMosaic

/-- A counter as a number of the programs. -/
noncomputable def count (n : ℕ) : EReal := (FloatOps.sitofp FTy.f32 (BitVec.ofNat 32 n) : Ideal FTy.f32)

/-- The angle of position `s` at frequency `d`: `s * 10000 ^ (-d / 128)`. -/
noncomputable def angle (s : Fin 2048) (d : Fin 128) : EReal :=
  count s.val * Ideal.pow (Ideal.ofBits FTy.f32 0x461C4000#32) (Ideal.div (-count d.val) (Ideal.ofBits FTy.f32 0x43000000#32))

/-- The logarithm of a head's decay: `log (1 - 2 ^ (-5 - h))`, with `2 ^ u` as `exp (log 2 * u)`. -/
noncomputable def logDecay (h : Fin 4) : EReal :=
  Ideal.log1p (-Ideal.exp (Ideal.ofBits FTy.f32 0x3F317218#32 * (Ideal.ofBits FTy.f32 0xC0A00000#32 - count h.val)))

/-- Inside a chunk: the decay to the power `i - j`, nothing for later positions. -/
noncomputable def decayIn (h : Fin 4) (i j : Fin 128) : EReal :=
  if 0 ≤ count i.val - count j.val then Ideal.exp (logDecay h * max (count i.val - count j.val) 0) else 0

/-- On reading the state: to the power `i + 1`. -/
noncomputable def decayQ (h : Fin 4) (i : Fin 128) : EReal := Ideal.exp (logDecay h * (count i.val + 1))

/-- On adding to the state: to the power `127 - i`. -/
noncomputable def decayK (h : Fin 4) (i : Fin 128) : EReal := Ideal.exp (logDecay h * (Ideal.ofBits FTy.f32 0x42FE0000#32 - count i.val))

/-- Over a chunk: to the power 128. -/
noncomputable def decayC (h : Fin 4) : EReal := Ideal.exp (logDecay h * Ideal.ofBits FTy.f32 0x43000000#32)

/-- The row of the flattened residual stream that holds position `s` of sequence `b`. -/
def rowOf (b : Fin 16) (s : Fin 2048) : Fin 32768 := ⟨2048 * b.val + s.val, by omega⟩

/-- The layer of the five argument arrays. -/
noncomputable def layer (x : (⟨2, ![32768, 1024]⟩ : Shape).Idx → EReal) (g : (⟨1, ![1024]⟩ : Shape).Idx → EReal)
    (win : (⟨2, ![1024, 6144]⟩ : Shape).Idx → EReal) (gn : (⟨1, ![2048]⟩ : Shape).Idx → EReal) (wout : (⟨2, ![2048, 1024]⟩ : Shape).Idx → EReal) : Layer where
  x b s c := x (ix2 (rowOf b s) c)
  g c := g (ix1 c)
  win c e := win (ix2 c e)
  gn f := gn (ix1 f)
  wout f c := wout (ix2 f c)
  cs s d := Ideal.cos (angle s d)
  sn s d := Ideal.sin (angle s d)
  dIn := decayIn
  dQ := decayQ
  dK := decayK
  dC := decayC

/-- The layer's output array, over all rows of the flattened stream. -/
noncomputable def Layer.outRows (L : Layer) (y : (⟨2, ![32768, 1024]⟩ : Shape).Idx) : EReal :=
  L.out ⟨(y 0).val / 2048, by have := (y 0).isLt; simp at this; omega⟩ ⟨(y 0).val % 2048, Nat.mod_lt _ (by omega)⟩ ⟨(y 1).val, by have := (y 1).isLt; simpa using this⟩

/-- The states after the last chunk. -/
noncomputable def Layer.lastState (L : Layer) (y : (⟨4, ![16, 4, 256, 512]⟩ : Shape).Idx) : EReal :=
  L.state ⟨(y 0).val, by have := (y 0).isLt; simpa using this⟩ 16 ⟨(y 1).val, by have := (y 1).isLt; simpa using this⟩
    ⟨(y 2).val, by have := (y 2).isLt; simpa using this⟩ ⟨(y 3).val, by have := (y 3).isLt; simpa using this⟩

end Cert.Retention
-- ==== Proof.Ret.Global.lean ====
/-
  The kernel's run: every grid point's blocks are the layer's rows and tables, so after a sequence's last point the
  state block holds the layer's state, and every point writes the layer's rows.
-/
module

public import proofs.«01_k».proof.Proof.Gen.KernelIdeal.Value
public import proofs.«01_k».proof.Proof.Ret.Local
public import proofs.«01_k».proof.Proof.Ret.Tables
public import Idealize.ShloMosaic.Lib.Pointwise
public import Idealize.ShloMosaic.Lib.Claim
public import Idealize.ShloMosaic.Lib.Pipeline.ValueKit

@[expose] public section

set_option maxRecDepth 16384

namespace Cert.KernelIdeal.Ret

open Cert.KernelIdeal Cert.KernelIdeal.Gen Idealize.ShloMosaic Idealize.ShloMosaic.TcCoe Idealize.SL.Sem
open Cert.Retention
open Idealize.ShloMosaic.Pipeline (Dat)

variable (m : (ℓ : Loc nD τ sig) → Buf (Elt Ideal) ℓ) (c : Dev nD)

/-- The layer of the arrays the kernel was called with. -/
noncomputable def layerAt : Layer :=
  layer (m ((c : Thread nD τ).loc main_arg0)) (m ((c : Thread nD τ).loc main_arg1)) (m ((c : Thread nD τ).loc main_arg2))
    (m ((c : Thread nD τ).loc main_arg3)) (m ((c : Thread nD τ).loc main_arg4))

/-! ## What the host computes before the call -/

theorem host_cos (s : Fin 2048) (d : Fin 128) : V m c main_v15 (ix2 s d) = (layerAt m c).cs s d := by
  simp only [V, List.flatten_cons, List.flatten_nil, List.append_nil, hostOps0, hostOps0_1, hostOps0_2, hostOps0_3, hostOps0_4, hostOps0_5, hostOps0_6, hostOps0_7, hostOps0_8, List.cons_append, List.nil_append]
  entry_read
  pointwise [StableHlo.TRef.ofBuf, StableHlo.TRef.toBuf, cast_cast, cast_eq]
  rfl

theorem host_sin (s : Fin 2048) (d : Fin 128) : V m c main_v16 (ix2 s d) = (layerAt m c).sn s d := by
  simp only [V, List.flatten_cons, List.flatten_nil, List.append_nil, hostOps0, hostOps0_1, hostOps0_2, hostOps0_3, hostOps0_4, hostOps0_5, hostOps0_6, hostOps0_7, hostOps0_8, List.cons_append, List.nil_append]
  entry_read
  pointwise [StableHlo.TRef.ofBuf, StableHlo.TRef.toBuf, cast_cast, cast_eq]
  rfl

theorem host_decayIn (h : Fin 4) (i j : Fin 128) : V m c main_v62 (ix3 h i j) = (layerAt m c).dIn h i j := by
  simp only [V, List.flatten_cons, List.flatten_nil, List.append_nil, hostOps0, hostOps0_1, hostOps0_2, hostOps0_3, hostOps0_4, hostOps0_5, hostOps0_6, hostOps0_7, hostOps0_8, List.cons_append, List.nil_append]
  entry_read
  pointwise [StableHlo.TRef.ofBuf, StableHlo.TRef.toBuf, cast_cast, cast_eq]
  rfl

theorem host_decayQ (h : Fin 4) (i : Fin 128) : V m c main_v64 (ix3 h i 0) = (layerAt m c).dQ h i := by
  simp only [V, List.flatten_cons, List.flatten_nil, List.append_nil, hostOps0, hostOps0_1, hostOps0_2, hostOps0_3, hostOps0_4, hostOps0_5, hostOps0_6, hostOps0_7, hostOps0_8, List.cons_append, List.nil_append]
  entry_read
  pointwise [StableHlo.TRef.ofBuf, StableHlo.TRef.toBuf, cast_cast, cast_eq]
  rfl

theorem host_decayK (h : Fin 4) (i : Fin 128) : V m c main_v66 (ix3 h i 0) = (layerAt m c).dK h i := by
  simp only [V, List.flatten_cons, List.flatten_nil, List.append_nil, hostOps0, hostOps0_1, hostOps0_2, hostOps0_3, hostOps0_4, hostOps0_5, hostOps0_6, hostOps0_7, hostOps0_8, List.cons_append, List.nil_append]
  entry_read
  pointwise [StableHlo.TRef.ofBuf, StableHlo.TRef.toBuf, cast_cast, cast_eq]
  rfl

theorem host_decayC (h : Fin 4) : V m c main_v67 (ix3 h 0 0) = (layerAt m c).dC h := by
  simp only [V, List.flatten_cons, List.flatten_nil, List.append_nil, hostOps0, hostOps0_1, hostOps0_2, hostOps0_3, hostOps0_4, hostOps0_5, hostOps0_6, hostOps0_7, hostOps0_8, List.cons_append, List.nil_append]
  entry_read
  pointwise [StableHlo.TRef.ofBuf, StableHlo.TRef.toBuf, cast_cast, cast_eq]
  rfl

theorem host_gain (e : Fin 1024) : V m c main_v68 (ix2 0 e) = (layerAt m c).g e := by
  simp only [V, List.flatten_cons, List.flatten_nil, List.append_nil, hostOps0, hostOps0_1, hostOps0_2, hostOps0_3, hostOps0_4, hostOps0_5, hostOps0_6, hostOps0_7, hostOps0_8, List.cons_append, List.nil_append]
  entry_read
  pointwise [StableHlo.TRef.ofBuf, StableHlo.TRef.toBuf, cast_cast, cast_eq]
  rfl

theorem host_norm (f : Fin 2048) : V m c main_v69 (ix2 0 f) = (layerAt m c).gn f := by
  simp only [V, List.flatten_cons, List.flatten_nil, List.append_nil, hostOps0, hostOps0_1, hostOps0_2, hostOps0_3, hostOps0_4, hostOps0_5, hostOps0_6, hostOps0_7, hostOps0_8, List.cons_append, List.nil_append]
  entry_read
  pointwise [StableHlo.TRef.ofBuf, StableHlo.TRef.toBuf, cast_cast, cast_eq]
  rfl

theorem host_win (e : Fin 1024) (f : Fin 6144) : V m c main_v1 (ix2 e f) = (layerAt m c).win e f := by
  simp only [V, List.flatten_cons, List.flatten_nil, List.append_nil, hostOps0, hostOps0_1, hostOps0_2, hostOps0_3, hostOps0_4, hostOps0_5, hostOps0_6, hostOps0_7, hostOps0_8, List.cons_append, List.nil_append]
  entry_read
  pointwise [StableHlo.TRef.ofBuf, StableHlo.TRef.toBuf, cast_cast, cast_eq]
  rfl

theorem host_wout (f : Fin 2048) (e : Fin 1024) : V m c main_v2 (ix2 f e) = (layerAt m c).wout f e := by
  simp only [V, List.flatten_cons, List.flatten_nil, List.append_nil, hostOps0, hostOps0_1, hostOps0_2, hostOps0_3, hostOps0_4, hostOps0_5, hostOps0_6, hostOps0_7, hostOps0_8, List.cons_append, List.nil_append]
  entry_read
  pointwise [StableHlo.TRef.ofBuf, StableHlo.TRef.toBuf, cast_cast, cast_eq]
  rfl

theorem host_x (b : Fin 16) (s : Fin 2048) (e : Fin 1024) : V m c main_arg0 (ix2 (rowOf b s) e) = (layerAt m c).x b s e := by
  rw [V_main_arg0]
  rfl

/-! ## The blocks of a grid point -/

/-- The sequence and the quarter of grid point `t`. -/
def seqOf (t : Fin cfg0.N) : Fin 16 := ⟨t.val / 4, by have := lt_of_lt_of_eq t.isLt (show cfg0.N = 64 from N_0); omega⟩

def quarter (t : Fin cfg0.N) : Fin 4 := ⟨t.val % 4, by omega⟩

theorem idx_0 : ∀ t : Fin cfg0.N, win0_0.index t = ![t.val, 0] :=
  (by decide +kernel : ∀ t : Fin grid0.N, win0_0.index t = ![t.val, 0])

theorem idx_1 : ∀ t : Fin cfg0.N, win0_1.index t = ![0, 0] :=
  (by decide +kernel : ∀ t : Fin grid0.N, win0_1.index t = ![0, 0])

theorem idx_2 : ∀ t : Fin cfg0.N, win0_2.index t = ![0, 0] :=
  (by decide +kernel : ∀ t : Fin grid0.N, win0_2.index t = ![0, 0])

theorem idx_3 : ∀ t : Fin cfg0.N, win0_3.index t = ![t.val % 4, 0] :=
  (by decide +kernel : ∀ t : Fin grid0.N, win0_3.index t = ![t.val % 4, 0])

theorem idx_4 : ∀ t : Fin cfg0.N, win0_4.index t = ![t.val % 4, 0] :=
  (by decide +kernel : ∀ t : Fin grid0.N, win0_4.index t = ![t.val % 4, 0])

theorem idx_5 : ∀ t : Fin cfg0.N, win0_5.index t = ![0,0,0] :=
  (by decide +kernel : ∀ t : Fin grid0.N, win0_5.index t = ![0,0,0])

theorem idx_6 : ∀ t : Fin cfg0.N, win0_6.index t = ![0,0,0] :=
  (by decide +kernel : ∀ t : Fin grid0.N, win0_6.index t = ![0,0,0])

theorem idx_7 : ∀ t : Fin cfg0.N, win0_7.index t = ![0,0,0] :=
  (by decide +kernel : ∀ t : Fin grid0.N, win0_7.index t = ![0,0,0])

theorem idx_8 : ∀ t : Fin cfg0.N, win0_8.index t = ![0,0,0] :=
  (by decide +kernel : ∀ t : Fin grid0.N, win0_8.index t = ![0,0,0])

theorem idx_9 : ∀ t : Fin cfg0.N, win0_9.index t = ![0, 0] :=
  (by decide +kernel : ∀ t : Fin grid0.N, win0_9.index t = ![0, 0])

theorem idx_10 : ∀ t : Fin cfg0.N, win0_10.index t = ![0,0] :=
  (by decide +kernel : ∀ t : Fin grid0.N, win0_10.index t = ![0,0])

theorem idx_11 : ∀ t : Fin cfg0.N, win0_11.index t = ![t.val, 0] :=
  (by decide +kernel : ∀ t : Fin grid0.N, win0_11.index t = ![t.val, 0])

theorem idx_12 : ∀ t : Fin cfg0.N, win0_12.index t = ![t.val / 4, 0, 0, 0] :=
  (by decide +kernel : ∀ t : Fin grid0.N, win0_12.index t = ![t.val / 4, 0, 0, 0])

theorem blk_x (t : Fin cfg0.N) (r : Fin 512) (e : Fin 1024) : iblk m c 0 t (ix2 r e) = V m c main_arg0 (ix2 (rowOf (seqOf t) (posIn (quarter t) r)) e) := by
  blk_ext [iblk, V, idx_0 t]
  simp only [rowOf, seqOf, posIn, quarter]; omega

theorem blk_gain (t : Fin cfg0.N) (e : Fin 1024) : iblk m c 1 t (ix2 0 e) = V m c main_v68 (ix2 0 e) := by
  blk_ext [iblk, V, idx_1 t]

theorem blk_win (t : Fin cfg0.N) (e : Fin 1024) (f : Fin 6144) : iblk m c 2 t (ix2 e f) = V m c main_v1 (ix2 e f) := by
  blk_ext [iblk, V, idx_2 t]

theorem blk_cos (t : Fin cfg0.N) (r : Fin 512) (d : Fin 128) : iblk m c 3 t (ix2 r d) = V m c main_v15 (ix2 (posIn (quarter t) r) d) := by
  blk_ext [iblk, V, idx_3 t]
  simp only [posIn, quarter]; omega

theorem blk_sin (t : Fin cfg0.N) (r : Fin 512) (d : Fin 128) : iblk m c 4 t (ix2 r d) = V m c main_v16 (ix2 (posIn (quarter t) r) d) := by
  blk_ext [iblk, V, idx_4 t]
  simp only [posIn, quarter]; omega

theorem blk_decayIn (t : Fin cfg0.N) (h : Fin 4) (i j : Fin 128) : iblk m c 5 t (ix3 h i j) = V m c main_v62 (ix3 h i j) := by
  blk_ext [iblk, V, idx_5 t]

theorem blk_decayQ (t : Fin cfg0.N) (h : Fin 4) (i : Fin 128) : iblk m c 6 t (ix3 h i 0) = V m c main_v64 (ix3 h i 0) := by
  blk_ext [iblk, V, idx_6 t]

theorem blk_decayK (t : Fin cfg0.N) (h : Fin 4) (i : Fin 128) : iblk m c 7 t (ix3 h i 0) = V m c main_v66 (ix3 h i 0) := by
  blk_ext [iblk, V, idx_7 t]

theorem blk_decayC (t : Fin cfg0.N) (h : Fin 4) : iblk m c 8 t (ix3 h 0 0) = V m c main_v67 (ix3 h 0 0) := by
  blk_ext [iblk, V, idx_8 t]

theorem blk_norm (t : Fin cfg0.N) (f : Fin 2048) : iblk m c 9 t (ix2 0 f) = V m c main_v69 (ix2 0 f) := by
  blk_ext [iblk, V, idx_9 t]

theorem blk_wout (t : Fin cfg0.N) (f : Fin 2048) (e : Fin 1024) : iblk m c 10 t (ix2 f e) = V m c main_v2 (ix2 f e) := by
  blk_ext [iblk, V, idx_10 t]

/-- A grid point works on its sequence's quarter of the layer. -/
theorem matches_at (t : Fin cfg0.N) :
    Matches (readsOf (iblk m c 0 t) (iblk m c 1 t) (iblk m c 2 t) (iblk m c 3 t) (iblk m c 4 t) (iblk m c 5 t) (iblk m c 6 t) (iblk m c 7 t) (iblk m c 8 t) (iblk m c 9 t))
      (layerAt m c) (seqOf t) (quarter t) :=
  matches_of _ _ _ _ _ _ _ _ _ _ _ _ _
    (fun r e => (blk_x m c t r e).trans (host_x m c _ _ _)) (fun e => (blk_gain m c t e).trans (host_gain m c e))
    (fun e f => (blk_win m c t e f).trans (host_win m c e f)) (fun r d => (blk_cos m c t r d).trans (host_cos m c _ d))
    (fun r d => (blk_sin m c t r d).trans (host_sin m c _ d)) (fun h i j => (blk_decayIn m c t h i j).trans (host_decayIn m c h i j))
    (fun h i => (blk_decayQ m c t h i).trans (host_decayQ m c h i)) (fun h i => (blk_decayK m c t h i).trans (host_decayK m c h i))
    (fun h => (blk_decayC m c t h).trans (host_decayC m c h)) (fun f => (blk_norm m c t f).trans (host_norm m c f))

/-! ## From point to point -/

theorem zeroHeads_apply (h : Fin 4) (d : Fin 256) (e : Fin 512) : (zeroHeads h : Vec Ideal S1x1x256x512 .f32) (ix4 0 0 d e) = (0 : EReal) := by
  have z : ∀ i, k0_pay1 (F := Ideal) i = (0 : EReal) := fun i => by pointwise [k0_pay1]
  exact z ((headRect h).idx (ix4 0 0 d e))

theorem headsOf_apply (X : Vec Ideal S1x4x256x512 .f32) (h : Fin 4) (d : Fin 256) (e : Fin 512) :
    headsOf X h (ix4 0 0 d e) = X (ix4 0 h d e) := by
  refine congrArg X ?_
  funext a; fin_cases a <;> apply Fin.ext <;> simp [headRect, LoadRect.idx, Rect.unit, ix4]

/-- After a grid point, the state block holds the state after the point's last chunk. -/
theorem state_after (n : ℕ) (hn : n < cfg0.N) (h : Fin 4) (d : Fin 256) (e : Fin 512) :
    (outsAt0 m c n hn).2 (ix4 0 h d e) = (layerAt m c).state (seqOf ⟨n, hn⟩) (4 * (quarter ⟨n, hn⟩).val + 4) h d e := by
  induction n generalizing h d e with
  | zero =>
    refine (headsOf_apply _ h d e).symm.trans ?_
    rw [outsAt0_A m c ⟨0, hn⟩ (Nat.zero_mod 4)]
    dsimp only
    rw [outA_state]
    exact (matches_at m c ⟨0, hn⟩).chain_eq _ (fun h d e => zeroHeads_apply h d e) 4 le_rfl h d e
  | succ n ih =>
    by_cases h0 : (n + 1) % 4 = 0
    · refine (headsOf_apply _ h d e).symm.trans ?_
      rw [outsAt0_A m c ⟨n + 1, hn⟩ h0]
      dsimp only
      rw [outA_state]
      refine (matches_at m c ⟨n + 1, hn⟩).chain_eq _ (fun h d e => ?_) 4 le_rfl h d e
      rw [zeroHeads_apply, show 4 * (quarter ⟨n + 1, hn⟩).val = 0 by simp only [quarter, h0]]
      rfl
    · refine (headsOf_apply _ h d e).symm.trans ?_
      rw [outsAt0_B m c ⟨n + 1, hn⟩ h0]
      dsimp only
      rw [outB_state]
      refine (matches_at m c ⟨n + 1, hn⟩).chain_eq _ (fun h d e => ?_) 4 le_rfl h d e
      rw [headsOf_apply]
      refine (ih (Nat.lt_of_succ_lt hn) h d e).trans ?_
      congr 1
      · apply Fin.ext; simp only [seqOf]; omega
      · simp only [quarter]; omega

/-- The rows a grid point writes. -/
theorem rows_after (n : ℕ) (hn : n < cfg0.N) (r : Fin 512) (e : Fin 1024) :
    (outsAt0 m c n hn).1 (ix2 r e) = (layerAt m c).out (seqOf ⟨n, hn⟩) (posIn (quarter ⟨n, hn⟩) r) e := by
  have hw : ∀ f e, iblk m c 10 ⟨n, hn⟩ (ix2 f e) = (layerAt m c).wout f e := fun f e => (blk_wout m c _ f e).trans (host_wout m c f e)
  have hx : ∀ r e, iblk m c 0 ⟨n, hn⟩ (ix2 r e) = (layerAt m c).x (seqOf ⟨n, hn⟩) (posIn (quarter ⟨n, hn⟩) r) e :=
    fun r e => (blk_x m c _ r e).trans (host_x m c _ _ _)
  by_cases h0 : n % 4 = 0
  · rw [outsAt0_A m c ⟨n, hn⟩ h0]
    dsimp only
    rw [outA_rows]
    refine (matches_at m c ⟨n, hn⟩).rows_eq _ _ hx hw _ (fun k hk => (matches_at m c ⟨n, hn⟩).chain_eq _ (fun h d e => ?_) k hk) r e
    rw [zeroHeads_apply, show 4 * (quarter ⟨n, hn⟩).val = 0 by simp only [quarter, h0]]
    rfl
  · rw [outsAt0_B m c ⟨n, hn⟩ h0]
    dsimp only
    rw [outB_rows]
    refine (matches_at m c ⟨n, hn⟩).rows_eq _ _ hx hw _ (fun k hk => (matches_at m c ⟨n, hn⟩).chain_eq _ (fun h d e => ?_) k hk) r e
    rw [headsOf_apply]
    refine (state_after m c (n - 1) _ h d e).trans ?_
    congr 1
    · apply Fin.ext; simp only [seqOf]; omega
    · simp only [quarter]; omega

/-! ## The two arrays after the run -/

theorem rows_final : (dats m 0 c).arrAt 11 cfg0.N = (layerAt m c).outRows := by
  refine (dats m 0 c).arrAt_eq_of_covers 11 _ (by decide +kernel) fun t hf y => ?_
  blk_simp
  rw [after0_11]
  obtain ⟨r, e, rfl⟩ : ∃ (r : Fin 512) (e : Fin 1024), y = ix2 r e := ⟨y 0, y 1, eq_ix2 y⟩
  refine (rows_after m c t.val t.isLt r e).trans ?_
  unfold Layer.outRows
  have ht := lt_of_lt_of_eq t.isLt (show cfg0.grid.N = 64 from N_0)
  congr 1 <;> apply Fin.ext <;> blk_simp [idx_11 t] <;> simp only [seqOf, posIn, quarter] <;> omega

theorem state_final : (dats m 0 c).arrAt 12 cfg0.N = (layerAt m c).lastState := by
  refine (dats m 0 c).arrAt_eq_of_covers 12 _ (by decide +kernel) fun t hf y => ?_
  blk_simp
  rw [after0_12]
  obtain ⟨z, h, d, e, rfl⟩ : ∃ (z : Fin 1) (h : Fin 4) (d : Fin 256) (e : Fin 512), y = ix4 z h d e := ⟨y 0, y 1, y 2, y 3, eq_ix4 y⟩
  obtain rfl : z = 0 := Subsingleton.elim _ _
  refine (state_after m c t.val t.isLt h d e).trans ?_
  unfold Layer.lastState
  have ht := lt_of_lt_of_eq t.isLt (show cfg0.grid.N = 64 from N_0)
  have hl : t.val % 4 = 3 := (flush0_12 t).mp hf
  rw [show 4 * (quarter ⟨t.val, t.isLt⟩).val + 4 = 16 by simp only [quarter, hl]]
  congr 1 <;> apply Fin.ext <;> blk_simp [idx_12 t] <;> (try simp only [seqOf]) <;> omega

end Cert.KernelIdeal.Ret
-- ==== Proof.Ret.RefArrays.lean ====
/-
  The arrays the reference's host computes outside its loop, and each at an index: the projected rows, the rotated queries and keys
  cut into chunks, and the rows after the layer.
-/
module

public import proofs.«01_k».proof.Proof.Gen.ReferenceIdeal.Run
public import proofs.«01_k».proof.Proof.Ret.Tables
public import Idealize.ShloMosaic.Lib.Pointwise
public import Idealize.ShloMosaic.Lib.Claim
public import Idealize.ShloMosaic.Lib.StableHlo.ReadAt

@[expose] public section

set_option maxRecDepth 16384

namespace Cert.ReferenceIdeal.Ret

open Cert.ReferenceIdeal Cert.ReferenceIdeal.Gen Cert.ReferenceIdeal.Value Idealize.ShloMosaic Idealize.ShloMosaic.TcCoe Idealize.SL.Sem Idealize.ShloMosaic.StableHlo
open Cert.Retention

variable (x : FVec Ideal S32768x1024 .f32) (g : FVec Ideal S1024 .f32) (win : FVec Ideal S1024x6144 .f32)
  (gn : FVec Ideal S2048 .f32) (wout : FVec Ideal S2048x1024 .f32)

/-- The residual stream by sequences. -/
noncomputable def rows : FVec Ideal S16x2048x1024 .f32 := shapeCast S16x2048x1024 x shapeCasts_S32768x1024_S16x2048x1024

theorem rows_apply (b : Fin 16) (s : Fin 2048) (e : Fin 1024) : rows x (ix3 b s e) = (layer x g win gn wout).x b s e := by
  unfold rows
  pointwise
  refine congrArg x ?_
  funext a; fin_cases a <;> apply Fin.ext <;> simp [ix2, rowOf] <;> omega

/-- Each row normalised. -/
noncomputable def normed : FVec Ideal S16x2048x1024 .f32 :=
  mulf (mulf (rows x) (broadcastInDim S16x2048x1024 ![0, 1, 2] bcast_S16x2048x1_S16x2048x1024_0_1_2
      (Host.rsqrt (addf (Host.divf (broadcastInDim S16x2048x1 ![0, 1] bcast_S16x2048_S16x2048x1_0_1
            (Host.reduceAdd (mulf (rows x) (rows x)) (constant S_ .f32 0x00000000#32) reducesTo_S16x2048x1024_S16x2048_d2 h_S_))
          (broadcastInDim S16x2048x1 ![] bcast_S_S16x2048x1 (constant S_ .f32 0x44800000#32)))
        (broadcastInDim S16x2048x1 ![] bcast_S_S16x2048x1 (constant S_ .f32 0x358637BD#32))))))
    (broadcastInDim S16x2048x1024 ![0, 1, 2] bcast_S1x1x1024_S16x2048x1024_0_1_2 (broadcastInDim S1x1x1024 ![2] bcast_S1024_S1x1x1024_2 g))

theorem normed_apply (b : Fin 16) (s : Fin 2048) (e : Fin 1024) : normed x g (ix3 b s e) = (layer x g win gn wout).normed b s e := by
  pointwise [normed]
  simp only [rows_apply x g win gn wout, Layer.normed]
  rfl

/-- Each row projected. -/
noncomputable def proj : FVec Ideal S16x2048x6144 .f32 := Host.dotGeneral dot_S16x2048x1024_S1024x6144_S16x2048x6144_2_0_01_1_n_n none (normed x g) win

theorem proj_apply (b : Fin 16) (s : Fin 2048) (e : Fin 6144) : proj x g win (ix3 b s e) = (layer x g win gn wout).proj b s e := by
  pointwise [proj]
  simp only [normed_apply x g win gn wout, Layer.proj]
  rfl

/-- The angles. -/
noncomputable def angles : FVec Ideal S2048x128 .f32 :=
  mulf (broadcastInDim S2048x128 ![0, 1] bcast_S2048x1_S2048x128_0_1 (broadcastInDim S2048x1 ![0] bcast_S2048_S2048x1_0 (sitofp .f32 (iotaInDim S2048 32 0))))
    (broadcastInDim S2048x128 ![0, 1] bcast_S1x128_S2048x128_0_1 (broadcastInDim S1x128 ![1] bcast_S128_S1x128_1
      (Host.powf (broadcastInDim S128 ![] bcast_S_S128 (constant S_ .f32 0x461C4000#32))
        (Host.divf (Host.negf (sitofp .f32 (iotaInDim S128 32 0))) (broadcastInDim S128 ![] bcast_S_S128 (constant S_ .f32 0x43000000#32))))))

theorem angles_apply (s : Fin 2048) (d : Fin 128) : angles (ix2 s d) = angle s d := by
  pointwise [angles]
  rfl

/-- A table of angles for every sequence and head. -/
noncomputable def spread (t : FVec Ideal S2048x128 .f32) : FVec Ideal S16x2048x4x128 .f32 :=
  broadcastInDim S16x2048x4x128 ![0, 1, 2, 3] bcast_S1x2048x1x128_S16x2048x4x128_0_1_2_3 (broadcastInDim S1x2048x1x128 ![1, 3] bcast_S2048x128_S1x2048x1x128_1_3 t)

/-- Heads rotated by the angles. -/
noncomputable def rotate (y : FVec Ideal S16x2048x4x256 .f32) : FVec Ideal S16x2048x4x256 .f32 :=
  concatenate S16x2048x4x256 3
    [⟨S16x2048x4x128, subf (mulf (extractStridedSlice S16x2048x4x128 ![0, 0, 0, 0] y slices_S16x2048x4x256_S16x2048x4x128_0_0_0_0) (spread (Host.cos angles)))
        (mulf (extractStridedSlice S16x2048x4x128 ![0, 0, 0, 128] y slices_S16x2048x4x256_S16x2048x4x128_0_0_0_128) (spread (Host.sin angles)))⟩,
      ⟨S16x2048x4x128, addf (mulf (extractStridedSlice S16x2048x4x128 ![0, 0, 0, 0] y slices_S16x2048x4x256_S16x2048x4x128_0_0_0_0) (spread (Host.sin angles)))
        (mulf (extractStridedSlice S16x2048x4x128 ![0, 0, 0, 128] y slices_S16x2048x4x256_S16x2048x4x128_0_0_0_128) (spread (Host.cos angles)))⟩]
    concatenates_S16x2048x4x128_S16x2048x4x128_S16x2048x4x256_d3

theorem rotate_apply (y : FVec Ideal S16x2048x4x256 .f32) (b : Fin 16) (s : Fin 2048) (h : Fin 4) (d : Fin 256) :
    rotate y (ix4 b s h d) = if hd : d.val < 128 then
        y (ix4 b s h d) * Ideal.cos (angle s ⟨d.val, hd⟩) - y (ix4 b s h ⟨128 + d.val, by omega⟩) * Ideal.sin (angle s ⟨d.val, hd⟩)
      else y (ix4 b s h ⟨d.val - 128, by omega⟩) * Ideal.sin (angle s ⟨d.val - 128, by omega⟩) + y (ix4 b s h d) * Ideal.cos (angle s ⟨d.val - 128, by omega⟩) := by
  pointwise [rotate, spread, angles_apply]
  split
  · rfl
  · rename_i hd
    have e : 128 + (d.val - 128) = d.val := by omega
    simp only [e]

theorem place (n : Fin 16) (i : Fin 128) (h : n.val * 128 + i.val < 2048) : (⟨n.val * 128 + i.val, h⟩ : Fin 2048) = pos n.val i := by
  apply Fin.ext; simp only [pos]; omega

/-- Heads cut into chunks. -/
noncomputable def chunks (y : FVec Ideal S16x2048x4x256 .f32) : FVec Ideal S16x16x128x4x256 .f32 :=
  transpose S16x16x128x4x256 [1, 0, 2, 3, 4] (shapeCast S16x16x128x4x256 y shapeCasts_S16x2048x4x256_S16x16x128x4x256) transposes_S16x16x128x4x256_S16x16x128x4x256_1_0_2_3_4

theorem chunks_apply (y : FVec Ideal S16x2048x4x256 .f32) (n b : Fin 16) (i : Fin 128) (h : Fin 4) (d : Fin 256) :
    chunks y (ix5 n b i h d) = y (ix4 b (pos n.val i) h d) := by
  pointwise [chunks]
  simp only [place]

theorem column (L : Layer) (b : Fin 16) (s : Fin 2048) (e e' : Fin 6144) (h : e.val = e'.val) : L.proj b s e = L.proj b s e' := by rw [Fin.ext h]

noncomputable def queries : FVec Ideal S16x16x128x4x256 .f32 :=
  chunks (rotate (shapeCast S16x2048x4x256 (extractStridedSlice S16x2048x1024 ![0, 0, 0] (proj x g win) slices_S16x2048x6144_S16x2048x1024_0_0_0) shapeCasts_S16x2048x1024_S16x2048x4x256))

noncomputable def keys : FVec Ideal S16x16x128x4x256 .f32 :=
  chunks (mulf (rotate (shapeCast S16x2048x4x256 (extractStridedSlice S16x2048x1024 ![0, 0, 1024] (proj x g win) slices_S16x2048x6144_S16x2048x1024_0_0_1024) shapeCasts_S16x2048x1024_S16x2048x4x256))
    (broadcastInDim S16x2048x4x256 ![] bcast_S_S16x2048x4x256 (constant S_ .f32 0x3D800000#32)))

noncomputable def values : FVec Ideal S16x16x128x4x512 .f32 :=
  transpose S16x16x128x4x512 [1, 0, 2, 3, 4] (shapeCast S16x16x128x4x512
    (shapeCast S16x2048x4x512 (extractStridedSlice S16x2048x2048 ![0, 0, 2048] (proj x g win) slices_S16x2048x6144_S16x2048x2048_0_0_2048) shapeCasts_S16x2048x2048_S16x2048x4x512)
    shapeCasts_S16x2048x4x512_S16x16x128x4x512) transposes_S16x16x128x4x512_S16x16x128x4x512_1_0_2_3_4

theorem queries_apply (n b : Fin 16) (i : Fin 128) (h : Fin 4) (d : Fin 256) :
    queries x g win (ix5 n b i h d) = (layer x g win gn wout).q b (pos n.val i) h d := by
  unfold queries
  rw [chunks_apply, rotate_apply]
  pointwise [proj_apply x g win gn wout]
  unfold Layer.q Layer.rotated
  split
  · exact congrArg₂ (· - ·) (congrArg (· * _) (column _ _ _ _ _ (by dsimp only; omega))) (congrArg (· * _) (column _ _ _ _ _ (by dsimp only; omega)))
  · exact congrArg₂ (· + ·) (congrArg (· * _) (column _ _ _ _ _ (by dsimp only; omega))) (congrArg (· * _) (column _ _ _ _ _ (by dsimp only; omega)))

theorem keys_apply (n b : Fin 16) (i : Fin 128) (h : Fin 4) (d : Fin 256) :
    keys x g win (ix5 n b i h d) = (layer x g win gn wout).k b (pos n.val i) h d := by
  unfold keys
  rw [chunks_apply]
  pointwise [proj_apply x g win gn wout, rotate_apply]
  unfold Layer.k Layer.rotated
  refine congrArg (· * Ideal.ofBits FTy.f32 0x3D800000#32) ?_
  split
  · exact congrArg₂ (· - ·) (congrArg (· * _) (column _ _ _ _ _ (by dsimp only; omega))) (congrArg (· * _) (column _ _ _ _ _ (by dsimp only; omega)))
  · exact congrArg₂ (· + ·) (congrArg (· * _) (column _ _ _ _ _ (by dsimp only; omega))) (congrArg (· * _) (column _ _ _ _ _ (by dsimp only; omega)))

theorem values_apply (n b : Fin 16) (i : Fin 128) (h : Fin 4) (e : Fin 512) :
    values x g win (ix5 n b i h e) = (layer x g win gn wout).v b (pos n.val i) h e := by
  pointwise [values, proj_apply x g win gn wout]
  rw [place]
  exact column _ _ _ _ _ (by dsimp only; omega)

/-! ## After the loop -/

/-- The chunks' outputs in order of position. -/
noncomputable def inOrder (o : FVec Ideal S16x16x128x4x512 .f32) : FVec Ideal S16x2048x4x512 .f32 :=
  shapeCast S16x2048x4x512 (transpose S16x16x128x4x512 [1, 0, 2, 3, 4] o transposes_S16x16x128x4x512_S16x16x128x4x512_1_0_2_3_4) shapeCasts_S16x16x128x4x512_S16x2048x4x512

noncomputable def meansOut (z : FVec Ideal S16x2048x4x512 .f32) : FVec Ideal S16x2048x4x1 .f32 :=
  Host.divf (broadcastInDim S16x2048x4x1 ![0, 1, 2] bcast_S16x2048x4_S16x2048x4x1_0_1_2
      (Host.reduceAdd z (constant S_ .f32 0x00000000#32) reducesTo_S16x2048x4x512_S16x2048x4_d3 h_S_))
    (broadcastInDim S16x2048x4x1 ![] bcast_S_S16x2048x4x1 (constant S_ .f32 0x44000000#32))

noncomputable def centredOut (z : FVec Ideal S16x2048x4x512 .f32) : FVec Ideal S16x2048x4x512 .f32 :=
  subf z (broadcastInDim S16x2048x4x512 ![0, 1, 2, 3] bcast_S16x2048x4x1_S16x2048x4x512_0_1_2_3 (meansOut z))

theorem centredOut_apply (z : FVec Ideal S16x2048x4x512 .f32) (b : Fin 16) (s : Fin 2048) (h : Fin 4) (e : Fin 512) :
    centredOut z (ix4 b s h e) = centred (fun e => z (ix4 b s h e)) e := by
  pointwise [centredOut, meansOut]
  rfl

noncomputable def standardOut (z : FVec Ideal S16x2048x4x512 .f32) : FVec Ideal S16x2048x4x512 .f32 :=
  mulf (centredOut z) (broadcastInDim S16x2048x4x512 ![0, 1, 2, 3] bcast_S16x2048x4x1_S16x2048x4x512_0_1_2_3
    (Host.rsqrt (addf (meansOut (mulf (centredOut z) (centredOut z)))
      (broadcastInDim S16x2048x4x1 ![] bcast_S_S16x2048x4x1 (constant S_ .f32 0x358637BD#32)))))

theorem standardOut_apply (z : FVec Ideal S16x2048x4x512 .f32) (b : Fin 16) (s : Fin 2048) (h : Fin 4) (e : Fin 512) :
    standardOut z (ix4 b s h e) = standard (fun e => z (ix4 b s h e)) e := by
  pointwise [standardOut, meansOut, centredOut_apply]
  rfl

noncomputable def gateOut : FVec Ideal S16x2048x2048 .f32 :=
  extractStridedSlice S16x2048x2048 ![0, 0, 4096] (proj x g win) slices_S16x2048x6144_S16x2048x2048_0_0_4096

noncomputable def gatedOut (o : FVec Ideal S16x16x128x4x512 .f32) : FVec Ideal S16x2048x2048 .f32 :=
  mulf (mulf (gateOut x g win) (Host.divf (broadcastInDim S16x2048x2048 ![] bcast_S_S16x2048x2048 (constant S_ .f32 0x3F800000#32))
      (addf (broadcastInDim S16x2048x2048 ![] bcast_S_S16x2048x2048 (constant S_ .f32 0x3F800000#32)) (Host.exp (Host.negf (gateOut x g win))))))
    (mulf (shapeCast S16x2048x2048 (standardOut (inOrder o)) shapeCasts_S16x2048x4x512_S16x2048x2048)
      (broadcastInDim S16x2048x2048 ![0, 1, 2] bcast_S1x1x2048_S16x2048x2048_0_1_2 (broadcastInDim S1x1x2048 ![2] bcast_S2048_S1x1x2048_2 gn)))

theorem gatedOut_apply (o : FVec Ideal S16x16x128x4x512 .f32)
    (ho : ∀ (n b : Fin 16) (i : Fin 128) (h : Fin 4) (e : Fin 512), o (ix5 n b i h e) = (layer x g win gn wout).ret b n.val h i e)
    (b : Fin 16) (s : Fin 2048) (f : Fin 2048) :
    gatedOut x g win gn o (ix3 b s f) = (layer x g win gn wout).gated b (s.val / 128) ⟨f.val / 512, by omega⟩ ⟨s.val % 128, Nat.mod_lt _ (by omega)⟩ ⟨f.val % 512, Nat.mod_lt _ (by omega)⟩ := by
  pointwise [gatedOut, gateOut, standardOut_apply, inOrder, proj_apply x g win gn wout, ho]
  have ec : ∀ h1 h2, (⟨4096 + f.val, h1⟩ : Fin 6144) = ⟨4096 + 512 * (f.val / 512) + f.val % 512, h2⟩ := fun _ _ => Fin.ext (by dsimp only; omega)
  have ef : ∀ h1, (⟨512 * (f.val / 512) + f.val % 512, h1⟩ : Fin 2048) = f := fun _ => Fin.ext (by dsimp only; omega)
  have es : pos (s.val / 128) ⟨s.val % 128, Nat.mod_lt _ (by omega)⟩ = s := Fin.ext (by simp only [pos]; omega)
  unfold Layer.gated
  dsimp only
  rw [es, ef, ec]
  rfl

noncomputable def afterLayer (o : FVec Ideal S16x16x128x4x512 .f32) : FVec Ideal S32768x1024 .f32 :=
  shapeCast S32768x1024 (addf (rows x) (Host.dotGeneral dot_S16x2048x2048_S2048x1024_S16x2048x1024_2_0_01_1_n_n none (gatedOut x g win gn o) wout)) shapeCasts_S16x2048x1024_S32768x1024

theorem afterLayer_eq (o : FVec Ideal S16x16x128x4x512 .f32)
    (ho : ∀ (n b : Fin 16) (i : Fin 128) (h : Fin 4) (e : Fin 512), o (ix5 n b i h e) = (layer x g win gn wout).ret b n.val h i e) :
    afterLayer x g win gn wout o = (layer x g win gn wout).outRows := by
  funext y
  obtain ⟨r, e, rfl⟩ : ∃ (r : Fin 32768) (e : Fin 1024), y = ix2 r e := ⟨y 0, y 1, eq_ix2 y⟩
  pointwise [afterLayer, gatedOut_apply x g win gn wout o ho, rows_apply x g win gn wout]
  rfl

end Cert.ReferenceIdeal.Ret
-- ==== Proof.Ret.RefLoop.lean ====
/-
  The reference's loop over the chunks: before trip `k` the carried state is the layer's state before chunk `k`, and
  the chunks before `k` have their outputs. So the reference's two results are the layer's.
-/
module

public import proofs.«01_k».proof.Proof.Ret.RefArrays

@[expose] public section

set_option maxRecDepth 16384

namespace Cert.ReferenceIdeal.Ret

open Cert.ReferenceIdeal Cert.ReferenceIdeal.Gen Cert.ReferenceIdeal.Value Idealize.ShloMosaic Idealize.ShloMosaic.TcCoe Idealize.SL.Sem Idealize.ShloMosaic.StableHlo
open Cert.Retention

/-! ## A chunk read and a chunk written -/

theorem chunk256 (X : FVec Ideal S16x16x128x4x256 .f32) (start : Fin 5 → ℤ) (k : Fin 16) (hs : start = ![(k.val : ℤ), 0, 0, 0, 0])
    (b : Fin 16) (i : Fin 128) (h : Fin 4) (d : Fin 256) :
    shapeCast S16x128x4x256 (Host.dynamicSlice S1x16x128x4x256 X start sliceFits_S16x16x128x4x256_S1x16x128x4x256)
      shapeCasts_S1x16x128x4x256_S16x128x4x256 (ix4 b i h d) = X (ix5 k b i h d) := by
  subst hs
  pointwise
  refine congrArg X ?_
  funext a; fin_cases a <;> apply Fin.ext <;> simp [Host.clampedStart, ix5] <;> omega

theorem chunk512 (X : FVec Ideal S16x16x128x4x512 .f32) (start : Fin 5 → ℤ) (k : Fin 16) (hs : start = ![(k.val : ℤ), 0, 0, 0, 0])
    (b : Fin 16) (i : Fin 128) (h : Fin 4) (d : Fin 512) :
    shapeCast S16x128x4x512 (Host.dynamicSlice S1x16x128x4x512 X start sliceFits_S16x16x128x4x512_S1x16x128x4x512)
      shapeCasts_S1x16x128x4x512_S16x128x4x512 (ix4 b i h d) = X (ix5 k b i h d) := by
  subst hs
  pointwise
  refine congrArg X ?_
  funext a; fin_cases a <;> apply Fin.ext <;> simp [Host.clampedStart, ix5] <;> omega

theorem put512 (X : FVec Ideal S16x16x128x4x512 .f32) (U : FVec Ideal S1x16x128x4x512 .f32) (start : Fin 5 → ℤ) (k : Fin 16)
    (hs : start = ![(k.val : ℤ), 0, 0, 0, 0]) (n b : Fin 16) (i : Fin 128) (h : Fin 4) (e : Fin 512) :
    Host.dynamicUpdateSlice X U start updateFits_S16x16x128x4x512_S1x16x128x4x512 (ix5 n b i h e)
      = if n = k then U (ix5 0 b i h e) else X (ix5 n b i h e) := by
  subst hs
  have c0 : ∀ p, Host.clampedStart S16x16x128x4x512 S1x16x128x4x512 p ![(k.val : ℤ), 0, 0, 0, 0] 0 = k.val := fun p => by
    simp [Host.clampedStart]; omega
  have c1 : ∀ p, Host.clampedStart S16x16x128x4x512 S1x16x128x4x512 p ![(k.val : ℤ), 0, 0, 0, 0] 1 = 0 := fun p => by simp [Host.clampedStart]
  have c2 : ∀ p, Host.clampedStart S16x16x128x4x512 S1x16x128x4x512 p ![(k.val : ℤ), 0, 0, 0, 0] 2 = 0 := fun p => by simp [Host.clampedStart]
  have c3 : ∀ p, Host.clampedStart S16x16x128x4x512 S1x16x128x4x512 p ![(k.val : ℤ), 0, 0, 0, 0] 3 = 0 := fun p => by simp [Host.clampedStart]
  have c4 : ∀ p, Host.clampedStart S16x16x128x4x512 S1x16x128x4x512 p ![(k.val : ℤ), 0, 0, 0, 0] 4 = 0 := fun p => by simp [Host.clampedStart]
  pointwise
  by_cases hn : n = k
  · subst hn
    rw [if_pos rfl, dif_pos (by rw [c0, c1, c2, c3, c4]; omega)]
    refine congrArg U ?_
    funext a; fin_cases a <;> apply Fin.ext <;> simp [c0, c1, c2, c3, c4, ix5]
  · rw [if_neg hn, dif_neg]
    rw [c0]
    rintro ⟨⟨h1, h2⟩, -⟩
    exact hn (Fin.ext (by omega))

/-! ## The loop -/

variable (L : Layer)

/-- What the carried buffers hold before trip `k`. -/
structure At (k : ℕ) (V : Valuation τ sig (Elt Ideal)) : Prop where
  qs : ∀ (n b : Fin 16) (i : Fin 128) (h : Fin 4) (d : Fin 256), V (Proc.devRef .tc main_v139_0) (ix5 n b i h d) = L.q b (pos n.val i) h d
  ks : ∀ (n b : Fin 16) (i : Fin 128) (h : Fin 4) (d : Fin 256), V (Proc.devRef .tc main_v139_1) (ix5 n b i h d) = L.k b (pos n.val i) h d
  vs : ∀ (n b : Fin 16) (i : Fin 128) (h : Fin 4) (e : Fin 512), V (Proc.devRef .tc main_v139_2) (ix5 n b i h e) = L.v b (pos n.val i) h e
  dIn : ∀ (h : Fin 4) (i j : Fin 128), V (Proc.devRef .tc main_v139_3) (ix3 h i j) = L.dIn h i j
  dQ : ∀ (h : Fin 4) (i : Fin 128), V (Proc.devRef .tc main_v139_4) (ix4 0 i h 0) = L.dQ h i
  dC : ∀ h : Fin 4, V (Proc.devRef .tc main_v139_5) (ix4 0 h 0 0) = L.dC h
  dK : ∀ (h : Fin 4) (i : Fin 128), V (Proc.devRef .tc main_v139_6) (ix4 0 i h 0) = L.dK h i
  counter : V (Proc.devRef .tc main_v139_7) = fun _ => BitVec.ofNat 32 k
  state : ∀ (b : Fin 16) (h : Fin 4) (d : Fin 256) (e : Fin 512), V (Proc.devRef .tc main_v139_8) (ix4 b h d e) = L.state b k h d e
  outs : ∀ n : Fin 16, n.val < k → ∀ (b : Fin 16) (i : Fin 128) (h : Fin 4) (e : Fin 512), V (Proc.devRef .tc main_v139_9) (ix5 n b i h e) = L.ret b n.val h i e

namespace At

variable {L} {k : ℕ} {V : Valuation τ sig (Elt Ideal)} (A : At L k V) (hk : k < 16)
include A hk

theorem start : (fun j : Fin 5 => (((![V (Proc.devRef .tc main_v139_7), constantI S_ 32 0#32, constantI S_ 32 0#32, constantI S_ 32 0#32, constantI S_ 32 0#32] :
      Fin 5 → (⟨S_, .i32⟩ : BufTy).Contents (Elt Ideal))) j (Shape.Idx.first h_S_)).toInt) = ![((⟨k, hk⟩ : Fin 16).val : ℤ), 0, 0, 0, 0] := by
  have hw : ∀ k : Fin 16, (BitVec.ofNat 32 k.val).toInt = (k.val : ℤ) := by decide
  funext j
  fin_cases j
  · show (V (Proc.devRef .tc main_v139_7) (Shape.Idx.first h_S_)).toInt = _
    rw [A.counter]
    exact hw ⟨k, hk⟩
  all_goals rfl

theorem qc (b : Fin 16) (i : Fin 128) (h : Fin 4) (d : Fin 256) : res_main_while0b_v189 V (ix4 b i h d) = L.q b (pos k i) h d := by
  unfold res_main_while0b_v189
  exact (chunk256 _ _ ⟨k, hk⟩ (A.start hk) b i h d).trans (A.qs _ _ _ _ _)

theorem kc (b : Fin 16) (i : Fin 128) (h : Fin 4) (d : Fin 256) : res_main_while0b_v190 V (ix4 b i h d) = L.k b (pos k i) h d := by
  unfold res_main_while0b_v190
  exact (chunk256 _ _ ⟨k, hk⟩ (A.start hk) b i h d).trans (A.ks _ _ _ _ _)

theorem vc (b : Fin 16) (i : Fin 128) (h : Fin 4) (e : Fin 512) : res_main_while0b_v191 V (ix4 b i h e) = L.v b (pos k i) h e := by
  unfold res_main_while0b_v191
  exact (chunk512 _ _ ⟨k, hk⟩ (A.start hk) b i h e).trans (A.vs _ _ _ _ _)

theorem next_state (b : Fin 16) (h : Fin 4) (d : Fin 256) (e : Fin 512) : step_main_v139_8 V (ix4 b h d e) = L.state b (k + 1) h d e := by
  pointwise [step_main_v139_8, id_eq]
  simp only [A.state, A.dC, A.dK, A.kc hk, A.vc hk]
  rfl

theorem next_outs (n b : Fin 16) (i : Fin 128) (h : Fin 4) (e : Fin 512) :
    step_main_v139_9 V (ix5 n b i h e) = if n = ⟨k, hk⟩ then L.ret b k h i e else V (Proc.devRef .tc main_v139_9) (ix5 n b i h e) := by
  unfold step_main_v139_9
  refine (put512 _ _ _ ⟨k, hk⟩ (A.start hk) n b i h e).trans ?_
  congr 1
  pointwise
  simp only [A.state, A.dQ, A.dIn, A.qc hk, A.kc hk, A.vc hk]
  unfold Layer.ret Layer.inside Layer.across
  congr 1
  · exact Finset.sum_congr rfl fun j _ => mul_comm _ _
  · exact congrArg (· * _) (Finset.sum_congr rfl fun d _ => mul_comm _ _)

theorem next : At L (k + 1) (STEP V) where
  qs := by rw [STEP_main_v139_0]; exact A.qs
  ks := by rw [STEP_main_v139_1]; exact A.ks
  vs := by rw [STEP_main_v139_2]; exact A.vs
  dIn := by rw [STEP_main_v139_3]; exact A.dIn
  dQ := by rw [STEP_main_v139_4]; exact A.dQ
  dC := by rw [STEP_main_v139_5]; exact A.dC
  dK := by rw [STEP_main_v139_6]; exact A.dK
  counter := by
    rw [STEP_main_v139_7]
    unfold step_main_v139_7
    rw [A.counter]
    funext i
    show BitVec.ofNat 32 k + 1#32 = BitVec.ofNat 32 (k + 1)
    rw [BitVec.ofNat_add]
  state := by rw [STEP_main_v139_8]; exact A.next_state hk
  outs n hn b i h e := by
    rw [STEP_main_v139_9, A.next_outs hk]
    by_cases e' : n = ⟨k, hk⟩
    · subst e'; rw [if_pos rfl]
    · rw [if_neg e']
      exact A.outs n (by have hne : n.val ≠ k := fun hh => e' (Fin.ext hh); omega) b i h e

end At

/-! ## The loop's entry -/

variable (m : (ℓ : Loc nD τ sig) → Buf (Elt Ideal) ℓ) (c : Dev nD)

/-- The layer of the arrays the reference was called with. -/
noncomputable def layerAt : Layer :=
  layer (m ((c : Thread nD τ).loc main_arg0)) (m ((c : Thread nD τ).loc main_arg1)) (m ((c : Thread nD τ).loc main_arg2))
    (m ((c : Thread nD τ).loc main_arg3)) (m ((c : Thread nD τ).loc main_arg4))

theorem entry_q : entryContents preI m c (Proc.devRef .tc main_v139_0)
    = queries (m ((c : Thread nD τ).loc main_arg0)) (m ((c : Thread nD τ).loc main_arg1)) (m ((c : Thread nD τ).loc main_arg2)) := by
  simp only [entryContents, afterL_cons, afterL_nil, hostOps0, hostOps0_1, hostOps0_2]
  entry_read
  rfl

theorem entry_k : entryContents preI m c (Proc.devRef .tc main_v139_1)
    = keys (m ((c : Thread nD τ).loc main_arg0)) (m ((c : Thread nD τ).loc main_arg1)) (m ((c : Thread nD τ).loc main_arg2)) := by
  simp only [entryContents, afterL_cons, afterL_nil, hostOps0, hostOps0_1, hostOps0_2]
  entry_read
  rfl

theorem entry_v : entryContents preI m c (Proc.devRef .tc main_v139_2)
    = values (m ((c : Thread nD τ).loc main_arg0)) (m ((c : Thread nD τ).loc main_arg1)) (m ((c : Thread nD τ).loc main_arg2)) := by
  simp only [entryContents, afterL_cons, afterL_nil, hostOps0, hostOps0_1, hostOps0_2]
  entry_read
  rfl

theorem entry_dIn (h : Fin 4) (i j : Fin 128) : entryContents preI m c (Proc.devRef .tc main_v139_3) (ix3 h i j) = decayIn h i j := by
  simp only [entryContents, afterL_cons, afterL_nil, hostOps0, hostOps0_1, hostOps0_2]
  entry_read
  simp -implicitDefEqProofs only [StableHlo.TRef.toBuf, StableHlo.TRef.ofBuf, cast_cast, cast_eq]
  pointwise [id_eq]
  rfl

theorem entry_dQ (h : Fin 4) (i : Fin 128) : entryContents preI m c (Proc.devRef .tc main_v139_4) (ix4 0 i h 0) = decayQ h i := by
  simp only [entryContents, afterL_cons, afterL_nil, hostOps0, hostOps0_1, hostOps0_2]
  entry_read
  pointwise [id_eq]
  rfl

theorem entry_dC (h : Fin 4) : entryContents preI m c (Proc.devRef .tc main_v139_5) (ix4 0 h 0 0) = decayC h := by
  simp only [entryContents, afterL_cons, afterL_nil, hostOps0, hostOps0_1, hostOps0_2]
  entry_read
  pointwise [id_eq]
  rfl

theorem entry_dK (h : Fin 4) (i : Fin 128) : entryContents preI m c (Proc.devRef .tc main_v139_6) (ix4 0 i h 0) = decayK h i := by
  simp only [entryContents, afterL_cons, afterL_nil, hostOps0, hostOps0_1, hostOps0_2]
  entry_read
  pointwise [id_eq]
  rfl

theorem entry_state (b : Fin 16) (h : Fin 4) (d : Fin 256) (e : Fin 512) : entryContents preI m c (Proc.devRef .tc main_v139_8) (ix4 b h d e) = (0 : EReal) := by
  simp only [entryContents, afterL_cons, afterL_nil, hostOps0, hostOps0_1, hostOps0_2]
  entry_read
  pointwise [id_eq]

theorem at_entry : At (layerAt m c) 0 (entryContents preI m c) where
  qs n b i h d := (congrFun (entry_q m c) _).trans (queries_apply _ _ _ _ _ n b i h d)
  ks n b i h d := (congrFun (entry_k m c) _).trans (keys_apply _ _ _ _ _ n b i h d)
  vs n b i h d := (congrFun (entry_v m c) _).trans (values_apply _ _ _ _ _ n b i h d)
  dIn := entry_dIn m c
  dQ := entry_dQ m c
  dC := entry_dC m c
  dK := entry_dK m c
  counter := ctr_entry m c
  state := entry_state m c
  outs n hn := absurd hn (Nat.not_lt_zero _)

theorem at_trip : ∀ k, k ≤ 16 → At (layerAt m c) k (STEP^[k] (entryContents preI m c))
  | 0, _ => at_entry m c
  | k + 1, hk => by
    rw [Function.iterate_succ_apply']
    exact (at_trip k (by omega)).next (by omega)

/-! ## The results -/

theorem out_rows : out_main_v188 (STEP^[16] (entryContents preI m c)) = (layerAt m c).outRows := by
  have e : out_main_v188 (STEP^[16] (entryContents preI m c)) = afterLayer (m ((c : Thread nD τ).loc main_arg0)) (m ((c : Thread nD τ).loc main_arg1)) (m ((c : Thread nD τ).loc main_arg2))
      (m ((c : Thread nD τ).loc main_arg3)) (m ((c : Thread nD τ).loc main_arg4)) ((STEP^[16] (entryContents preI m c)) (Proc.devRef .tc main_v139_9)) := by
    unfold out_main_v188
    rw [iter_main_arg0, iter_main_arg1, iter_main_arg2, iter_main_arg3, iter_main_arg4]
    rfl
  rw [e]
  exact afterLayer_eq _ _ _ _ _ _ fun n b i h e => (at_trip m c 16 le_rfl).outs n n.isLt b i h e

theorem last_state : (STEP^[16] (entryContents preI m c)) (Proc.devRef .tc main_v139_8) = (layerAt m c).lastState := by
  funext y
  obtain ⟨b, h, d, e, rfl⟩ : ∃ (b : Fin 16) (h : Fin 4) (d : Fin 256) (e : Fin 512), y = ix4 b h d e := ⟨y 0, y 1, y 2, y 3, eq_ix4 y⟩
  exact (at_trip m c 16 le_rfl).state b h d e

end Cert.ReferenceIdeal.Ret
-- ==== Proof.Ret.Algebraic.lean ====
/-
  The kernel and the reference end with the same two arrays: the rows and the last state of one layer of the same five
  arrays.
-/
module

public import proofs.«01_k».proof.Defs
public import proofs.«01_k».proof.Proof.Ret.Global
public import proofs.«01_k».proof.Proof.Ret.RefLoop

@[expose] public section

namespace Cert.Proof

open Idealize.ShloMosaic Idealize.ShloMosaic.TcCoe Idealize.SL.Sem

theorem algebraic_retention : Cert.algebraic_KernelIdeal_ReferenceIdeal := by
  intro m g m' g' _ hargs
  have eL : ∀ c : Dev Cert.KernelIdeal.nD, Cert.ReferenceIdeal.Ret.layerAt m' c = Cert.KernelIdeal.Ret.layerAt m c := fun c => by
    unfold Cert.ReferenceIdeal.Ret.layerAt Cert.KernelIdeal.Ret.layerAt
    obtain ⟨h0, h1, h2, h3, h4⟩ := hargs c
    rw [h0, h1, h2, h3, h4]
  refine ⟨fun c => (Cert.KernelIdeal.Ret.layerAt m c).outRows, fun c => (Cert.KernelIdeal.Ret.layerAt m c).lastState,
    (θ_run _ _ _).mono (fun r h c => ?_) (Cert.KernelIdeal.Value.run_blocks m g),
    (θ_run _ _ _).mono (fun r h c => ?_) (Cert.ReferenceIdeal.Value.run m' g')⟩
  · obtain ⟨h0, h1, h⟩ := h c
    exact ⟨h0.trans (Cert.KernelIdeal.Ret.rows_final m c), h1.trans (Cert.KernelIdeal.Ret.state_final m c), h⟩
  · obtain ⟨h0, h1, h⟩ := h c
    exact ⟨h0.trans ((Cert.ReferenceIdeal.Ret.out_rows m' c).trans (congrArg _ (eL c))),
      h1.trans ((Cert.ReferenceIdeal.Ret.last_state m' c).trans (congrArg _ (eL c))), h⟩

end Cert.Proof
-- ==== Proof.Ffn.Model.lean ====
/-
  The half-step feed-forward block as plain sums over extended reals, for one row, and the arrays it makes of all rows.
-/
module

public import Idealize.ShloMosaic.Lib.Pointwise

@[expose] public section

namespace Cert.FeedForward

open Idealize.ShloMosaic

/-- The row `x` over its root mean square, times the gains `g`. -/
noncomputable def normed (x g : Fin 1024 → EReal) (c : Fin 1024) : EReal :=
  x c * Ideal.rsqrt (Ideal.div (∑ c', x c' * x c') (Ideal.ofBits FTy.f32 0x44800000#32) + Ideal.ofBits FTy.f32 0x358637BD#32) * g c

/-- A hidden unit: its gate's activation times its value. -/
noncomputable def hiddenUnit (h : Fin 1024 → EReal) (gate value : Fin 1024 → Fin 2816 → EReal) (f : Fin 2816) : EReal :=
  (∑ c, h c * gate c f) * Ideal.logistic (∑ c, h c * gate c f) * ∑ c, h c * value c f

/-- The row after the block: half of the feed-forward's output added. -/
noncomputable def half (x g : Fin 1024 → EReal) (gate value : Fin 1024 → Fin 2816 → EReal) (down : Fin 2816 → Fin 1024 → EReal) (c : Fin 1024) : EReal :=
  x c + Ideal.ofBits FTy.f32 0x3F000000#32 * ∑ f, hiddenUnit (normed x g) gate value f * down f c

variable {n : Nat} (l : Fin 2) (x : (⟨2, ![n, 1024]⟩ : Shape).Idx → EReal) (g : (⟨1, ![1024]⟩ : Shape).Idx → EReal)
  (win : (⟨3, ![2, 1024, 5632]⟩ : Shape).Idx → EReal) (wout : (⟨3, ![2, 2816, 1024]⟩ : Shape).Idx → EReal) (fg : (⟨1, ![1024]⟩ : Shape).Idx → EReal)

/-- Row `r` after the block of layer `l`: the first 2816 columns of the layer's first matrix are the gates. -/
noncomputable def rowAfter (r : Fin n) : Fin 1024 → EReal :=
  half (fun c => x (ix2 r c)) (fun c => g (ix1 c)) (fun c f => win (ix3 l c (⟨f.val, by omega⟩ : Fin 5632)))
    (fun c f => win (ix3 l c (⟨2816 + f.val, by omega⟩ : Fin 5632))) (fun f c => wout (ix3 l f c))

/-- All rows after the block. -/
noncomputable def rowsAfter : (⟨2, ![n, 1024]⟩ : Shape).Idx → EReal := fun y => rowAfter l x g win wout (y 0) (y 1)

/-- All rows after the block and the final norm. -/
noncomputable def normedRowsAfter : (⟨2, ![n, 1024]⟩ : Shape).Idx → EReal := fun y =>
  normed (rowAfter l x g win wout (y 0)) (fun c => fg (ix1 c)) (y 1)

end Cert.FeedForward
-- ==== Proof.Ffn.Kernel.lean ====
/-
  The feed-forward call of layer 0: a grid point's 512 rows, then all rows.
-/
module

public import proofs.«01_k».proof.Proof.Gen.FfnKernelIdeal.Value
public import proofs.«01_k».proof.Proof.Ffn.Model
public import Idealize.ShloMosaic.Lib.Claim
public import Idealize.ShloMosaic.Lib.Pipeline.ValueKit

@[expose] public section

set_option maxRecDepth 16384

namespace Cert.FfnKernelIdeal.Ffn

open Cert.FfnKernelIdeal Cert.FfnKernelIdeal.Gen Cert.FeedForward Idealize.ShloMosaic Idealize.ShloMosaic.TcCoe Idealize.SL.Sem
open Idealize.ShloMosaic.Pipeline (Dat)

/-- What the body computes of its loads, row by row. -/
theorem body_apply (x : Vec Ideal S512x1024 .f32) (g : Vec Ideal S1x1024 .f32) (gate value : Vec Ideal S1x1024x2816 .bf16) (down : Vec Ideal S1x2816x1024 .bf16)
    (r : Fin 512) (e : Fin 1024) :
    k0_pay1 x g gate value down (ix2 r e)
      = half (fun c => x (ix2 r c)) (fun c => g (ix2 0 c)) (fun c f => gate (ix3 0 c f)) (fun c f => value (ix3 0 c f)) (fun f c => down (ix3 0 f c)) e := by
  pointwise [k0_pay1]
  rfl

/-- The gate columns of the weights' block, and the value columns. -/
theorem gate_apply (w : Vec Ideal S1x1024x5632 .bf16) (c : Fin 1024) (f : Fin 2816) :
    View.ld w r0_2 (ix3 0 c f) = w (ix3 0 c (⟨f.val, by omega⟩ : Fin 5632)) :=
  View.ld_unit_apply_of w _ _ _ _ _ fun a => by fin_cases a <;> simp [ix3]

theorem value_apply (w : Vec Ideal S1x1024x5632 .bf16) (c : Fin 1024) (f : Fin 2816) :
    View.ld w r0_3 (ix3 0 c f) = w (ix3 0 c (⟨2816 + f.val, by omega⟩ : Fin 5632)) :=
  View.ld_unit_apply_of w _ _ _ _ _ fun a => by fin_cases a <;> simp [ix3]

/-- What the body computes of its blocks. -/
theorem stored_apply (x0 : Vec Ideal S512x1024 .f32) (x1 : Vec Ideal S1x1024 .f32) (x2 : Vec Ideal S1x1024x5632 .bf16) (x3 : Vec Ideal S1x2816x1024 .bf16)
    (r : Fin 512) (e : Fin 1024) :
    k0_pay1 (View.ld x0 r0_0) (View.ld x1 r0_1) (View.ld x2 r0_2) (View.ld x2 r0_3) (View.ld x3 r0_4) (ix2 r e)
      = half (fun c => x0 (ix2 r c)) (fun c => x1 (ix2 0 c)) (fun c f => x2 (ix3 0 c (⟨f.val, by omega⟩ : Fin 5632)))
          (fun c f => x2 (ix3 0 c (⟨2816 + f.val, by omega⟩ : Fin 5632))) (fun f c => x3 (ix3 0 f c)) e := by
  rw [View.ld_unit_lit _ x0 (by decide), View.ld_unit_lit _ x1 (by decide), View.ld_unit_lit _ x3 (by decide)]
  refine (body_apply _ _ _ _ _ r e).trans ?_
  exact congrArg₂ (fun a b => half (fun c => x0 (ix2 r c)) (fun c => x1 (ix2 0 c)) a b (fun f c => x3 (ix3 0 f c)) e)
    (funext fun c => funext fun f => gate_apply x2 c f) (funext fun c => funext fun f => value_apply x2 c f)

/-- What a grid point leaves in its block of rows. -/
theorem block_eq (x0 : Vec Ideal S512x1024 .f32) (x1 : Vec Ideal S1x1024 .f32) (x2 : Vec Ideal S1x1024x5632 .bf16) (x3 : Vec Ideal S1x2816x1024 .bf16) :
    out0_4 x0 x1 x2 x3 = k0_pay1 (View.ld x0 r0_0) (View.ld x1 r0_1) (View.ld x2 r0_2) (View.ld x2 r0_3) (View.ld x3 r0_4) := by
  unfold out0_4
  rw [View.canon_cons_unit_lit _ _ _ (by decide)]

variable (m : (ℓ : Loc nD τ sig) → Buf (Elt Ideal) ℓ) (c : Dev nD)

/-! ## What the host computes before the call -/

theorem host_gain (e : Fin 1024) : V m c main_v2 (ix2 0 e) = m ((c : Thread nD τ).loc main_arg1) (ix1 e) := by
  simp only [V, List.flatten_cons, List.flatten_nil, List.append_nil, hostOps0, List.cons_append, List.nil_append]
  entry_read
  pointwise

theorem host_in : V m c main_v0 = m ((c : Thread nD τ).loc main_arg2) := by
  simp only [V, List.flatten_cons, List.flatten_nil, List.append_nil, hostOps0, List.cons_append, List.nil_append]
  entry_read
  rfl

theorem host_out : V m c main_v1 = m ((c : Thread nD τ).loc main_arg3) := by
  simp only [V, List.flatten_cons, List.flatten_nil, List.append_nil, hostOps0, List.cons_append, List.nil_append]
  entry_read
  rfl

/-! ## The blocks of a grid point -/

theorem idx_0 : ∀ t : Fin cfg0.N, win0_0.index t = ![t.val, 0] := (by decide +kernel : ∀ t : Fin grid0.N, win0_0.index t = ![t.val, 0])
theorem idx_1 : ∀ t : Fin cfg0.N, win0_1.index t = ![0, 0] := (by decide +kernel : ∀ t : Fin grid0.N, win0_1.index t = ![0, 0])
theorem idx_2 : ∀ t : Fin cfg0.N, win0_2.index t = ![0, 0, 0] := (by decide +kernel : ∀ t : Fin grid0.N, win0_2.index t = ![0, 0, 0])
theorem idx_3 : ∀ t : Fin cfg0.N, win0_3.index t = ![0, 0, 0] := (by decide +kernel : ∀ t : Fin grid0.N, win0_3.index t = ![0, 0, 0])
theorem idx_4 : ∀ t : Fin cfg0.N, win0_4.index t = ![t.val, 0] := (by decide +kernel : ∀ t : Fin grid0.N, win0_4.index t = ![t.val, 0])

/-- Row `r` of grid point `t`'s block, among all rows. -/
def rowAt (t : Fin cfg0.N) (r : Fin 512) : Fin 32768 :=
  ⟨512 * t.val + r.val, by have := lt_of_lt_of_eq t.isLt (show cfg0.N = 64 from N_0); omega⟩

theorem blk_x (t : Fin cfg0.N) (r : Fin 512) (e : Fin 1024) : iblk m c 0 t (ix2 r e) = m ((c : Thread nD τ).loc main_arg0) (ix2 (rowAt t r) e) := by
  rw [← V_main_arg0 m c]
  blk_ext [iblk, V, idx_0 t]
  simp only [rowAt]; omega

theorem blk_gain (t : Fin cfg0.N) (e : Fin 1024) : iblk m c 1 t (ix2 0 e) = m ((c : Thread nD τ).loc main_arg1) (ix1 e) := by
  rw [← host_gain m c]
  blk_ext [iblk, V, idx_1 t]

theorem blk_in (t : Fin cfg0.N) (e : Fin 1024) (f : Fin 5632) : iblk m c 2 t (ix3 0 e f) = m ((c : Thread nD τ).loc main_arg2) (ix3 0 e f) := by
  rw [← host_in m c]
  blk_ext [iblk, V, idx_2 t]

theorem blk_out (t : Fin cfg0.N) (f : Fin 2816) (e : Fin 1024) : iblk m c 3 t (ix3 0 f e) = m ((c : Thread nD τ).loc main_arg3) (ix3 0 f e) := by
  rw [← host_out m c]
  blk_ext [iblk, V, idx_3 t]

/-! ## All rows -/

/-- The call's result, of its arguments. -/
noncomputable def resultAt : (⟨2, ![32768, 1024]⟩ : Shape).Idx → EReal :=
  rowsAfter 0 (m ((c : Thread nD τ).loc main_arg0)) (m ((c : Thread nD τ).loc main_arg1)) (m ((c : Thread nD τ).loc main_arg2)) (m ((c : Thread nD τ).loc main_arg3))

theorem rows_final : (dats m 0 c).arrAt 4 cfg0.N = resultAt m c := by
  refine (dats m 0 c).arrAt_eq_of_covers 4 _ (by decide +kernel) fun t hf y => ?_
  blk_simp
  rw [after0_4]
  obtain ⟨r, e, rfl⟩ : ∃ (r : Fin 512) (e : Fin 1024), y = ix2 r e := ⟨y 0, y 1, eq_ix2 y⟩
  rw [block_eq]
  refine (stored_apply _ _ _ _ r e).trans ?_
  simp only [blk_x, blk_gain, blk_in, blk_out]
  unfold resultAt rowsAfter rowAfter
  have ht := lt_of_lt_of_eq t.isLt (show cfg0.grid.N = 64 from N_0)
  have e0 : rowAt t r = (((cfg0.win 4).blk t).view.emb (ix2 r e)) 0 := by
    apply Fin.ext; blk_simp [idx_4 t]; simp only [rowAt]; omega
  have e1 : e = (((cfg0.win 4).blk t).view.emb (ix2 r e)) 1 := by
    apply Fin.ext; blk_simp [idx_4 t]
  rw [← e0, ← e1]

end Cert.FfnKernelIdeal.Ffn
-- ==== Proof.Ffn.LastKernel.lean ====
/-
  The feed-forward call of layer 1, which ends with the final norm: a grid point's 512 rows, then all rows.
-/
module

public import proofs.«01_k».proof.Proof.Gen.LastFfnKernelIdeal.Value
public import proofs.«01_k».proof.Proof.Ffn.Kernel
public import Idealize.ShloMosaic.Lib.Claim
public import Idealize.ShloMosaic.Lib.Pipeline.ValueKit

@[expose] public section

set_option maxRecDepth 16384

namespace Cert.LastFfnKernelIdeal.Ffn

open Cert.LastFfnKernelIdeal Cert.LastFfnKernelIdeal.Gen Cert.FeedForward Idealize.ShloMosaic Idealize.ShloMosaic.TcCoe Idealize.SL.Sem
open Idealize.ShloMosaic.Pipeline (Dat)

/-- The row before the final norm is what the call of layer 0 computes of the same loads. -/
theorem rows_eq : k0_pay2 (F := Ideal) = Cert.FfnKernelIdeal.Gen.k0_pay1 (F := Ideal) := rfl

/-- The final norm, of any rows. -/
theorem norm_apply (x : FVec Ideal S512x1024 .f32) (g : FVec Ideal S1x1024 .f32) (r : Fin 512) (e : Fin 1024) :
    k0_pay1 x (k0_pay3 g) (multiReduction .add [1] S512 (mulf x x) 0x00000000#32 reduces_S512x1024_S512 (.inl rfl) rfl) (ix2 r e)
      = normed (fun c => x (ix2 r c)) (fun c => g (ix2 0 c)) e := by
  pointwise [k0_pay1, k0_pay3]
  rfl

/-- What a grid point leaves in its block of rows. -/
theorem block_apply (x0 : Vec Ideal S512x1024 .f32) (x1 : Vec Ideal S1x1024 .f32) (x2 : Vec Ideal S1x1024x5632 .bf16) (x3 : Vec Ideal S1x2816x1024 .bf16)
    (x4 : Vec Ideal S1x1024 .f32) (r : Fin 512) (e : Fin 1024) :
    out0_5 x0 x1 x2 x3 x4 (ix2 r e)
      = normed (half (fun c => x0 (ix2 r c)) (fun c => x1 (ix2 0 c)) (fun c f => x2 (ix3 0 c (⟨f.val, by omega⟩ : Fin 5632)))
          (fun c f => x2 (ix3 0 c (⟨2816 + f.val, by omega⟩ : Fin 5632))) (fun f c => x3 (ix3 0 f c))) (fun c => x4 (ix2 0 c)) e := by
  unfold out0_5 k0_pay4
  rw [View.canon_cons_unit_lit _ _ _ (by decide), View.ld_unit_lit _ x4 (by decide)]
  refine (norm_apply _ x4 r e).trans ?_
  rw [rows_eq]
  exact congrArg (fun row => normed row (fun c => x4 (ix2 0 c)) e) (funext fun c => Cert.FfnKernelIdeal.Ffn.stored_apply x0 x1 x2 x3 r c)

variable (m : (ℓ : Loc nD τ sig) → Buf (Elt Ideal) ℓ) (c : Dev nD)

/-! ## What the host computes before the call -/

theorem host_gain (e : Fin 1024) : V m c main_v2 (ix2 0 e) = m ((c : Thread nD τ).loc main_arg1) (ix1 e) := by
  simp only [V, List.flatten_cons, List.flatten_nil, List.append_nil, hostOps0, List.cons_append, List.nil_append]
  entry_read
  pointwise

theorem host_final (e : Fin 1024) : V m c main_v3 (ix2 0 e) = m ((c : Thread nD τ).loc main_arg4) (ix1 e) := by
  simp only [V, List.flatten_cons, List.flatten_nil, List.append_nil, hostOps0, List.cons_append, List.nil_append]
  entry_read
  pointwise

theorem host_in : V m c main_v0 = m ((c : Thread nD τ).loc main_arg2) := by
  simp only [V, List.flatten_cons, List.flatten_nil, List.append_nil, hostOps0, List.cons_append, List.nil_append]
  entry_read
  rfl

theorem host_out : V m c main_v1 = m ((c : Thread nD τ).loc main_arg3) := by
  simp only [V, List.flatten_cons, List.flatten_nil, List.append_nil, hostOps0, List.cons_append, List.nil_append]
  entry_read
  rfl

/-! ## The blocks of a grid point -/

theorem idx_0 : ∀ t : Fin cfg0.N, win0_0.index t = ![t.val, 0] := (by decide +kernel : ∀ t : Fin grid0.N, win0_0.index t = ![t.val, 0])
theorem idx_1 : ∀ t : Fin cfg0.N, win0_1.index t = ![0, 0] := (by decide +kernel : ∀ t : Fin grid0.N, win0_1.index t = ![0, 0])
theorem idx_2 : ∀ t : Fin cfg0.N, win0_2.index t = ![1, 0, 0] := (by decide +kernel : ∀ t : Fin grid0.N, win0_2.index t = ![1, 0, 0])
theorem idx_3 : ∀ t : Fin cfg0.N, win0_3.index t = ![1, 0, 0] := (by decide +kernel : ∀ t : Fin grid0.N, win0_3.index t = ![1, 0, 0])
theorem idx_4 : ∀ t : Fin cfg0.N, win0_4.index t = ![0, 0] := (by decide +kernel : ∀ t : Fin grid0.N, win0_4.index t = ![0, 0])
theorem idx_5 : ∀ t : Fin cfg0.N, win0_5.index t = ![t.val, 0] := (by decide +kernel : ∀ t : Fin grid0.N, win0_5.index t = ![t.val, 0])

/-- Row `r` of grid point `t`'s block, among all rows. -/
def rowAt (t : Fin cfg0.N) (r : Fin 512) : Fin 32768 :=
  ⟨512 * t.val + r.val, by have := lt_of_lt_of_eq t.isLt (show cfg0.N = 64 from N_0); omega⟩

theorem blk_x (t : Fin cfg0.N) (r : Fin 512) (e : Fin 1024) : iblk m c 0 t (ix2 r e) = m ((c : Thread nD τ).loc main_arg0) (ix2 (rowAt t r) e) := by
  rw [← V_main_arg0 m c]
  blk_ext [iblk, V, idx_0 t]
  simp only [rowAt]; omega

theorem blk_gain (t : Fin cfg0.N) (e : Fin 1024) : iblk m c 1 t (ix2 0 e) = m ((c : Thread nD τ).loc main_arg1) (ix1 e) := by
  rw [← host_gain m c]
  blk_ext [iblk, V, idx_1 t]

theorem blk_in (t : Fin cfg0.N) (e : Fin 1024) (f : Fin 5632) : iblk m c 2 t (ix3 0 e f) = m ((c : Thread nD τ).loc main_arg2) (ix3 1 e f) := by
  rw [← host_in m c]
  blk_ext [iblk, V, idx_2 t]

theorem blk_out (t : Fin cfg0.N) (f : Fin 2816) (e : Fin 1024) : iblk m c 3 t (ix3 0 f e) = m ((c : Thread nD τ).loc main_arg3) (ix3 1 f e) := by
  rw [← host_out m c]
  blk_ext [iblk, V, idx_3 t]

theorem blk_final (t : Fin cfg0.N) (e : Fin 1024) : iblk m c 4 t (ix2 0 e) = m ((c : Thread nD τ).loc main_arg4) (ix1 e) := by
  rw [← host_final m c]
  blk_ext [iblk, V, idx_4 t]

/-! ## All rows -/

/-- The call's result, of its arguments. -/
noncomputable def resultAt : (⟨2, ![32768, 1024]⟩ : Shape).Idx → EReal :=
  normedRowsAfter 1 (m ((c : Thread nD τ).loc main_arg0)) (m ((c : Thread nD τ).loc main_arg1)) (m ((c : Thread nD τ).loc main_arg2)) (m ((c : Thread nD τ).loc main_arg3))
        (m ((c : Thread nD τ).loc main_arg4))

theorem rows_final : (dats m 0 c).arrAt 5 cfg0.N = resultAt m c := by
  refine (dats m 0 c).arrAt_eq_of_covers 5 _ (by decide +kernel) fun t hf y => ?_
  blk_simp
  rw [after0_5]
  obtain ⟨r, e, rfl⟩ : ∃ (r : Fin 512) (e : Fin 1024), y = ix2 r e := ⟨y 0, y 1, eq_ix2 y⟩
  refine (block_apply _ _ _ _ _ r e).trans ?_
  simp only [blk_x, blk_gain, blk_in, blk_out, blk_final]
  unfold resultAt normedRowsAfter rowAfter
  have ht := lt_of_lt_of_eq t.isLt (show cfg0.grid.N = 64 from N_0)
  have e0 : rowAt t r = (((cfg0.win 5).blk t).view.emb (ix2 r e)) 0 := by
    apply Fin.ext; blk_simp [idx_5 t]; simp only [rowAt]; omega
  have e1 : e = (((cfg0.win 5).blk t).view.emb (ix2 r e)) 1 := by
    apply Fin.ext; blk_simp [idx_5 t]
  rw [← e0, ← e1]

end Cert.LastFfnKernelIdeal.Ffn
-- ==== Proof.Ffn.Reference.lean ====
/-
  The arrays the feed-forward reference computes on the host, and each at an index. The two layers' references compute the same
  arrays of their own layer's matrices.
-/
module

public import proofs.«01_k».proof.Proof.Gen.FfnReferenceIdeal.Run
public import proofs.«01_k».proof.Proof.Ffn.Model
public import Idealize.ShloMosaic.Lib.Claim
public import Idealize.ShloMosaic.Lib.StableHlo.ReadAt

@[expose] public section

set_option maxRecDepth 16384

namespace Cert.FfnReferenceIdeal.Ffn

open Cert.FfnReferenceIdeal Cert.FfnReferenceIdeal.Gen Cert.FfnReferenceIdeal.Value Idealize.ShloMosaic Idealize.ShloMosaic.TcCoe Idealize.SL.Sem Idealize.ShloMosaic.StableHlo
open Cert.FeedForward

variable (x : FVec Ideal S32768x1024 .f32) (g : FVec Ideal S1024 .f32) (w : FVec Ideal S1024x5632 .f32) (wo : FVec Ideal S2816x1024 .f32)

/-- Each row normalised. -/
noncomputable def normedRows : FVec Ideal S32768x1024 .f32 :=
  mulf (mulf x (broadcastInDim S32768x1024 ![0, 1] bcast_S32768x1_S32768x1024_0_1
      (Host.rsqrt (addf (Host.divf (broadcastInDim S32768x1 ![0] bcast_S32768_S32768x1_0
            (Host.reduceAdd (mulf x x) (constant S_ .f32 0x00000000#32) reducesTo_S32768x1024_S32768_d1 h_S_))
          (broadcastInDim S32768x1 ![] bcast_S_S32768x1 (constant S_ .f32 0x44800000#32)))
        (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

theorem normedRows_apply (r : Fin 32768) (e : Fin 1024) : normedRows x g (ix2 r e) = normed (fun c => x (ix2 r c)) (fun c => g (ix1 c)) e := by
  pointwise [normedRows]
  rfl

/-- Each normalised row times the first matrix: gates, then values. -/
noncomputable def proj : FVec Ideal S32768x5632 .f32 := Host.dotGeneral dot_S32768x1024_S1024x5632_S32768x5632_1_0_0_1_n_n none (normedRows x g) w

theorem proj_apply (r : Fin 32768) (f : Fin 5632) :
    proj x g w (ix2 r f) = ∑ c, normed (fun c => x (ix2 r c)) (fun c => g (ix1 c)) c * w (ix2 c f) := by
  pointwise [proj]
  simp only [normedRows_apply]

/-- The gates' activations times the values. -/
noncomputable def units : FVec Ideal S32768x2816 .f32 :=
  mulf (mulf (extractStridedSlice S32768x2816 ![0, 0] (proj x g w) slices_S32768x5632_S32768x2816_0_0)
      (Host.divf (broadcastInDim S32768x2816 ![] bcast_S_S32768x2816 (constant S_ .f32 0x3F800000#32))
        (addf (broadcastInDim S32768x2816 ![] bcast_S_S32768x2816 (constant S_ .f32 0x3F800000#32))
          (Host.exp (Host.negf (extractStridedSlice S32768x2816 ![0, 0] (proj x g w) slices_S32768x5632_S32768x2816_0_0))))))
    (extractStridedSlice S32768x2816 ![0, 2816] (proj x g w) slices_S32768x5632_S32768x2816_0_2816)

theorem units_apply (r : Fin 32768) (f : Fin 2816) :
    units x g w (ix2 r f) = hiddenUnit (normed (fun c => x (ix2 r c)) (fun c => g (ix1 c))) (fun c f => w (ix2 c (⟨f.val, by omega⟩ : Fin 5632)))
      (fun c f => w (ix2 c (⟨2816 + f.val, by omega⟩ : Fin 5632))) f := by
  pointwise [units]
  simp only [proj_apply, hiddenUnit]
  rfl

/-- Each row with half of the feed-forward's output added. -/
noncomputable def afterRows : FVec Ideal S32768x1024 .f32 :=
  addf x (mulf (broadcastInDim S32768x1024 ![] bcast_S_S32768x1024 (constant S_ .f32 0x3F000000#32))
    (Host.dotGeneral dot_S32768x2816_S2816x1024_S32768x1024_1_0_0_1_n_n none (units x g w) wo))

theorem afterRows_apply (r : Fin 32768) (e : Fin 1024) :
    afterRows x g w wo (ix2 r e) = half (fun c => x (ix2 r c)) (fun c => g (ix1 c)) (fun c f => w (ix2 c (⟨f.val, by omega⟩ : Fin 5632)))
      (fun c f => w (ix2 c (⟨2816 + f.val, by omega⟩ : Fin 5632))) (fun f c => wo (ix2 f c)) e := by
  pointwise [afterRows]
  simp only [units_apply, half]

variable (win : FVec Ideal S2x1024x5632 .f32) (wout : FVec Ideal S2x2816x1024 .f32)

/-- Layer 0's matrices. -/
noncomputable def inOf : FVec Ideal S1024x5632 .f32 :=
  shapeCast S1024x5632 (extractStridedSlice S1x1024x5632 ![0, 0, 0] win slices_S2x1024x5632_S1x1024x5632_0_0_0) shapeCasts_S1x1024x5632_S1024x5632

noncomputable def outOf : FVec Ideal S2816x1024 .f32 :=
  shapeCast S2816x1024 (extractStridedSlice S1x2816x1024 ![0, 0, 0] wout slices_S2x2816x1024_S1x2816x1024_0_0_0) shapeCasts_S1x2816x1024_S2816x1024

theorem inOf_apply (e : Fin 1024) (f : Fin 5632) : inOf win (ix2 e f) = win (ix3 0 e f) := by
  pointwise [inOf]

theorem outOf_apply (f : Fin 2816) (e : Fin 1024) : outOf wout (ix2 f e) = wout (ix3 0 f e) := by
  pointwise [outOf]

theorem afterRows_eq : afterRows x g (inOf win) (outOf wout) = rowsAfter 0 x g win wout := by
  funext y
  obtain ⟨r, e, rfl⟩ : ∃ (r : Fin 32768) (e : Fin 1024), y = ix2 r e := ⟨y 0, y 1, eq_ix2 y⟩
  refine (afterRows_apply x g _ _ r e).trans ?_
  simp only [inOf_apply, outOf_apply]
  rfl

end Cert.FfnReferenceIdeal.Ffn
-- ==== Proof.Ffn.LastReference.lean ====
/-
  The last feed-forward's reference: layer 1's matrices in the same arrays, then the final norm.
-/
module

public import proofs.«01_k».proof.Proof.Gen.LastFfnReferenceIdeal.Run
public import proofs.«01_k».proof.Proof.Ffn.Reference

@[expose] public section

set_option maxRecDepth 16384

namespace Cert.LastFfnReferenceIdeal.Ffn

open Cert.LastFfnReferenceIdeal Cert.LastFfnReferenceIdeal.Gen Cert.LastFfnReferenceIdeal.Value Idealize.ShloMosaic Idealize.ShloMosaic.TcCoe Idealize.SL.Sem Idealize.ShloMosaic.StableHlo
open Cert.FeedForward Cert.FfnReferenceIdeal.Ffn

variable (x : FVec Ideal S32768x1024 .f32) (g : FVec Ideal S1024 .f32) (win : FVec Ideal S2x1024x5632 .f32) (wout : FVec Ideal S2x2816x1024 .f32)
  (fg : FVec Ideal S1024 .f32)

/-- Layer 1's matrices. -/
noncomputable def inOf : FVec Ideal S1024x5632 .f32 :=
  shapeCast S1024x5632 (extractStridedSlice S1x1024x5632 ![1, 0, 0] win slices_S2x1024x5632_S1x1024x5632_1_0_0) shapeCasts_S1x1024x5632_S1024x5632

noncomputable def outOf : FVec Ideal S2816x1024 .f32 :=
  shapeCast S2816x1024 (extractStridedSlice S1x2816x1024 ![1, 0, 0] wout slices_S2x2816x1024_S1x2816x1024_1_0_0) shapeCasts_S1x2816x1024_S2816x1024

theorem inOf_apply (e : Fin 1024) (f : Fin 5632) : inOf win (ix2 e f) = win (ix3 1 e f) := by
  pointwise [inOf]

theorem outOf_apply (f : Fin 2816) (e : Fin 1024) : outOf wout (ix2 f e) = wout (ix3 1 f e) := by
  pointwise [outOf]

theorem afterRows_eq : normedRows (afterRows x g (inOf win) (outOf wout)) fg = normedRowsAfter 1 x g win wout fg := by
  funext y
  obtain ⟨r, e, rfl⟩ : ∃ (r : Fin 32768) (e : Fin 1024), y = ix2 r e := ⟨y 0, y 1, eq_ix2 y⟩
  refine (normedRows_apply _ fg r e).trans ?_
  simp only [afterRows_apply, inOf_apply, outOf_apply]
  rfl

/-- The reference's result. -/
theorem result (m : (ℓ : Loc nD τ sig) → Buf (Elt Ideal) ℓ) (c : Dev nD) :
    res_main_v38 m c = normedRowsAfter 1 (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) :=
  (show _ = normedRows (afterRows _ _ (inOf _) (outOf _)) _ from rfl).trans (afterRows_eq _ _ _ _ _)

end Cert.LastFfnReferenceIdeal.Ffn
-- ==== Proof.Ffn.SampleKernel.lean ====
/-
  The samples' feed-forward call of layer 1, which ends with the final norm: one grid point with all 256 rows.
-/
module

public import proofs.«01_k».proof.Proof.Gen.SampleFfnKernelIdeal.Value
public import proofs.«01_k».proof.Proof.Ffn.Kernel
public import Idealize.ShloMosaic.Lib.Claim
public import Idealize.ShloMosaic.Lib.Pipeline.ValueKit

@[expose] public section

set_option maxRecDepth 16384

namespace Cert.SampleFfnKernelIdeal.Ffn

open Cert.SampleFfnKernelIdeal Cert.SampleFfnKernelIdeal.Gen Cert.FeedForward Idealize.ShloMosaic Idealize.ShloMosaic.TcCoe Idealize.SL.Sem
open Idealize.ShloMosaic.Pipeline (Dat)

/-- What the body computes of its loads, row by row. -/
theorem body_apply (x : Vec Ideal S256x1024 .f32) (g : Vec Ideal S1x1024 .f32) (gate value : Vec Ideal S1x1024x2816 .bf16) (down : Vec Ideal S1x2816x1024 .bf16)
    (r : Fin 256) (e : Fin 1024) :
    k0_pay2 x g gate value down (ix2 r e)
      = half (fun c => x (ix2 r c)) (fun c => g (ix2 0 c)) (fun c f => gate (ix3 0 c f)) (fun c f => value (ix3 0 c f)) (fun f c => down (ix3 0 f c)) e := by
  pointwise [k0_pay2]
  rfl

/-- What the body computes of its blocks. -/
theorem stored_apply (x0 : Vec Ideal S256x1024 .f32) (x1 : Vec Ideal S1x1024 .f32) (x2 : Vec Ideal S1x1024x5632 .bf16) (x3 : Vec Ideal S1x2816x1024 .bf16)
    (r : Fin 256) (e : Fin 1024) :
    k0_pay2 (View.ld x0 r0_0) (View.ld x1 r0_1) (View.ld x2 r0_2) (View.ld x2 r0_3) (View.ld x3 r0_4) (ix2 r e)
      = half (fun c => x0 (ix2 r c)) (fun c => x1 (ix2 0 c)) (fun c f => x2 (ix3 0 c (⟨f.val, by omega⟩ : Fin 5632)))
          (fun c f => x2 (ix3 0 c (⟨2816 + f.val, by omega⟩ : Fin 5632))) (fun f c => x3 (ix3 0 f c)) e := by
  rw [View.ld_unit_lit _ x0 (by decide), View.ld_unit_lit _ x1 (by decide), View.ld_unit_lit _ x3 (by decide)]
  refine (body_apply _ _ _ _ _ r e).trans ?_
  exact congrArg₂ (fun a b => half (fun c => x0 (ix2 r c)) (fun c => x1 (ix2 0 c)) a b (fun f c => x3 (ix3 0 f c)) e)
    (funext fun c => funext fun f => Cert.FfnKernelIdeal.Ffn.gate_apply x2 c f) (funext fun c => funext fun f => Cert.FfnKernelIdeal.Ffn.value_apply x2 c f)

/-- The final norm, of any rows. -/
theorem norm_apply (x : FVec Ideal S256x1024 .f32) (g : FVec Ideal S1x1024 .f32) (r : Fin 256) (e : Fin 1024) :
    k0_pay1 x (k0_pay3 g) (multiReduction .add [1] S256 (mulf x x) 0x00000000#32 reduces_S256x1024_S256 (.inl rfl) rfl) (ix2 r e)
      = normed (fun c => x (ix2 r c)) (fun c => g (ix2 0 c)) e := by
  pointwise [k0_pay1, k0_pay3]
  rfl

/-- What a grid point leaves in its block of rows. -/
theorem block_apply (x0 : Vec Ideal S256x1024 .f32) (x1 : Vec Ideal S1x1024 .f32) (x2 : Vec Ideal S1x1024x5632 .bf16) (x3 : Vec Ideal S1x2816x1024 .bf16)
    (x4 : Vec Ideal S1x1024 .f32) (r : Fin 256) (e : Fin 1024) :
    out0_5 x0 x1 x2 x3 x4 (ix2 r e)
      = normed (half (fun c => x0 (ix2 r c)) (fun c => x1 (ix2 0 c)) (fun c f => x2 (ix3 0 c (⟨f.val, by omega⟩ : Fin 5632)))
          (fun c f => x2 (ix3 0 c (⟨2816 + f.val, by omega⟩ : Fin 5632))) (fun f c => x3 (ix3 0 f c))) (fun c => x4 (ix2 0 c)) e := by
  unfold out0_5 k0_pay4
  rw [View.canon_cons_unit_lit _ _ _ (by decide), View.ld_unit_lit _ x4 (by decide)]
  refine (norm_apply _ x4 r e).trans ?_
  exact congrArg (fun row => normed row (fun c => x4 (ix2 0 c)) e) (funext fun c => stored_apply x0 x1 x2 x3 r c)

variable (m : (ℓ : Loc nD τ sig) → Buf (Elt Ideal) ℓ) (c : Dev nD)

/-! ## What the host computes before the call -/

theorem host_gain (e : Fin 1024) : V m c main_v2 (ix2 0 e) = m ((c : Thread nD τ).loc main_arg1) (ix1 e) := by
  simp only [V, List.flatten_cons, List.flatten_nil, List.append_nil, hostOps0, List.cons_append, List.nil_append]
  entry_read
  pointwise

theorem host_final (e : Fin 1024) : V m c main_v3 (ix2 0 e) = m ((c : Thread nD τ).loc main_arg4) (ix1 e) := by
  simp only [V, List.flatten_cons, List.flatten_nil, List.append_nil, hostOps0, List.cons_append, List.nil_append]
  entry_read
  pointwise

theorem host_in : V m c main_v0 = m ((c : Thread nD τ).loc main_arg2) := by
  simp only [V, List.flatten_cons, List.flatten_nil, List.append_nil, hostOps0, List.cons_append, List.nil_append]
  entry_read
  rfl

theorem host_out : V m c main_v1 = m ((c : Thread nD τ).loc main_arg3) := by
  simp only [V, List.flatten_cons, List.flatten_nil, List.append_nil, hostOps0, List.cons_append, List.nil_append]
  entry_read
  rfl

/-! ## The blocks of a grid point -/

theorem idx_0 : ∀ t : Fin cfg0.N, win0_0.index t = ![0, 0] := (by decide +kernel : ∀ t : Fin grid0.N, win0_0.index t = ![0, 0])
theorem idx_1 : ∀ t : Fin cfg0.N, win0_1.index t = ![0, 0] := (by decide +kernel : ∀ t : Fin grid0.N, win0_1.index t = ![0, 0])
theorem idx_2 : ∀ t : Fin cfg0.N, win0_2.index t = ![1, 0, 0] := (by decide +kernel : ∀ t : Fin grid0.N, win0_2.index t = ![1, 0, 0])
theorem idx_3 : ∀ t : Fin cfg0.N, win0_3.index t = ![1, 0, 0] := (by decide +kernel : ∀ t : Fin grid0.N, win0_3.index t = ![1, 0, 0])
theorem idx_4 : ∀ t : Fin cfg0.N, win0_4.index t = ![0, 0] := (by decide +kernel : ∀ t : Fin grid0.N, win0_4.index t = ![0, 0])
theorem idx_5 : ∀ t : Fin cfg0.N, win0_5.index t = ![0, 0] := (by decide +kernel : ∀ t : Fin grid0.N, win0_5.index t = ![0, 0])

theorem blk_x (t : Fin cfg0.N) (r : Fin 256) (e : Fin 1024) : iblk m c 0 t (ix2 r e) = m ((c : Thread nD τ).loc main_arg0) (ix2 r e) := by
  rw [← V_main_arg0 m c]
  blk_ext [iblk, V, idx_0 t]

theorem blk_gain (t : Fin cfg0.N) (e : Fin 1024) : iblk m c 1 t (ix2 0 e) = m ((c : Thread nD τ).loc main_arg1) (ix1 e) := by
  rw [← host_gain m c]
  blk_ext [iblk, V, idx_1 t]

theorem blk_in (t : Fin cfg0.N) (e : Fin 1024) (f : Fin 5632) : iblk m c 2 t (ix3 0 e f) = m ((c : Thread nD τ).loc main_arg2) (ix3 1 e f) := by
  rw [← host_in m c]
  blk_ext [iblk, V, idx_2 t]

theorem blk_out (t : Fin cfg0.N) (f : Fin 2816) (e : Fin 1024) : iblk m c 3 t (ix3 0 f e) = m ((c : Thread nD τ).loc main_arg3) (ix3 1 f e) := by
  rw [← host_out m c]
  blk_ext [iblk, V, idx_3 t]

theorem blk_final (t : Fin cfg0.N) (e : Fin 1024) : iblk m c 4 t (ix2 0 e) = m ((c : Thread nD τ).loc main_arg4) (ix1 e) := by
  rw [← host_final m c]
  blk_ext [iblk, V, idx_4 t]

/-! ## All rows -/

/-- The call's result, of its arguments. -/
noncomputable def resultAt : (⟨2, ![256, 1024]⟩ : Shape).Idx → EReal :=
  normedRowsAfter 1 (m ((c : Thread nD τ).loc main_arg0)) (m ((c : Thread nD τ).loc main_arg1)) (m ((c : Thread nD τ).loc main_arg2)) (m ((c : Thread nD τ).loc main_arg3))
        (m ((c : Thread nD τ).loc main_arg4))

theorem rows_final : (dats m 0 c).arrAt 5 cfg0.N = resultAt m c := by
  refine (dats m 0 c).arrAt_eq_of_covers 5 _ (by decide +kernel) fun t hf y => ?_
  blk_simp
  rw [after0_5]
  obtain ⟨r, e, rfl⟩ : ∃ (r : Fin 256) (e : Fin 1024), y = ix2 r e := ⟨y 0, y 1, eq_ix2 y⟩
  refine (block_apply _ _ _ _ _ r e).trans ?_
  simp only [blk_x, blk_gain, blk_in, blk_out, blk_final]
  have e0 : (((cfg0.win 5).blk t).view.emb (ix2 r e)) = ix2 r e := by
    blk_ext [idx_5 t]
  rw [e0]
  rfl

end Cert.SampleFfnKernelIdeal.Ffn
-- ==== Proof.Ffn.SampleReference.lean ====
/-
  The arrays the samples' feed-forward reference computes on the host, and each at an index. Its matrices are those of layer 1.
-/
module

public import proofs.«01_k».proof.Proof.Gen.SampleFfnReferenceIdeal.Run
public import proofs.«01_k».proof.Proof.Ffn.Model
public import proofs.«01_k».proof.Proof.Ffn.LastReference
public import Idealize.ShloMosaic.Lib.Claim
public import Idealize.ShloMosaic.Lib.StableHlo.ReadAt

@[expose] public section

set_option maxRecDepth 16384

namespace Cert.SampleFfnReferenceIdeal.Ffn

open Cert.SampleFfnReferenceIdeal Cert.SampleFfnReferenceIdeal.Gen Cert.SampleFfnReferenceIdeal.Value Idealize.ShloMosaic Idealize.ShloMosaic.TcCoe Idealize.SL.Sem Idealize.ShloMosaic.StableHlo
open Cert.FeedForward

variable (x : FVec Ideal S256x1024 .f32) (g : FVec Ideal S1024 .f32) (w : FVec Ideal S1024x5632 .f32) (wo : FVec Ideal S2816x1024 .f32)

/-- Each row normalised. -/
noncomputable def normedRows : FVec Ideal S256x1024 .f32 :=
  mulf (mulf x (broadcastInDim S256x1024 ![0, 1] bcast_S256x1_S256x1024_0_1
      (Host.rsqrt (addf (Host.divf (broadcastInDim S256x1 ![0] bcast_S256_S256x1_0
            (Host.reduceAdd (mulf x x) (constant S_ .f32 0x00000000#32) reducesTo_S256x1024_S256_d1 h_S_))
          (broadcastInDim S256x1 ![] bcast_S_S256x1 (constant S_ .f32 0x44800000#32)))
        (broadcastInDim S256x1 ![] bcast_S_S256x1 (constant S_ .f32 0x358637BD#32))))))
    (broadcastInDim S256x1024 ![0, 1] bcast_S1x1024_S256x1024_0_1 (broadcastInDim S1x1024 ![1] bcast_S1024_S1x1024_1 g))

theorem normedRows_apply (r : Fin 256) (e : Fin 1024) : normedRows x g (ix2 r e) = normed (fun c => x (ix2 r c)) (fun c => g (ix1 c)) e := by
  pointwise [normedRows]
  rfl

/-- Each normalised row times the first matrix: gates, then values. -/
noncomputable def proj : FVec Ideal S256x5632 .f32 := Host.dotGeneral dot_S256x1024_S1024x5632_S256x5632_1_0_0_1_n_n none (normedRows x g) w

theorem proj_apply (r : Fin 256) (f : Fin 5632) :
    proj x g w (ix2 r f) = ∑ c, normed (fun c => x (ix2 r c)) (fun c => g (ix1 c)) c * w (ix2 c f) := by
  pointwise [proj]
  simp only [normedRows_apply]

/-- The gates' activations times the values. -/
noncomputable def units : FVec Ideal S256x2816 .f32 :=
  mulf (mulf (extractStridedSlice S256x2816 ![0, 0] (proj x g w) slices_S256x5632_S256x2816_0_0)
      (Host.divf (broadcastInDim S256x2816 ![] bcast_S_S256x2816 (constant S_ .f32 0x3F800000#32))
        (addf (broadcastInDim S256x2816 ![] bcast_S_S256x2816 (constant S_ .f32 0x3F800000#32))
          (Host.exp (Host.negf (extractStridedSlice S256x2816 ![0, 0] (proj x g w) slices_S256x5632_S256x2816_0_0))))))
    (extractStridedSlice S256x2816 ![0, 2816] (proj x g w) slices_S256x5632_S256x2816_0_2816)

theorem units_apply (r : Fin 256) (f : Fin 2816) :
    units x g w (ix2 r f) = hiddenUnit (normed (fun c => x (ix2 r c)) (fun c => g (ix1 c))) (fun c f => w (ix2 c (⟨f.val, by omega⟩ : Fin 5632)))
      (fun c f => w (ix2 c (⟨2816 + f.val, by omega⟩ : Fin 5632))) f := by
  pointwise [units]
  simp only [proj_apply, hiddenUnit]
  rfl

/-- Each row with half of the feed-forward's output added. -/
noncomputable def afterRows : FVec Ideal S256x1024 .f32 :=
  addf x (mulf (broadcastInDim S256x1024 ![] bcast_S_S256x1024 (constant S_ .f32 0x3F000000#32))
    (Host.dotGeneral dot_S256x2816_S2816x1024_S256x1024_1_0_0_1_n_n none (units x g w) wo))

theorem afterRows_apply (r : Fin 256) (e : Fin 1024) :
    afterRows x g w wo (ix2 r e) = half (fun c => x (ix2 r c)) (fun c => g (ix1 c)) (fun c f => w (ix2 c (⟨f.val, by omega⟩ : Fin 5632)))
      (fun c f => w (ix2 c (⟨2816 + f.val, by omega⟩ : Fin 5632))) (fun f c => wo (ix2 f c)) e := by
  pointwise [afterRows]
  simp only [units_apply, half]

variable (win : FVec Ideal S2x1024x5632 .f32) (wout : FVec Ideal S2x2816x1024 .f32) (fg : FVec Ideal S1024 .f32)

theorem afterRows_eq : normedRows (afterRows x g (Cert.LastFfnReferenceIdeal.Ffn.inOf win) (Cert.LastFfnReferenceIdeal.Ffn.outOf wout)) fg = normedRowsAfter 1 x g win wout fg := by
  funext y
  obtain ⟨r, e, rfl⟩ : ∃ (r : Fin 256) (e : Fin 1024), y = ix2 r e := ⟨y 0, y 1, eq_ix2 y⟩
  refine (normedRows_apply _ fg r e).trans ?_
  simp only [afterRows_apply, Cert.LastFfnReferenceIdeal.Ffn.inOf_apply, Cert.LastFfnReferenceIdeal.Ffn.outOf_apply]
  rfl

/-- The reference's result. -/
theorem result (m : (ℓ : Loc nD τ sig) → Buf (Elt Ideal) ℓ) (c : Dev nD) :
    res_main_v38 m c = normedRowsAfter 1 (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) :=
  (show _ = normedRows (afterRows _ _ (Cert.LastFfnReferenceIdeal.Ffn.inOf _) (Cert.LastFfnReferenceIdeal.Ffn.outOf _)) _ from rfl).trans (afterRows_eq _ _ _ _ _)

end Cert.SampleFfnReferenceIdeal.Ffn
-- ==== Proof.Ffn.Algebraic.lean ====
/-
  The feed-forward calls and their references end with the same array.
-/
module

public import proofs.«01_k».proof.Defs
public import proofs.«01_k».proof.Proof.Ffn.LastKernel
public import proofs.«01_k».proof.Proof.Ffn.LastReference
public import proofs.«01_k».proof.Proof.Ffn.SampleKernel
public import proofs.«01_k».proof.Proof.Ffn.SampleReference

@[expose] public section

set_option maxRecDepth 16384

namespace Cert.Proof

open Idealize.ShloMosaic Idealize.ShloMosaic.TcCoe Idealize.SL.Sem Cert.FeedForward

theorem algebraic_ffn : Cert.algebraic_FfnKernelIdeal_FfnReferenceIdeal := by
  intro m g m' g' _ hargs
  refine ⟨Cert.FfnKernelIdeal.Ffn.resultAt m,
    (θ_run _ _ _).mono (fun r h c => ?_) (Cert.FfnKernelIdeal.Value.run_blocks m g),
    (θ_run _ _ _).mono (fun r h c => ?_) (Cert.FfnReferenceIdeal.Value.run m' g')⟩
  · obtain ⟨h0, h⟩ := h c
    exact ⟨h0.trans (Cert.FfnKernelIdeal.Ffn.rows_final m c), h⟩
  · obtain ⟨h0, h⟩ := h c
    obtain ⟨a0, a1, a2, a3⟩ := hargs c
    refine ⟨h0.trans ((Cert.FfnReferenceIdeal.Ffn.afterRows_eq _ _ _ _).trans ?_), h⟩
    rw [a0, a1, a2, a3, Cert.FfnKernelIdeal.Ffn.resultAt]

theorem algebraic_last_ffn : Cert.algebraic_LastFfnKernelIdeal_LastFfnReferenceIdeal := by
  intro m g m' g' _ hargs
  refine ⟨Cert.LastFfnKernelIdeal.Ffn.resultAt m,
    (θ_run _ _ _).mono (fun r h c => ?_) (Cert.LastFfnKernelIdeal.Value.run_blocks m g),
    (θ_run _ _ _).mono (fun r h c => ?_) (Cert.LastFfnReferenceIdeal.Value.run m' g')⟩
  · obtain ⟨h0, h⟩ := h c
    exact ⟨h0.trans (Cert.LastFfnKernelIdeal.Ffn.rows_final m c), h⟩
  · obtain ⟨h0, h⟩ := h c
    obtain ⟨a0, a1, a2, a3, a4⟩ := hargs c
    refine ⟨h0.trans ((Cert.LastFfnReferenceIdeal.Ffn.result m' c).trans ?_), h⟩
    rw [a0, a1, a2, a3, a4, Cert.LastFfnKernelIdeal.Ffn.resultAt]

theorem algebraic_sample_ffn : Cert.algebraic_SampleFfnKernelIdeal_SampleFfnReferenceIdeal := by
  intro m g m' g' _ hargs
  refine ⟨Cert.SampleFfnKernelIdeal.Ffn.resultAt m,
    (θ_run _ _ _).mono (fun r h c => ?_) (Cert.SampleFfnKernelIdeal.Value.run_blocks m g),
    (θ_run _ _ _).mono (fun r h c => ?_) (Cert.SampleFfnReferenceIdeal.Value.run m' g')⟩
  · obtain ⟨h0, h⟩ := h c
    exact ⟨h0.trans (Cert.SampleFfnKernelIdeal.Ffn.rows_final m c), h⟩
  · obtain ⟨h0, h⟩ := h c
    obtain ⟨a0, a1, a2, a3, a4⟩ := hargs c
    refine ⟨h0.trans ((Cert.SampleFfnReferenceIdeal.Ffn.result m' c).trans ?_), h⟩
    rw [a0, a1, a2, a3, a4, Cert.SampleFfnKernelIdeal.Ffn.resultAt]

end Cert.Proof
-- ==== Proof.Moba.Model.lean ====
/-
  The attention's queries, keys and values as plain sums over extended reals, and the arrays made of them.
-/
module

public import proofs.«01_k».proof.Proof.Ffn.Model
public import Idealize.ShloMosaic.PureOps.Ideal.Laws

@[expose] public section

namespace Cert.Attention

open Idealize.ShloMosaic Cert.FeedForward

/-- A normalised row times column `j` of the projection. -/
noncomputable def projected (x g : Fin 1024 → EReal) (w : Fin 1024 → Fin 3072 → EReal) (j : Fin 3072) : EReal := ∑ c, normed x g c * w c j

variable {n : Nat} (x : (⟨2, ![n, 1024]⟩ : Shape).Idx → EReal) (g : (⟨1, ![1024]⟩ : Shape).Idx → EReal) (w : (⟨2, ![1024, 3072]⟩ : Shape).Idx → EReal)

/-- Column `j` of row `r`'s projection: 1024 columns of queries, then of keys, then of values. -/
noncomputable def column (r : Fin n) (j : Fin 3072) : EReal :=
  projected (fun c => x (ix2 r c)) (fun c => g (ix1 c)) (fun c j => w (ix2 c j)) j

/-- The queries, times the float word `s`. -/
noncomputable def queries (s : BitVec 32) : (⟨2, ![n, 1024]⟩ : Shape).Idx → EReal := fun y =>
  column x g w (y 0) ⟨(y 1).val, by have : (y 1).val < 1024 := (y 1).isLt; omega⟩ * Ideal.ofBits FTy.f32 s

/-- The keys. -/
noncomputable def keys : (⟨2, ![n, 1024]⟩ : Shape).Idx → EReal := fun y =>
  column x g w (y 0) ⟨1024 + (y 1).val, by have : (y 1).val < 1024 := (y 1).isLt; omega⟩

/-- The values. -/
noncomputable def vals : (⟨2, ![n, 1024]⟩ : Shape).Idx → EReal := fun y =>
  column x g w (y 0) ⟨2048 + (y 1).val, by have : (y 1).val < 1024 := (y 1).isLt; omega⟩

/-- Rows of 1024 as 16 heads of 64. -/
def byHead (a : (⟨2, ![n, 1024]⟩ : Shape).Idx → EReal) : (⟨3, ![n, 16, 64]⟩ : Shape).Idx → EReal := fun y =>
  a (ix2 (y 0) (⟨64 * (y 1).val + (y 2).val, by have h1 : (y 1).val < 16 := (y 1).isLt; have h2 : (y 2).val < 64 := (y 2).isLt; omega⟩ : Fin 1024))

/-- The rows of a sequence as columns. -/
def byColumn (a : (⟨2, ![32768, 1024]⟩ : Shape).Idx → EReal) : (⟨3, ![16, 1024, 2048]⟩ : Shape).Idx → EReal := fun y =>
  a (ix2 (⟨2048 * (y 0).val + (y 2).val, by have h1 : (y 0).val < 16 := (y 0).isLt; have h2 : (y 2).val < 2048 := (y 2).isLt; omega⟩ : Fin 32768) (y 1))

/-- The mean of every block of 256 rows. -/
noncomputable def blockMeans (a : (⟨2, ![32768, 1024]⟩ : Shape).Idx → EReal) : (⟨3, ![128, 1, 1024]⟩ : Shape).Idx → EReal := fun y =>
  Ideal.div (∑ i : Fin 256, a (ix2 (⟨256 * (y 0).val + i.val, by have h1 : (y 0).val < 128 := (y 0).isLt; omega⟩ : Fin 32768) (y 2))) (Ideal.ofBits FTy.f32 0x43800000#32)

/-- Dividing by 256 is multiplying by 1/256. -/
theorem div_256 (a : EReal) : Ideal.div a (Ideal.ofBits FTy.f32 0x43800000#32) = a * Ideal.ofBits FTy.f32 0x3B800000#32 := by
  have h : Ideal.ofBits FTy.f32 0x43800000#32 = ((256 : ℝ) : EReal) := by simp [Ideal.ofBits, Ideal.ieee, -EReal.coe_mul]; norm_num
  have h' : Ideal.ofBits FTy.f32 0x3B800000#32 = ((1 / 256 : ℝ) : EReal) := by simp [Ideal.ofBits, Ideal.ieee, -EReal.coe_mul]; norm_num
  rw [h, h', Ideal.div_coe (by norm_num)]

end Cert.Attention
-- ==== Proof.Moba.SampleKernel.lean ====
/-
  The queries, keys and values call of the samples: one grid point with all 256 rows.
-/
module

public import proofs.«01_k».proof.Proof.Gen.SampleQkvKernelIdeal.Value
public import proofs.«01_k».proof.Proof.Moba.Model
public import Idealize.ShloMosaic.Lib.Claim
public import Idealize.ShloMosaic.Lib.Pipeline.ValueKit

@[expose] public section

set_option maxRecDepth 16384

namespace Cert.SampleQkvKernelIdeal.Qkv

open Cert.SampleQkvKernelIdeal Cert.SampleQkvKernelIdeal.Gen Cert.Attention Cert.FeedForward Idealize.ShloMosaic Idealize.ShloMosaic.TcCoe Idealize.SL.Sem
open Idealize.ShloMosaic.Pipeline (Dat)

variable (x : Vec Ideal S256x1024 .f32) (g : Vec Ideal S1x1024 .f32) (w : Vec Ideal S1024x3072 .bf16)

/-- What the body computes of its loads: a normalised row times the matrix. -/
theorem projection_apply (r : Fin 256) (j : Fin 3072) :
    k0_pay1 x g w (ix2 r j) = projected (fun c => x (ix2 r c)) (fun c => g (ix2 0 c)) (fun c j => w (ix2 c j)) j := by
  pointwise [k0_pay1]
  rfl

theorem keys_apply (r : Fin 256) (e : Fin 1024) :
    k0_pay3 x g w (ix2 r e) = projected (fun c => x (ix2 r c)) (fun c => g (ix2 0 c)) (fun c j => w (ix2 c j)) (⟨1024 + e.val, by omega⟩ : Fin 3072) := by
  pointwise [k0_pay3]
  exact projection_apply x g w r _

theorem vals_apply (r : Fin 256) (e : Fin 1024) :
    k0_pay4 x g w (ix2 r e) = projected (fun c => x (ix2 r c)) (fun c => g (ix2 0 c)) (fun c j => w (ix2 c j)) (⟨2048 + e.val, by omega⟩ : Fin 3072) := by
  pointwise [k0_pay4]
  exact projection_apply x g w r _

theorem queries_apply (r : Fin 256) (e : Fin 1024) :
    k0_pay2 x g w (ix2 r e) = projected (fun c => x (ix2 r c)) (fun c => g (ix2 0 c)) (fun c j => w (ix2 c j)) (⟨e.val, by omega⟩ : Fin 3072) * Ideal.ofBits FTy.f32 0x3E000000#32 := by
  pointwise [k0_pay2]
  exact congrArg (· * _) (projection_apply x g w r _)

/-- What the body leaves in its blocks. -/
theorem queries_block : out0_3 x g w = k0_pay2 x g w := by
  unfold out0_3
  rw [View.canon_cons_unit_lit _ _ _ (by decide), View.ld_unit_lit _ x (by decide), View.ld_unit_lit _ g (by decide), View.ld_unit_lit _ w (by decide)]

theorem keys_block : out0_4 x g w = k0_pay3 x g w := by
  unfold out0_4
  rw [View.canon_cons_unit_lit _ _ _ (by decide), View.ld_unit_lit _ x (by decide), View.ld_unit_lit _ g (by decide), View.ld_unit_lit _ w (by decide)]

theorem vals_block : out0_5 x g w = k0_pay4 x g w := by
  unfold out0_5
  rw [View.canon_cons_unit_lit _ _ _ (by decide), View.ld_unit_lit _ x (by decide), View.ld_unit_lit _ g (by decide), View.ld_unit_lit _ w (by decide)]

variable (m : (ℓ : Loc nD τ sig) → Buf (Elt Ideal) ℓ) (c : Dev nD)

theorem host_gain (e : Fin 1024) : V m c main_v1 (ix2 0 e) = m ((c : Thread nD τ).loc main_arg1) (ix1 e) := by
  simp only [V, List.flatten_cons, List.flatten_nil, List.append_nil, hostOps0, List.cons_append, List.nil_append]
  entry_read
  pointwise

theorem host_w : V m c main_v0 = m ((c : Thread nD τ).loc main_arg2) := by
  simp only [V, List.flatten_cons, List.flatten_nil, List.append_nil, hostOps0, List.cons_append, List.nil_append]
  entry_read
  rfl

theorem idx_0 : ∀ t : Fin cfg0.N, win0_0.index t = ![0, 0] := (by decide +kernel : ∀ t : Fin grid0.N, win0_0.index t = ![0, 0])
theorem idx_1 : ∀ t : Fin cfg0.N, win0_1.index t = ![0, 0] := (by decide +kernel : ∀ t : Fin grid0.N, win0_1.index t = ![0, 0])
theorem idx_2 : ∀ t : Fin cfg0.N, win0_2.index t = ![0, 0] := (by decide +kernel : ∀ t : Fin grid0.N, win0_2.index t = ![0, 0])
theorem idx_3 : ∀ t : Fin cfg0.N, win0_3.index t = ![0, 0] := (by decide +kernel : ∀ t : Fin grid0.N, win0_3.index t = ![0, 0])
theorem idx_4 : ∀ t : Fin cfg0.N, win0_4.index t = ![0, 0] := (by decide +kernel : ∀ t : Fin grid0.N, win0_4.index t = ![0, 0])
theorem idx_5 : ∀ t : Fin cfg0.N, win0_5.index t = ![0, 0] := (by decide +kernel : ∀ t : Fin grid0.N, win0_5.index t = ![0, 0])

theorem blk_x (t : Fin cfg0.N) (r : Fin 256) (e : Fin 1024) : iblk m c 0 t (ix2 r e) = m ((c : Thread nD τ).loc main_arg0) (ix2 r e) := by
  rw [← V_main_arg0 m c]
  blk_ext [iblk, V, idx_0 t]

theorem blk_gain (t : Fin cfg0.N) (e : Fin 1024) : iblk m c 1 t (ix2 0 e) = m ((c : Thread nD τ).loc main_arg1) (ix1 e) := by
  rw [← host_gain m c]
  blk_ext [iblk, V, idx_1 t]

theorem blk_w (t : Fin cfg0.N) (k : Fin 1024) (j : Fin 3072) : iblk m c 2 t (ix2 k j) = m ((c : Thread nD τ).loc main_arg2) (ix2 k j) := by
  rw [← host_w m c]
  blk_ext [iblk, V, idx_2 t]

/-- The call's results, of its arguments. -/
noncomputable def queriesAt : (⟨2, ![256, 1024]⟩ : Shape).Idx → EReal :=
  queries (m ((c : Thread nD τ).loc main_arg0)) (m ((c : Thread nD τ).loc main_arg1)) (m ((c : Thread nD τ).loc main_arg2)) 0x3E000000#32
noncomputable def keysAt : (⟨2, ![256, 1024]⟩ : Shape).Idx → EReal :=
  keys (m ((c : Thread nD τ).loc main_arg0)) (m ((c : Thread nD τ).loc main_arg1)) (m ((c : Thread nD τ).loc main_arg2))
noncomputable def valsAt : (⟨2, ![256, 1024]⟩ : Shape).Idx → EReal :=
  vals (m ((c : Thread nD τ).loc main_arg0)) (m ((c : Thread nD τ).loc main_arg1)) (m ((c : Thread nD τ).loc main_arg2))

theorem queries_final : (dats m 0 c).arrAt 3 cfg0.N = queriesAt m c := by
  refine (dats m 0 c).arrAt_eq_of_covers 3 _ (by decide +kernel) fun t hf y => ?_
  blk_simp
  rw [after0_3, queries_block]
  obtain ⟨r, e, rfl⟩ : ∃ (r : Fin 256) (e : Fin 1024), y = ix2 r e := ⟨y 0, y 1, eq_ix2 y⟩
  refine (queries_apply _ _ _ r e).trans ?_
  simp only [blk_x, blk_gain, blk_w]
  have e0 : (((cfg0.win 3).blk t).view.emb (ix2 r e)) = ix2 r e := by
    blk_ext [idx_3 t]
  rw [e0]
  rfl

theorem keys_final : (dats m 0 c).arrAt 4 cfg0.N = keysAt m c := by
  refine (dats m 0 c).arrAt_eq_of_covers 4 _ (by decide +kernel) fun t hf y => ?_
  blk_simp
  rw [after0_4, keys_block]
  obtain ⟨r, e, rfl⟩ : ∃ (r : Fin 256) (e : Fin 1024), y = ix2 r e := ⟨y 0, y 1, eq_ix2 y⟩
  refine (keys_apply _ _ _ r e).trans ?_
  simp only [blk_x, blk_gain, blk_w]
  have e0 : (((cfg0.win 4).blk t).view.emb (ix2 r e)) = ix2 r e := by
    blk_ext [idx_4 t]
  rw [e0]
  rfl

theorem vals_final : (dats m 0 c).arrAt 5 cfg0.N = valsAt m c := by
  refine (dats m 0 c).arrAt_eq_of_covers 5 _ (by decide +kernel) fun t hf y => ?_
  blk_simp
  rw [after0_5, vals_block]
  obtain ⟨r, e, rfl⟩ : ∃ (r : Fin 256) (e : Fin 1024), y = ix2 r e := ⟨y 0, y 1, eq_ix2 y⟩
  refine (vals_apply _ _ _ r e).trans ?_
  simp only [blk_x, blk_gain, blk_w]
  have e0 : (((cfg0.win 5).blk t).view.emb (ix2 r e)) = ix2 r e := by
    blk_ext [idx_5 t]
  rw [e0]
  rfl

end Cert.SampleQkvKernelIdeal.Qkv
-- ==== Proof.Moba.Kernel.lean ====
/-
  The queries, keys and values call of the sequences: a grid point's 256 rows, in the six layouts the call stores.
-/
module

public import proofs.«01_k».proof.Proof.Gen.QkvKernelIdeal.Frame
public import proofs.«01_k».proof.Proof.Moba.SampleKernel

@[expose] public section

set_option maxRecDepth 16384

namespace Cert.QkvKernelIdeal.Qkv

open Cert.QkvKernelIdeal Cert.QkvKernelIdeal.Gen Cert.Attention Cert.FeedForward Idealize.ShloMosaic Idealize.ShloMosaic.TcCoe Idealize.SL.Sem
open Idealize.ShloMosaic.Pipeline (Dat)

variable (x : Vec Ideal S256x1024 .f32) (g : Vec Ideal S1x1024 .f32) (w : Vec Ideal S1024x3072 .bf16)

/-- The projection is the samples' one. -/
theorem projection_apply (r : Fin 256) (j : Fin 3072) :
    k0_pay3 x g w (ix2 r j) = projected (fun c => x (ix2 r c)) (fun c => g (ix2 0 c)) (fun c j => w (ix2 c j)) j :=
  Cert.SampleQkvKernelIdeal.Qkv.projection_apply x g w r j

theorem keys_apply (r : Fin 256) (e : Fin 1024) :
    k0_pay4 x g w (ix2 r e) = projected (fun c => x (ix2 r c)) (fun c => g (ix2 0 c)) (fun c j => w (ix2 c j)) (⟨1024 + e.val, by omega⟩ : Fin 3072) :=
  Cert.SampleQkvKernelIdeal.Qkv.keys_apply x g w r e

theorem vals_apply (r : Fin 256) (e : Fin 1024) :
    k0_pay5 x g w (ix2 r e) = projected (fun c => x (ix2 r c)) (fun c => g (ix2 0 c)) (fun c j => w (ix2 c j)) (⟨2048 + e.val, by omega⟩ : Fin 3072) :=
  Cert.SampleQkvKernelIdeal.Qkv.vals_apply x g w r e

/-! ## What the body leaves in its blocks -/

theorem queries_block (r : Fin 256) (e : Fin 1024) :
    out0_3 x g w (ix2 r e) = projected (fun c => x (ix2 r c)) (fun c => g (ix2 0 c)) (fun c j => w (ix2 c j)) (⟨e.val, by omega⟩ : Fin 3072) * Ideal.ofBits FTy.f32 0x3E38AA3B#32 := by
  unfold out0_3
  rw [View.canon_cons_unit_lit _ _ _ (by decide), View.ld_unit_lit _ x (by decide), View.ld_unit_lit _ g (by decide), View.ld_unit_lit _ w (by decide)]
  pointwise [k0_pay6]
  exact congrArg (· * _) (projection_apply x g w r _)

theorem headKeys_block (r : Fin 256) (h : Fin 16) (d : Fin 64) :
    out0_4 x g w (ix3 r h d) = k0_pay4 x g w (ix2 r (⟨64 * h.val + d.val, by omega⟩ : Fin 1024)) := by
  unfold out0_4
  rw [View.canon_cons_unit_lit _ _ _ (by decide), View.ld_unit_lit _ x (by decide), View.ld_unit_lit _ g (by decide), View.ld_unit_lit _ w (by decide)]
  pointwise [k0_pay7]
  exact congrArg (fun i => k0_pay4 x g w (ix2 r i)) (Fin.ext (by simp; omega))

theorem headVals_block (r : Fin 256) (h : Fin 16) (d : Fin 64) :
    out0_5 x g w (ix3 r h d) = k0_pay5 x g w (ix2 r (⟨64 * h.val + d.val, by omega⟩ : Fin 1024)) := by
  unfold out0_5
  rw [View.canon_cons_unit_lit _ _ _ (by decide), View.ld_unit_lit _ x (by decide), View.ld_unit_lit _ g (by decide), View.ld_unit_lit _ w (by decide)]
  pointwise [k0_pay8]
  exact congrArg (fun i => k0_pay5 x g w (ix2 r i)) (Fin.ext (by simp; omega))

theorem keys_block (r : Fin 256) (e : Fin 1024) : out0_6 x g w (ix2 r e) = k0_pay4 x g w (ix2 r e) := by
  unfold out0_6
  rw [View.canon_cons_unit_lit _ _ _ (by decide), View.ld_unit_lit _ x (by decide), View.ld_unit_lit _ g (by decide), View.ld_unit_lit _ w (by decide)]
  pointwise [k0_pay9]

theorem columns_block (e : Fin 1024) (r : Fin 256) : out0_7 x g w (ix3 0 e r) = k0_pay5 x g w (ix2 r e) := by
  unfold out0_7
  rw [View.canon_cons_unit_lit _ _ _ (by decide), View.ld_unit_lit _ x (by decide), View.ld_unit_lit _ g (by decide), View.ld_unit_lit _ w (by decide)]
  pointwise [k0_pay1, k0_pay10]

theorem means_block (e : Fin 1024) :
    out0_8 x g w (ix3 0 0 e) = (∑ r : Fin 256, k0_pay4 x g w (ix2 r e)) * Ideal.ofBits FTy.f32 0x3B800000#32 := by
  unfold out0_8
  rw [View.canon_cons_unit_lit _ _ _ (by decide), View.ld_unit_lit _ x (by decide), View.ld_unit_lit _ g (by decide), View.ld_unit_lit _ w (by decide)]
  pointwise [k0_pay2]

end Cert.QkvKernelIdeal.Qkv
-- ==== Proof.Moba.Arrays.lean ====
/-
  The six result arrays of the queries, keys and values call of the sequences, of all grid points' blocks.
-/
module

public import proofs.«01_k».proof.Proof.Moba.Kernel

@[expose] public section

set_option maxRecDepth 16384

namespace Cert.QkvKernelIdeal.Qkv

open Cert.QkvKernelIdeal Cert.QkvKernelIdeal.Gen Cert.Attention Cert.FeedForward Idealize.ShloMosaic Idealize.ShloMosaic.TcCoe Idealize.SL.Sem
open Idealize.ShloMosaic.Pipeline (Dat)

variable (m : (ℓ : Loc nD τ sig) → Buf (Elt Ideal) ℓ) (c : Dev nD)

/-! ## The blocks of a grid point -/

theorem host_gain (e : Fin 1024) : V m c main_v1 (ix2 0 e) = m ((c : Thread nD τ).loc main_arg1) (ix1 e) := by
  simp only [V, List.flatten_cons, List.flatten_nil, List.append_nil, hostOps0, List.cons_append, List.nil_append]
  entry_read
  pointwise

theorem host_w : V m c main_v0 = m ((c : Thread nD τ).loc main_arg2) := by
  simp only [V, List.flatten_cons, List.flatten_nil, List.append_nil, hostOps0, List.cons_append, List.nil_append]
  entry_read
  rfl

theorem idx_0 : ∀ t : Fin cfg0.N, win0_0.index t = ![t.val, 0] := (by decide +kernel : ∀ t : Fin grid0.N, win0_0.index t = ![t.val, 0])
theorem idx_1 : ∀ t : Fin cfg0.N, win0_1.index t = ![0, 0] := (by decide +kernel : ∀ t : Fin grid0.N, win0_1.index t = ![0, 0])
theorem idx_2 : ∀ t : Fin cfg0.N, win0_2.index t = ![0, 0] := (by decide +kernel : ∀ t : Fin grid0.N, win0_2.index t = ![0, 0])
theorem idx_3 : ∀ t : Fin cfg0.N, win0_3.index t = ![t.val, 0] := (by decide +kernel : ∀ t : Fin grid0.N, win0_3.index t = ![t.val, 0])
theorem idx_4 : ∀ t : Fin cfg0.N, win0_4.index t = ![t.val, 0, 0] := (by decide +kernel : ∀ t : Fin grid0.N, win0_4.index t = ![t.val, 0, 0])
theorem idx_5 : ∀ t : Fin cfg0.N, win0_5.index t = ![t.val, 0, 0] := (by decide +kernel : ∀ t : Fin grid0.N, win0_5.index t = ![t.val, 0, 0])
theorem idx_6 : ∀ t : Fin cfg0.N, win0_6.index t = ![t.val, 0] := (by decide +kernel : ∀ t : Fin grid0.N, win0_6.index t = ![t.val, 0])
theorem idx_7 : ∀ t : Fin cfg0.N, win0_7.index t = ![t.val / 8, 0, t.val % 8] := (by decide +kernel : ∀ t : Fin grid0.N, win0_7.index t = ![t.val / 8, 0, t.val % 8])
theorem idx_8 : ∀ t : Fin cfg0.N, win0_8.index t = ![t.val, 0, 0] := (by decide +kernel : ∀ t : Fin grid0.N, win0_8.index t = ![t.val, 0, 0])

/-- Row `r` of grid point `t`'s block, among all rows. -/
def rowAt (t : Fin cfg0.N) (r : Fin 256) : Fin 32768 :=
  ⟨256 * t.val + r.val, by have := lt_of_lt_of_eq t.isLt (show cfg0.N = 128 from N_0); omega⟩

theorem blk_x (t : Fin cfg0.N) (r : Fin 256) (e : Fin 1024) : iblk m c 0 t (ix2 r e) = m ((c : Thread nD τ).loc main_arg0) (ix2 (rowAt t r) e) := by
  rw [← V_main_arg0 m c]
  blk_ext [iblk, V, idx_0 t]
  simp only [rowAt]; omega

theorem blk_gain (t : Fin cfg0.N) (e : Fin 1024) : iblk m c 1 t (ix2 0 e) = m ((c : Thread nD τ).loc main_arg1) (ix1 e) := by
  rw [← host_gain m c]
  blk_ext [iblk, V, idx_1 t]

theorem blk_w (t : Fin cfg0.N) (k : Fin 1024) (j : Fin 3072) : iblk m c 2 t (ix2 k j) = m ((c : Thread nD τ).loc main_arg2) (ix2 k j) := by
  rw [← host_w m c]
  blk_ext [iblk, V, idx_2 t]

/-! ## A grid point's rows -/

/-- The queries, keys and values of all rows, of the call's arguments. -/
noncomputable def queriesAt : (⟨2, ![32768, 1024]⟩ : Shape).Idx → EReal :=
  queries (m ((c : Thread nD τ).loc main_arg0)) (m ((c : Thread nD τ).loc main_arg1)) (m ((c : Thread nD τ).loc main_arg2)) 0x3E38AA3B#32
noncomputable def keysAt : (⟨2, ![32768, 1024]⟩ : Shape).Idx → EReal :=
  keys (m ((c : Thread nD τ).loc main_arg0)) (m ((c : Thread nD τ).loc main_arg1)) (m ((c : Thread nD τ).loc main_arg2))
noncomputable def valsAt : (⟨2, ![32768, 1024]⟩ : Shape).Idx → EReal :=
  vals (m ((c : Thread nD τ).loc main_arg0)) (m ((c : Thread nD τ).loc main_arg1)) (m ((c : Thread nD τ).loc main_arg2))

theorem point_queries (t : Fin cfg0.N) (r : Fin 256) (e : Fin 1024) :
    out0_3 (iblk m c 0 t) (iblk m c 1 t) (iblk m c 2 t) (ix2 r e) = queriesAt m c (ix2 (rowAt t r) e) := by
  refine (queries_block _ _ _ r e).trans ?_
  simp only [blk_x, blk_gain, blk_w]
  rfl

theorem point_keys (t : Fin cfg0.N) (r : Fin 256) (e : Fin 1024) :
    k0_pay4 (iblk m c 0 t) (iblk m c 1 t) (iblk m c 2 t) (ix2 r e) = keysAt m c (ix2 (rowAt t r) e) := by
  refine (keys_apply _ _ _ r e).trans ?_
  simp only [blk_x, blk_gain, blk_w]
  rfl

theorem point_vals (t : Fin cfg0.N) (r : Fin 256) (e : Fin 1024) :
    k0_pay5 (iblk m c 0 t) (iblk m c 1 t) (iblk m c 2 t) (ix2 r e) = valsAt m c (ix2 (rowAt t r) e) := by
  refine (vals_apply _ _ _ r e).trans ?_
  simp only [blk_x, blk_gain, blk_w]
  rfl

/-! ## The arrays -/

theorem queries_final : (dats m 0 c).arrAt 3 cfg0.N = queriesAt m c := by
  refine (dats m 0 c).arrAt_eq_of_covers 3 _ (by decide +kernel) fun t hf y => ?_
  blk_simp
  rw [after0_3]
  obtain ⟨r, e, rfl⟩ : ∃ (r : Fin 256) (e : Fin 1024), y = ix2 r e := ⟨y 0, y 1, eq_ix2 y⟩
  have e0 : (((cfg0.win 3).blk t).view.emb (ix2 r e)) = ix2 (rowAt t r) e := by
    blk_ext [idx_3 t]
    simp only [rowAt]; omega
  rw [e0]
  exact point_queries m c t r e

theorem headKeys_final : (dats m 0 c).arrAt 4 cfg0.N = byHead (keysAt m c) := by
  refine (dats m 0 c).arrAt_eq_of_covers 4 _ (by decide +kernel) fun t hf y => ?_
  blk_simp
  rw [after0_4]
  obtain ⟨r, h, d, rfl⟩ : ∃ (r : Fin 256) (h : Fin 16) (d : Fin 64), y = ix3 r h d := ⟨y 0, y 1, y 2, eq_ix3 y⟩
  have e0 : (((cfg0.win 4).blk t).view.emb (ix3 r h d)) = ix3 (rowAt t r) h d := by
    blk_ext [idx_4 t]
    simp only [rowAt]; omega
  rw [e0]
  exact (headKeys_block _ _ _ r h d).trans (point_keys m c t r _)

theorem headVals_final : (dats m 0 c).arrAt 5 cfg0.N = byHead (valsAt m c) := by
  refine (dats m 0 c).arrAt_eq_of_covers 5 _ (by decide +kernel) fun t hf y => ?_
  blk_simp
  rw [after0_5]
  obtain ⟨r, h, d, rfl⟩ : ∃ (r : Fin 256) (h : Fin 16) (d : Fin 64), y = ix3 r h d := ⟨y 0, y 1, y 2, eq_ix3 y⟩
  have e0 : (((cfg0.win 5).blk t).view.emb (ix3 r h d)) = ix3 (rowAt t r) h d := by
    blk_ext [idx_5 t]
    simp only [rowAt]; omega
  rw [e0]
  exact (headVals_block _ _ _ r h d).trans (point_vals m c t r _)

theorem keys_final : (dats m 0 c).arrAt 6 cfg0.N = keysAt m c := by
  refine (dats m 0 c).arrAt_eq_of_covers 6 _ (by decide +kernel) fun t hf y => ?_
  blk_simp
  rw [after0_6]
  obtain ⟨r, e, rfl⟩ : ∃ (r : Fin 256) (e : Fin 1024), y = ix2 r e := ⟨y 0, y 1, eq_ix2 y⟩
  have e0 : (((cfg0.win 6).blk t).view.emb (ix2 r e)) = ix2 (rowAt t r) e := by
    blk_ext [idx_6 t]
    simp only [rowAt]; omega
  rw [e0]
  exact (keys_block _ _ _ r e).trans (point_keys m c t r e)

theorem columns_final : (dats m 0 c).arrAt 7 cfg0.N = byColumn (valsAt m c) := by
  refine (dats m 0 c).arrAt_eq_of_covers 7 _ (by decide +kernel) fun t hf y => ?_
  blk_simp
  rw [after0_7]
  obtain ⟨z, e, r, rfl⟩ : ∃ (z : Fin 1) (e : Fin 1024) (r : Fin 256), y = ix3 z e r := ⟨y 0, y 1, y 2, eq_ix3 y⟩
  obtain rfl : z = 0 := Subsingleton.elim _ _
  have ht := lt_of_lt_of_eq t.isLt (show cfg0.grid.N = 128 from N_0)
  have e0 : (((cfg0.win 7).blk t).view.emb (ix3 0 e r)) = ix3 (⟨t.val / 8, by omega⟩ : Fin 16) e (⟨256 * (t.val % 8) + r.val, by omega⟩ : Fin 2048) := by
    blk_ext [idx_7 t]
  rw [e0]
  refine ((columns_block _ _ _ e r).trans (point_vals m c t r e)).trans ?_
  exact congrArg (fun i => valsAt m c (ix2 i e)) (Fin.ext (by simp [rowAt, ix3]; omega))

theorem means_final : (dats m 0 c).arrAt 8 cfg0.N = blockMeans (keysAt m c) := by
  refine (dats m 0 c).arrAt_eq_of_covers 8 _ (by decide +kernel) fun t hf y => ?_
  blk_simp
  rw [after0_8]
  obtain ⟨z, z', e, rfl⟩ : ∃ (z z' : Fin 1) (e : Fin 1024), y = ix3 z z' e := ⟨y 0, y 1, y 2, eq_ix3 y⟩
  obtain rfl : z = 0 := Subsingleton.elim _ _
  obtain rfl : z' = 0 := Subsingleton.elim _ _
  have ht := lt_of_lt_of_eq t.isLt (show cfg0.grid.N = 128 from N_0)
  have e0 : (((cfg0.win 8).blk t).view.emb (ix3 0 0 e)) = ix3 (⟨t.val, by omega⟩ : Fin 128) 0 e := by
    blk_ext [idx_8 t]
  rw [e0, blockMeans, div_256]
  refine (means_block _ _ _ e).trans ?_
  simp only [point_keys]
  rfl

end Cert.QkvKernelIdeal.Qkv
-- ==== Proof.Moba.Run.lean ====
/-
  The run of the queries, keys and values call of the sequences, with its six result arrays named.
-/
module

public import proofs.«01_k».proof.Proof.Gen.QkvKernelIdeal.Frame
public import proofs.«01_k».proof.Proof.Moba.Model
public import Idealize.ShloMosaic.Lib.Claim
public import Idealize.ShloMosaic.Lib.Pipeline.Value

@[expose] public section

namespace Cert.QkvKernelIdeal.Qkv

open Cert.QkvKernelIdeal Cert.QkvKernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Every result is its window's array after the last grid point, and the arguments are as before: the rows' window never
    writes, and no window has the gains' and the matrix's own buffers. -/
theorem run : θ_run defs (onTc (τ := τ) (main (F := Ideal))) ⟨m, fun _ => 0, ρ⟩ fun r => ∀ c : Dev nD,
      r.2.mem ((c : Thread nD τ).loc main_v2_0) = (dats m 0 c).arrAt 3 cfg0.N
      ∧ r.2.mem ((c : Thread nD τ).loc main_v2_1) = (dats m 0 c).arrAt 4 cfg0.N
      ∧ r.2.mem ((c : Thread nD τ).loc main_v2_2) = (dats m 0 c).arrAt 5 cfg0.N
      ∧ r.2.mem ((c : Thread nD τ).loc main_v2_3) = (dats m 0 c).arrAt 6 cfg0.N
      ∧ r.2.mem ((c : Thread nD τ).loc main_v2_4) = (dats m 0 c).arrAt 7 cfg0.N
      ∧ r.2.mem ((c : Thread nD τ).loc main_v2_5) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨(h c).1 3, (h c).1 4, (h c).1 5, (h c).1 6, (h c).1 7, (h c).1 8,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.QkvKernelIdeal.Qkv
-- ==== Proof.Moba.Reference.lean ====
/-
  The arrays the sequences' reference for queries, keys and values computes on the host, each at an index.
-/
module

public import proofs.«01_k».proof.Proof.Gen.QkvReferenceIdeal.Run
public import proofs.«01_k».proof.Proof.Ffn.Reference
public import proofs.«01_k».proof.Proof.Moba.Model
public import Idealize.ShloMosaic.Lib.Claim
public import Idealize.ShloMosaic.Lib.StableHlo.ReadAt

@[expose] public section

set_option maxRecDepth 16384

namespace Cert.QkvReferenceIdeal.Qkv

open Cert.QkvReferenceIdeal Cert.QkvReferenceIdeal.Gen Cert.QkvReferenceIdeal.Value Idealize.ShloMosaic Idealize.ShloMosaic.TcCoe Idealize.SL.Sem Idealize.ShloMosaic.StableHlo
open Cert.FeedForward Cert.Attention

variable (x : FVec Ideal S32768x1024 .f32) (g : FVec Ideal S1024 .f32) (w : FVec Ideal S1024x3072 .f32)

/-- Each row, normalised as by the feed-forward's reference, times the matrix. -/
noncomputable def proj : FVec Ideal S32768x3072 .f32 :=
  Host.dotGeneral dot_S32768x1024_S1024x3072_S32768x3072_1_0_0_1_n_n none (Cert.FfnReferenceIdeal.Ffn.normedRows x g) w

theorem proj_apply (r : Fin 32768) (j : Fin 3072) : proj x g w (ix2 r j) = column x g w r j := by
  pointwise [proj]
  simp only [Cert.FfnReferenceIdeal.Ffn.normedRows_apply]
  rfl

/-- The queries, keys and values of all rows. -/
noncomputable def keyRows : FVec Ideal S32768x1024 .f32 := extractStridedSlice S32768x1024 ![0, 1024] (proj x g w) slices_S32768x3072_S32768x1024_0_1024
noncomputable def valRows : FVec Ideal S32768x1024 .f32 := extractStridedSlice S32768x1024 ![0, 2048] (proj x g w) slices_S32768x3072_S32768x1024_0_2048

theorem keyRows_eq : keyRows x g w = keys x g w := by
  funext y
  obtain ⟨r, e, rfl⟩ : ∃ (r : Fin 32768) (e : Fin 1024), y = ix2 r e := ⟨y 0, y 1, eq_ix2 y⟩
  pointwise [keyRows]
  exact proj_apply x g w r _

theorem valRows_eq : valRows x g w = vals x g w := by
  funext y
  obtain ⟨r, e, rfl⟩ : ∃ (r : Fin 32768) (e : Fin 1024), y = ix2 r e := ⟨y 0, y 1, eq_ix2 y⟩
  pointwise [valRows]
  exact proj_apply x g w r _

theorem queries_eq : truncf .bf16 (mulf (extractStridedSlice S32768x1024 ![0, 0] (proj x g w) slices_S32768x3072_S32768x1024_0_0)
      (broadcastInDim S32768x1024 ![] bcast_S_S32768x1024 (constant S_ .f32 0x3E38AA3B#32))) bitsLt_bf16_f32 = queries x g w 0x3E38AA3B#32 := by
  funext y
  obtain ⟨r, e, rfl⟩ : ∃ (r : Fin 32768) (e : Fin 1024), y = ix2 r e := ⟨y 0, y 1, eq_ix2 y⟩
  pointwise
  exact congrArg (· * _) (proj_apply x g w r _)

/-- The same of the reference's arguments. -/
theorem keyRows_at (m : (ℓ : Loc nD τ sig) → Buf (Elt Ideal) ℓ) (c : Dev nD) :
    keyRows (m ((c.tc : Thread nD τ).loc main_arg0)) (m ((c.tc : Thread nD τ).loc main_arg1)) (m ((c.tc : Thread nD τ).loc main_arg2))
      = keys (m ((c.tc : Thread nD τ).loc main_arg0)) (m ((c.tc : Thread nD τ).loc main_arg1)) (m ((c.tc : Thread nD τ).loc main_arg2)) := keyRows_eq _ _ _
theorem valRows_at (m : (ℓ : Loc nD τ sig) → Buf (Elt Ideal) ℓ) (c : Dev nD) :
    valRows (m ((c.tc : Thread nD τ).loc main_arg0)) (m ((c.tc : Thread nD τ).loc main_arg1)) (m ((c.tc : Thread nD τ).loc main_arg2))
      = vals (m ((c.tc : Thread nD τ).loc main_arg0)) (m ((c.tc : Thread nD τ).loc main_arg1)) (m ((c.tc : Thread nD τ).loc main_arg2)) := valRows_eq _ _ _

variable (a : FVec Ideal S32768x1024 .f32)

/-- Rows by head, by column, and the blocks' means, of any rows. -/
theorem byHead_eq : shapeCast S32768x16x64 a shapeCasts_S32768x1024_S32768x16x64 = byHead a := by
  funext y
  obtain ⟨r, h, d, rfl⟩ : ∃ (r : Fin 32768) (h : Fin 16) (d : Fin 64), y = ix3 r h d := ⟨y 0, y 1, y 2, eq_ix3 y⟩
  pointwise
  exact congrArg (fun i => a (ix2 r i)) (Fin.ext (by simp [ix3]; omega))

theorem byColumn_eq : truncf (F := Ideal) .bf16 (transpose S16x1024x2048 [0, 2, 1] (shapeCast S16x2048x1024 a shapeCasts_S32768x1024_S16x2048x1024)
      transposes_S16x2048x1024_S16x1024x2048_0_2_1) bitsLt_bf16_f32 = byColumn a := by
  funext y
  obtain ⟨b, e, r, rfl⟩ : ∃ (b : Fin 16) (e : Fin 1024) (r : Fin 2048), y = ix3 b e r := ⟨y 0, y 1, y 2, eq_ix3 y⟩
  pointwise
  exact congrArg (fun i => a (ix2 i e)) (Fin.ext (by simp [ix3]; omega))

theorem blockMeans_eq : Host.divf (broadcastInDim S128x1x1024 ![0, 2] bcast_S128x1024_S128x1x1024_0_2
      (Host.reduceAdd (shapeCast S128x256x1024 a shapeCasts_S32768x1024_S128x256x1024) (constant S_ .f32 0x00000000#32) reducesTo_S128x256x1024_S128x1024_d1 h_S_))
    (broadcastInDim S128x1x1024 ![] bcast_S_S128x1x1024 (constant S_ .f32 0x43800000#32)) = blockMeans a := by
  funext y
  obtain ⟨b, z, e, rfl⟩ : ∃ (b : Fin 128) (z : Fin 1) (e : Fin 1024), y = ix3 b z e := ⟨y 0, y 1, y 2, eq_ix3 y⟩
  pointwise
  refine congrArg (fun s => Ideal.div s _) (Finset.sum_congr rfl fun i _ => ?_)
  exact congrArg (fun i => a (ix2 i e)) (Fin.ext (by simp [ix3]; omega))

end Cert.QkvReferenceIdeal.Qkv
-- ==== Proof.Moba.SampleReference.lean ====
/-
  The arrays the samples' reference for queries, keys and values computes on the host, each at an index.
-/
module

public import proofs.«01_k».proof.Proof.Gen.SampleQkvReferenceIdeal.Run
public import proofs.«01_k».proof.Proof.Moba.Model
public import Idealize.ShloMosaic.Lib.Claim
public import Idealize.ShloMosaic.Lib.StableHlo.ReadAt

@[expose] public section

set_option maxRecDepth 16384

namespace Cert.SampleQkvReferenceIdeal.Qkv

open Cert.SampleQkvReferenceIdeal Cert.SampleQkvReferenceIdeal.Gen Cert.SampleQkvReferenceIdeal.Value Idealize.ShloMosaic Idealize.ShloMosaic.TcCoe Idealize.SL.Sem Idealize.ShloMosaic.StableHlo
open Cert.FeedForward Cert.Attention

variable (x : FVec Ideal S256x1024 .f32) (g : FVec Ideal S1024 .f32) (w : FVec Ideal S1024x3072 .f32)

/-- Each row normalised. -/
noncomputable def normedRows : FVec Ideal S256x1024 .f32 :=
  mulf (mulf x (broadcastInDim S256x1024 ![0, 1] bcast_S256x1_S256x1024_0_1
      (Host.rsqrt (addf (Host.divf (broadcastInDim S256x1 ![0] bcast_S256_S256x1_0
            (Host.reduceAdd (mulf x x) (constant S_ .f32 0x00000000#32) reducesTo_S256x1024_S256_d1 h_S_))
          (broadcastInDim S256x1 ![] bcast_S_S256x1 (constant S_ .f32 0x44800000#32)))
        (broadcastInDim S256x1 ![] bcast_S_S256x1 (constant S_ .f32 0x358637BD#32))))))
    (broadcastInDim S256x1024 ![0, 1] bcast_S1x1024_S256x1024_0_1 (broadcastInDim S1x1024 ![1] bcast_S1024_S1x1024_1 g))

theorem normedRows_apply (r : Fin 256) (e : Fin 1024) : normedRows x g (ix2 r e) = normed (fun c => x (ix2 r c)) (fun c => g (ix1 c)) e := by
  pointwise [normedRows]
  rfl

/-- Each normalised row times the matrix. -/
noncomputable def proj : FVec Ideal S256x3072 .f32 := Host.dotGeneral dot_S256x1024_S1024x3072_S256x3072_1_0_0_1_n_n none (normedRows x g) w

theorem proj_apply (r : Fin 256) (j : Fin 3072) : proj x g w (ix2 r j) = column x g w r j := by
  pointwise [proj]
  simp only [normedRows_apply]
  rfl

theorem queries_eq : mulf (extractStridedSlice S256x1024 ![0, 0] (proj x g w) slices_S256x3072_S256x1024_0_0)
      (broadcastInDim S256x1024 ![] bcast_S_S256x1024 (constant S_ .f32 0x3E000000#32)) = queries x g w 0x3E000000#32 := by
  funext y
  obtain ⟨r, e, rfl⟩ : ∃ (r : Fin 256) (e : Fin 1024), y = ix2 r e := ⟨y 0, y 1, eq_ix2 y⟩
  pointwise
  exact congrArg (· * _) (proj_apply x g w r _)

theorem keys_eq : extractStridedSlice S256x1024 ![0, 1024] (proj x g w) slices_S256x3072_S256x1024_0_1024 = keys x g w := by
  funext y
  obtain ⟨r, e, rfl⟩ : ∃ (r : Fin 256) (e : Fin 1024), y = ix2 r e := ⟨y 0, y 1, eq_ix2 y⟩
  pointwise
  exact proj_apply x g w r _

theorem vals_eq : extractStridedSlice S256x1024 ![0, 2048] (proj x g w) slices_S256x3072_S256x1024_0_2048 = vals x g w := by
  funext y
  obtain ⟨r, e, rfl⟩ : ∃ (r : Fin 256) (e : Fin 1024), y = ix2 r e := ⟨y 0, y 1, eq_ix2 y⟩
  pointwise
  exact proj_apply x g w r _

end Cert.SampleQkvReferenceIdeal.Qkv
-- ==== Proof.Moba.Algebraic.lean ====
/-
  The calls for queries, keys and values and their references end with the same arrays.
-/
module

public import proofs.«01_k».proof.Defs
public import proofs.«01_k».proof.Proof.Moba.Arrays
public import proofs.«01_k».proof.Proof.Moba.Run
public import proofs.«01_k».proof.Proof.Moba.Reference
public import proofs.«01_k».proof.Proof.Moba.SampleReference

@[expose] public section

set_option maxRecDepth 16384

namespace Cert.Proof

open Idealize.ShloMosaic Idealize.ShloMosaic.TcCoe Idealize.SL.Sem Cert.Attention

theorem algebraic_sample_qkv : Cert.algebraic_SampleQkvKernelIdeal_SampleQkvReferenceIdeal := by
  intro m g m' g' _ hargs
  refine ⟨Cert.SampleQkvKernelIdeal.Qkv.queriesAt m, Cert.SampleQkvKernelIdeal.Qkv.keysAt m, Cert.SampleQkvKernelIdeal.Qkv.valsAt m,
    (θ_run _ _ _).mono (fun r h c => ?_) (Cert.SampleQkvKernelIdeal.Value.run_blocks m g),
    (θ_run _ _ _).mono (fun r h c => ?_) (Cert.SampleQkvReferenceIdeal.Value.run m' g')⟩
  · obtain ⟨h0, h1, h2, h⟩ := h c
    exact ⟨h0.trans (Cert.SampleQkvKernelIdeal.Qkv.queries_final m c), h1.trans (Cert.SampleQkvKernelIdeal.Qkv.keys_final m c),
      h2.trans (Cert.SampleQkvKernelIdeal.Qkv.vals_final m c), h⟩
  · obtain ⟨h0, h1, h2, h⟩ := h c
    obtain ⟨a0, a1, a2⟩ := hargs c
    refine ⟨h0.trans ((Cert.SampleQkvReferenceIdeal.Qkv.queries_eq _ _ _).trans ?_), h1.trans ((Cert.SampleQkvReferenceIdeal.Qkv.keys_eq _ _ _).trans ?_),
      h2.trans ((Cert.SampleQkvReferenceIdeal.Qkv.vals_eq _ _ _).trans ?_), h⟩
    · rw [a0, a1, a2, Cert.SampleQkvKernelIdeal.Qkv.queriesAt]
    · rw [a0, a1, a2, Cert.SampleQkvKernelIdeal.Qkv.keysAt]
    · rw [a0, a1, a2, Cert.SampleQkvKernelIdeal.Qkv.valsAt]

theorem algebraic_qkv : Cert.algebraic_QkvKernelIdeal_QkvReferenceIdeal := by
  intro m g m' g' _ hargs
  refine ⟨Cert.QkvKernelIdeal.Qkv.queriesAt m, fun c => byHead (Cert.QkvKernelIdeal.Qkv.keysAt m c), fun c => byHead (Cert.QkvKernelIdeal.Qkv.valsAt m c),
    Cert.QkvKernelIdeal.Qkv.keysAt m, fun c => byColumn (Cert.QkvKernelIdeal.Qkv.valsAt m c), fun c => blockMeans (Cert.QkvKernelIdeal.Qkv.keysAt m c),
    (θ_run _ _ _).mono (fun r h c => ?_) (Cert.QkvKernelIdeal.Qkv.run m g),
    (θ_run _ _ _).mono (fun r h c => ?_) (Cert.QkvReferenceIdeal.Value.run m' g')⟩
  · obtain ⟨h0, h1, h2, h3, h4, h5, h⟩ := h c
    exact ⟨h0.trans (Cert.QkvKernelIdeal.Qkv.queries_final m c), h1.trans (Cert.QkvKernelIdeal.Qkv.headKeys_final m c),
      h2.trans (Cert.QkvKernelIdeal.Qkv.headVals_final m c), h3.trans (Cert.QkvKernelIdeal.Qkv.keys_final m c),
      h4.trans (Cert.QkvKernelIdeal.Qkv.columns_final m c), h5.trans (Cert.QkvKernelIdeal.Qkv.means_final m c), h⟩
  · obtain ⟨h0, h1, h2, h3, h4, h5, h⟩ := h c
    obtain ⟨a0, a1, a2⟩ := hargs c
    have keys_eq := (Cert.QkvReferenceIdeal.Qkv.keyRows_at m' c).trans (show _ = Cert.QkvKernelIdeal.Qkv.keysAt m c by rw [a0, a1, a2, Cert.QkvKernelIdeal.Qkv.keysAt])
    have vals_eq := (Cert.QkvReferenceIdeal.Qkv.valRows_at m' c).trans (show _ = Cert.QkvKernelIdeal.Qkv.valsAt m c by rw [a0, a1, a2, Cert.QkvKernelIdeal.Qkv.valsAt])
    refine ⟨h0.trans ((Cert.QkvReferenceIdeal.Qkv.queries_eq _ _ _).trans ?_),
      h1.trans ((Cert.QkvReferenceIdeal.Qkv.byHead_eq _).trans (congrArg byHead keys_eq)),
      h2.trans ((Cert.QkvReferenceIdeal.Qkv.byHead_eq _).trans (congrArg byHead vals_eq)), h3.trans keys_eq,
      h4.trans ((Cert.QkvReferenceIdeal.Qkv.byColumn_eq _).trans (congrArg byColumn vals_eq)),
      h5.trans ((Cert.QkvReferenceIdeal.Qkv.blockMeans_eq _).trans (congrArg blockMeans keys_eq)), h⟩
    rw [a0, a1, a2, Cert.QkvKernelIdeal.Qkv.queriesAt]

end Cert.Proof
-- ==== Proof.Moba.Proj.lean ====
/-
  The output projection: `res + x · w`, by the call and by its reference.
-/
module

public import proofs.«01_k».proof.Defs
public import proofs.«01_k».proof.Proof.Gen.ProjKernelIdeal.Value
public import proofs.«01_k».proof.Proof.Gen.ProjReferenceIdeal.Run
public import proofs.«01_k».proof.Proof.Moba.Model
public import Idealize.ShloMosaic.Lib.Claim
public import Idealize.ShloMosaic.Lib.Pipeline.ValueKit
public import Idealize.ShloMosaic.Lib.StableHlo.ReadAt

@[expose] public section

set_option maxRecDepth 16384

namespace Cert.Attention

open Idealize.ShloMosaic

/-- Each row of `res` with its row of `x` times the matrix added. -/
noncomputable def addedRows (x : (⟨2, ![32768, 1024]⟩ : Shape).Idx → EReal) (w : (⟨2, ![1024, 1024]⟩ : Shape).Idx → EReal) (res : (⟨2, ![32768, 1024]⟩ : Shape).Idx → EReal) :
    (⟨2, ![32768, 1024]⟩ : Shape).Idx → EReal := fun y =>
  res (ix2 (y 0) (y 1)) + ∑ k : Fin 1024, x (ix2 (y 0) k) * w (ix2 k (y 1))

end Cert.Attention

namespace Cert.ProjKernelIdeal.Proj

open Cert.ProjKernelIdeal Cert.ProjKernelIdeal.Gen Cert.Attention Idealize.ShloMosaic Idealize.ShloMosaic.TcCoe Idealize.SL.Sem
open Idealize.ShloMosaic.Pipeline (Dat)

/-- What a grid point leaves in its block of rows. -/
theorem block_apply (x0 : Vec Ideal S512x1024 .bf16) (x1 : Vec Ideal S1024x1024 .bf16) (x2 : Vec Ideal S512x1024 .f32) (r : Fin 512) (e : Fin 1024) :
    out0_3 x0 x1 x2 (ix2 r e) = x2 (ix2 r e) + ∑ k : Fin 1024, x0 (ix2 r k) * x1 (ix2 k e) := by
  unfold out0_3
  rw [View.canon_cons_unit_lit _ _ _ (by decide), View.ld_unit_lit _ x0 (by decide), View.ld_unit_lit _ x1 (by decide), View.ld_unit_lit _ x2 (by decide)]
  pointwise [k0_pay1]

variable (m : (ℓ : Loc nD τ sig) → Buf (Elt Ideal) ℓ) (c : Dev nD)

theorem host_w : V m c main_v0 = m ((c : Thread nD τ).loc main_arg1) := by
  simp only [V, List.flatten_cons, List.flatten_nil, List.append_nil, hostOps0, List.cons_append, List.nil_append]
  entry_read
  rfl

theorem idx_0 : ∀ t : Fin cfg0.N, win0_0.index t = ![t.val, 0] := (by decide +kernel : ∀ t : Fin grid0.N, win0_0.index t = ![t.val, 0])
theorem idx_1 : ∀ t : Fin cfg0.N, win0_1.index t = ![0, 0] := (by decide +kernel : ∀ t : Fin grid0.N, win0_1.index t = ![0, 0])
theorem idx_2 : ∀ t : Fin cfg0.N, win0_2.index t = ![t.val, 0] := (by decide +kernel : ∀ t : Fin grid0.N, win0_2.index t = ![t.val, 0])
theorem idx_3 : ∀ t : Fin cfg0.N, win0_3.index t = ![t.val, 0] := (by decide +kernel : ∀ t : Fin grid0.N, win0_3.index t = ![t.val, 0])

/-- Row `r` of grid point `t`'s block, among all rows. -/
def rowAt (t : Fin cfg0.N) (r : Fin 512) : Fin 32768 :=
  ⟨512 * t.val + r.val, by have := lt_of_lt_of_eq t.isLt (show cfg0.N = 64 from N_0); omega⟩

theorem blk_x (t : Fin cfg0.N) (r : Fin 512) (e : Fin 1024) : iblk m c 0 t (ix2 r e) = m ((c : Thread nD τ).loc main_arg0) (ix2 (rowAt t r) e) := by
  rw [← V_main_arg0 m c]
  blk_ext [iblk, V, idx_0 t]
  simp only [rowAt]; omega

theorem blk_w (t : Fin cfg0.N) (k e : Fin 1024) : iblk m c 1 t (ix2 k e) = m ((c : Thread nD τ).loc main_arg1) (ix2 k e) := by
  rw [← host_w m c]
  blk_ext [iblk, V, idx_1 t]

theorem blk_res (t : Fin cfg0.N) (r : Fin 512) (e : Fin 1024) : iblk m c 2 t (ix2 r e) = m ((c : Thread nD τ).loc main_arg2) (ix2 (rowAt t r) e) := by
  rw [← V_main_arg2 m c]
  blk_ext [iblk, V, idx_2 t]
  simp only [rowAt]; omega

/-- The call's result, of its arguments. -/
noncomputable def resultAt : (⟨2, ![32768, 1024]⟩ : Shape).Idx → EReal :=
  addedRows (m ((c : Thread nD τ).loc main_arg0)) (m ((c : Thread nD τ).loc main_arg1)) (m ((c : Thread nD τ).loc main_arg2))

theorem rows_final : (dats m 0 c).arrAt 3 cfg0.N = resultAt m c := by
  refine (dats m 0 c).arrAt_eq_of_covers 3 _ (by decide +kernel) fun t hf y => ?_
  blk_simp
  rw [after0_3]
  obtain ⟨r, e, rfl⟩ : ∃ (r : Fin 512) (e : Fin 1024), y = ix2 r e := ⟨y 0, y 1, eq_ix2 y⟩
  refine (block_apply _ _ _ r e).trans ?_
  simp only [blk_x, blk_w, blk_res]
  unfold resultAt addedRows
  have ht := lt_of_lt_of_eq t.isLt (show cfg0.grid.N = 64 from N_0)
  have e0 : rowAt t r = (((cfg0.win 3).blk t).view.emb (ix2 r e)) 0 := by
    apply Fin.ext; blk_simp [idx_3 t]; simp only [rowAt]; omega
  have e1 : e = (((cfg0.win 3).blk t).view.emb (ix2 r e)) 1 := by
    apply Fin.ext; blk_simp [idx_3 t]
  rw [← e0, ← e1]

end Cert.ProjKernelIdeal.Proj

namespace Cert.ProjReferenceIdeal.Proj

open Cert.ProjReferenceIdeal Cert.ProjReferenceIdeal.Gen Cert.Attention Idealize.ShloMosaic Idealize.ShloMosaic.TcCoe Idealize.SL.Sem Idealize.ShloMosaic.StableHlo

/-- The reference's array. -/
theorem rows_eq (x : FVec Ideal S32768x1024 .bf16) (w : FVec Ideal S1024x1024 .f32) (res : FVec Ideal S32768x1024 .f32) :
    addf res (Host.dotGeneral dot_S32768x1024_S1024x1024_S32768x1024_1_0_0_1_n_n none (extf .f32 x bitsLt_bf16_f32) w) = addedRows x w res := by
  funext y
  obtain ⟨r, e, rfl⟩ : ∃ (r : Fin 32768) (e : Fin 1024), y = ix2 r e := ⟨y 0, y 1, eq_ix2 y⟩
  pointwise
  rfl

end Cert.ProjReferenceIdeal.Proj

namespace Cert.Proof

open Idealize.ShloMosaic Idealize.ShloMosaic.TcCoe Idealize.SL.Sem

theorem algebraic_proj : Cert.algebraic_ProjKernelIdeal_ProjReferenceIdeal := by
  intro m g m' g' _ hargs
  refine ⟨Cert.ProjKernelIdeal.Proj.resultAt m,
    (θ_run _ _ _).mono (fun r h c => ?_) (Cert.ProjKernelIdeal.Value.run_blocks m g),
    (θ_run _ _ _).mono (fun r h c => ?_) (Cert.ProjReferenceIdeal.Value.run m' g')⟩
  · obtain ⟨h0, h⟩ := h c
    exact ⟨h0.trans (Cert.ProjKernelIdeal.Proj.rows_final m c), h⟩
  · obtain ⟨h0, h⟩ := h c
    obtain ⟨a0, a1, a2⟩ := hargs c
    refine ⟨h0.trans ((Cert.ProjReferenceIdeal.Proj.rows_eq _ _ _).trans ?_), h⟩
    rw [a0, a1, a2, Cert.ProjKernelIdeal.Proj.resultAt]

end Cert.Proof
-- ==== Proof.Ret.SampleModel.lean ====
/-
  The samples' retention in plain sums: eight positions of each of 32 sequences, which are one chunk, from given states.
-/
module

public import proofs.«01_k».proof.Proof.Ret.Tables

@[expose] public section

namespace Cert.Retention

open Idealize.ShloMosaic

/-- One of the eight positions, among the 128 of a full chunk. -/
def early (i : Fin 8) : Fin 128 := ⟨i.val, by omega⟩

/-- The decay on adding to the state, for a chunk of eight: to the power `7 - i`. -/
noncomputable def decayKSample (h : Fin 4) (i : Fin 8) : EReal := Ideal.exp (logDecay h * (Ideal.ofBits FTy.f32 0x40E00000#32 - count i.val))

/-- The decay over a chunk of eight. -/
noncomputable def decayCSample (h : Fin 4) : EReal := Ideal.exp (logDecay h * Ideal.ofBits FTy.f32 0x41000000#32)

/-- The samples' inputs: rotated and projected rows with the gate activated, the norm's gains, the states. -/
structure Samples where
  y : Fin 32 → Fin 8 → Fin 6144 → EReal
  gn : Fin 2048 → EReal
  s : Fin 32 → Fin 4 → Fin 256 → Fin 512 → EReal

namespace Samples

variable (S : Samples) (b : Fin 32) (h : Fin 4)

def q (i : Fin 8) (d : Fin 256) : EReal := S.y b i ⟨256 * h.val + d.val, by omega⟩
def k (i : Fin 8) (d : Fin 256) : EReal := S.y b i ⟨1024 + 256 * h.val + d.val, by omega⟩
def v (i : Fin 8) (e : Fin 512) : EReal := S.y b i ⟨2048 + 512 * h.val + e.val, by omega⟩
def gate (i : Fin 8) (e : Fin 512) : EReal := S.y b i ⟨4096 + 512 * h.val + e.val, by omega⟩

/-- The state after the eight positions. -/
noncomputable def next (d : Fin 256) (e : Fin 512) : EReal :=
  S.s b h d e * decayCSample h + ∑ j, S.k b h j d * decayKSample h j * S.v b h j e

/-- A position's output: its part from the eight positions, and the state's part. -/
noncomputable def ret (i : Fin 8) (e : Fin 512) : EReal :=
  (∑ j, (∑ d, S.q b h i d * S.k b h j d) * decayIn h (early i) (early j) * S.v b h j e)
    + (∑ d, S.q b h i d * S.s b h d e) * decayQ h (early i)

/-- The normed output of a head, gated. -/
noncomputable def gated (i : Fin 8) (e : Fin 512) : EReal :=
  S.gate b h i e * (standard (S.ret b h i) e * S.gn ⟨512 * h.val + e.val, by omega⟩)

end Samples

/-- The samples of the three argument arrays. -/
def samples (y : (⟨3, ![32, 8, 6144]⟩ : Shape).Idx → EReal) (gn : (⟨1, ![2048]⟩ : Shape).Idx → EReal)
    (s : (⟨4, ![32, 4, 256, 512]⟩ : Shape).Idx → EReal) : Samples where
  y b i e := y (ix3 b i e)
  gn f := gn (ix1 f)
  s b h d e := s (ix4 b h d e)

/-- The gated rows of all heads as one array. -/
noncomputable def Samples.rows (S : Samples) (y : (⟨3, ![32, 8, 2048]⟩ : Shape).Idx) : EReal :=
  S.gated ⟨(y 0).val, by have := (y 0).isLt; simpa using this⟩ ⟨(y 2).val / 512, by have := (y 2).isLt; simp at this; omega⟩
    ⟨(y 1).val, by have := (y 1).isLt; simpa using this⟩ ⟨(y 2).val % 512, Nat.mod_lt _ (by omega)⟩

/-- The states after the eight positions. -/
noncomputable def Samples.states (S : Samples) (y : (⟨4, ![32, 4, 256, 512]⟩ : Shape).Idx) : EReal :=
  S.next ⟨(y 0).val, by have := (y 0).isLt; simpa using this⟩ ⟨(y 1).val, by have := (y 1).isLt; simpa using this⟩
    ⟨(y 2).val, by have := (y 2).isLt; simpa using this⟩ ⟨(y 3).val, by have := (y 3).isLt; simpa using this⟩

/-- A sum over a full chunk whose terms vanish after the eighth. -/
theorem sum_early (f : Fin 128 → EReal) (hf : ∀ j : Fin 128, 8 ≤ j.val → f j = 0) : ∑ j, f j = ∑ j : Fin 8, f (early j) := by
  have e := Fin.sum_univ_add (a := 8) (b := 120) f
  refine e.trans ?_
  rw [Finset.sum_eq_zero (s := Finset.univ) (f := fun i : Fin 120 => f (Fin.natAdd 8 i)) (fun i _ => hf _ (by simp)), add_zero]
  rfl

end Cert.Retention
-- ==== Proof.Ret.SampleHeads.lean ====
/-
  The samples' kernel, one head of one sequence: its queries, keys and values padded with zeros to a full chunk, what it
  stores of the state, and what it stores of the rows.
-/
module

public import proofs.«01_k».proof.Proof.Gen.SampleRetentionKernelIdeal.Skeleton
public import proofs.«01_k».proof.Proof.Ret.SampleModel
public import Idealize.ShloMosaic.Lib.Pointwise

@[expose] public section

set_option maxRecDepth 16384

namespace Cert.SampleRetentionKernelIdeal.Ret

open Cert.SampleRetentionKernelIdeal Cert.SampleRetentionKernelIdeal.Gen Cert.Retention Idealize.ShloMosaic

variable {F : FTy → Type} [FloatOps F]

/-- The state a head stores. -/
noncomputable def nextOf (k : Vec F S1x8x256 .f32) (v : Vec F S1x8x512 .f32) (dK : Vec F S1x128x1 .f32) (dC : Vec F S1x1x1 .f32)
    (s : Vec F S1x1x256x512 .f32) : FVec F S1x1x256x512 .f32 :=
  k0_pay31 (k0_pay27 (k0_pay2 k) (k0_pay10 v) dK) s dC

/-- The rows a head stores. -/
noncomputable def rowsOf (q k : Vec F S1x8x256 .f32) (v g : Vec F S1x8x512 .f32) (dIn : Vec F S1x128x128 .f32) (dQ : Vec F S1x128x1 .f32)
    (gn : Vec F S1x512 .f32) (s : Vec F S1x1x256x512 .f32) : FVec F S1x8x512 .bf16 :=
  k0_pay40 (k0_pay19 (k0_pay6 q) s) (k0_pay23 (k0_pay10 v) (k0_pay14 (k0_pay2 k) (k0_pay6 q)) dIn) dQ gn g

section

variable (q k : Vec Ideal S1x8x256 .f32) (v g : Vec Ideal S1x8x512 .f32) (dIn : Vec Ideal S1x128x128 .f32) (dQ dK : Vec Ideal S1x128x1 .f32)
  (dC : Vec Ideal S1x1x1 .f32) (gn : Vec Ideal S1x512 .f32) (s : Vec Ideal S1x1x256x512 .f32)

theorem keys_early (i : Fin 8) (d : Fin 256) : k0_pay2 k (ix2 (early i) d) = k (ix3 0 i d) := by
  pointwise [k0_pay2, early]

theorem queries_early (i : Fin 8) (d : Fin 256) : k0_pay6 q (ix2 (early i) d) = q (ix3 0 i d) := by
  pointwise [k0_pay6, early]

theorem vals_early (i : Fin 8) (e : Fin 512) : k0_pay10 v (ix2 (early i) e) = v (ix3 0 i e) := by
  pointwise [k0_pay10, early]

theorem vals_late (j : Fin 128) (h : 8 ≤ j.val) (e : Fin 512) : k0_pay10 v (ix2 j e) = (0 : EReal) := by
  pointwise [k0_pay10]
  exact dif_neg (by omega)

theorem scores_early (i j : Fin 8) :
    k0_pay14 (k0_pay2 k) (k0_pay6 q) (ix2 (early i) (early j)) = ∑ d : Fin 256, q (ix3 0 i d) * k (ix3 0 j d) := by
  pointwise [k0_pay14]
  simp only [keys_early, queries_early]

theorem nextOf_apply (d : Fin 256) (e : Fin 512) :
    nextOf k v dK dC s (ix4 0 0 d e)
      = s (ix4 0 0 d e) * dC (ix3 0 0 0) + ∑ j : Fin 8, k (ix3 0 j d) * dK (ix3 0 (early j) 0) * v (ix3 0 j e) := by
  pointwise [nextOf, k0_pay31, k0_pay27]
  rw [sum_early _ fun j hj => by rw [vals_late v j hj e, mul_zero]]
  simp only [keys_early, vals_early]

theorem inside_early (i : Fin 8) (e : Fin 512) :
    k0_pay23 (k0_pay10 v) (k0_pay14 (k0_pay2 k) (k0_pay6 q)) dIn (ix2 (early i) e)
      = ∑ j : Fin 8, (∑ d : Fin 256, q (ix3 0 i d) * k (ix3 0 j d)) * dIn (ix3 0 (early i) (early j)) * v (ix3 0 j e) := by
  pointwise [k0_pay23]
  rw [sum_early _ fun j hj => by rw [vals_late v j hj e, mul_zero]]
  simp only [scores_early, vals_early]

theorem across_early (i : Fin 8) (e : Fin 512) :
    k0_pay19 (k0_pay6 q) s (ix2 (early i) e) = ∑ d : Fin 256, q (ix3 0 i d) * s (ix4 0 0 d e) := by
  pointwise [k0_pay19]
  simp only [queries_early]

/-- The norm and the gate, of the two parts of the output. -/
theorem finish_apply (x y : FVec Ideal S128x512 .f32) (i : Fin 8) (e : Fin 512) :
    k0_pay40 x y dQ gn g (ix3 0 i e)
      = g (ix3 0 i e) * (standard (fun e' => y (ix2 (early i) e') + x (ix2 (early i) e') * dQ (ix3 0 (early i) 0)) e * gn (ix2 0 e)) := by
  pointwise [k0_pay40]
  rfl

theorem rowsOf_apply (i : Fin 8) (e : Fin 512) :
    rowsOf q k v g dIn dQ gn s (ix3 0 i e)
      = g (ix3 0 i e) * (standard (fun e' =>
          (∑ j : Fin 8, (∑ d : Fin 256, q (ix3 0 i d) * k (ix3 0 j d)) * dIn (ix3 0 (early i) (early j)) * v (ix3 0 j e'))
            + (∑ d : Fin 256, q (ix3 0 i d) * s (ix4 0 0 d e')) * dQ (ix3 0 (early i) 0)) e * gn (ix2 0 e)) := by
  unfold rowsOf
  rw [finish_apply]
  simp only [inside_early, across_early]

end

end Cert.SampleRetentionKernelIdeal.Ret
-- ==== Proof.Ret.SampleStores.lean ====
/-
  The samples' kernel at a grid point: its stores, head by head, and what they leave in the two output blocks.
-/
module

public import proofs.«01_k».proof.Proof.Gen.SampleRetentionKernelIdeal.Frame
public import proofs.«01_k».proof.Proof.Ret.SampleHeads
public import Idealize.ShloMosaic.Lib.Pipeline.ReadBack
public import Idealize.ShloMosaic.Lib.Pipeline.ValueKit

@[expose] public section

namespace Cert.SampleRetentionKernelIdeal.Ret

open Cert.SampleRetentionKernelIdeal Cert.SampleRetentionKernelIdeal.Gen Idealize.ShloMosaic Idealize.ShloMosaic.TcCoe Idealize.SL.Sem

variable {F : FTy → Type} [FloatOps F]

/-- What a grid point reads of its blocks, head by head. -/
structure Reads (F : FTy → Type) where
  q : Fin 4 → Vec F S1x8x256 .f32
  k : Fin 4 → Vec F S1x8x256 .f32
  v : Fin 4 → Vec F S1x8x512 .f32
  g : Fin 4 → Vec F S1x8x512 .f32
  dIn : Fin 4 → Vec F S1x128x128 .f32
  dQ : Fin 4 → Vec F S1x128x1 .f32
  dK : Fin 4 → Vec F S1x128x1 .f32
  dC : Fin 4 → Vec F S1x1x1 .f32
  gn : Fin 4 → Vec F S1x512 .f32
  s : Fin 4 → Vec F S1x1x256x512 .f32

/-- Head `h`'s part of the states. -/
def headRect (h : Fin 4) : Rect S1x4x256x512 :=
  Rect.unit ![0, h.val, 0, 0] S1x1x256x512.size (fun a => by revert a; simp only [Fin.forall_fin_succ]; simp [S1x4x256x512, S1x1x256x512] <;> omega)

/-- Head `h`'s part of the queries or keys. -/
def thinRect (h : Fin 4) : Rect S1x8x1024 :=
  Rect.unit ![0, 0, 256 * h.val] S1x8x256.size (fun a => by revert a; simp only [Fin.forall_fin_succ]; simp [S1x8x1024, S1x8x256] <;> omega)

/-- Head `h`'s part of the values, the gate or the rows. -/
def wideRect (h : Fin 4) : Rect S1x8x2048 :=
  Rect.unit ![0, 0, 512 * h.val] S1x8x512.size (fun a => by revert a; simp only [Fin.forall_fin_succ]; simp [S1x8x2048, S1x8x512] <;> omega)

noncomputable def readsOf (x0 : Vec F S1x8x1024 .f32) (x1 : Vec F S1x8x1024 .f32) (x2 : Vec F S1x8x2048 .f32) (x3 : Vec F S1x8x2048 .f32) (x4 : Vec F S4x128x128 .f32) (x5 : Vec F S4x128x1 .f32) (x6 : Vec F S4x128x1 .f32) (x7 : Vec F S4x1x1 .f32) (x8 : Vec F S1x2048 .f32) (x9 : Vec F S1x4x256x512 .f32) : Reads F where
  q h := View.ld x0 (thinRect h)
  k h := View.ld x1 (thinRect h)
  v h := View.ld x2 (wideRect h)
  g h := View.ld x3 (wideRect h)
  dIn h := View.ld x4 (Rect.unit ![h.val, 0, 0] S1x128x128.size (fun a => by revert a; simp only [Fin.forall_fin_succ]; simp [S4x128x128, S1x128x128] <;> omega))
  dQ h := View.ld x5 (Rect.unit ![h.val, 0, 0] S1x128x1.size (fun a => by revert a; simp only [Fin.forall_fin_succ]; simp [S4x128x1, S1x128x1] <;> omega))
  dK h := View.ld x6 (Rect.unit ![h.val, 0, 0] S1x128x1.size (fun a => by revert a; simp only [Fin.forall_fin_succ]; simp [S4x128x1, S1x128x1] <;> omega))
  dC h := View.ld x7 (Rect.unit ![h.val, 0, 0] S1x1x1.size (fun a => by revert a; simp only [Fin.forall_fin_succ]; simp [S4x1x1, S1x1x1] <;> omega))
  gn h := View.ld x8 (Rect.unit ![0, 512 * h.val] S1x512.size (fun a => by revert a; simp only [Fin.forall_fin_succ]; simp [S1x2048, S1x512] <;> omega))
  s h := View.ld x9 (headRect h)

namespace Reads

variable (R : Reads F)

/-- The state and the rows a head stores. -/
noncomputable def next (h : Fin 4) : Vec F S1x1x256x512 .f32 := nextOf (R.k h) (R.v h) (R.dK h) (R.dC h) (R.s h)

noncomputable def row (h : Fin 4) : Vec F S1x8x512 .bf16 := rowsOf (R.q h) (R.k h) (R.v h) (R.g h) (R.dIn h) (R.dQ h) (R.gn h) (R.s h)

/-- All heads' rows side by side. -/
noncomputable def joined : Vec F S1x8x2048 .bf16 := fun y =>
  R.row ⟨(y 2).val / 512, by have : (y 2).val < 2048 := (y 2).isLt; omega⟩
    (ix3 (0 : Fin 1) (⟨(y 1).val, (y 1).isLt⟩ : Fin 8) (⟨(y 2).val % 512, Nat.mod_lt _ (by omega)⟩ : Fin 512))

theorem joined_apply (i : Fin 8) (h : Fin 4) (e : Fin 512) :
    R.joined (ix3 0 i (⟨512 * h.val + e.val, by omega⟩ : Fin 2048)) = R.row h (ix3 0 i e) := by
  have a : (512 * h.val + e.val) / 512 = h.val := by omega
  have b : (512 * h.val + e.val) % 512 = e.val := by omega
  show R.row ⟨(512 * h.val + e.val) / 512, _⟩ (ix3 (0 : Fin 1) i (⟨(512 * h.val + e.val) % 512, _⟩ : Fin 512)) = _
  simp only [a, b]

/-- All heads' states. -/
noncomputable def stacked : Vec F S1x4x256x512 .f32 := fun y =>
  R.next ⟨(y 1).val, (y 1).isLt⟩ (ix4 (0 : Fin 1) (0 : Fin 1) (⟨(y 2).val, (y 2).isLt⟩ : Fin 256) (⟨(y 3).val, (y 3).isLt⟩ : Fin 512))

end Reads

/-- Reading a whole four-dimensional block is the block. -/
theorem ld_whole {a b c d : ℕ} {e : EltTy} (X : (⟨4, ![a, b, c, d]⟩ : Shape).Idx → Elt F e) (inb : ∀ i, (![0, 0, 0, 0] : Fin 4 → ℕ) i + (![a, b, c, d] : Fin 4 → ℕ) i ≤ (![a, b, c, d] : Fin 4 → ℕ) i) :
    View.ld X (Rect.unit (s := ⟨4, ![a, b, c, d]⟩) ![0, 0, 0, 0] ![a, b, c, d] inb) = X :=
  View.ld_unit_zero (by funext i; revert i; simp [Fin.forall_fin_succ]) inb X

/-- A head's part of the states, read after they were copied whole. -/
theorem read_fill {κ : Kind} {sp : Space} (w : View sig κ sp S1x4x256x512 .f32) (inb : ∀ i, (![0, 0, 0, 0] : Fin 4 → ℕ) i + (![1, 4, 256, 512] : Fin 4 → ℕ) i ≤ S1x4x256x512.size i)
    (X : Vec F S1x4x256x512 .f32) (L : List (View.Piece (Elt F) S1x4x256x512 .f32)) (r : Rect S1x4x256x512) :
    w.readCov ((⟨Rect.unit ![0, 0, 0, 0] ![1, 4, 256, 512] inb, X⟩ : View.Piece (Elt F) S1x4x256x512 .f32) :: L) r.toLoadRect = View.ld X r :=
  View.readCov_fill _ _ _ _ _ (by decide)

/-- A head's part of the states, read after another head's store. -/
theorem read_other {κ : Kind} {sp : Space} (w : View sig κ sp S1x4x256x512 .f32) (a b : ℕ) (inb : ∀ i, (![0, a, 0, 0] : Fin 4 → ℕ) i + (![1, 1, 256, 512] : Fin 4 → ℕ) i ≤ S1x4x256x512.size i)
    (inb' : ∀ i, (![0, b, 0, 0] : Fin 4 → ℕ) i + (![1, 1, 256, 512] : Fin 4 → ℕ) i ≤ S1x4x256x512.size i) (hab : a ≠ b)
    (s : Vec F S1x1x256x512 .f32) (L : List (View.Piece (Elt F) S1x4x256x512 .f32)) :
    w.readCov ((⟨Rect.unit ![0, a, 0, 0] ![1, 1, 256, 512] inb, s⟩ : View.Piece (Elt F) S1x4x256x512 .f32) :: L) (Rect.unit ![0, b, 0, 0] ![1, 1, 256, 512] inb').toLoadRect
      = w.readCov L (Rect.unit ![0, b, 0, 0] ![1, 1, 256, 512] inb').toLoadRect := by
  have ha : a + 1 ≤ 4 := inb 1
  have hb : b + 1 ≤ 4 := inb' 1
  have hd : ∀ a b : Fin 4, a ≠ b → LoadRect.disj (headRect a) (headRect b).toLoadRect = true := by decide
  exact View.readCov_skip _ _ _ _ _ (hd ⟨a, ha⟩ ⟨b, hb⟩ fun e => hab (congrArg Fin.val e))

/-- The rows' stores. -/
theorem row_stores (c : Dev nD) (i : grid0.Coords) (arg2 : Memref sig .tc .vmem S1x8x1024 .f32) (harg2 : arg2.IsWhole) (arg3 : Memref sig .tc .vmem S1x8x1024 .f32) (harg3 : arg3.IsWhole) (arg4 : Memref sig .tc .vmem S1x8x2048 .f32) (harg4 : arg4.IsWhole) (arg5 : Memref sig .tc .vmem S1x8x2048 .f32) (harg5 : arg5.IsWhole) (arg6 : Memref sig .tc .vmem S4x128x128 .f32) (harg6 : arg6.IsWhole) (arg7 : Memref sig .tc .vmem S4x128x1 .f32) (harg7 : arg7.IsWhole) (arg8 : Memref sig .tc .vmem S4x128x1 .f32) (harg8 : arg8.IsWhole) (arg9 : Memref sig .tc .vmem S4x1x1 .f32) (harg9 : arg9.IsWhole) (arg10 : Memref sig .tc .vmem S1x2048 .f32) (harg10 : arg10.IsWhole) (arg11 : Memref sig .tc .vmem S1x4x256x512 .f32) (harg11 : arg11.IsWhole) (arg12 : Memref sig .tc .vmem S1x8x2048 .bf16) (harg12 : arg12.IsWhole) (arg13 : Memref sig .tc .vmem S1x4x256x512 .f32) (harg13 : arg13.IsWhole) (hc0 : cond0_0 i)
    (x0 : Vec F S1x8x1024 .f32) (x1 : Vec F S1x8x1024 .f32) (x2 : Vec F S1x8x2048 .f32) (x3 : Vec F S1x8x2048 .f32) (x4 : Vec F S4x128x128 .f32) (x5 : Vec F S4x128x1 .f32) (x6 : Vec F S4x128x1 .f32) (x7 : Vec F S4x1x1 .f32) (x8 : Vec F S1x2048 .f32) (x9 : Vec F S1x4x256x512 .f32) :
    (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).1
      = [⟨wideRect 3, (readsOf x0 x1 x2 x3 x4 x5 x6 x7 x8 x9).row 3⟩, ⟨wideRect 2, (readsOf x0 x1 x2 x3 x4 x5 x6 x7 x8 x9).row 2⟩,
        ⟨wideRect 1, (readsOf x0 x1 x2 x3 x4 x5 x6 x7 x8 x9).row 1⟩, ⟨wideRect 0, (readsOf x0 x1 x2 x3 x4 x5 x6 x7 x8 x9).row 0⟩] := by
  unfold kernelRun0_A
  dsimp only
  simp only [kernelRun0_A.sl.v0, kernelRun0_A.sl.v1, kernelRun0_A.sl.v2, kernelRun0_A.sl.v67, kernelRun0_A.sl.v71, kernelRun0_A.sl.v75, kernelRun0_A.sl.v79, kernelRun0_A.sl.v141, kernelRun0_A.sl.v151, kernelRun0_A.sl.v161, kernelRun0_A.sl.cst_44, kernelRun0_A.sl.H11_1, kernelRun0_A.sl.H11_2, kernelRun0_A.sl.H11_3, kernelRun0_A.sl.H11_4, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31]
  simp only [View.readAt_eq_ld, Memref.IsWhole.read_unread, ld_whole]
  simp (disch := decide) only [read_other, read_fill]
  rfl

/-- The states' stores: a copy of all of them, then each head's. -/
theorem state_stores (c : Dev nD) (i : grid0.Coords) (arg2 : Memref sig .tc .vmem S1x8x1024 .f32) (harg2 : arg2.IsWhole) (arg3 : Memref sig .tc .vmem S1x8x1024 .f32) (harg3 : arg3.IsWhole) (arg4 : Memref sig .tc .vmem S1x8x2048 .f32) (harg4 : arg4.IsWhole) (arg5 : Memref sig .tc .vmem S1x8x2048 .f32) (harg5 : arg5.IsWhole) (arg6 : Memref sig .tc .vmem S4x128x128 .f32) (harg6 : arg6.IsWhole) (arg7 : Memref sig .tc .vmem S4x128x1 .f32) (harg7 : arg7.IsWhole) (arg8 : Memref sig .tc .vmem S4x128x1 .f32) (harg8 : arg8.IsWhole) (arg9 : Memref sig .tc .vmem S4x1x1 .f32) (harg9 : arg9.IsWhole) (arg10 : Memref sig .tc .vmem S1x2048 .f32) (harg10 : arg10.IsWhole) (arg11 : Memref sig .tc .vmem S1x4x256x512 .f32) (harg11 : arg11.IsWhole) (arg12 : Memref sig .tc .vmem S1x8x2048 .bf16) (harg12 : arg12.IsWhole) (arg13 : Memref sig .tc .vmem S1x4x256x512 .f32) (harg13 : arg13.IsWhole) (hc0 : cond0_0 i)
    (x0 : Vec F S1x8x1024 .f32) (x1 : Vec F S1x8x1024 .f32) (x2 : Vec F S1x8x2048 .f32) (x3 : Vec F S1x8x2048 .f32) (x4 : Vec F S4x128x128 .f32) (x5 : Vec F S4x128x1 .f32) (x6 : Vec F S4x128x1 .f32) (x7 : Vec F S4x1x1 .f32) (x8 : Vec F S1x2048 .f32) (x9 : Vec F S1x4x256x512 .f32) :
    ∃ inb, (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).2.1
      = [⟨headRect 3, (readsOf x0 x1 x2 x3 x4 x5 x6 x7 x8 x9).next 3⟩, ⟨headRect 2, (readsOf x0 x1 x2 x3 x4 x5 x6 x7 x8 x9).next 2⟩,
        ⟨headRect 1, (readsOf x0 x1 x2 x3 x4 x5 x6 x7 x8 x9).next 1⟩, ⟨headRect 0, (readsOf x0 x1 x2 x3 x4 x5 x6 x7 x8 x9).next 0⟩,
        ⟨Rect.unit ![0, 0, 0, 0] S1x4x256x512.size inb, x9⟩] := by
  refine ⟨fun a => by revert a; decide, ?_⟩
  unfold kernelRun0_A
  dsimp only
  simp only [kernelRun0_A.sl.v0, kernelRun0_A.sl.v1, kernelRun0_A.sl.v2, kernelRun0_A.sl.v67, kernelRun0_A.sl.v71, kernelRun0_A.sl.v75, kernelRun0_A.sl.v79, kernelRun0_A.sl.v141, kernelRun0_A.sl.v151, kernelRun0_A.sl.v161, kernelRun0_A.sl.cst_44, kernelRun0_A.sl.H11_1, kernelRun0_A.sl.H11_2, kernelRun0_A.sl.H11_3, kernelRun0_A.sl.H11_4, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31]
  simp only [View.readAt_eq_ld, Memref.IsWhole.read_unread, ld_whole]
  simp (disch := decide) only [read_other, read_fill]
  rfl

/-- The rows' stores read back. -/
theorem row_back (R : Reads F) (i : Fin 8) (h : Fin 4) (e : Fin 512) :
    View.canon ([⟨wideRect 3, R.row 3⟩, ⟨wideRect 2, R.row 2⟩, ⟨wideRect 1, R.row 1⟩, ⟨wideRect 0, R.row 0⟩] : List (View.Piece (Elt F) S1x8x2048 .bf16))
      (ix3 0 i (⟨512 * h.val + e.val, by omega⟩ : Fin 2048)) = R.row h (ix3 0 i e) := by
  have emb : ∀ (h : Fin 4) (i : Fin 8) (e : Fin 512), (wideRect h).emb (ix3 0 i e) = ix3 0 i (⟨512 * h.val + e.val, by omega⟩ : Fin 2048) := fun h i e => by
    funext a; apply Fin.ext; refine (Rect.idx_unit_val _ _ _ _ _).trans ?_; fin_cases a <;> simp [ix3]
  have at_ : ∀ (h : Fin 4) (x : (wideRect h).shape.Idx), R.row h x = R.joined ((wideRect h).emb x) := fun h x => by
    obtain ⟨z, i, e, rfl⟩ : ∃ (z : Fin 1) (i : Fin 8) (e : Fin 512), x = ix3 z i e := ⟨x 0, x 1, x 2, eq_ix3 x⟩
    obtain rfl : z = 0 := Subsingleton.elim _ _
    rw [emb, R.joined_apply]
  refine (View.canon_apply_of_pieces R.joined _ (View.PiecesOf.mem ?_) _ ⟨⟨wideRect h, R.row h⟩, ?_, ?_⟩).trans (R.joined_apply i h e)
  · exact ⟨at_ 3, at_ 2, at_ 1, at_ 0, trivial⟩
  · fin_cases h <;> simp
  · dsimp only; rw [← emb]; exact LoadRect.idx_mem (wideRect h).toLoadRect _

/-- The states' stores read back. -/
theorem state_back (R : Reads F) (inb : ∀ i, (![0, 0, 0, 0] : Fin 4 → ℕ) i + S1x4x256x512.size i ≤ S1x4x256x512.size i) (X : Vec F S1x4x256x512 .f32)
    (h : Fin 4) (d : Fin 256) (e : Fin 512) :
    View.canon ([⟨headRect 3, R.next 3⟩, ⟨headRect 2, R.next 2⟩, ⟨headRect 1, R.next 1⟩, ⟨headRect 0, R.next 0⟩,
        ⟨Rect.unit ![0, 0, 0, 0] S1x4x256x512.size inb, X⟩] : List (View.Piece (Elt F) S1x4x256x512 .f32)) (ix4 0 h d e) = R.next h (ix4 0 0 d e) := by
  have emb : ∀ (h : Fin 4) (d : Fin 256) (e : Fin 512), (headRect h).emb (ix4 0 0 d e) = ix4 0 h d e := fun h d e => by
    funext a; apply Fin.ext; refine (Rect.idx_unit_val _ _ _ _ _).trans ?_; fin_cases a <;> simp [ix4]
  have at_ : ∀ (h : Fin 4) (x : (headRect h).shape.Idx), R.next h x = R.stacked ((headRect h).emb x) := fun h x => by
    obtain ⟨z, z', d, e, rfl⟩ : ∃ (z z' : Fin 1) (d : Fin 256) (e : Fin 512), x = ix4 z z' d e := ⟨x 0, x 1, x 2, x 3, eq_ix4 x⟩
    obtain rfl : z = 0 := Subsingleton.elim _ _
    obtain rfl : z' = 0 := Subsingleton.elim _ _
    rw [emb]; rfl
  refine View.canon_append_of_piecesOf R.stacked [⟨Rect.unit ![0, 0, 0, 0] S1x4x256x512.size inb, X⟩]
    [⟨headRect 3, R.next 3⟩, ⟨headRect 2, R.next 2⟩, ⟨headRect 1, R.next 1⟩, ⟨headRect 0, R.next 0⟩] ?_ _ ⟨⟨headRect h, R.next h⟩, ?_, ?_⟩
  · exact ⟨at_ 3, at_ 2, at_ 1, at_ 0, trivial⟩
  · fin_cases h <;> simp
  · dsimp only; rw [← emb]; exact LoadRect.idx_mem (headRect h).toLoadRect _

/-- The rows a grid point leaves: column `512 h + e` is head `h`'s column `e`. -/
theorem rows_left (c : Dev nD) (i : grid0.Coords) (arg2 : Memref sig .tc .vmem S1x8x1024 .f32) (harg2 : arg2.IsWhole) (arg3 : Memref sig .tc .vmem S1x8x1024 .f32) (harg3 : arg3.IsWhole) (arg4 : Memref sig .tc .vmem S1x8x2048 .f32) (harg4 : arg4.IsWhole) (arg5 : Memref sig .tc .vmem S1x8x2048 .f32) (harg5 : arg5.IsWhole) (arg6 : Memref sig .tc .vmem S4x128x128 .f32) (harg6 : arg6.IsWhole) (arg7 : Memref sig .tc .vmem S4x128x1 .f32) (harg7 : arg7.IsWhole) (arg8 : Memref sig .tc .vmem S4x128x1 .f32) (harg8 : arg8.IsWhole) (arg9 : Memref sig .tc .vmem S4x1x1 .f32) (harg9 : arg9.IsWhole) (arg10 : Memref sig .tc .vmem S1x2048 .f32) (harg10 : arg10.IsWhole) (arg11 : Memref sig .tc .vmem S1x4x256x512 .f32) (harg11 : arg11.IsWhole) (arg12 : Memref sig .tc .vmem S1x8x2048 .bf16) (harg12 : arg12.IsWhole) (arg13 : Memref sig .tc .vmem S1x4x256x512 .f32) (harg13 : arg13.IsWhole) (hc0 : cond0_0 i)
    (x0 : Vec F S1x8x1024 .f32) (x1 : Vec F S1x8x1024 .f32) (x2 : Vec F S1x8x2048 .f32) (x3 : Vec F S1x8x2048 .f32) (x4 : Vec F S4x128x128 .f32) (x5 : Vec F S4x128x1 .f32) (x6 : Vec F S4x128x1 .f32) (x7 : Vec F S4x1x1 .f32) (x8 : Vec F S1x2048 .f32) (x9 : Vec F S1x4x256x512 .f32) (i' : Fin 8) (h : Fin 4) (e : Fin 512) :
    out0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 (ix3 0 i' (⟨512 * h.val + e.val, by omega⟩ : Fin 2048))
      = (readsOf x0 x1 x2 x3 x4 x5 x6 x7 x8 x9).row h (ix3 0 i' e) := by
  unfold out0_A_10
  rw [View.read_writes_junk_eq_canon, row_stores]
  exact row_back _ i' h e

/-- The state a grid point leaves. -/
theorem states_left (c : Dev nD) (i : grid0.Coords) (arg2 : Memref sig .tc .vmem S1x8x1024 .f32) (harg2 : arg2.IsWhole) (arg3 : Memref sig .tc .vmem S1x8x1024 .f32) (harg3 : arg3.IsWhole) (arg4 : Memref sig .tc .vmem S1x8x2048 .f32) (harg4 : arg4.IsWhole) (arg5 : Memref sig .tc .vmem S1x8x2048 .f32) (harg5 : arg5.IsWhole) (arg6 : Memref sig .tc .vmem S4x128x128 .f32) (harg6 : arg6.IsWhole) (arg7 : Memref sig .tc .vmem S4x128x1 .f32) (harg7 : arg7.IsWhole) (arg8 : Memref sig .tc .vmem S4x128x1 .f32) (harg8 : arg8.IsWhole) (arg9 : Memref sig .tc .vmem S4x1x1 .f32) (harg9 : arg9.IsWhole) (arg10 : Memref sig .tc .vmem S1x2048 .f32) (harg10 : arg10.IsWhole) (arg11 : Memref sig .tc .vmem S1x4x256x512 .f32) (harg11 : arg11.IsWhole) (arg12 : Memref sig .tc .vmem S1x8x2048 .bf16) (harg12 : arg12.IsWhole) (arg13 : Memref sig .tc .vmem S1x4x256x512 .f32) (harg13 : arg13.IsWhole) (hc0 : cond0_0 i)
    (x0 : Vec F S1x8x1024 .f32) (x1 : Vec F S1x8x1024 .f32) (x2 : Vec F S1x8x2048 .f32) (x3 : Vec F S1x8x2048 .f32) (x4 : Vec F S4x128x128 .f32) (x5 : Vec F S4x128x1 .f32) (x6 : Vec F S4x128x1 .f32) (x7 : Vec F S4x1x1 .f32) (x8 : Vec F S1x2048 .f32) (x9 : Vec F S1x4x256x512 .f32) (h : Fin 4) (d : Fin 256) (e : Fin 512) :
    out0_A_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 (ix4 0 h d e)
      = (readsOf x0 x1 x2 x3 x4 x5 x6 x7 x8 x9).next h (ix4 0 0 d e) := by
  unfold out0_A_11
  obtain ⟨inb, e0⟩ := state_stores c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9
  rw [View.read_writes_junk_eq_canon, e0]
  exact state_back _ inb _ h d e

end Cert.SampleRetentionKernelIdeal.Ret
-- ==== Proof.Ret.SampleKernel.lean ====
/-
  The samples' kernel's run: every grid point's blocks are one sequence's rows and state and the tables of decays, so the two
  output arrays are the samples' rows and states.
-/
module

public import proofs.«01_k».proof.Proof.Ret.SampleStores
public import Idealize.ShloMosaic.Lib.Pointwise
public import Idealize.ShloMosaic.Lib.Claim
public import Idealize.ShloMosaic.Lib.Pipeline.Value
public import Idealize.ShloMosaic.Lib.Pipeline.ValueKit

@[expose] public section

set_option maxRecDepth 16384

namespace Cert.SampleRetentionKernelIdeal.Ret

open Cert.SampleRetentionKernelIdeal Cert.SampleRetentionKernelIdeal.Gen Cert.Retention Idealize.ShloMosaic Idealize.ShloMosaic.TcCoe Idealize.SL.Sem
open Idealize.ShloMosaic.Pipeline (Dat)

/-! ## A head's part of a block, at an index -/

theorem thin_apply (x : Vec Ideal S1x8x1024 .f32) (h : Fin 4) (i : Fin 8) (d : Fin 256) :
    View.ld x (thinRect h) (ix3 0 i d) = x (ix3 0 i (⟨256 * h.val + d.val, by omega⟩ : Fin 1024)) :=
  congrArg x (by funext a; apply Fin.ext; refine (Rect.idx_unit_val _ _ _ _ _).trans ?_; fin_cases a <;> simp [ix3])

theorem wide_apply (x : Vec Ideal S1x8x2048 .f32) (h : Fin 4) (i : Fin 8) (e : Fin 512) :
    View.ld x (wideRect h) (ix3 0 i e) = x (ix3 0 i (⟨512 * h.val + e.val, by omega⟩ : Fin 2048)) :=
  congrArg x (by funext a; apply Fin.ext; refine (Rect.idx_unit_val _ _ _ _ _).trans ?_; fin_cases a <;> simp [ix3])

theorem state_apply (x : Vec Ideal S1x4x256x512 .f32) (h : Fin 4) (d : Fin 256) (e : Fin 512) :
    View.ld x (headRect h) (ix4 0 0 d e) = x (ix4 0 h d e) :=
  congrArg x (by funext a; apply Fin.ext; refine (Rect.idx_unit_val _ _ _ _ _).trans ?_; fin_cases a <;> simp [ix4])

theorem table_apply (x : Vec Ideal S4x128x128 .f32) (h : Fin 4) (inb) (i j : Fin 128) :
    View.ld x (Rect.unit ![h.val, 0, 0] S1x128x128.size inb) (ix3 0 i j) = x (ix3 h i j) :=
  congrArg x (by funext a; apply Fin.ext; refine (Rect.idx_unit_val _ _ _ _ _).trans ?_; fin_cases a <;> simp [ix3])

theorem column_apply (x : Vec Ideal S4x128x1 .f32) (h : Fin 4) (inb) (i : Fin 128) :
    View.ld x (Rect.unit ![h.val, 0, 0] S1x128x1.size inb) (ix3 0 i 0) = x (ix3 h i 0) :=
  congrArg x (by funext a; apply Fin.ext; refine (Rect.idx_unit_val _ _ _ _ _).trans ?_; fin_cases a <;> simp [ix3])

theorem number_apply (x : Vec Ideal S4x1x1 .f32) (h : Fin 4) (inb) :
    View.ld x (Rect.unit ![h.val, 0, 0] S1x1x1.size inb) (ix3 0 0 0) = x (ix3 h 0 0) :=
  congrArg x (by funext a; apply Fin.ext; refine (Rect.idx_unit_val _ _ _ _ _).trans ?_; fin_cases a <;> simp [ix3])

theorem gains_apply (x : Vec Ideal S1x2048 .f32) (h : Fin 4) (inb) (e : Fin 512) :
    View.ld x (Rect.unit ![0, 512 * h.val] S1x512.size inb) (ix2 0 e) = x (ix2 0 (⟨512 * h.val + e.val, by omega⟩ : Fin 2048)) :=
  congrArg x (by funext a; apply Fin.ext; refine (Rect.idx_unit_val _ _ _ _ _).trans ?_; fin_cases a <;> simp [ix2])

variable (m : (ℓ : Loc nD τ sig) → Buf (Elt Ideal) ℓ) (c : Dev nD)

/-- The samples of the arrays the kernel was called with. -/
def samplesAt : Samples :=
  samples (m ((c : Thread nD τ).loc main_arg0)) (m ((c : Thread nD τ).loc main_arg1)) (m ((c : Thread nD τ).loc main_arg2))

/-! ## What the host computes before the call -/

theorem host_decayIn (h : Fin 4) (i j : Fin 8) : V m c main_v45 (ix3 h (early i) (early j)) = decayIn h (early i) (early j) := by
  simp only [V, List.flatten_cons, List.flatten_nil, List.append_nil, hostOps0, hostOps0_1, hostOps0_2, hostOps0_3, hostOps0_4, hostOps0_5, hostOps0_6, hostOps0_7, hostOps0_8, List.cons_append, List.nil_append]
  entry_read
  pointwise [StableHlo.TRef.ofBuf, StableHlo.TRef.toBuf, cast_cast, cast_eq, early]
  rfl

theorem host_decayQ (h : Fin 4) (i : Fin 8) : V m c main_v47 (ix3 h (early i) 0) = decayQ h (early i) := by
  simp only [V, List.flatten_cons, List.flatten_nil, List.append_nil, hostOps0, hostOps0_1, hostOps0_2, hostOps0_3, hostOps0_4, hostOps0_5, hostOps0_6, hostOps0_7, hostOps0_8, List.cons_append, List.nil_append]
  entry_read
  pointwise [StableHlo.TRef.ofBuf, StableHlo.TRef.toBuf, cast_cast, cast_eq, early]
  rfl

theorem host_decayK (h : Fin 4) (i : Fin 8) : V m c main_v49 (ix3 h (early i) 0) = decayKSample h i := by
  simp only [V, List.flatten_cons, List.flatten_nil, List.append_nil, hostOps0, hostOps0_1, hostOps0_2, hostOps0_3, hostOps0_4, hostOps0_5, hostOps0_6, hostOps0_7, hostOps0_8, List.cons_append, List.nil_append]
  entry_read
  pointwise [StableHlo.TRef.ofBuf, StableHlo.TRef.toBuf, cast_cast, cast_eq, early]
  rfl

theorem host_decayC (h : Fin 4) : V m c main_v50 (ix3 h 0 0) = decayCSample h := by
  simp only [V, List.flatten_cons, List.flatten_nil, List.append_nil, hostOps0, hostOps0_1, hostOps0_2, hostOps0_3, hostOps0_4, hostOps0_5, hostOps0_6, hostOps0_7, hostOps0_8, List.cons_append, List.nil_append]
  entry_read
  pointwise [StableHlo.TRef.ofBuf, StableHlo.TRef.toBuf, cast_cast, cast_eq, early]
  rfl

theorem host_norm (f : Fin 2048) : V m c main_v51 (ix2 0 f) = (samplesAt m c).gn f := by
  simp only [V, List.flatten_cons, List.flatten_nil, List.append_nil, hostOps0, hostOps0_1, hostOps0_2, hostOps0_3, hostOps0_4, hostOps0_5, hostOps0_6, hostOps0_7, hostOps0_8, List.cons_append, List.nil_append]
  entry_read
  pointwise [StableHlo.TRef.ofBuf, StableHlo.TRef.toBuf, cast_cast, cast_eq, early]
  rfl

/-! ## The blocks of a grid point -/

/-- The sequence of grid point `t`. -/
def seqOf (t : Fin cfg0.N) : Fin 32 := ⟨t.val, lt_of_lt_of_eq t.isLt (show cfg0.N = 32 from N_0)⟩

theorem idx_0 : ∀ t : Fin cfg0.N, win0_0.index t = ![t.val, 0, 0] := (by decide +kernel : ∀ t : Fin grid0.N, win0_0.index t = ![t.val, 0, 0])
theorem idx_1 : ∀ t : Fin cfg0.N, win0_1.index t = ![t.val, 0, 1] := (by decide +kernel : ∀ t : Fin grid0.N, win0_1.index t = ![t.val, 0, 1])
theorem idx_2 : ∀ t : Fin cfg0.N, win0_2.index t = ![t.val, 0, 1] := (by decide +kernel : ∀ t : Fin grid0.N, win0_2.index t = ![t.val, 0, 1])
theorem idx_3 : ∀ t : Fin cfg0.N, win0_3.index t = ![t.val, 0, 2] := (by decide +kernel : ∀ t : Fin grid0.N, win0_3.index t = ![t.val, 0, 2])
theorem idx_4 : ∀ t : Fin cfg0.N, win0_4.index t = ![0, 0, 0] := (by decide +kernel : ∀ t : Fin grid0.N, win0_4.index t = ![0, 0, 0])
theorem idx_5 : ∀ t : Fin cfg0.N, win0_5.index t = ![0, 0, 0] := (by decide +kernel : ∀ t : Fin grid0.N, win0_5.index t = ![0, 0, 0])
theorem idx_6 : ∀ t : Fin cfg0.N, win0_6.index t = ![0, 0, 0] := (by decide +kernel : ∀ t : Fin grid0.N, win0_6.index t = ![0, 0, 0])
theorem idx_7 : ∀ t : Fin cfg0.N, win0_7.index t = ![0, 0, 0] := (by decide +kernel : ∀ t : Fin grid0.N, win0_7.index t = ![0, 0, 0])
theorem idx_8 : ∀ t : Fin cfg0.N, win0_8.index t = ![0, 0] := (by decide +kernel : ∀ t : Fin grid0.N, win0_8.index t = ![0, 0])
theorem idx_9 : ∀ t : Fin cfg0.N, win0_9.index t = ![t.val, 0, 0, 0] := (by decide +kernel : ∀ t : Fin grid0.N, win0_9.index t = ![t.val, 0, 0, 0])
theorem idx_10 : ∀ t : Fin cfg0.N, win0_10.index t = ![t.val, 0, 0] := (by decide +kernel : ∀ t : Fin grid0.N, win0_10.index t = ![t.val, 0, 0])
theorem idx_11 : ∀ t : Fin cfg0.N, win0_11.index t = ![t.val, 0, 0, 0] := (by decide +kernel : ∀ t : Fin grid0.N, win0_11.index t = ![t.val, 0, 0, 0])

theorem blk_q (t : Fin cfg0.N) (i : Fin 8) (e : Fin 1024) : iblk m c 0 t (ix3 0 i e) = (samplesAt m c).y (seqOf t) i ⟨e.val, by omega⟩ := by
  show _ = m ((c : Thread nD τ).loc main_arg0) (ix3 (seqOf t) i (⟨e.val, by omega⟩ : Fin 6144))
  rw [← V_main_arg0 m c]
  blk_ext [iblk, V, idx_0 t]
  all_goals simp only [seqOf, Nat.add_zero]

theorem blk_k (t : Fin cfg0.N) (i : Fin 8) (e : Fin 1024) : iblk m c 1 t (ix3 0 i e) = (samplesAt m c).y (seqOf t) i ⟨1024 + e.val, by omega⟩ := by
  show _ = m ((c : Thread nD τ).loc main_arg0) (ix3 (seqOf t) i (⟨1024 + e.val, by omega⟩ : Fin 6144))
  rw [← V_main_arg0 m c]
  blk_ext [iblk, V, idx_1 t]
  all_goals simp only [seqOf, Nat.add_zero]

theorem blk_v (t : Fin cfg0.N) (i : Fin 8) (e : Fin 2048) : iblk m c 2 t (ix3 0 i e) = (samplesAt m c).y (seqOf t) i ⟨2048 + e.val, by omega⟩ := by
  show _ = m ((c : Thread nD τ).loc main_arg0) (ix3 (seqOf t) i (⟨2048 + e.val, by omega⟩ : Fin 6144))
  rw [← V_main_arg0 m c]
  blk_ext [iblk, V, idx_2 t]
  all_goals simp only [seqOf, Nat.add_zero]

theorem blk_gate (t : Fin cfg0.N) (i : Fin 8) (e : Fin 2048) : iblk m c 3 t (ix3 0 i e) = (samplesAt m c).y (seqOf t) i ⟨4096 + e.val, by omega⟩ := by
  show _ = m ((c : Thread nD τ).loc main_arg0) (ix3 (seqOf t) i (⟨4096 + e.val, by omega⟩ : Fin 6144))
  rw [← V_main_arg0 m c]
  blk_ext [iblk, V, idx_3 t]
  all_goals simp only [seqOf, Nat.add_zero]

theorem blk_decayIn (t : Fin cfg0.N) (h : Fin 4) (i j : Fin 8) : iblk m c 4 t (ix3 h (early i) (early j)) = decayIn h (early i) (early j) := by
  rw [← host_decayIn m c]
  blk_ext [iblk, V, idx_4 t]

theorem blk_decayQ (t : Fin cfg0.N) (h : Fin 4) (i : Fin 8) : iblk m c 5 t (ix3 h (early i) 0) = decayQ h (early i) := by
  rw [← host_decayQ m c]
  blk_ext [iblk, V, idx_5 t]

theorem blk_decayK (t : Fin cfg0.N) (h : Fin 4) (i : Fin 8) : iblk m c 6 t (ix3 h (early i) 0) = decayKSample h i := by
  rw [← host_decayK m c]
  blk_ext [iblk, V, idx_6 t]

theorem blk_decayC (t : Fin cfg0.N) (h : Fin 4) : iblk m c 7 t (ix3 h 0 0) = decayCSample h := by
  rw [← host_decayC m c]
  blk_ext [iblk, V, idx_7 t]

theorem blk_norm (t : Fin cfg0.N) (f : Fin 2048) : iblk m c 8 t (ix2 0 f) = (samplesAt m c).gn f := by
  rw [← host_norm m c]
  blk_ext [iblk, V, idx_8 t]

theorem blk_s (t : Fin cfg0.N) (h : Fin 4) (d : Fin 256) (e : Fin 512) : iblk m c 9 t (ix4 0 h d e) = (samplesAt m c).s (seqOf t) h d e := by
  show _ = m ((c : Thread nD τ).loc main_arg2) (ix4 (seqOf t) h d e)
  rw [← V_main_arg2 m c]
  blk_ext [iblk, V, idx_9 t]
  all_goals simp only [seqOf, Nat.add_zero]

/-- What a grid point reads. -/
noncomputable abbrev readsAt (t : Fin cfg0.N) : Reads Ideal := readsOf (iblk m c 0 t) (iblk m c 1 t) (iblk m c 2 t) (iblk m c 3 t) (iblk m c 4 t) (iblk m c 5 t) (iblk m c 6 t) (iblk m c 7 t) (iblk m c 8 t) (iblk m c 9 t)

theorem q_at (t : Fin cfg0.N) (h : Fin 4) (i : Fin 8) (d : Fin 256) : (readsAt m c t).q h (ix3 0 i d) = (samplesAt m c).q (seqOf t) h i d :=
  (thin_apply _ h i d).trans (blk_q m c t i _)

theorem k_at (t : Fin cfg0.N) (h : Fin 4) (i : Fin 8) (d : Fin 256) : (readsAt m c t).k h (ix3 0 i d) = (samplesAt m c).k (seqOf t) h i d :=
  (thin_apply _ h i d).trans ((blk_k m c t i _).trans (congrArg ((samplesAt m c).y (seqOf t) i) (Fin.ext (by dsimp only; omega))))

theorem v_at (t : Fin cfg0.N) (h : Fin 4) (i : Fin 8) (e : Fin 512) : (readsAt m c t).v h (ix3 0 i e) = (samplesAt m c).v (seqOf t) h i e :=
  (wide_apply _ h i e).trans ((blk_v m c t i _).trans (congrArg ((samplesAt m c).y (seqOf t) i) (Fin.ext (by dsimp only; omega))))

theorem gate_at (t : Fin cfg0.N) (h : Fin 4) (i : Fin 8) (e : Fin 512) : (readsAt m c t).g h (ix3 0 i e) = (samplesAt m c).gate (seqOf t) h i e :=
  (wide_apply _ h i e).trans ((blk_gate m c t i _).trans (congrArg ((samplesAt m c).y (seqOf t) i) (Fin.ext (by dsimp only; omega))))

theorem decayIn_at (t : Fin cfg0.N) (h : Fin 4) (i j : Fin 8) : (readsAt m c t).dIn h (ix3 0 (early i) (early j)) = decayIn h (early i) (early j) :=
  (table_apply _ h _ _ _).trans (blk_decayIn m c t h i j)

theorem decayQ_at (t : Fin cfg0.N) (h : Fin 4) (i : Fin 8) : (readsAt m c t).dQ h (ix3 0 (early i) 0) = decayQ h (early i) :=
  (column_apply _ h _ _).trans (blk_decayQ m c t h i)

theorem decayK_at (t : Fin cfg0.N) (h : Fin 4) (i : Fin 8) : (readsAt m c t).dK h (ix3 0 (early i) 0) = decayKSample h i :=
  (column_apply _ h _ _).trans (blk_decayK m c t h i)

theorem decayC_at (t : Fin cfg0.N) (h : Fin 4) : (readsAt m c t).dC h (ix3 0 0 0) = decayCSample h :=
  (number_apply _ h _).trans (blk_decayC m c t h)

theorem gain_at (t : Fin cfg0.N) (h : Fin 4) (e : Fin 512) : (readsAt m c t).gn h (ix2 0 e) = (samplesAt m c).gn ⟨512 * h.val + e.val, by omega⟩ :=
  (gains_apply _ h _ e).trans (blk_norm m c t _)

theorem s_at (t : Fin cfg0.N) (h : Fin 4) (d : Fin 256) (e : Fin 512) : (readsAt m c t).s h (ix4 0 0 d e) = (samplesAt m c).s (seqOf t) h d e :=
  (state_apply _ h d e).trans (blk_s m c t h d e)

theorem next_at (t : Fin cfg0.N) (h : Fin 4) (d : Fin 256) (e : Fin 512) :
    (readsAt m c t).next h (ix4 0 0 d e) = (samplesAt m c).next (seqOf t) h d e := by
  refine (nextOf_apply _ _ _ _ _ d e).trans ?_
  simp only [k_at, v_at, decayK_at, decayC_at, s_at, Samples.next]

theorem row_at (t : Fin cfg0.N) (h : Fin 4) (i : Fin 8) (e : Fin 512) :
    (readsAt m c t).row h (ix3 0 i e) = (samplesAt m c).gated (seqOf t) h i e := by
  refine (rowsOf_apply _ _ _ _ _ _ _ _ i e).trans ?_
  simp only [q_at, k_at, v_at, gate_at, decayIn_at, decayQ_at, gain_at, s_at]
  rfl

/-! ## The two arrays after the run -/

theorem row_after (t : Fin cfg0.N) (i : Fin 8) (f : Fin 2048) :
    (outsAt0 m c t).1 (ix3 0 i f) = (samplesAt m c).gated (seqOf t) ⟨f.val / 512, by omega⟩ i ⟨f.val % 512, Nat.mod_lt _ (by omega)⟩ := by
  have ef : f = ⟨512 * (f.val / 512) + f.val % 512, by omega⟩ := Fin.ext (by dsimp only; omega)
  unfold outsAt0
  dsimp only
  refine (congrArg (fun f => out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (hcond0_0 t) (iblk m c 0 t) (iblk m c 1 t) (iblk m c 2 t) (iblk m c 3 t) (iblk m c 4 t) (iblk m c 5 t) (iblk m c 6 t) (iblk m c 7 t) (iblk m c 8 t) (iblk m c 9 t) (ix3 0 i f)) ef).trans ?_
  exact (rows_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (hcond0_0 t) (iblk m c 0 t) (iblk m c 1 t) (iblk m c 2 t) (iblk m c 3 t) (iblk m c 4 t) (iblk m c 5 t) (iblk m c 6 t) (iblk m c 7 t) (iblk m c 8 t) (iblk m c 9 t) i ⟨f.val / 512, by omega⟩ ⟨f.val % 512, Nat.mod_lt _ (by omega)⟩).trans (row_at m c t _ i _)

theorem state_after (t : Fin cfg0.N) (h : Fin 4) (d : Fin 256) (e : Fin 512) :
    (outsAt0 m c t).2 (ix4 0 h d e) = (samplesAt m c).next (seqOf t) h d e := by
  unfold outsAt0
  dsimp only
  exact (states_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (hcond0_0 t) (iblk m c 0 t) (iblk m c 1 t) (iblk m c 2 t) (iblk m c 3 t) (iblk m c 4 t) (iblk m c 5 t) (iblk m c 6 t) (iblk m c 7 t) (iblk m c 8 t) (iblk m c 9 t) h d e).trans (next_at m c t h d e)

theorem rows_final : (dats m 0 c).arrAt 10 cfg0.N = (samplesAt m c).rows := by
  refine (dats m 0 c).arrAt_eq_of_covers 10 _ (by decide +kernel) fun t hf y => ?_
  blk_simp
  rw [after0_10]
  obtain ⟨z, i, f, rfl⟩ : ∃ (z : Fin 1) (i : Fin 8) (f : Fin 2048), y = ix3 z i f := ⟨y 0, y 1, y 2, eq_ix3 y⟩
  obtain rfl : z = 0 := Subsingleton.elim _ _
  refine (row_after m c t i f).trans ?_
  unfold Samples.rows
  congr 1 <;> apply Fin.ext <;> blk_simp [idx_10 t] <;> (try simp only [seqOf]) <;> omega

theorem states_final : (dats m 0 c).arrAt 11 cfg0.N = (samplesAt m c).states := by
  refine (dats m 0 c).arrAt_eq_of_covers 11 _ (by decide +kernel) fun t hf y => ?_
  blk_simp
  rw [after0_11]
  obtain ⟨z, h, d, e, rfl⟩ : ∃ (z : Fin 1) (h : Fin 4) (d : Fin 256) (e : Fin 512), y = ix4 z h d e := ⟨y 0, y 1, y 2, y 3, eq_ix4 y⟩
  obtain rfl : z = 0 := Subsingleton.elim _ _
  refine (state_after m c t h d e).trans ?_
  unfold Samples.states
  congr 1 <;> apply Fin.ext <;> blk_simp [idx_11 t] <;> (try simp only [seqOf]) <;> omega

/-- The call's run: the rows and the states, the arguments as before. -/
theorem run (ρ : Dev nD → PrngReg) : θ_run defs (onTc (τ := τ) (main (F := Ideal))) ⟨m, fun _ => 0, ρ⟩ fun r => ∀ c : Dev nD,
      r.2.mem ((c : Thread nD τ).loc main_v52_0) = (samplesAt m c).rows
      ∧ r.2.mem ((c : Thread nD τ).loc main_v52_1) = (samplesAt m c).states
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).1 10).trans (rows_final m c), ((h c).1 11).trans (states_final m c),
      ((h c).1 3).trans (((dats m 0 c).arrAt_in 3 rfl _).trans ((A_eq m c 3).trans (V_main_arg0 m c))),
      ((h c).2 main_arg1 (Pipeline.mem_restRefs_of main_arg1 (by decide) (by decide))).trans (V_main_arg1 m c),
      ((h c).1 9).trans (((dats m 0 c).arrAt_in 9 rfl _).trans ((A_eq m c 9).trans (V_main_arg2 m c)))⟩)
    (run_main m ρ)

end Cert.SampleRetentionKernelIdeal.Ret
-- ==== Proof.Ret.SampleReference.lean ====
/-
  The samples' reference: its arrays at an index, and its two results, which are the samples' rows and states.
-/
module

public import proofs.«01_k».proof.Proof.Gen.SampleRetentionReferenceIdeal.Run
public import proofs.«01_k».proof.Proof.Ret.SampleModel
public import Idealize.ShloMosaic.Lib.Pointwise
public import Idealize.ShloMosaic.Lib.Claim
public import Idealize.ShloMosaic.Lib.StableHlo.ReadAt

@[expose] public section

set_option maxRecDepth 16384

namespace Cert.SampleRetentionReferenceIdeal.Ret

open Cert.SampleRetentionReferenceIdeal Cert.SampleRetentionReferenceIdeal.Gen Cert.SampleRetentionReferenceIdeal.Value Cert.Retention
open Idealize.ShloMosaic Idealize.ShloMosaic.TcCoe Idealize.SL.Sem Idealize.ShloMosaic.StableHlo

variable (y : FVec Ideal S32x8x6144 .f32) (gn : FVec Ideal S2048 .f32) (s : FVec Ideal S32x4x256x512 .f32)

/-! ## The rows cut into heads -/

noncomputable def queries : FVec Ideal S32x8x4x256 .f32 :=
  shapeCast S32x8x4x256 (extractStridedSlice S32x8x1024 ![0, 0, 0] y slices_S32x8x6144_S32x8x1024_0_0_0) shapeCasts_S32x8x1024_S32x8x4x256

noncomputable def keys : FVec Ideal S32x8x4x256 .f32 :=
  shapeCast S32x8x4x256 (extractStridedSlice S32x8x1024 ![0, 0, 1024] y slices_S32x8x6144_S32x8x1024_0_0_1024) shapeCasts_S32x8x1024_S32x8x4x256

noncomputable def values : FVec Ideal S32x8x4x512 .f32 :=
  shapeCast S32x8x4x512 (extractStridedSlice S32x8x2048 ![0, 0, 2048] y slices_S32x8x6144_S32x8x2048_0_0_2048) shapeCasts_S32x8x2048_S32x8x4x512

theorem column (b : Fin 32) (i : Fin 8) (e e' : Fin 6144) (h : e.val = e'.val) : y (ix3 b i e) = y (ix3 b i e') := by rw [Fin.ext h]

theorem queries_apply (b : Fin 32) (i : Fin 8) (h : Fin 4) (d : Fin 256) : queries y (ix4 b i h d) = (samples y gn s).q b h i d := by
  pointwise [queries]
  exact column y b i _ _ (by dsimp only; omega)

theorem keys_apply (b : Fin 32) (i : Fin 8) (h : Fin 4) (d : Fin 256) : keys y (ix4 b i h d) = (samples y gn s).k b h i d := by
  pointwise [keys]
  exact column y b i _ _ (by dsimp only; omega)

theorem values_apply (b : Fin 32) (i : Fin 8) (h : Fin 4) (e : Fin 512) : values y (ix4 b i h e) = (samples y gn s).v b h i e := by
  pointwise [values]
  exact column y b i _ _ (by dsimp only; omega)

/-! ## The tables of decays -/

/-- The logarithms of the heads' decays. -/
noncomputable def logs : FVec Ideal S4 .f32 :=
  Host.log1p (Host.negf (Host.exp (mulf (broadcastInDim S4 ![] bcast_S_S4 (constant S_ .f32 0x3F317218#32))
    (subf (broadcastInDim S4 ![] bcast_S_S4 (constant S_ .f32 0xC0A00000#32)) (sitofp .f32 (iotaInDim S4 32 0))))))

theorem logs_apply (h : Fin 4) : logs (ix1 h) = logDecay h := by
  pointwise [logs]
  rfl

/-- Distances of two positions. -/
noncomputable def distances : FVec Ideal S8x8 .f32 :=
  subf (broadcastInDim S8x8 ![0, 1] bcast_S8x1_S8x8_0_1 (broadcastInDim S8x1 ![0] bcast_S8_S8x1_0 (sitofp .f32 (iotaInDim S8 32 0))))
    (broadcastInDim S8x8 ![0, 1] bcast_S1x8_S8x8_0_1 (broadcastInDim S1x8 ![1] bcast_S8_S1x8_1 (sitofp .f32 (iotaInDim S8 32 0))))

theorem distances_apply (i j : Fin 8) : distances (ix2 i j) = count i.val - count j.val := by
  pointwise [distances]
  rfl

noncomputable def insideTable : FVec Ideal S4x8x8 .f32 :=
  select (broadcastInDim S4x8x8 ![0, 1, 2] bcast_S1x8x8_S4x8x8_0_1_2 (cmpf .oge (broadcastInDim S1x8x8 ![1, 2] bcast_S8x8_S1x8x8_1_2 distances)
      (broadcastInDim S1x8x8 ![] bcast_S_S1x8x8 (constant S_ .f32 0x00000000#32))))
    (Host.exp (mulf (broadcastInDim S4x8x8 ![0, 1, 2] bcast_S4x1x1_S4x8x8_0_1_2 (broadcastInDim S4x1x1 ![0] bcast_S4_S4x1x1_0 logs))
      (broadcastInDim S4x8x8 ![0, 1, 2] bcast_S1x8x8_S4x8x8_0_1_2 (broadcastInDim S1x8x8 ![1, 2] bcast_S8x8_S1x8x8_1_2
        (maximumf distances (broadcastInDim S8x8 ![] bcast_S_S8x8 (constant S_ .f32 0x00000000#32)))))))
    (broadcastInDim S4x8x8 ![] bcast_S_S4x8x8 (id (constant S_ .f32 0x00000000#32)))

theorem insideTable_apply (h : Fin 4) (i j : Fin 8) : insideTable (ix3 h i j) = decayIn h (early i) (early j) := by
  pointwise [insideTable, logs_apply, distances_apply, id]
  rfl

noncomputable def acrossTable : FVec Ideal S8x4 .f32 :=
  Host.exp (mulf (broadcastInDim S8x4 ![0, 1] bcast_S1x4_S8x4_0_1 (broadcastInDim S1x4 ![1] bcast_S4_S1x4_1 logs))
    (broadcastInDim S8x4 ![0, 1] bcast_S8x1_S8x4_0_1 (addf (broadcastInDim S8x1 ![0] bcast_S8_S8x1_0 (sitofp .f32 (iotaInDim S8 32 0)))
      (broadcastInDim S8x1 ![] bcast_S_S8x1 (constant S_ .f32 0x3F800000#32)))))

theorem acrossTable_apply (i : Fin 8) (h : Fin 4) : acrossTable (ix2 i h) = decayQ h (early i) := by
  pointwise [acrossTable, logs_apply]
  rfl

noncomputable def updateTable : FVec Ideal S8x4 .f32 :=
  Host.exp (mulf (broadcastInDim S8x4 ![0, 1] bcast_S1x4_S8x4_0_1 (broadcastInDim S1x4 ![1] bcast_S4_S1x4_1 logs))
    (broadcastInDim S8x4 ![0, 1] bcast_S8x1_S8x4_0_1 (subf (broadcastInDim S8x1 ![] bcast_S_S8x1 (constant S_ .f32 0x40E00000#32))
      (broadcastInDim S8x1 ![0] bcast_S8_S8x1_0 (sitofp .f32 (iotaInDim S8 32 0))))))

theorem updateTable_apply (i : Fin 8) (h : Fin 4) : updateTable (ix2 i h) = decayKSample h i := by
  pointwise [updateTable, logs_apply]
  rfl

/-! ## The two results -/

noncomputable def scores : FVec Ideal S32x4x8x8 .f32 :=
  mulf (Host.dotGeneral dot_S32x8x4x256_S32x8x4x256_S32x4x8x8_3_3_1_1_02_02 none (queries y) (keys y))
    (broadcastInDim S32x4x8x8 ![0, 1, 2, 3] bcast_S1x4x8x8_S32x4x8x8_0_1_2_3 (broadcastInDim S1x4x8x8 ![1, 2, 3] bcast_S4x8x8_S1x4x8x8_1_2_3 insideTable))

theorem scores_apply (b : Fin 32) (h : Fin 4) (i j : Fin 8) :
    scores y (ix4 b h i j) = (∑ d, (samples y gn s).q b h i d * (samples y gn s).k b h j d) * decayIn h (early i) (early j) := by
  pointwise [scores, insideTable_apply, queries_apply y gn s, keys_apply y gn s]

noncomputable def outputs : FVec Ideal S32x8x4x512 .f32 :=
  addf (transpose S32x8x4x512 [0, 3, 1, 2] (Host.dotGeneral dot_S32x8x4x512_S32x4x8x8_S32x4x512x8_1_3_3_2_02_01 none (values y) (scores y)) transposes_S32x4x512x8_S32x8x4x512_0_3_1_2)
    (mulf (transpose S32x8x4x512 [0, 3, 1, 2] (Host.dotGeneral dot_S32x4x256x512_S32x8x4x256_S32x4x512x8_2_3_3_1_01_02 none s (queries y)) transposes_S32x4x512x8_S32x8x4x512_0_3_1_2)
      (broadcastInDim S32x8x4x512 ![0, 1, 2, 3] bcast_S1x8x4x1_S32x8x4x512_0_1_2_3 (broadcastInDim S1x8x4x1 ![1, 2] bcast_S8x4_S1x8x4x1_1_2 acrossTable)))

theorem outputs_apply (b : Fin 32) (i : Fin 8) (h : Fin 4) (e : Fin 512) : outputs y s (ix4 b i h e) = (samples y gn s).ret b h i e := by
  pointwise [outputs, acrossTable_apply, scores_apply y gn s, queries_apply y gn s, values_apply y gn s]
  unfold Samples.ret
  refine congrArg₂ (· + ·) (Finset.sum_congr rfl fun j _ => mul_comm _ _) (congrArg (· * _) (Finset.sum_congr rfl fun d _ => mul_comm _ _))

noncomputable def meansOut (z : FVec Ideal S32x8x4x512 .f32) : FVec Ideal S32x8x4x1 .f32 :=
  Host.divf (broadcastInDim S32x8x4x1 ![0, 1, 2] bcast_S32x8x4_S32x8x4x1_0_1_2
      (Host.reduceAdd z (constant S_ .f32 0x00000000#32) reducesTo_S32x8x4x512_S32x8x4_d3 h_S_))
    (broadcastInDim S32x8x4x1 ![] bcast_S_S32x8x4x1 (constant S_ .f32 0x44000000#32))

noncomputable def centredOut (z : FVec Ideal S32x8x4x512 .f32) : FVec Ideal S32x8x4x512 .f32 :=
  subf z (broadcastInDim S32x8x4x512 ![0, 1, 2, 3] bcast_S32x8x4x1_S32x8x4x512_0_1_2_3 (meansOut z))

theorem centredOut_apply (z : FVec Ideal S32x8x4x512 .f32) (b : Fin 32) (i : Fin 8) (h : Fin 4) (e : Fin 512) :
    centredOut z (ix4 b i h e) = centred (fun e => z (ix4 b i h e)) e := by
  pointwise [centredOut, meansOut]
  rfl

noncomputable def standardOut (z : FVec Ideal S32x8x4x512 .f32) : FVec Ideal S32x8x4x512 .f32 :=
  mulf (centredOut z) (broadcastInDim S32x8x4x512 ![0, 1, 2, 3] bcast_S32x8x4x1_S32x8x4x512_0_1_2_3
    (Host.rsqrt (addf (meansOut (mulf (centredOut z) (centredOut z)))
      (broadcastInDim S32x8x4x1 ![] bcast_S_S32x8x4x1 (constant S_ .f32 0x358637BD#32)))))

theorem standardOut_apply (z : FVec Ideal S32x8x4x512 .f32) (b : Fin 32) (i : Fin 8) (h : Fin 4) (e : Fin 512) :
    standardOut z (ix4 b i h e) = standard (fun e => z (ix4 b i h e)) e := by
  pointwise [standardOut, meansOut, centredOut_apply]
  rfl

noncomputable def rowsOut : FVec Ideal S32x8x2048 .bf16 :=
  truncf .bf16 (mulf (extractStridedSlice S32x8x2048 ![0, 0, 4096] y slices_S32x8x6144_S32x8x2048_0_0_4096)
    (mulf (shapeCast S32x8x2048 (standardOut (outputs y s)) shapeCasts_S32x8x4x512_S32x8x2048)
      (broadcastInDim S32x8x2048 ![0, 1, 2] bcast_S1x1x2048_S32x8x2048_0_1_2 (broadcastInDim S1x1x2048 ![2] bcast_S2048_S1x1x2048_2 gn)))) bitsLt_bf16_f32

theorem rowsOut_eq : rowsOut y gn s = (samples y gn s).rows := by
  funext z
  obtain ⟨b, i, f, rfl⟩ : ∃ (b : Fin 32) (i : Fin 8) (f : Fin 2048), z = ix3 b i f := ⟨z 0, z 1, z 2, eq_ix3 z⟩
  pointwise [rowsOut, standardOut_apply, outputs_apply y gn s]
  show _ = (samples y gn s).gated b ⟨f.val / 512, by omega⟩ i ⟨f.val % 512, Nat.mod_lt _ (by omega)⟩
  have ec : ∀ h1 h2, (⟨4096 + f.val, h1⟩ : Fin 6144) = ⟨4096 + 512 * (f.val / 512) + f.val % 512, h2⟩ := fun _ _ => Fin.ext (by dsimp only; omega)
  have ef : ∀ h1, (⟨512 * (f.val / 512) + f.val % 512, h1⟩ : Fin 2048) = f := fun _ => Fin.ext (by dsimp only; omega)
  unfold Samples.gated Samples.gate
  dsimp only
  rw [ef, ec]
  rfl

noncomputable def statesOut : FVec Ideal S32x4x256x512 .f32 :=
  addf (mulf s (broadcastInDim S32x4x256x512 ![0, 1, 2, 3] bcast_S1x4x1x1_S32x4x256x512_0_1_2_3 (broadcastInDim S1x4x1x1 ![1] bcast_S4_S1x4x1x1_1
      (Host.exp (mulf logs (broadcastInDim S4 ![] bcast_S_S4 (constant S_ .f32 0x41000000#32)))))))
    (Host.dotGeneral dot_S32x8x4x256_S32x8x4x512_S32x4x256x512_1_1_3_3_02_02 none
      (mulf (keys y) (broadcastInDim S32x8x4x256 ![0, 1, 2, 3] bcast_S1x8x4x1_S32x8x4x256_0_1_2_3 (broadcastInDim S1x8x4x1 ![1, 2] bcast_S8x4_S1x8x4x1_1_2 updateTable)))
      (values y))

theorem statesOut_eq : statesOut y s = (samples y gn s).states := by
  funext z
  obtain ⟨b, h, d, e, rfl⟩ : ∃ (b : Fin 32) (h : Fin 4) (d : Fin 256) (e : Fin 512), z = ix4 b h d e := ⟨z 0, z 1, z 2, z 3, eq_ix4 z⟩
  pointwise [statesOut, logs_apply, updateTable_apply, keys_apply y gn s, values_apply y gn s]
  rfl

variable (m : (ℓ : Loc nD τ sig) → Buf (Elt Ideal) ℓ) (c : Dev nD)

/-- The samples of the arrays the reference was called with. -/
def samplesAt : Samples :=
  samples (m ((c : Thread nD τ).loc main_arg0)) (m ((c : Thread nD τ).loc main_arg1)) (m ((c : Thread nD τ).loc main_arg2))

/-- The call's run: the rows and the states, the arguments as before. -/
theorem run (ρ : Dev nD → PrngReg) : θ_run defs (onTc (τ := τ) (main (F := Ideal))) ⟨m, fun _ => 0, ρ⟩ fun r => ∀ c : Dev nD,
      r.2.mem ((c : Thread nD τ).loc main_v95) = (samplesAt m c).rows
      ∧ r.2.mem ((c : Thread nD τ).loc main_v71) = (samplesAt m c).states
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (Value.run m ρ)
  obtain ⟨h0, h1, h⟩ := h c
  refine ⟨h0.trans ?_, h1.trans ?_, h⟩
  · exact rowsOut_eq (m ((c : Thread nD τ).loc main_arg0)) (m ((c : Thread nD τ).loc main_arg1)) (m ((c : Thread nD τ).loc main_arg2))
  · exact statesOut_eq (m ((c : Thread nD τ).loc main_arg0)) (m ((c : Thread nD τ).loc main_arg1)) (m ((c : Thread nD τ).loc main_arg2))

end Cert.SampleRetentionReferenceIdeal.Ret
-- ==== Proof.Ret.SampleAlgebraic.lean ====
/-
  The samples' kernel and reference end with the same two arrays: the rows and the states of the samples of the same
  three arrays.
-/
module

public import proofs.«01_k».proof.Defs
public import proofs.«01_k».proof.Proof.Ret.SampleKernel
public import proofs.«01_k».proof.Proof.Ret.SampleReference

@[expose] public section

namespace Cert.Proof

open Idealize.ShloMosaic Idealize.ShloMosaic.TcCoe Idealize.SL.Sem

theorem algebraic_sample_retention : Cert.algebraic_SampleRetentionKernelIdeal_SampleRetentionReferenceIdeal := by
  intro m g m' g' _ hargs
  have eL : ∀ c : Dev Cert.SampleRetentionKernelIdeal.nD,
      Cert.SampleRetentionReferenceIdeal.Ret.samplesAt m' c = Cert.SampleRetentionKernelIdeal.Ret.samplesAt m c := fun c => by
    unfold Cert.SampleRetentionReferenceIdeal.Ret.samplesAt Cert.SampleRetentionKernelIdeal.Ret.samplesAt
    obtain ⟨h0, h1, h2⟩ := hargs c
    rw [h0, h1, h2]
  refine ⟨fun c => (Cert.SampleRetentionKernelIdeal.Ret.samplesAt m c).rows, fun c => (Cert.SampleRetentionKernelIdeal.Ret.samplesAt m c).states,
    Cert.SampleRetentionKernelIdeal.Ret.run m g,
    (θ_run _ _ _).mono (fun r h c => ?_) (Cert.SampleRetentionReferenceIdeal.Ret.run m' g')⟩
  obtain ⟨h0, h1, h⟩ := h c
  exact ⟨h0.trans (congrArg _ (eL c)), h1.trans (congrArg _ (eL c)), h⟩

end Cert.Proof
-- ==== Proof.lean ====
/-
  The claims about the calls: the retention layer, the feed-forward block, and the attention's projections. Of each: the three
  programs run and leave their arguments and every semaphore counter as they were, the idealized kernel is the kernel's own
  text, and kernel and reference end with the same arrays.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.FfnReferenceIdeal.Run
public import proofs.«01_k».proof.Proof.Gen.LastFfnKernel
public import proofs.«01_k».proof.Proof.Gen.LastFfnKernel.Skeleton
public import proofs.«01_k».proof.Proof.Gen.LastFfnKernel.Launch
public import proofs.«01_k».proof.Proof.Gen.LastFfnKernel.Points
public import proofs.«01_k».proof.Proof.Gen.LastFfnKernel.Frame
public import proofs.«01_k».proof.Proof.Gen.LastFfnKernelIdeal
public import proofs.«01_k».proof.Proof.Gen.LastFfnKernelIdeal.Skeleton
public import proofs.«01_k».proof.Proof.Gen.LastFfnKernelIdeal.Launch
public import proofs.«01_k».proof.Proof.Gen.LastFfnKernelIdeal.Points
public import proofs.«01_k».proof.Proof.Gen.LastFfnKernelIdeal.Frame
public import proofs.«01_k».proof.Proof.Gen.LastFfnReferenceIdeal
public import proofs.«01_k».proof.Proof.Gen.LastFfnReferenceIdeal.Run
public import proofs.«01_k».proof.Proof.Gen.SampleFfnKernel
public import proofs.«01_k».proof.Proof.Gen.SampleFfnKernel.Skeleton
public import proofs.«01_k».proof.Proof.Gen.SampleFfnKernel.Launch
public import proofs.«01_k».proof.Proof.Gen.SampleFfnKernel.Points
public import proofs.«01_k».proof.Proof.Gen.SampleFfnKernel.Frame
public import proofs.«01_k».proof.Proof.Gen.SampleFfnKernelIdeal
public import proofs.«01_k».proof.Proof.Gen.SampleFfnKernelIdeal.Skeleton
public import proofs.«01_k».proof.Proof.Gen.SampleFfnKernelIdeal.Launch
public import proofs.«01_k».proof.Proof.Gen.SampleFfnKernelIdeal.Points
public import proofs.«01_k».proof.Proof.Gen.SampleFfnKernelIdeal.Frame
public import proofs.«01_k».proof.Proof.Gen.SampleFfnReferenceIdeal
public import proofs.«01_k».proof.Proof.Gen.SampleFfnReferenceIdeal.Run
public import proofs.«01_k».proof.Proof.Gen.QkvKernel
public import proofs.«01_k».proof.Proof.Gen.QkvKernel.Skeleton
public import proofs.«01_k».proof.Proof.Gen.QkvKernel.Launch
public import proofs.«01_k».proof.Proof.Gen.QkvKernel.Points
public import proofs.«01_k».proof.Proof.Gen.QkvKernel.Frame
public import proofs.«01_k».proof.Proof.Gen.QkvKernelIdeal
public import proofs.«01_k».proof.Proof.Gen.QkvKernelIdeal.Skeleton
public import proofs.«01_k».proof.Proof.Gen.QkvKernelIdeal.Launch
public import proofs.«01_k».proof.Proof.Gen.QkvKernelIdeal.Points
public import proofs.«01_k».proof.Proof.Gen.QkvKernelIdeal.Frame
public import proofs.«01_k».proof.Proof.Gen.QkvReferenceIdeal
public import proofs.«01_k».proof.Proof.Gen.QkvReferenceIdeal.Run
public import proofs.«01_k».proof.Proof.Gen.SampleQkvKernel
public import proofs.«01_k».proof.Proof.Gen.SampleQkvKernel.Skeleton
public import proofs.«01_k».proof.Proof.Gen.SampleQkvKernel.Launch
public import proofs.«01_k».proof.Proof.Gen.SampleQkvKernel.Points
public import proofs.«01_k».proof.Proof.Gen.SampleQkvKernel.Frame
public import proofs.«01_k».proof.Proof.Gen.SampleQkvKernelIdeal
public import proofs.«01_k».proof.Proof.Gen.SampleQkvKernelIdeal.Skeleton
public import proofs.«01_k».proof.Proof.Gen.SampleQkvKernelIdeal.Launch
public import proofs.«01_k».proof.Proof.Gen.SampleQkvKernelIdeal.Points
public import proofs.«01_k».proof.Proof.Gen.SampleQkvKernelIdeal.Frame
public import proofs.«01_k».proof.Proof.Gen.SampleQkvReferenceIdeal
public import proofs.«01_k».proof.Proof.Gen.SampleQkvReferenceIdeal.Run
public import proofs.«01_k».proof.Proof.Gen.ProjKernel
public import proofs.«01_k».proof.Proof.Gen.ProjKernel.Skeleton
public import proofs.«01_k».proof.Proof.Gen.ProjKernel.Launch
public import proofs.«01_k».proof.Proof.Gen.ProjKernel.Points
public import proofs.«01_k».proof.Proof.Gen.ProjKernel.Frame
public import proofs.«01_k».proof.Proof.Gen.ProjKernelIdeal
public import proofs.«01_k».proof.Proof.Gen.ProjKernelIdeal.Skeleton
public import proofs.«01_k».proof.Proof.Gen.ProjKernelIdeal.Launch
public import proofs.«01_k».proof.Proof.Gen.ProjKernelIdeal.Points
public import proofs.«01_k».proof.Proof.Gen.ProjKernelIdeal.Frame
public import proofs.«01_k».proof.Proof.Gen.ProjReferenceIdeal
public import proofs.«01_k».proof.Proof.Gen.ProjReferenceIdeal.Run
public import proofs.«01_k».proof.Proof.Gen.SampleRetentionKernel
public import proofs.«01_k».proof.Proof.Gen.SampleRetentionKernel.Skeleton
public import proofs.«01_k».proof.Proof.Gen.SampleRetentionKernel.Launch
public import proofs.«01_k».proof.Proof.Gen.SampleRetentionKernel.Points
public import proofs.«01_k».proof.Proof.Gen.SampleRetentionKernel.Frame
public import proofs.«01_k».proof.Proof.Gen.SampleRetentionKernelIdeal
public import proofs.«01_k».proof.Proof.Gen.SampleRetentionKernelIdeal.Skeleton
public import proofs.«01_k».proof.Proof.Gen.SampleRetentionKernelIdeal.Launch
public import proofs.«01_k».proof.Proof.Gen.SampleRetentionKernelIdeal.Points
public import proofs.«01_k».proof.Proof.Gen.SampleRetentionKernelIdeal.Frame
public import proofs.«01_k».proof.Proof.Gen.SampleRetentionReferenceIdeal
public import proofs.«01_k».proof.Proof.Gen.SampleRetentionReferenceIdeal.Run
public import proofs.«01_k».proof.Proof.Ret.Algebraic
public import proofs.«01_k».proof.Proof.Ffn.Algebraic
public import proofs.«01_k».proof.Proof.Moba.Algebraic
public import proofs.«01_k».proof.Proof.Moba.Proj
public import proofs.«01_k».proof.Proof.Ret.SampleAlgebraic
public import Idealize.ShloMosaic.Adequacy
public import Idealize.ShloMosaic.Init

@[expose] public section

noncomputable section

namespace Cert.Proof

open Idealize.ShloMosaic Idealize.SL.Sem Cert.Kernel

/-! The references' runs, with their counters: they declare no semaphore. -/
theorem frame_reference : Cert.quiescent_ReferenceIdeal := fun m ρ _ =>
  (θ_run Cert.ReferenceIdeal.defs _ _).mono
    (fun r h => ⟨fun c => (h c).2.2, sem_eq_zero_of_no_sems (by decide) r.2⟩) (Cert.ReferenceIdeal.Value.run m ρ)

theorem frame_ffn_reference : Cert.quiescent_FfnReferenceIdeal := fun m ρ _ =>
  (θ_run Cert.FfnReferenceIdeal.defs _ _).mono
    (fun r h => ⟨fun c => (h c).2, sem_eq_zero_of_no_sems (by decide) r.2⟩) (Cert.FfnReferenceIdeal.Value.run m ρ)

theorem frame_last_ffn_reference : Cert.quiescent_LastFfnReferenceIdeal := fun m ρ _ =>
  (θ_run Cert.LastFfnReferenceIdeal.defs _ _).mono
    (fun r h => ⟨fun c => (h c).2, sem_eq_zero_of_no_sems (by decide) r.2⟩) (Cert.LastFfnReferenceIdeal.Value.run m ρ)

theorem frame_sample_ffn_reference : Cert.quiescent_SampleFfnReferenceIdeal := fun m ρ _ =>
  (θ_run Cert.SampleFfnReferenceIdeal.defs _ _).mono
    (fun r h => ⟨fun c => (h c).2, sem_eq_zero_of_no_sems (by decide) r.2⟩) (Cert.SampleFfnReferenceIdeal.Value.run m ρ)

theorem frame_qkv_reference : Cert.quiescent_QkvReferenceIdeal := fun m ρ _ =>
  (θ_run Cert.QkvReferenceIdeal.defs _ _).mono
    (fun r h => ⟨fun c => (h c).2.2.2.2.2.2, sem_eq_zero_of_no_sems (by decide) r.2⟩) (Cert.QkvReferenceIdeal.Value.run m ρ)

theorem frame_sample_qkv_reference : Cert.quiescent_SampleQkvReferenceIdeal := fun m ρ _ =>
  (θ_run Cert.SampleQkvReferenceIdeal.defs _ _).mono
    (fun r h => ⟨fun c => (h c).2.2.2, sem_eq_zero_of_no_sems (by decide) r.2⟩) (Cert.SampleQkvReferenceIdeal.Value.run m ρ)

theorem frame_proj_reference : Cert.quiescent_ProjReferenceIdeal := fun m ρ _ =>
  (θ_run Cert.ProjReferenceIdeal.defs _ _).mono
    (fun r h => ⟨fun c => (h c).2, sem_eq_zero_of_no_sems (by decide) r.2⟩) (Cert.ProjReferenceIdeal.Value.run m ρ)

theorem frame_sample_retention_reference : Cert.quiescent_SampleRetentionReferenceIdeal := fun m ρ _ =>
  (θ_run Cert.SampleRetentionReferenceIdeal.defs _ _).mono
    (fun r h => ⟨fun c => (h c).2.2, sem_eq_zero_of_no_sems (by decide) r.2⟩) (Cert.SampleRetentionReferenceIdeal.Value.run m ρ)

theorem claim : Cert.Claim := ⟨Cert.Kernel.Gen.facts, Cert.KernelIdeal.Gen.facts, Cert.ReferenceIdeal.Gen.facts,
  Cert.FfnKernel.Gen.facts, Cert.FfnKernelIdeal.Gen.facts, Cert.FfnReferenceIdeal.Gen.facts,
  Cert.LastFfnKernel.Gen.facts, Cert.LastFfnKernelIdeal.Gen.facts, Cert.LastFfnReferenceIdeal.Gen.facts,
  Cert.SampleFfnKernel.Gen.facts, Cert.SampleFfnKernelIdeal.Gen.facts, Cert.SampleFfnReferenceIdeal.Gen.facts,
  Cert.QkvKernel.Gen.facts, Cert.QkvKernelIdeal.Gen.facts, Cert.QkvReferenceIdeal.Gen.facts,
  Cert.SampleQkvKernel.Gen.facts, Cert.SampleQkvKernelIdeal.Gen.facts, Cert.SampleQkvReferenceIdeal.Gen.facts,
  Cert.ProjKernel.Gen.facts, Cert.ProjKernelIdeal.Gen.facts, Cert.ProjReferenceIdeal.Gen.facts,
  Cert.SampleRetentionKernel.Gen.facts, Cert.SampleRetentionKernelIdeal.Gen.facts, Cert.SampleRetentionReferenceIdeal.Gen.facts,
  fun m ρ _ => Cert.Kernel.Gen.frame m ρ, fun m ρ _ => Cert.KernelIdeal.Gen.frame m ρ, frame_reference,
  fun m ρ _ => Cert.FfnKernel.Gen.frame m ρ, fun m ρ _ => Cert.FfnKernelIdeal.Gen.frame m ρ, frame_ffn_reference,
  fun m ρ _ => Cert.LastFfnKernel.Gen.frame m ρ, fun m ρ _ => Cert.LastFfnKernelIdeal.Gen.frame m ρ, frame_last_ffn_reference,
  fun m ρ _ => Cert.SampleFfnKernel.Gen.frame m ρ, fun m ρ _ => Cert.SampleFfnKernelIdeal.Gen.frame m ρ, frame_sample_ffn_reference,
  fun m ρ _ => Cert.QkvKernel.Gen.frame m ρ, fun m ρ _ => Cert.QkvKernelIdeal.Gen.frame m ρ, frame_qkv_reference,
  fun m ρ _ => Cert.SampleQkvKernel.Gen.frame m ρ, fun m ρ _ => Cert.SampleQkvKernelIdeal.Gen.frame m ρ, frame_sample_qkv_reference,
  fun m ρ _ => Cert.ProjKernel.Gen.frame m ρ, fun m ρ _ => Cert.ProjKernelIdeal.Gen.frame m ρ, frame_proj_reference,
  fun m ρ _ => Cert.SampleRetentionKernel.Gen.frame m ρ, fun m ρ _ => Cert.SampleRetentionKernelIdeal.Gen.frame m ρ, frame_sample_retention_reference,
  trivial, algebraic_retention,
  trivial, algebraic_ffn,
  trivial, algebraic_last_ffn,
  trivial, algebraic_sample_ffn,
  trivial, algebraic_qkv,
  trivial, algebraic_sample_qkv,
  trivial, algebraic_proj,
  trivial, algebraic_sample_retention⟩

end Cert.Proof

end
